-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v56) = v1 c
          ∧ r.2.mem ((c.tc : Thread Cert.LossRefIdeal.nD Cert.LossRefIdeal.τ).loc Cert.LossRefIdeal.main_v58) = v2 c
          ∧ r.2.mem ((c.tc : Thread Cert.LossRefIdeal.nD Cert.LossRefIdeal.τ).loc Cert.LossRefIdeal.main_v59) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)) →
    ∃ (v0 : (c : Dev Cert.MixerIdeal.nD) → Buf (Elt Ideal) ((c.tc : Thread Cert.MixerIdeal.nD Cert.MixerIdeal.τ).loc Cert.MixerIdeal.main_v11_0)) (v1 : (c : Dev Cert.MixerIdeal.nD) → Buf (Elt Ideal) ((c.tc : Thread Cert.MixerIdeal.nD Cert.MixerIdeal.τ).loc Cert.MixerIdeal.main_v11_1)) (v2 : (c : Dev Cert.MixerIdeal.nD) → Buf (Elt Ideal) ((c.tc : Thread Cert.MixerIdeal.nD Cert.MixerIdeal.τ).loc Cert.MixerIdeal.main_v11_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v11_0) = v0 c
          ∧ r.2.mem ((c.tc : Thread Cert.MixerIdeal.nD Cert.MixerIdeal.τ).loc Cert.MixerIdeal.main_v11_1) = v1 c
          ∧ r.2.mem ((c.tc : Thread Cert.MixerIdeal.nD Cert.MixerIdeal.τ).loc Cert.MixerIdeal.main_v11_2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v80) = v0 c
          ∧ r.2.mem ((c.tc : Thread Cert.MixerRefIdeal.nD Cert.MixerRefIdeal.τ).loc Cert.MixerRefIdeal.main_v82) = v1 c
          ∧ r.2.mem ((c.tc : Thread Cert.MixerRefIdeal.nD Cert.MixerRefIdeal.τ).loc Cert.MixerRefIdeal.main_v85) = v2 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v11_0)) (v1 : (c : Dev Cert.UpIdeal.nD) → Buf (Elt Ideal) ((c.tc : Thread Cert.UpIdeal.nD Cert.UpIdeal.τ).loc Cert.UpIdeal.main_v11_1)) (v2 : (c : Dev Cert.UpIdeal.nD) → Buf (Elt Ideal) ((c.tc : Thread Cert.UpIdeal.nD Cert.UpIdeal.τ).loc Cert.UpIdeal.main_v11_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v11_0) = v0 c
          ∧ r.2.mem ((c.tc : Thread Cert.UpIdeal.nD Cert.UpIdeal.τ).loc Cert.UpIdeal.main_v11_1) = v1 c
          ∧ r.2.mem ((c.tc : Thread Cert.UpIdeal.nD Cert.UpIdeal.τ).loc Cert.UpIdeal.main_v11_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v41) = v0 c
          ∧ r.2.mem ((c.tc : Thread Cert.UpRefIdeal.nD Cert.UpRefIdeal.τ).loc Cert.UpRefIdeal.main_v42) = v1 c
          ∧ r.2.mem ((c.tc : Thread Cert.UpRefIdeal.nD Cert.UpRefIdeal.τ).loc Cert.UpRefIdeal.main_v44) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v22_0)) (v1 : (c : Dev Cert.InIdeal.nD) → Buf (Elt Ideal) ((c.tc : Thread Cert.InIdeal.nD Cert.InIdeal.τ).loc Cert.InIdeal.main_v22_1)) (v2 : (c : Dev Cert.InIdeal.nD) → Buf (Elt Ideal) ((c.tc : Thread Cert.InIdeal.nD Cert.InIdeal.τ).loc Cert.InIdeal.main_v22_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v22_0) = v0 c
          ∧ r.2.mem ((c.tc : Thread Cert.InIdeal.nD Cert.InIdeal.τ).loc Cert.InIdeal.main_v22_1) = v1 c
          ∧ r.2.mem ((c.tc : Thread Cert.InIdeal.nD Cert.InIdeal.τ).loc Cert.InIdeal.main_v22_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v41) = v0 c
          ∧ r.2.mem ((c.tc : Thread Cert.InRefIdeal.nD Cert.InRefIdeal.τ).loc Cert.InRefIdeal.main_v42) = v1 c
          ∧ r.2.mem ((c.tc : Thread Cert.InRefIdeal.nD Cert.InRefIdeal.τ).loc Cert.InRefIdeal.main_v44) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v6_0)) (v1 : (c : Dev Cert.GateIdeal.nD) → Buf (Elt Ideal) ((c.tc : Thread Cert.GateIdeal.nD Cert.GateIdeal.τ).loc Cert.GateIdeal.main_v6_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6_0) = v0 c
          ∧ r.2.mem ((c.tc : Thread Cert.GateIdeal.nD Cert.GateIdeal.τ).loc Cert.GateIdeal.main_v6_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v15) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v46_0)) (v1 : (c : Dev Cert.AttnIdeal.nD) → Buf (Elt Ideal) ((c.tc : Thread Cert.AttnIdeal.nD Cert.AttnIdeal.τ).loc Cert.AttnIdeal.main_v46_1)) (v2 : (c : Dev Cert.AttnIdeal.nD) → Buf (Elt Ideal) ((c.tc : Thread Cert.AttnIdeal.nD Cert.AttnIdeal.τ).loc Cert.AttnIdeal.main_v46_2)) (v3 : (c : Dev Cert.AttnIdeal.nD) → Buf (Elt Ideal) ((c.tc : Thread Cert.AttnIdeal.nD Cert.AttnIdeal.τ).loc Cert.AttnIdeal.main_v46_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v46_0) = v0 c
          ∧ r.2.mem ((c.tc : Thread Cert.AttnIdeal.nD Cert.AttnIdeal.τ).loc Cert.AttnIdeal.main_v46_1) = v1 c
          ∧ r.2.mem ((c.tc : Thread Cert.AttnIdeal.nD Cert.AttnIdeal.τ).loc Cert.AttnIdeal.main_v46_2) = v2 c
          ∧ r.2.mem ((c.tc : Thread Cert.AttnIdeal.nD Cert.AttnIdeal.τ).loc Cert.AttnIdeal.main_v46_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v94) = v0 c
          ∧ r.2.mem ((c.tc : Thread Cert.AttnRefIdeal.nD Cert.AttnRefIdeal.τ).loc Cert.AttnRefIdeal.main_v97) = v1 c
          ∧ r.2.mem ((c.tc : Thread Cert.AttnRefIdeal.nD Cert.AttnRefIdeal.τ).loc Cert.AttnRefIdeal.main_v100) = v2 c
          ∧ r.2.mem ((c.tc : Thread Cert.AttnRefIdeal.nD Cert.AttnRefIdeal.τ).loc Cert.AttnRefIdeal.main_v103) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def Claim : Prop :=
  ∃ (hKernel : Cert.Kernel.Facts) (hKernelIdeal : Cert.KernelIdeal.Facts) (hReferenceIdeal : Cert.ReferenceIdeal.Facts) (hLoss : Cert.Loss.Facts) (hLossIdeal : Cert.LossIdeal.Facts) (hLossRefIdeal : Cert.LossRefIdeal.Facts) (hMixer : Cert.Mixer.Facts) (hMixerIdeal : Cert.MixerIdeal.Facts) (hMixerRefIdeal : Cert.MixerRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hGate : Cert.Gate.Facts) (hGateIdeal : Cert.GateIdeal.Facts) (hGateRefIdeal : Cert.GateRefIdeal.Facts) (hAttn : Cert.Attn.Facts) (hAttnIdeal : Cert.AttnIdeal.Facts) (hAttnRefIdeal : Cert.AttnRefIdeal.Facts) (hPre_finite_attn : Cert.Pre_finite_attn.Facts),
    quiescent_Kernel (hKernel := hKernel)
    ∧ quiescent_KernelIdeal (hKernelIdeal := hKernelIdeal)
    ∧ quiescent_ReferenceIdeal (hReferenceIdeal := hReferenceIdeal)
    ∧ quiescent_Loss (hLoss := hLoss)
    ∧ quiescent_LossIdeal (hLossIdeal := hLossIdeal)
    ∧ quiescent_LossRefIdeal (hLossRefIdeal := hLossRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_Gate (hGate := hGate)
    ∧ quiescent_GateIdeal (hGateIdeal := hGateIdeal)
    ∧ quiescent_GateRefIdeal (hGateRefIdeal := hGateRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ preserves_Kernel_KernelIdeal
    ∧ algebraic_KernelIdeal_ReferenceIdeal (hKernelIdeal := hKernelIdeal) (hReferenceIdeal := hReferenceIdeal)
    ∧ preserves_Loss_LossIdeal
    ∧ algebraic_LossIdeal_LossRefIdeal (hLossIdeal := hLossIdeal) (hLossRefIdeal := hLossRefIdeal)
    ∧ preserves_Mixer_MixerIdeal
    ∧ algebraic_MixerIdeal_MixerRefIdeal (hMixerIdeal := hMixerIdeal) (hMixerRefIdeal := hMixerRefIdeal)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_Gate_GateIdeal
    ∧ algebraic_GateIdeal_GateRefIdeal (hGateIdeal := hGateIdeal) (hGateRefIdeal := hGateRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
-- ==== Pre_finite_attn.lean ====
abbrev S1x2064x512 : Shape := ⟨3, ![1, 2064, 512]⟩
abbrev S1x2064x8 : Shape := ⟨3, ![1, 2064, 8]⟩
abbrev S_ : Shape := ⟨0, ![]⟩

class Facts : Prop where
  bcast_S_S1x2064x512 : S_.BroadcastsInDim S1x2064x512 (![] : Fin 0 → Fin S1x2064x512.rank)
  bcast_S_S1x2064x8 : S_.BroadcastsInDim S1x2064x8 (![] : Fin 0 → Fin S1x2064x8.rank)

variable [Facts]

def fn {F : FTy → Type} [FloatOps F] (main_arg0 : FVec F S1x2064x512 .f32) (main_arg1 : FVec F S1x2064x512 .f32) (main_arg2 : FVec F S1x2064x512 .f32) (main_arg3 : FVec F S1x2064x8 .f32) (main_arg4 : FVec F S1x2064x512 .f32) : IVec S1x2064x512 1 × IVec S1x2064x512 1 × IVec S1x2064x512 1 × IVec S1x2064x8 1 × IVec S1x2064x512 1 :=
  let main_v0 : FVec F S1x2064x512 .f32 := Host.absf main_arg0
  let main_cst : FVec F S_ .f32 := constant S_ .f32 0x7F800000#32
  let main_v1 : FVec F S1x2064x512 .f32 := broadcastInDim S1x2064x512 ![] bcast_S_S1x2064x512 main_cst
  let main_v2 : IVec S1x2064x512 1 := cmpf .olt main_v0 main_v1
  let main_v3 : FVec F S1x2064x512 .f32 := Host.absf main_arg1
  let main_cst_0 : FVec F S_ .f32 := constant S_ .f32 0x7F800000#32
  let main_v4 : FVec F S1x2064x512 .f32 := broadcastInDim S1x2064x512 ![] bcast_S_S1x2064x512 main_cst_0
  let main_v5 : IVec S1x2064x512 1 := cmpf .olt main_v3 main_v4
  let main_v6 : FVec F S1x2064x512 .f32 := Host.absf main_arg2
  let main_cst_1 : FVec F S_ .f32 := constant S_ .f32 0x7F800000#32
  let main_v7 : FVec F S1x2064x512 .f32 := broadcastInDim S1x2064x512 ![] bcast_S_S1x2064x512 main_cst_1
  let main_v8 : IVec S1x2064x512 1 := cmpf .olt main_v6 main_v7
  let main_v9 : FVec F S1x2064x8 .f32 := Host.absf main_arg3
  let main_cst_2 : FVec F S_ .f32 := constant S_ .f32 0x7F800000#32
  let main_v10 : FVec F S1x2064x8 .f32 := broadcastInDim S1x2064x8 ![] bcast_S_S1x2064x8 main_cst_2
  let main_v11 : IVec S1x2064x8 1 := cmpf .olt main_v9 main_v10
  let main_v12 : FVec F S1x2064x512 .f32 := Host.absf main_arg4
  let main_cst_3 : FVec F S_ .f32 := constant S_ .f32 0x7F800000#32
  let main_v13 : FVec F S1x2064x512 .f32 := broadcastInDim S1x2064x512 ![] bcast_S_S1x2064x512 main_cst_3
  let main_v14 : IVec S1x2064x512 1 := cmpf .olt main_v12 main_v13
  (main_v2, main_v5, main_v8, main_v11, main_v14)
-- ==== Kernel.lean ====
abbrev S1x2064x1024 : Shape := ⟨3, ![1, 2064, 1024]⟩
abbrev S1024x4096 : Shape := ⟨2, ![1024, 4096]⟩
abbrev S4096x1024 : Shape := ⟨2, ![4096, 1024]⟩
abbrev S1x2064x4096 : Shape := ⟨3, ![1, 2064, 4096]⟩
abbrev S4x1024x1024 : Shape := ⟨3, ![4, 1024, 1024]⟩
abbrev S2064x1024 : Shape := ⟨2, ![2064, 1024]⟩
abbrev S_ : Shape := ⟨0, ![]⟩
abbrev S2176x1024 : Shape := ⟨2, ![2176, 1024]⟩
abbrev S2064x4096 : Shape := ⟨2, ![2064, 4096]⟩
abbrev S2176x4096 : Shape := ⟨2, ![2176, 4096]⟩
abbrev S1x512x1024 : Shape := ⟨3, ![1, 512, 1024]⟩
abbrev S2176x512 : Shape := ⟨2, ![2176, 512]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 25
  | .vmem => 12
  | .smem => 0
  | _ => 0

abbrev bufTy : (tb : Table) → Fin (tcTables nBuf tb) → BufTy
  | .hbm, ⟨0, _⟩ => ⟨S1x2064x1024, .f32⟩
  | .hbm, ⟨1, _⟩ => ⟨S1024x4096, .f32⟩
  | .hbm, ⟨2, _⟩ => ⟨S4096x1024, .f32⟩
  | .hbm, ⟨3, _⟩ => ⟨S1x2064x1024, .f32⟩
  | .hbm, ⟨4, _⟩ => ⟨S1x2064x4096, .f32⟩
  | .hbm, ⟨5, _⟩ => ⟨S4x1024x1024, .f32⟩
  | .hbm, ⟨6, _⟩ => ⟨S4x1024x1024, .bf16⟩
  | .hbm, ⟨7, _⟩ => ⟨S2064x1024, .f32⟩
  | .hbm, ⟨8, _⟩ => ⟨S_, .i32⟩
  | .hbm, ⟨9, _⟩ => ⟨S_, .f32⟩
  | .hbm, ⟨10, _⟩ => ⟨S2176x1024, .f32⟩
  | .hbm, ⟨11, _⟩ => ⟨S2176x1024, .bf16⟩
  | .hbm, ⟨12, _⟩ => ⟨S2064x4096, .f32⟩
  | .hbm, ⟨13, _⟩ => ⟨S_, .i32⟩
  | .hbm, ⟨14, _⟩ => ⟨S_, .f32⟩
  | .hbm, ⟨15, _⟩ => ⟨S2176x4096, .f32⟩
  | .hbm, ⟨16, _⟩ => ⟨S2176x4096, .bf16⟩
  | .hbm, ⟨17, _⟩ => ⟨S2064x1024, .f32⟩
  | .hbm, ⟨18, _⟩ => ⟨S_, .i32⟩
  | .hbm, ⟨19, _⟩ => ⟨S_, .f32⟩
  | .hbm, ⟨20, _⟩ => ⟨S2176x1024, .f32⟩
  | .hbm, ⟨21, _⟩ => ⟨S2176x1024, .bf16⟩
  | .hbm, ⟨22, _⟩ => ⟨S2176x4096, .bf16⟩
  | .hbm, ⟨23, _⟩ => ⟨S4096x1024, .bf16⟩
  | .hbm, ⟨24, _⟩ => ⟨S4x1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2176x512, .bf16⟩
  | .local _ .vmem, ⟨5, _⟩ => ⟨S2176x512, .bf16⟩
  | .local _ .vmem, ⟨6, _⟩ => ⟨S2176x512, .bf16⟩
  | .local _ .vmem, ⟨7, _⟩ => ⟨S2176x512, .bf16⟩
  | .local _ .vmem, ⟨8, _⟩ => ⟨S512x1024, .bf16⟩
  | .local _ .vmem, ⟨9, _⟩ => ⟨S512x1024, .bf16⟩
  | .local _ .vmem, ⟨10, _⟩ => ⟨S1x1024x512, .bf16⟩
  | .local _ .vmem, ⟨11, _⟩ => ⟨S1x1024x512, .bf16⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x2064x1024 : Shape := ⟨3, ![1, 2064, 1024]⟩
abbrev S1024x4096 : Shape := ⟨2, ![1024, 4096]⟩
abbrev S4096x1024 : Shape := ⟨2, ![4096, 1024]⟩
abbrev S1x2064x4096 : Shape := ⟨3, ![1, 2064, 4096]⟩
abbrev S_ : Shape := ⟨0, ![]⟩
abbrev S2064x4096 : Shape := ⟨2, ![2064, 4096]⟩
abbrev S2176x4096 : Shape := ⟨2, ![2176, 4096]⟩
abbrev S1024x4x1024 : Shape := ⟨3, ![1024, 4, 1024]⟩
abbrev S4x1024x1024 : Shape := ⟨3, ![4, 1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024x4096, .f32⟩
  | .hbm, ⟨2, _⟩ => ⟨S4096x1024, .f32⟩
  | .hbm, ⟨3, _⟩ => ⟨S1x2064x1024, .f32⟩
  | .hbm, ⟨4, _⟩ => ⟨S1x2064x4096, .f32⟩
  | .hbm, ⟨5, _⟩ => ⟨S_, .f32⟩
  | .hbm, ⟨6, _⟩ => ⟨S1x2064x4096, .f32⟩
  | .hbm, ⟨7, _⟩ => ⟨S1x2064x4096, .f32⟩
  | .hbm, ⟨8, _⟩ => ⟨S_, .f32⟩
  | .hbm, ⟨9, _⟩ => ⟨S1x2064x4096, .f32⟩
  | .hbm, ⟨10, _⟩ => ⟨S1x2064x4096, .i1⟩
  | .hbm, ⟨11, _⟩ => ⟨S_, .f32⟩
  | .hbm, ⟨12, _⟩ => ⟨S1x2064x4096, .f32⟩
  | .hbm, ⟨13, _⟩ => ⟨S1x2064x4096, .f32⟩
  | .hbm, ⟨14, _⟩ => ⟨S1x2064x1024, .f32⟩
  | .hbm, ⟨15, _⟩ => ⟨S1024x4096, .f32⟩
  | .hbm, ⟨16, _⟩ => ⟨S4096x1024, .f32⟩
  | .hbm, ⟨17, _⟩ => ⟨S1x2064x4096, .f32⟩
  | .hbm, ⟨18, _⟩ => ⟨S1x2064x4096, .f32⟩
  | .hbm, ⟨19, _⟩ => ⟨S1x2064x4096, .f32⟩
  | .hbm, ⟨20, _⟩ => ⟨S1x2064x4096, .f32⟩
  | .hbm, ⟨21, _⟩ => ⟨S_, .f32⟩
  | .hbm, ⟨22, _⟩ => ⟨S1x2064x4096, .f32⟩
  | .hbm, ⟨23, _⟩ => ⟨S1x2064x4096, .f32⟩
  | .hbm, ⟨24, _⟩ => ⟨S4096x1024, .f32⟩
  | .hbm, ⟨25, _⟩ => ⟨S1024x4096, .f32⟩
  | .hbm, ⟨26, _⟩ => ⟨S2064x4096, .f32⟩
  | .hbm, ⟨27, _⟩ => ⟨S_, .i32⟩
  | .hbm, ⟨28, _⟩ => ⟨S_, .f32⟩
  | .hbm, ⟨29, _⟩ => ⟨S2176x4096, .f32⟩
  | .hbm, ⟨30, _⟩ => ⟨S2176x4096, .bf16⟩
  | .hbm, ⟨31, _⟩ => ⟨S4096x1024, .bf16⟩
  | .hbm, ⟨32, _⟩ => ⟨S1024x4x1024, .f32⟩
  | .hbm, ⟨33, _⟩ => ⟨S4x1024x1024, .f32⟩
  | .hbm, ⟨34, _⟩ => ⟨S4x1024x1024, .bf16⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Loss.lean ====
abbrev S1x2064x1024 : Shape := ⟨3, ![1, 2064, 1024]⟩
abbrev S1024 : Shape := ⟨1, ![1024]⟩
abbrev S1x2048x1024 : Shape := ⟨3, ![1, 2048, 1024]⟩
abbrev S2064x1024 : Shape := ⟨2, ![2064, 1024]⟩
abbrev S_ : Shape := ⟨0, ![]⟩
abbrev S2176x1024 : Shape := ⟨2, ![2176, 1024]⟩
abbrev S1x1024 : Shape := ⟨2, ![1, 1024]⟩
abbrev S2048x1024 : Shape := ⟨2, ![2048, 1024]⟩
abbrev S8x1024 : Shape := ⟨2, ![8, 1024]⟩
abbrev S8x128 : Shape := ⟨2, ![8, 128]⟩
abbrev S544x1024 : Shape := ⟨2, ![544, 1024]⟩
abbrev S544x1 : Shape := ⟨2, ![544, 1]⟩
abbrev S544 : Shape := ⟨1, ![544]⟩
abbrev S1x544x1 : Shape := ⟨3, ![1, 544, 1]⟩
abbrev S1 : Shape := ⟨1, ![1]⟩
abbrev S1x1x1 : Shape := ⟨3, ![1, 1, 1]⟩

abbrev nBuf : Space → Nat
  | .hbm => 16
  | .vmem => 11
  | .smem => 0
  | _ => 0

abbrev bufTy : (tb : Table) → Fin (tcTables nBuf tb) → BufTy
  | .hbm, ⟨0, _⟩ => ⟨S1x2064x1024, .f32⟩
  | .hbm, ⟨1, _⟩ => ⟨S1024, .f32⟩
  | .hbm, ⟨2, _⟩ => ⟨S1x2048x1024, .f32⟩
  | .hbm, ⟨3, _⟩ => ⟨S2064x1024, .f32⟩
  | .hbm, ⟨4, _⟩ => ⟨S_, .i32⟩
  | .hbm, ⟨5, _⟩ => ⟨S_, .f32⟩
  | .hbm, ⟨6, _⟩ => ⟨S2176x1024, .f32⟩
  | .hbm, ⟨7, _⟩ => ⟨S1x1024, .f32⟩
  | .hbm, ⟨8, _⟩ => ⟨S2048x1024, .f32⟩
  | .hbm, ⟨9, _⟩ => ⟨S_, .i32⟩
  | .hbm, ⟨10, _⟩ => ⟨S_, .f32⟩
  | .hbm, ⟨11, _⟩ => ⟨S2176x1024, .f32⟩
  | .hbm, ⟨12, _⟩ => ⟨S2176x1024, .f32⟩
  | .hbm, ⟨13, _⟩ => ⟨S2176x1024, .bf16⟩
  | .hbm, ⟨14, _⟩ => ⟨S8x1024, .f32⟩
  | .hbm, ⟨15, _⟩ => ⟨S8x128, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .bf16⟩
  | .local _ .vmem, ⟨8, _⟩ => ⟨S544x1024, .bf16⟩
  | .local _ .vmem, ⟨9, _⟩ => ⟨S8x1024, .f32⟩
  | .local _ .vmem, ⟨10, _⟩ => ⟨S8x128, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S1x2064x1024 : Shape := ⟨3, ![1, 2064, 1024]⟩
abbrev S1024 : Shape := ⟨1, ![1024]⟩
abbrev S1x2048x1024 : Shape := ⟨3, ![1, 2048, 1024]⟩
abbrev S_ : Shape := ⟨0, ![]⟩
abbrev S1x2064 : Shape := ⟨2, ![1, 2064]⟩
abbrev S1x2064x1 : Shape := ⟨3, ![1, 2064, 1]⟩
abbrev S1x1x1024 : Shape := ⟨3, ![1, 1, 1024]⟩
abbrev S1x2048 : Shape := ⟨2, ![1, 2048]⟩
abbrev S1x1024 : Shape := ⟨2, ![1, 1024]⟩
abbrev S2064 : Shape := ⟨1, ![2064]⟩
abbrev S2064x1024 : Shape := ⟨2, ![2064, 1024]⟩
abbrev S2176x1024 : Shape := ⟨2, ![2176, 1024]⟩
abbrev S8x1024 : Shape := ⟨2, ![8, 1024]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024, .f32⟩
  | .hbm, ⟨2, _⟩ => ⟨S1x2048x1024, .f32⟩
  | .hbm, ⟨3, _⟩ => ⟨S1x2064x1024, .f32⟩
  | .hbm, ⟨4, _⟩ => ⟨S_, .f32⟩
  | .hbm, ⟨5, _⟩ => ⟨S1x2064, .f32⟩
  | .hbm, ⟨6, _⟩ => ⟨S1x2064x1, .f32⟩
  | .hbm, ⟨7, _⟩ => ⟨S_, .f32⟩
  | .hbm, ⟨8, _⟩ => ⟨S1x2064x1, .f32⟩
  | .hbm, ⟨9, _⟩ => ⟨S1x2064x1, .f32⟩
  | .hbm, ⟨10, _⟩ => ⟨S_, .f32⟩
  | .hbm, ⟨11, _⟩ => ⟨S1x2064x1, .f32⟩
  | .hbm, ⟨12, _⟩ => ⟨S1x2064x1, .f32⟩
  | .hbm, ⟨13, _⟩ => ⟨S1x2064x1, .f32⟩
  | .hbm, ⟨14, _⟩ => ⟨S1x2064x1, .f32⟩
  | .hbm, ⟨15, _⟩ => ⟨S_, .f32⟩
  | .hbm, ⟨16, _⟩ => ⟨S1x2064x1, .f32⟩
  | .hbm, ⟨17, _⟩ => ⟨S1x2064x1, .f32⟩
  | .hbm, ⟨18, _⟩ => ⟨S1x2064x1024, .f32⟩
  | .hbm, ⟨19, _⟩ => ⟨S1x2064x1024, .f32⟩
  | .hbm, ⟨20, _⟩ => ⟨S1x1x1024, .f32⟩
  | .hbm, ⟨21, _⟩ => ⟨S1x2064x1024, .f32⟩
  | .hbm, ⟨22, _⟩ => ⟨S1x2064x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S_, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S1x2048x1024, .f32⟩
  | .hbm, ⟨46, _⟩ => ⟨S1x2048x1024, .f32⟩
  | .hbm, ⟨47, _⟩ => ⟨S_, .f32⟩
  | .hbm, ⟨48, _⟩ => ⟨S1x2064x1024, .f32⟩
  | .hbm, ⟨49, _⟩ => ⟨S1x2064x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S1x2064x1024, .f32⟩
  | .hbm, ⟨54, _⟩ => ⟨S1x2064x1024, .f32⟩
  | .hbm, ⟨55, _⟩ => ⟨S_, .f32⟩
  | .hbm, ⟨56, _⟩ => ⟨S1024, .f32⟩
  | .hbm, ⟨57, _⟩ => ⟨S1x2064x1024, .f32⟩
  | .hbm, ⟨58, _⟩ => ⟨S_, .f32⟩
  | .hbm, ⟨59, _⟩ => ⟨S1x2064, .f32⟩
  | .hbm, ⟨60, _⟩ => ⟨S1x2064x1, .f32⟩
  | .hbm, ⟨61, _⟩ => ⟨S1x2064x1024, .f32⟩
  | .hbm, ⟨62, _⟩ => ⟨S1x2064x1024, .f32⟩
  | .hbm, ⟨63, _⟩ => ⟨S1x2064x1, .f32⟩
  | .hbm, ⟨64, _⟩ => ⟨S_, .f32⟩
  | .hbm, ⟨65, _⟩ => ⟨S1x2064x1, .f32⟩
  | .hbm, ⟨66, _⟩ => ⟨S1x2064x1, .f32⟩
  | .hbm, ⟨67, _⟩ => ⟨S_, .f32⟩
  | .hbm, ⟨68, _⟩ => ⟨S2064, .f32⟩
  | .hbm, ⟨69, _⟩ => ⟨S1x2064, .f32⟩
  | .hbm, ⟨70, _⟩ => ⟨S1x2064x1024, .f32⟩
  | .hbm, ⟨71, _⟩ => ⟨S1x2064x1024, .f32⟩
  | .hbm, ⟨72, _⟩ => ⟨S1x2064x1024, .f32⟩
  | .hbm, ⟨73, _⟩ => ⟨S1x2064x1024, .f32⟩
  | .hbm, ⟨74, _⟩ => ⟨S1x2064x1024, .f32⟩
  | .hbm, ⟨75, _⟩ => ⟨S2064x1024, .f32⟩
  | .hbm, ⟨76, _⟩ => ⟨S_, .i32⟩
  | .hbm, ⟨77, _⟩ => ⟨S_, .f32⟩
  | .hbm, ⟨78, _⟩ => ⟨S2176x1024, .f32⟩
  | .hbm, ⟨79, _⟩ => ⟨S2176x1024, .bf16⟩
  | .hbm, ⟨80, _⟩ => ⟨S1x1024, .f32⟩
  | .hbm, ⟨81, _⟩ => ⟨S8x1024, .f32⟩
  | .hbm, ⟨82, _⟩ => ⟨S8x128, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Mixer.lean ====
abbrev S1x2064x512 : Shape := ⟨3, ![1, 2064, 512]⟩
abbrev S512 : Shape := ⟨1, ![512]⟩
abbrev S1024x1024 : Shape := ⟨2, ![1024, 1024]⟩
abbrev S1x2064x1024 : Shape := ⟨3, ![1, 2064, 1024]⟩
abbrev S2064x1024 : Shape := ⟨2, ![2064, 1024]⟩
abbrev S_ : Shape := ⟨0, ![]⟩
abbrev S2176x1024 : Shape := ⟨2, ![2176, 1024]⟩
abbrev S4x256x1024 : Shape := ⟨3, ![4, 256, 1024]⟩
abbrev S2064x512 : Shape := ⟨2, ![2064, 512]⟩
abbrev S2176x512 : Shape := ⟨2, ![2176, 512]⟩
abbrev S1x512 : Shape := ⟨2, ![1, 512]⟩
abbrev S8x1024 : Shape := ⟨2, ![8, 1024]⟩
abbrev S544x1024 : Shape := ⟨2, ![544, 1024]⟩
abbrev S544x512 : Shape := ⟨2, ![544, 512]⟩
abbrev S1x256x1024 : Shape := ⟨3, ![1, 256, 1024]⟩
abbrev S256x1024 : Shape := ⟨2, ![256, 1024]⟩
abbrev S544x256 : Shape := ⟨2, ![544, 256]⟩
abbrev S544 : Shape := ⟨1, ![544]⟩
abbrev S544x1 : Shape := ⟨2, ![544, 1]⟩
abbrev S1x1024 : Shape := ⟨2, ![1, 1024]⟩

abbrev nBuf : Space → Nat
  | .hbm => 26
  | .vmem => 14
  | .smem => 0
  | _ => 0

abbrev bufTy : (tb : Table) → Fin (tcTables nBuf tb) → BufTy
  | .hbm, ⟨0, _⟩ => ⟨S1x2064x512, .f32⟩
  | .hbm, ⟨1, _⟩ => ⟨S1x2064x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S1x2064x1024, .f32⟩
  | .hbm, ⟨6, _⟩ => ⟨S2064x1024, .f32⟩
  | .hbm, ⟨7, _⟩ => ⟨S_, .i32⟩
  | .hbm, ⟨8, _⟩ => ⟨S_, .f32⟩
  | .hbm, ⟨9, _⟩ => ⟨S2176x1024, .f32⟩
  | .hbm, ⟨10, _⟩ => ⟨S2176x1024, .bf16⟩
  | .hbm, ⟨11, _⟩ => ⟨S4x256x1024, .f32⟩
  | .hbm, ⟨12, _⟩ => ⟨S4x256x1024, .bf16⟩
  | .hbm, ⟨13, _⟩ => ⟨S2064x512, .f32⟩
  | .hbm, ⟨14, _⟩ => ⟨S_, .i32⟩
  | .hbm, ⟨15, _⟩ => ⟨S_, .f32⟩
  | .hbm, ⟨16, _⟩ => ⟨S2176x512, .f32⟩
  | .hbm, ⟨17, _⟩ => ⟨S2064x512, .f32⟩
  | .hbm, ⟨18, _⟩ => ⟨S_, .i32⟩
  | .hbm, ⟨19, _⟩ => ⟨S_, .f32⟩
  | .hbm, ⟨20, _⟩ => ⟨S2176x512, .f32⟩
  | .hbm, ⟨21, _⟩ => ⟨S1x512, .f32⟩
  | .hbm, ⟨22, _⟩ => ⟨S1x512, .f32⟩
  | .hbm, ⟨23, _⟩ => ⟨S2176x512, .f32⟩
  | .hbm, ⟨24, _⟩ => ⟨S2176x512, .f32⟩
  | .hbm, ⟨25, _⟩ => ⟨S8x1024, .f32⟩
  | .local _ .vmem, ⟨0, _⟩ => ⟨S544x1024, .bf16⟩
  | .local _ .vmem, ⟨1, _⟩ => ⟨S544x1024, .bf16⟩
  | .local _ .vmem, ⟨2, _⟩ => ⟨S4x256x1024, .bf16⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S1x512, .f32⟩
  | .local _ .vmem, ⟨8, _⟩ => ⟨S1x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x512, .f32⟩
  | .local _ .vmem, ⟨13, _⟩ => ⟨S8x1024, .f32⟩
  | _, _ => ⟨S1x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixerRefIdeal.lean ====
abbrev S1x2064x512 : Shape := ⟨3, ![1, 2064, 512]⟩
abbrev S512 : Shape := ⟨1, ![512]⟩
abbrev S1024x1024 : Shape := ⟨2, ![1024, 1024]⟩
abbrev S1x2064x1024 : Shape := ⟨3, ![1, 2064, 1024]⟩
abbrev S_ : Shape := ⟨0, ![]⟩
abbrev S1x2064 : Shape := ⟨2, ![1, 2064]⟩
abbrev S1x2064x1 : Shape := ⟨3, ![1, 2064, 1]⟩
abbrev S1x1x512 : Shape := ⟨3, ![1, 1, 512]⟩
abbrev S1x512 : Shape := ⟨2, ![1, 512]⟩
abbrev S2064 : Shape := ⟨1, ![2064]⟩
abbrev S2064x512 : Shape := ⟨2, ![2064, 512]⟩
abbrev S2176x512 : Shape := ⟨2, ![2176, 512]⟩
abbrev S1024 : Shape := ⟨1, ![1024]⟩
abbrev S1x1024 : Shape := ⟨2, ![1, 1024]⟩
abbrev S8x1024 : Shape := ⟨2, ![8, 1024]⟩

abbrev nBuf : Space → Nat
  | .hbm => 114
  | .vmem => 0
  | .smem => 0
  | _ => 0

abbrev bufTy : (tb : Table) → Fin (tcTables nBuf tb) → BufTy
  | .hbm, ⟨0, _⟩ => ⟨S1x2064x512, .f32⟩
  | .hbm, ⟨1, _⟩ => ⟨S1x2064x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S1x2064x1024, .f32⟩
  | .hbm, ⟨6, _⟩ => ⟨S1x2064x512, .f32⟩
  | .hbm, ⟨7, _⟩ => ⟨S_, .f32⟩
  | .hbm, ⟨8, _⟩ => ⟨S1x2064, .f32⟩
  | .hbm, ⟨9, _⟩ => ⟨S1x2064x1, .f32⟩
  | .hbm, ⟨10, _⟩ => ⟨S_, .f32⟩
  | .hbm, ⟨11, _⟩ => ⟨S1x2064x1, .f32⟩
  | .hbm, ⟨12, _⟩ => ⟨S1x2064x1, .f32⟩
  | .hbm, ⟨13, _⟩ => ⟨S_, .f32⟩
  | .hbm, ⟨14, _⟩ => ⟨S1x2064x1, .f32⟩
  | .hbm, ⟨15, _⟩ => ⟨S1x2064x1, .f32⟩
  | .hbm, ⟨16, _⟩ => ⟨S1x2064x1, .f32⟩
  | .hbm, ⟨17, _⟩ => ⟨S1x2064x1, .f32⟩
  | .hbm, ⟨18, _⟩ => ⟨S_, .f32⟩
  | .hbm, ⟨19, _⟩ => ⟨S1x2064x1, .f32⟩
  | .hbm, ⟨20, _⟩ => ⟨S1x2064x1, .f32⟩
  | .hbm, ⟨21, _⟩ => ⟨S1x2064x512, .f32⟩
  | .hbm, ⟨22, _⟩ => ⟨S1x2064x512, .f32⟩
  | .hbm, ⟨23, _⟩ => ⟨S1x1x512, .f32⟩
  | .hbm, ⟨24, _⟩ => ⟨S1x2064x512, .f32⟩
  | .hbm, ⟨25, _⟩ => ⟨S1x2064x512, .f32⟩
  | .hbm, ⟨26, _⟩ => ⟨S1x2064x512, .f32⟩
  | .hbm, ⟨27, _⟩ => ⟨S_, .f32⟩
  | .hbm, ⟨28, _⟩ => ⟨S1x2064, .f32⟩
  | .hbm, ⟨29, _⟩ => ⟨S1x2064x1, .f32⟩
  | .hbm, ⟨30, _⟩ => ⟨S_, .f32⟩
  | .hbm, ⟨31, _⟩ => ⟨S1x2064x1, .f32⟩
  | .hbm, ⟨32, _⟩ => ⟨S1x2064x1, .f32⟩
  | .hbm, ⟨33, _⟩ => ⟨S_, .f32⟩
  | .hbm, ⟨34, _⟩ => ⟨S1x2064x1, .f32⟩
  | .hbm, ⟨35, _⟩ => ⟨S1x2064x1, .f32⟩
  | .hbm, ⟨36, _⟩ => ⟨S1x2064x1, .f32⟩
  | .hbm, ⟨37, _⟩ => ⟨S1x2064x1, .f32⟩
  | .hbm, ⟨38, _⟩ => ⟨S_, .f32⟩
  | .hbm, ⟨39, _⟩ => ⟨S1x2064x1, .f32⟩
  | .hbm, ⟨40, _⟩ => ⟨S1x2064x1, .f32⟩
  | .hbm, ⟨41, _⟩ => ⟨S1x2064x512, .f32⟩
  | .hbm, ⟨42, _⟩ => ⟨S1x2064x512, .f32⟩
  | .hbm, ⟨43, _⟩ => ⟨S1x1x512, .f32⟩
  | .hbm, ⟨44, _⟩ => ⟨S1x2064x512, .f32⟩
  | .hbm, ⟨45, _⟩ => ⟨S1x2064x512, .f32⟩
  | .hbm, ⟨46, _⟩ => ⟨S1x2064x1024, .f32⟩
  | .hbm, ⟨47, _⟩ => ⟨S1x2064x1024, .f32⟩
  | .hbm, ⟨48, _⟩ => ⟨S1x2064x1024, .f32⟩
  | .hbm, ⟨49, _⟩ => ⟨S1x2064x512, .f32⟩
  | .hbm, ⟨50, _⟩ => ⟨S1x2064x512, .f32⟩
  | .hbm, ⟨51, _⟩ => ⟨S1x2064x512, .f32⟩
  | .hbm, ⟨52, _⟩ => ⟨S_, .f32⟩
  | .hbm, ⟨53, _⟩ => ⟨S1x512, .f32⟩
  | .hbm, ⟨54, _⟩ => ⟨S1x1x512, .f32⟩
  | .hbm, ⟨55, _⟩ => ⟨S1x2064x512, .f32⟩
  | .hbm, ⟨56, _⟩ => ⟨S1x2064x512, .f32⟩
  | .hbm, ⟨57, _⟩ => ⟨S_, .f32⟩
  | .hbm, ⟨58, _⟩ => ⟨S512, .f32⟩
  | .hbm, ⟨59, _⟩ => ⟨S1x2064x512, .f32⟩
  | .hbm, ⟨60, _⟩ => ⟨S_, .f32⟩
  | .hbm, ⟨61, _⟩ => ⟨S1x2064, .f32⟩
  | .hbm, ⟨62, _⟩ => ⟨S1x2064x1, .f32⟩
  | .hbm, ⟨63, _⟩ => ⟨S1x2064x512, .f32⟩
  | .hbm, ⟨64, _⟩ => ⟨S1x2064x512, .f32⟩
  | .hbm, ⟨65, _⟩ => ⟨S1x2064x1, .f32⟩
  | .hbm, ⟨66, _⟩ => ⟨S_, .f32⟩
  | .hbm, ⟨67, _⟩ => ⟨S1x2064x1, .f32⟩
  | .hbm, ⟨68, _⟩ => ⟨S1x2064x1, .f32⟩
  | .hbm, ⟨69, _⟩ => ⟨S_, .f32⟩
  | .hbm, ⟨70, _⟩ => ⟨S2064, .f32⟩
  | .hbm, ⟨71, _⟩ => ⟨S1x2064, .f32⟩
  | .hbm, ⟨72, _⟩ => ⟨S1x2064x512, .f32⟩
  | .hbm, ⟨73, _⟩ => ⟨S1x2064x512, .f32⟩
  | .hbm, ⟨74, _⟩ => ⟨S1x2064x512, .f32⟩
  | .hbm, ⟨75, _⟩ => ⟨S1x2064x512, .f32⟩
  | .hbm, ⟨76, _⟩ => ⟨S1x2064x512, .f32⟩
  | .hbm, ⟨77, _⟩ => ⟨S1x2064x512, .f32⟩
  | .hbm, ⟨78, _⟩ => ⟨S_, .f32⟩
  | .hbm, ⟨79, _⟩ => ⟨S1x512, .f32⟩
  | .hbm, ⟨80, _⟩ => ⟨S1x1x512, .f32⟩
  | .hbm, ⟨81, _⟩ => ⟨S1x2064x512, .f32⟩
  | .hbm, ⟨82, _⟩ => ⟨S1x2064x512, .f32⟩
  | .hbm, ⟨83, _⟩ => ⟨S_, .f32⟩
  | .hbm, ⟨84, _⟩ => ⟨S512, .f32⟩
  | .hbm, ⟨85, _⟩ => ⟨S1x2064x512, .f32⟩
  | .hbm, ⟨86, _⟩ => ⟨S_, .f32⟩
  | .hbm, ⟨87, _⟩ => ⟨S1x2064, .f32⟩
  | .hbm, ⟨88, _⟩ => ⟨S1x2064x1, .f32⟩
  | .hbm, ⟨89, _⟩ => ⟨S1x2064x512, .f32⟩
  | .hbm, ⟨90, _⟩ => ⟨S1x2064x512, .f32⟩
  | .hbm, ⟨91, _⟩ => ⟨S1x2064x1, .f32⟩
  | .hbm, ⟨92, _⟩ => ⟨S_, .f32⟩
  | .hbm, ⟨93, _⟩ => ⟨S1x2064x1, .f32⟩
  | .hbm, ⟨94, _⟩ => ⟨S1x2064x1, .f32⟩
  | .hbm, ⟨95, _⟩ => ⟨S_, .f32⟩
  | .hbm, ⟨96, _⟩ => ⟨S2064, .f32⟩
  | .hbm, ⟨97, _⟩ => ⟨S1x2064, .f32⟩
  | .hbm, ⟨98, _⟩ => ⟨S1x2064x512, .f32⟩
  | .hbm, ⟨99, _⟩ => ⟨S1x2064x512, .f32⟩
  | .hbm, ⟨100, _⟩ => ⟨S1x2064x512, .f32⟩
  | .hbm, ⟨101, _⟩ => ⟨S1x2064x512, .f32⟩
  | .hbm, ⟨102, _⟩ => ⟨S1x2064x512, .f32⟩
  | .hbm, ⟨103, _⟩ => ⟨S2064x512, .f32⟩
  | .hbm, ⟨104, _⟩ => ⟨S_, .i32⟩
  | .hbm, ⟨105, _⟩ => ⟨S_, .f32⟩
  | .hbm, ⟨106, _⟩ => ⟨S2176x512, .f32⟩
  | .hbm, ⟨107, _⟩ => ⟨S2064x512, .f32⟩
  | .hbm, ⟨108, _⟩ => ⟨S_, .i32⟩
  | .hbm, ⟨109, _⟩ => ⟨S_, .f32⟩
  | .hbm, ⟨110, _⟩ => ⟨S2176x512, .f32⟩
  | .hbm, ⟨111, _⟩ => ⟨S1024, .f32⟩
  | .hbm, ⟨112, _⟩ => ⟨S1x1024, .f32⟩
  | .hbm, ⟨113, _⟩ => ⟨S8x1024, .f32⟩
  | _, _ => ⟨S1x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c : Ref sig .tc := ⟨.hbm, 104, rfl⟩
abbrev main_call0_v0 : Ref sig .tc := ⟨.hbm, 105, rfl⟩
abbrev main_v80 : Ref sig .tc := ⟨.hbm, 106, rfl⟩
abbrev main_v81 : Ref sig .tc := ⟨.hbm, 107, rfl⟩
abbrev main_c_17 : Ref sig .tc := ⟨.hbm, 108, rfl⟩
abbrev main_call1_v0 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== Up.lean ====
abbrev S1x2064x1024 : Shape := ⟨3, ![1, 2064, 1024]⟩
abbrev S1024 : Shape := ⟨1, ![1024]⟩
abbrev S1024x4096 : Shape := ⟨2, ![1024, 4096]⟩
abbrev S1x2064x4096 : Shape := ⟨3, ![1, 2064, 4096]⟩
abbrev S1024x4x1024 : Shape := ⟨3, ![1024, 4, 1024]⟩
abbrev S4x1024x1024 : Shape := ⟨3, ![4, 1024, 1024]⟩
abbrev S2064x4096 : Shape := ⟨2, ![2064, 4096]⟩
abbrev S_ : Shape := ⟨0, ![]⟩
abbrev S2176x4096 : Shape := ⟨2, ![2176, 4096]⟩
abbrev S2064x1024 : Shape := ⟨2, ![2064, 1024]⟩
abbrev S2176x1024 : Shape := ⟨2, ![2176, 1024]⟩
abbrev S1x1024 : Shape := ⟨2, ![1, 1024]⟩
abbrev S8x1024 : Shape := ⟨2, ![8, 1024]⟩
abbrev S544x1024 : Shape := ⟨2, ![544, 1024]⟩
abbrev S1x1024x1024 : Shape := ⟨3, ![1, 1024, 1024]⟩
abbrev S1024x1024 : Shape := ⟨2, ![1024, 1024]⟩
abbrev S544 : Shape := ⟨1, ![544]⟩
abbrev S544x1 : Shape := ⟨2, ![544, 1]⟩

abbrev nBuf : Space → Nat
  | .hbm => 25
  | .vmem => 19
  | .smem => 0
  | _ => 0

abbrev bufTy : (tb : Table) → Fin (tcTables nBuf tb) → BufTy
  | .hbm, ⟨0, _⟩ => ⟨S1x2064x1024, .f32⟩
  | .hbm, ⟨1, _⟩ => ⟨S1024, .f32⟩
  | .hbm, ⟨2, _⟩ => ⟨S1024x4096, .f32⟩
  | .hbm, ⟨3, _⟩ => ⟨S1x2064x1024, .f32⟩
  | .hbm, ⟨4, _⟩ => ⟨S1x2064x4096, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S2064x4096, .f32⟩
  | .hbm, ⟨9, _⟩ => ⟨S_, .i32⟩
  | .hbm, ⟨10, _⟩ => ⟨S_, .f32⟩
  | .hbm, ⟨11, _⟩ => ⟨S2176x4096, .f32⟩
  | .hbm, ⟨12, _⟩ => ⟨S2176x4096, .bf16⟩
  | .hbm, ⟨13, _⟩ => ⟨S2064x1024, .f32⟩
  | .hbm, ⟨14, _⟩ => ⟨S_, .i32⟩
  | .hbm, ⟨15, _⟩ => ⟨S_, .f32⟩
  | .hbm, ⟨16, _⟩ => ⟨S2176x1024, .f32⟩
  | .hbm, ⟨17, _⟩ => ⟨S1x1024, .f32⟩
  | .hbm, ⟨18, _⟩ => ⟨S2064x1024, .f32⟩
  | .hbm, ⟨19, _⟩ => ⟨S_, .i32⟩
  | .hbm, ⟨20, _⟩ => ⟨S_, .f32⟩
  | .hbm, ⟨21, _⟩ => ⟨S2176x1024, .f32⟩
  | .hbm, ⟨22, _⟩ => ⟨S2176x1024, .f32⟩
  | .hbm, ⟨23, _⟩ => ⟨S2176x1024, .bf16⟩
  | .hbm, ⟨24, _⟩ => ⟨S8x1024, .f32⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S4x1024x1024, .bf16⟩
  | .local _ .vmem, ⟨9, _⟩ => ⟨S544x1024, .f32⟩
  | .local _ .vmem, ⟨10, _⟩ => ⟨S544x1024, .f32⟩
  | .local _ .vmem, ⟨11, _⟩ => ⟨S1x1024, .f32⟩
  | .local _ .vmem, ⟨12, _⟩ => ⟨S544x1024, .f32⟩
  | .local _ .vmem, ⟨13, _⟩ => ⟨S544x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .bf16⟩
  | .local _ .vmem, ⟨17, _⟩ => ⟨S544x1024, .bf16⟩
  | .local _ .vmem, ⟨18, _⟩ => ⟨S8x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== UpRefIdeal.lean ====
abbrev S1x2064x1024 : Shape := ⟨3, ![1, 2064, 1024]⟩
abbrev S1024 : Shape := ⟨1, ![1024]⟩
abbrev S1024x4096 : Shape := ⟨2, ![1024, 4096]⟩
abbrev S1x2064x4096 : Shape := ⟨3, ![1, 2064, 4096]⟩
abbrev S_ : Shape := ⟨0, ![]⟩
abbrev S1x2064 : Shape := ⟨2, ![1, 2064]⟩
abbrev S1x2064x1 : Shape := ⟨3, ![1, 2064, 1]⟩
abbrev S1x1x1024 : Shape := ⟨3, ![1, 1, 1024]⟩
abbrev S1x1024 : Shape := ⟨2, ![1, 1024]⟩
abbrev S2064 : Shape := ⟨1, ![2064]⟩
abbrev S2064x1024 : Shape := ⟨2, ![2064, 1024]⟩
abbrev S2176x1024 : Shape := ⟨2, ![2176, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024, .f32⟩
  | .hbm, ⟨2, _⟩ => ⟨S1024x4096, .f32⟩
  | .hbm, ⟨3, _⟩ => ⟨S1x2064x1024, .f32⟩
  | .hbm, ⟨4, _⟩ => ⟨S1x2064x4096, .f32⟩
  | .hbm, ⟨5, _⟩ => ⟨S1x2064x1024, .f32⟩
  | .hbm, ⟨6, _⟩ => ⟨S_, .f32⟩
  | .hbm, ⟨7, _⟩ => ⟨S1x2064, .f32⟩
  | .hbm, ⟨8, _⟩ => ⟨S1x2064x1, .f32⟩
  | .hbm, ⟨9, _⟩ => ⟨S_, .f32⟩
  | .hbm, ⟨10, _⟩ => ⟨S1x2064x1, .f32⟩
  | .hbm, ⟨11, _⟩ => ⟨S1x2064x1, .f32⟩
  | .hbm, ⟨12, _⟩ => ⟨S_, .f32⟩
  | .hbm, ⟨13, _⟩ => ⟨S1x2064x1, .f32⟩
  | .hbm, ⟨14, _⟩ => ⟨S1x2064x1, .f32⟩
  | .hbm, ⟨15, _⟩ => ⟨S1x2064x1, .f32⟩
  | .hbm, ⟨16, _⟩ => ⟨S1x2064x1, .f32⟩
  | .hbm, ⟨17, _⟩ => ⟨S_, .f32⟩
  | .hbm, ⟨18, _⟩ => ⟨S1x2064x1, .f32⟩
  | .hbm, ⟨19, _⟩ => ⟨S1x2064x1, .f32⟩
  | .hbm, ⟨20, _⟩ => ⟨S1x2064x1024, .f32⟩
  | .hbm, ⟨21, _⟩ => ⟨S1x2064x1024, .f32⟩
  | .hbm, ⟨22, _⟩ => ⟨S1x1x1024, .f32⟩
  | .hbm, ⟨23, _⟩ => ⟨S1x2064x1024, .f32⟩
  | .hbm, ⟨24, _⟩ => ⟨S1x2064x1024, .f32⟩
  | .hbm, ⟨25, _⟩ => ⟨S1x2064x4096, .f32⟩
  | .hbm, ⟨26, _⟩ => ⟨S1x2064x1024, .f32⟩
  | .hbm, ⟨27, _⟩ => ⟨S1x2064x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x2064x1024, .f32⟩
  | .hbm, ⟨32, _⟩ => ⟨S1x2064x1024, .f32⟩
  | .hbm, ⟨33, _⟩ => ⟨S_, .f32⟩
  | .hbm, ⟨34, _⟩ => ⟨S1024, .f32⟩
  | .hbm, ⟨35, _⟩ => ⟨S1x2064x1024, .f32⟩
  | .hbm, ⟨36, _⟩ => ⟨S_, .f32⟩
  | .hbm, ⟨37, _⟩ => ⟨S1x2064, .f32⟩
  | .hbm, ⟨38, _⟩ => ⟨S1x2064x1, .f32⟩
  | .hbm, ⟨39, _⟩ => ⟨S1x2064x1024, .f32⟩
  | .hbm, ⟨40, _⟩ => ⟨S1x2064x1024, .f32⟩
  | .hbm, ⟨41, _⟩ => ⟨S1x2064x1024, .f32⟩
  | .hbm, ⟨42, _⟩ => ⟨S1x2064x1, .f32⟩
  | .hbm, ⟨43, _⟩ => ⟨S_, .f32⟩
  | .hbm, ⟨44, _⟩ => ⟨S1x2064x1, .f32⟩
  | .hbm, ⟨45, _⟩ => ⟨S1x2064x1, .f32⟩
  | .hbm, ⟨46, _⟩ => ⟨S_, .f32⟩
  | .hbm, ⟨47, _⟩ => ⟨S2064, .f32⟩
  | .hbm, ⟨48, _⟩ => ⟨S1x2064, .f32⟩
  | .hbm, ⟨49, _⟩ => ⟨S1x2064x1024, .f32⟩
  | .hbm, ⟨50, _⟩ => ⟨S1x2064x1024, .f32⟩
  | .hbm, ⟨51, _⟩ => ⟨S1x2064x1024, .f32⟩
  | .hbm, ⟨52, _⟩ => ⟨S1x2064x1024, .f32⟩
  | .hbm, ⟨53, _⟩ => ⟨S1x2064x1024, .f32⟩
  | .hbm, ⟨54, _⟩ => ⟨S2064x1024, .f32⟩
  | .hbm, ⟨55, _⟩ => ⟨S_, .i32⟩
  | .hbm, ⟨56, _⟩ => ⟨S_, .f32⟩
  | .hbm, ⟨57, _⟩ => ⟨S2176x1024, .f32⟩
  | .hbm, ⟨58, _⟩ => ⟨S2176x1024, .bf16⟩
  | .hbm, ⟨59, _⟩ => ⟨S1x1024, .f32⟩
  | .hbm, ⟨60, _⟩ => ⟨S8x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== In.lean ====
abbrev S1x2064x1024 : Shape := ⟨3, ![1, 2064, 1024]⟩
abbrev S1024 : Shape := ⟨1, ![1024]⟩
abbrev S1024x2568 : Shape := ⟨2, ![1024, 2568]⟩
abbrev S1x2064x2568 : Shape := ⟨3, ![1, 2064, 2568]⟩
abbrev S2568x1024 : Shape := ⟨2, ![2568, 1024]⟩
abbrev S1536x1024 : Shape := ⟨2, ![1536, 1024]⟩
abbrev S8x1024 : Shape := ⟨2, ![8, 1024]⟩
abbrev S1024x1024 : Shape := ⟨2, ![1024, 1024]⟩
abbrev S_ : Shape := ⟨0, ![]⟩
abbrev S120x1024 : Shape := ⟨2, ![120, 1024]⟩
abbrev S2688x1024 : Shape := ⟨2, ![2688, 1024]⟩
abbrev S2064x2568 : Shape := ⟨2, ![2064, 2568]⟩
abbrev S2176x2568 : Shape := ⟨2, ![2176, 2568]⟩
abbrev S2176x512 : Shape := ⟨2, ![2176, 512]⟩
abbrev S2176x8 : Shape := ⟨2, ![2176, 8]⟩
abbrev S2176x128 : Shape := ⟨2, ![2176, 128]⟩
abbrev S2064x1024 : Shape := ⟨2, ![2064, 1024]⟩
abbrev S2176x1024 : Shape := ⟨2, ![2176, 1024]⟩
abbrev S1x1024 : Shape := ⟨2, ![1, 1024]⟩
abbrev S544x512 : Shape := ⟨2, ![544, 512]⟩
abbrev S544x128 : Shape := ⟨2, ![544, 128]⟩
abbrev S544x1024 : Shape := ⟨2, ![544, 1024]⟩
abbrev S512x1024 : Shape := ⟨2, ![512, 1024]⟩
abbrev S128x1024 : Shape := ⟨2, ![128, 1024]⟩
abbrev S544 : Shape := ⟨1, ![544]⟩
abbrev S544x1 : Shape := ⟨2, ![544, 1]⟩

abbrev nBuf : Space → Nat
  | .hbm => 39
  | .vmem => 23
  | .smem => 0
  | _ => 0

abbrev bufTy : (tb : Table) → Fin (tcTables nBuf tb) → BufTy
  | .hbm, ⟨0, _⟩ => ⟨S1x2064x1024, .f32⟩
  | .hbm, ⟨1, _⟩ => ⟨S1024, .f32⟩
  | .hbm, ⟨2, _⟩ => ⟨S1024x2568, .f32⟩
  | .hbm, ⟨3, _⟩ => ⟨S1x2064x1024, .f32⟩
  | .hbm, ⟨4, _⟩ => ⟨S1x2064x2568, .f32⟩
  | .hbm, ⟨5, _⟩ => ⟨S2568x1024, .f32⟩
  | .hbm, ⟨6, _⟩ => ⟨S1536x1024, .f32⟩
  | .hbm, ⟨7, _⟩ => ⟨S8x1024, .f32⟩
  | .hbm, ⟨8, _⟩ => ⟨S1024x1024, .f32⟩
  | .hbm, ⟨9, _⟩ => ⟨S_, .f32⟩
  | .hbm, ⟨10, _⟩ => ⟨S120x1024, .f32⟩
  | .hbm, ⟨11, _⟩ => ⟨S2688x1024, .f32⟩
  | .hbm, ⟨12, _⟩ => ⟨S2688x1024, .bf16⟩
  | .hbm, ⟨13, _⟩ => ⟨S2064x2568, .f32⟩
  | .hbm, ⟨14, _⟩ => ⟨S_, .i32⟩
  | .hbm, ⟨15, _⟩ => ⟨S_, .f32⟩
  | .hbm, ⟨16, _⟩ => ⟨S2176x2568, .f32⟩
  | .hbm, ⟨17, _⟩ => ⟨S2176x2568, .bf16⟩
  | .hbm, ⟨18, _⟩ => ⟨S2176x512, .bf16⟩
  | .hbm, ⟨19, _⟩ => ⟨S2176x512, .bf16⟩
  | .hbm, ⟨20, _⟩ => ⟨S2176x512, .bf16⟩
  | .hbm, ⟨21, _⟩ => ⟨S2176x8, .bf16⟩
  | .hbm, ⟨22, _⟩ => ⟨S2176x512, .bf16⟩
  | .hbm, ⟨23, _⟩ => ⟨S2176x512, .bf16⟩
  | .hbm, ⟨24, _⟩ => ⟨S_, .i32⟩
  | .hbm, ⟨25, _⟩ => ⟨S_, .bf16⟩
  | .hbm, ⟨26, _⟩ => ⟨S2176x128, .bf16⟩
  | .hbm, ⟨27, _⟩ => ⟨S2064x1024, .f32⟩
  | .hbm, ⟨28, _⟩ => ⟨S_, .i32⟩
  | .hbm, ⟨29, _⟩ => ⟨S_, .f32⟩
  | .hbm, ⟨30, _⟩ => ⟨S2176x1024, .f32⟩
  | .hbm, ⟨31, _⟩ => ⟨S1x1024, .f32⟩
  | .hbm, ⟨32, _⟩ => ⟨S2064x1024, .f32⟩
  | .hbm, ⟨33, _⟩ => ⟨S_, .i32⟩
  | .hbm, ⟨34, _⟩ => ⟨S_, .f32⟩
  | .hbm, ⟨35, _⟩ => ⟨S2176x1024, .f32⟩
  | .hbm, ⟨36, _⟩ => ⟨S2176x1024, .f32⟩
  | .hbm, ⟨37, _⟩ => ⟨S2176x1024, .bf16⟩
  | .hbm, ⟨38, _⟩ => ⟨S8x1024, .f32⟩
  | .local _ .vmem, ⟨0, _⟩ => ⟨S544x512, .bf16⟩
  | .local _ .vmem, ⟨1, _⟩ => ⟨S544x512, .bf16⟩
  | .local _ .vmem, ⟨2, _⟩ => ⟨S544x512, .bf16⟩
  | .local _ .vmem, ⟨3, _⟩ => ⟨S544x512, .bf16⟩
  | .local _ .vmem, ⟨4, _⟩ => ⟨S544x512, .bf16⟩
  | .local _ .vmem, ⟨5, _⟩ => ⟨S544x512, .bf16⟩
  | .local _ .vmem, ⟨6, _⟩ => ⟨S544x512, .bf16⟩
  | .local _ .vmem, ⟨7, _⟩ => ⟨S544x512, .bf16⟩
  | .local _ .vmem, ⟨8, _⟩ => ⟨S544x512, .bf16⟩
  | .local _ .vmem, ⟨9, _⟩ => ⟨S544x512, .bf16⟩
  | .local _ .vmem, ⟨10, _⟩ => ⟨S544x128, .bf16⟩
  | .local _ .vmem, ⟨11, _⟩ => ⟨S544x128, .bf16⟩
  | .local _ .vmem, ⟨12, _⟩ => ⟨S2688x1024, .bf16⟩
  | .local _ .vmem, ⟨13, _⟩ => ⟨S544x1024, .f32⟩
  | .local _ .vmem, ⟨14, _⟩ => ⟨S544x1024, .f32⟩
  | .local _ .vmem, ⟨15, _⟩ => ⟨S1x1024, .f32⟩
  | .local _ .vmem, ⟨16, _⟩ => ⟨S544x1024, .f32⟩
  | .local _ .vmem, ⟨17, _⟩ => ⟨S544x1024, .f32⟩
  | .local _ .vmem, ⟨18, _⟩ => ⟨S544x1024, .f32⟩
  | .local _ .vmem, ⟨19, _⟩ => ⟨S544x1024, .f32⟩
  | .local _ .vmem, ⟨20, _⟩ => ⟨S544x1024, .bf16⟩
  | .local _ .vmem, ⟨21, _⟩ => ⟨S544x1024, .bf16⟩
  | .local _ .vmem, ⟨22, _⟩ => ⟨S8x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_call3_v0 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2688x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InRefIdeal.lean ====
abbrev S1x2064x1024 : Shape := ⟨3, ![1, 2064, 1024]⟩
abbrev S1024 : Shape := ⟨1, ![1024]⟩
abbrev S1024x2568 : Shape := ⟨2, ![1024, 2568]⟩
abbrev S1x2064x2568 : Shape := ⟨3, ![1, 2064, 2568]⟩
abbrev S_ : Shape := ⟨0, ![]⟩
abbrev S1x2064 : Shape := ⟨2, ![1, 2064]⟩
abbrev S1x2064x1 : Shape := ⟨3, ![1, 2064, 1]⟩
abbrev S1x1x1024 : Shape := ⟨3, ![1, 1, 1024]⟩
abbrev S1x1024 : Shape := ⟨2, ![1, 1024]⟩
abbrev S2064 : Shape := ⟨1, ![2064]⟩
abbrev S2064x1024 : Shape := ⟨2, ![2064, 1024]⟩
abbrev S2176x1024 : Shape := ⟨2, ![2176, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024, .f32⟩
  | .hbm, ⟨2, _⟩ => ⟨S1024x2568, .f32⟩
  | .hbm, ⟨3, _⟩ => ⟨S1x2064x1024, .f32⟩
  | .hbm, ⟨4, _⟩ => ⟨S1x2064x2568, .f32⟩
  | .hbm, ⟨5, _⟩ => ⟨S1x2064x1024, .f32⟩
  | .hbm, ⟨6, _⟩ => ⟨S_, .f32⟩
  | .hbm, ⟨7, _⟩ => ⟨S1x2064, .f32⟩
  | .hbm, ⟨8, _⟩ => ⟨S1x2064x1, .f32⟩
  | .hbm, ⟨9, _⟩ => ⟨S_, .f32⟩
  | .hbm, ⟨10, _⟩ => ⟨S1x2064x1, .f32⟩
  | .hbm, ⟨11, _⟩ => ⟨S1x2064x1, .f32⟩
  | .hbm, ⟨12, _⟩ => ⟨S_, .f32⟩
  | .hbm, ⟨13, _⟩ => ⟨S1x2064x1, .f32⟩
  | .hbm, ⟨14, _⟩ => ⟨S1x2064x1, .f32⟩
  | .hbm, ⟨15, _⟩ => ⟨S1x2064x1, .f32⟩
  | .hbm, ⟨16, _⟩ => ⟨S1x2064x1, .f32⟩
  | .hbm, ⟨17, _⟩ => ⟨S_, .f32⟩
  | .hbm, ⟨18, _⟩ => ⟨S1x2064x1, .f32⟩
  | .hbm, ⟨19, _⟩ => ⟨S1x2064x1, .f32⟩
  | .hbm, ⟨20, _⟩ => ⟨S1x2064x1024, .f32⟩
  | .hbm, ⟨21, _⟩ => ⟨S1x2064x1024, .f32⟩
  | .hbm, ⟨22, _⟩ => ⟨S1x1x1024, .f32⟩
  | .hbm, ⟨23, _⟩ => ⟨S1x2064x1024, .f32⟩
  | .hbm, ⟨24, _⟩ => ⟨S1x2064x1024, .f32⟩
  | .hbm, ⟨25, _⟩ => ⟨S1x2064x2568, .f32⟩
  | .hbm, ⟨26, _⟩ => ⟨S1x2064x1024, .f32⟩
  | .hbm, ⟨27, _⟩ => ⟨S1x2064x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x2064x1024, .f32⟩
  | .hbm, ⟨32, _⟩ => ⟨S1x2064x1024, .f32⟩
  | .hbm, ⟨33, _⟩ => ⟨S_, .f32⟩
  | .hbm, ⟨34, _⟩ => ⟨S1024, .f32⟩
  | .hbm, ⟨35, _⟩ => ⟨S1x2064x1024, .f32⟩
  | .hbm, ⟨36, _⟩ => ⟨S_, .f32⟩
  | .hbm, ⟨37, _⟩ => ⟨S1x2064, .f32⟩
  | .hbm, ⟨38, _⟩ => ⟨S1x2064x1, .f32⟩
  | .hbm, ⟨39, _⟩ => ⟨S1x2064x1024, .f32⟩
  | .hbm, ⟨40, _⟩ => ⟨S1x2064x1024, .f32⟩
  | .hbm, ⟨41, _⟩ => ⟨S1x2064x1024, .f32⟩
  | .hbm, ⟨42, _⟩ => ⟨S1x2064x1, .f32⟩
  | .hbm, ⟨43, _⟩ => ⟨S_, .f32⟩
  | .hbm, ⟨44, _⟩ => ⟨S1x2064x1, .f32⟩
  | .hbm, ⟨45, _⟩ => ⟨S1x2064x1, .f32⟩
  | .hbm, ⟨46, _⟩ => ⟨S_, .f32⟩
  | .hbm, ⟨47, _⟩ => ⟨S2064, .f32⟩
  | .hbm, ⟨48, _⟩ => ⟨S1x2064, .f32⟩
  | .hbm, ⟨49, _⟩ => ⟨S1x2064x1024, .f32⟩
  | .hbm, ⟨50, _⟩ => ⟨S1x2064x1024, .f32⟩
  | .hbm, ⟨51, _⟩ => ⟨S1x2064x1024, .f32⟩
  | .hbm, ⟨52, _⟩ => ⟨S1x2064x1024, .f32⟩
  | .hbm, ⟨53, _⟩ => ⟨S1x2064x1024, .f32⟩
  | .hbm, ⟨54, _⟩ => ⟨S2064x1024, .f32⟩
  | .hbm, ⟨55, _⟩ => ⟨S_, .i32⟩
  | .hbm, ⟨56, _⟩ => ⟨S_, .f32⟩
  | .hbm, ⟨57, _⟩ => ⟨S2176x1024, .f32⟩
  | .hbm, ⟨58, _⟩ => ⟨S2176x1024, .bf16⟩
  | .hbm, ⟨59, _⟩ => ⟨S1x1024, .f32⟩
  | .hbm, ⟨60, _⟩ => ⟨S8x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Gate.lean ====
abbrev S1x2064x8 : Shape := ⟨3, ![1, 2064, 8]⟩
abbrev S8 : Shape := ⟨1, ![8]⟩
abbrev S2064x8 : Shape := ⟨2, ![2064, 8]⟩
abbrev S_ : Shape := ⟨0, ![]⟩
abbrev S2176x1152 : Shape := ⟨2, ![2176, 1152]⟩
abbrev S1x8 : Shape := ⟨2, ![1, 8]⟩
abbrev S1x128 : Shape := ⟨2, ![1, 128]⟩
abbrev S2176x128 : Shape := ⟨2, ![2176, 128]⟩
abbrev S8x128 : Shape := ⟨2, ![8, 128]⟩
abbrev S128 : Shape := ⟨1, ![128]⟩

abbrev nBuf : Space → Nat
  | .hbm => 17
  | .vmem => 6
  | .smem => 0
  | _ => 0

abbrev bufTy : (tb : Table) → Fin (tcTables nBuf tb) → BufTy
  | .hbm, ⟨0, _⟩ => ⟨S1x2064x8, .f32⟩
  | .hbm, ⟨1, _⟩ => ⟨S8, .f32⟩
  | .hbm, ⟨2, _⟩ => ⟨S1x2064x8, .f32⟩
  | .hbm, ⟨3, _⟩ => ⟨S2064x8, .f32⟩
  | .hbm, ⟨4, _⟩ => ⟨S_, .i32⟩
  | .hbm, ⟨5, _⟩ => ⟨S_, .f32⟩
  | .hbm, ⟨6, _⟩ => ⟨S2176x1152, .f32⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S2064x8, .f32⟩
  | .hbm, ⟨12, _⟩ => ⟨S_, .i32⟩
  | .hbm, ⟨13, _⟩ => ⟨S_, .f32⟩
  | .hbm, ⟨14, _⟩ => ⟨S2176x128, .f32⟩
  | .hbm, ⟨15, _⟩ => ⟨S2176x128, .bf16⟩
  | .hbm, ⟨16, _⟩ => ⟨S8x128, .f32⟩
  | .local _ .vmem, ⟨0, _⟩ => ⟨S2176x128, .f32⟩
  | .local _ .vmem, ⟨1, _⟩ => ⟨S1x128, .f32⟩
  | .local _ .vmem, ⟨2, _⟩ => ⟨S2176x128, .f32⟩
  | .local _ .vmem, ⟨3, _⟩ => ⟨S2176x128, .bf16⟩
  | .local _ .vmem, ⟨4, _⟩ => ⟨S8x128, .f32⟩
  | .local _ .vmem, ⟨5, _⟩ => ⟨S2176x128, .f32⟩
  | _, _ => ⟨S1x2064x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c272_i32 : BitVec 32 := 272#32
  let v5 : BitVec 32 := Scalar.addi c0_i32 c272_i32
  let c1_i32 : BitVec 32 := 1#32
  ⟨c0_i32, v5, c1_i32⟩
def k0_mult1 (k0_t1 : Fin k0_t1_loop.trips) : BitVec 32 :=
  let c271_i32 : BitVec 32 := 271#32
  let c0_i32 : BitVec 32 := 0#32
  let c1_i32 : BitVec 32 := 1#32
  let arg7 : BitVec 32 := Scf.iv c0_i32 c1_i32 k0_t1
  let v19 : BitVec 32 := Scalar.subi c271_i32 arg7
  let c8_i32 : BitVec 32 := 8#32
  let v20 : BitVec 32 := Scalar.muli v19 c8_i32
  v20
def k0_off1 (k0_t1 : Fin k0_t1_loop.trips) : Fin 2 → Nat :=
  let c271_i32 : BitVec 32 := 271#32
  let c0_i32 : BitVec 32 := 0#32
  let c1_i32 : BitVec 32 := 1#32
  let arg7 : BitVec 32 := Scf.iv c0_i32 c1_i32 k0_t1
  let v19 : BitVec 32 := Scalar.subi c271_i32 arg7
  let c8_i32 : BitVec 32 := 8#32
  let v20 : BitVec 32 := Scalar.muli v19 c8_i32
  let v21 : BitVec 32 := v20
  let v22 : Index := Scalar.indexCast v21
  let c0_10 : Index := 0#32
  ![v22.toNat, 0]
def cc0_transform_0 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateRefIdeal.lean ====
abbrev S1x2064x8 : Shape := ⟨3, ![1, 2064, 8]⟩
abbrev S8 : Shape := ⟨1, ![8]⟩
abbrev S1x1x8 : Shape := ⟨3, ![1, 1, 8]⟩
abbrev S_ : Shape := ⟨0, ![]⟩
abbrev S1x8 : Shape := ⟨2, ![1, 8]⟩
abbrev S2064x8 : Shape := ⟨2, ![2064, 8]⟩
abbrev S2176x128 : Shape := ⟨2, ![2176, 128]⟩
abbrev S128 : Shape := ⟨1, ![128]⟩
abbrev S1x128 : Shape := ⟨2, ![1, 128]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S1x2064x8, .f32⟩
  | .hbm, ⟨1, _⟩ => ⟨S8, .f32⟩
  | .hbm, ⟨2, _⟩ => ⟨S1x2064x8, .f32⟩
  | .hbm, ⟨3, _⟩ => ⟨S1x1x8, .f32⟩
  | .hbm, ⟨4, _⟩ => ⟨S1x2064x8, .f32⟩
  | .hbm, ⟨5, _⟩ => ⟨S1x2064x8, .f32⟩
  | .hbm, ⟨6, _⟩ => ⟨S1x2064x8, .f32⟩
  | .hbm, ⟨7, _⟩ => ⟨S_, .f32⟩
  | .hbm, ⟨8, _⟩ => ⟨S1x2064x8, .f32⟩
  | .hbm, ⟨9, _⟩ => ⟨S1x2064x8, .f32⟩
  | .hbm, ⟨10, _⟩ => ⟨S1x2064x8, .f32⟩
  | .hbm, ⟨11, _⟩ => ⟨S1x2064x8, .f32⟩
  | .hbm, ⟨12, _⟩ => ⟨S1x2064x8, .i1⟩
  | .hbm, ⟨13, _⟩ => ⟨S1x2064x8, .f32⟩
  | .hbm, ⟨14, _⟩ => ⟨S1x2064x8, .f32⟩
  | .hbm, ⟨15, _⟩ => ⟨S1x2064x8, .f32⟩
  | .hbm, ⟨16, _⟩ => ⟨S1x2064x8, .f32⟩
  | .hbm, ⟨17, _⟩ => ⟨S1x2064x8, .f32⟩
  | .hbm, ⟨18, _⟩ => ⟨S1x2064x8, .f32⟩
  | .hbm, ⟨19, _⟩ => ⟨S1x2064x8, .f32⟩
  | .hbm, ⟨20, _⟩ => ⟨S1x2064x8, .f32⟩
  | .hbm, ⟨21, _⟩ => ⟨S_, .f32⟩
  | .hbm, ⟨22, _⟩ => ⟨S1x2064x8, .f32⟩
  | .hbm, ⟨23, _⟩ => ⟨S1x2064x8, .i1⟩
  | .hbm, ⟨24, _⟩ => ⟨S_, .f32⟩
  | .hbm, ⟨25, _⟩ => ⟨S1x2064x8, .f32⟩
  | .hbm, ⟨26, _⟩ => ⟨S1x2064x8, .f32⟩
  | .hbm, ⟨27, _⟩ => ⟨S_, .f32⟩
  | .hbm, ⟨28, _⟩ => ⟨S1x2064x8, .f32⟩
  | .hbm, ⟨29, _⟩ => ⟨S1x2064x8, .i1⟩
  | .hbm, ⟨30, _⟩ => ⟨S_, .f32⟩
  | .hbm, ⟨31, _⟩ => ⟨S1x2064x8, .f32⟩
  | .hbm, ⟨32, _⟩ => ⟨S1x2064x8, .f32⟩
  | .hbm, ⟨33, _⟩ => ⟨S1x2064x8, .f32⟩
  | .hbm, ⟨34, _⟩ => ⟨S1x2064x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x2064x8, .f32⟩
  | .hbm, ⟨43, _⟩ => ⟨S1x2064x8, .i1⟩
  | .hbm, ⟨44, _⟩ => ⟨S_, .f32⟩
  | .hbm, ⟨45, _⟩ => ⟨S1x2064x8, .f32⟩
  | .hbm, ⟨46, _⟩ => ⟨S1x2064x8, .f32⟩
  | .hbm, ⟨47, _⟩ => ⟨S1x2064x8, .f32⟩
  | .hbm, ⟨48, _⟩ => ⟨S1x2064x8, .f32⟩
  | .hbm, ⟨49, _⟩ => ⟨S1x2064x8, .f32⟩
  | .hbm, ⟨50, _⟩ => ⟨S_, .f32⟩
  | .hbm, ⟨51, _⟩ => ⟨S1x2064x8, .f32⟩
  | .hbm, ⟨52, _⟩ => ⟨S1x2064x8, .f32⟩
  | .hbm, ⟨53, _⟩ => ⟨S1x2064x8, .f32⟩
  | .hbm, ⟨54, _⟩ => ⟨S_, .f32⟩
  | .hbm, ⟨55, _⟩ => ⟨S_, .f32⟩
  | .hbm, ⟨56, _⟩ => ⟨S1x2064x8, .f32⟩
  | .hbm, ⟨57, _⟩ => ⟨S_, .f32⟩
  | .hbm, ⟨58, _⟩ => ⟨S_, .f32⟩
  | .hbm, ⟨59, _⟩ => ⟨S1x2064x8, .f32⟩
  | .hbm, ⟨60, _⟩ => ⟨S1x2064x8, .f32⟩
  | .hbm, ⟨61, _⟩ => ⟨S1x2064x8, .f32⟩
  | .hbm, ⟨62, _⟩ => ⟨S1x2064x8, .f32⟩
  | .hbm, ⟨63, _⟩ => ⟨S_, .f32⟩
  | .hbm, ⟨64, _⟩ => ⟨S1x8, .f32⟩
  | .hbm, ⟨65, _⟩ => ⟨S1x1x8, .f32⟩
  | .hbm, ⟨66, _⟩ => ⟨S_, .f32⟩
  | .hbm, ⟨67, _⟩ => ⟨S8, .f32⟩
  | .hbm, ⟨68, _⟩ => ⟨S2064x8, .f32⟩
  | .hbm, ⟨69, _⟩ => ⟨S_, .i32⟩
  | .hbm, ⟨70, _⟩ => ⟨S_, .f32⟩
  | .hbm, ⟨71, _⟩ => ⟨S2176x128, .f32⟩
  | .hbm, ⟨72, _⟩ => ⟨S2176x128, .bf16⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S8x128, .f32⟩
  | _, _ => ⟨S1x2064x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_cst_0 : Ref sig .tc := ⟨.hbm, 66, rfl⟩
abbrev main_v9 : Ref sig .tc := ⟨.hbm, 67, rfl⟩
abbrev main_v10 : Ref sig .tc := ⟨.hbm, 68, rfl⟩
abbrev main_c : Ref sig .tc := ⟨.hbm, 69, rfl⟩
abbrev main_call4_v0 : Ref sig .tc := ⟨.hbm, 70, rfl⟩
abbrev main_v11 : Ref sig .tc := ⟨.hbm, 71, rfl⟩
abbrev main_v12 : Ref sig .tc := ⟨.hbm, 72, rfl⟩
abbrev main_c_1 : Ref sig .tc := ⟨.hbm, 73, rfl⟩
abbrev main_call5_v0 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩

abbrev nD : Nat := 1
abbrev τ : Topo := Topo.v7x

variable {F : FTy → Type} [FloatOps F]
-- ==== Attn.lean ====
abbrev S1x2064x512 : Shape := ⟨3, ![1, 2064, 512]⟩
abbrev S1x2064x8 : Shape := ⟨3, ![1, 2064, 8]⟩
abbrev S_ : Shape := ⟨0, ![]⟩
abbrev S2064x8 : Shape := ⟨2, ![2064, 8]⟩
abbrev S1x2064x8x64 : Shape := ⟨4, ![1, 2064, 8, 64]⟩
abbrev S1x8x2064x2064 : Shape := ⟨4, ![1, 8, 2064, 2064]⟩
abbrev S8x2064 : Shape := ⟨2, ![8, 2064]⟩
abbrev S1x8x1x2064 : Shape := ⟨4, ![1, 8, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S1x1x2064x2064 : Shape := ⟨4, ![1, 1, 2064, 2064]⟩
abbrev S1x8x2064 : Shape := ⟨3, ![1, 8, 2064]⟩
abbrev S1x8x2064x1 : Shape := ⟨4, ![1, 8, 2064, 1]⟩
abbrev S8x2176 : Shape := ⟨2, ![8, 2176]⟩
abbrev S2x4x2176 : Shape := ⟨3, ![2, 4, 2176]⟩
abbrev S2064x512 : Shape := ⟨2, ![2064, 512]⟩
abbrev S2064x1536 : Shape := ⟨2, ![2064, 1536]⟩
abbrev S2176x1536 : Shape := ⟨2, ![2176, 1536]⟩
abbrev S2176x8 : Shape := ⟨2, ![2176, 8]⟩
abbrev S2176x128 : Shape := ⟨2, ![2176, 128]⟩
abbrev S2176x512 : Shape := ⟨2, ![2176, 512]⟩
abbrev S128x256 : Shape := ⟨2, ![128, 256]⟩
abbrev S2176x256 : Shape := ⟨2, ![2176, 256]⟩
abbrev S8x128 : Shape := ⟨2, ![8, 128]⟩
abbrev S1x4x128 : Shape := ⟨3, ![1, 4, 128]⟩
abbrev S4x2176x1 : Shape := ⟨3, ![4, 2176, 1]⟩
abbrev S4x2176x128 : Shape := ⟨3, ![4, 2176, 128]⟩
abbrev S256x2176 : Shape := ⟨2, ![256, 2176]⟩
abbrev S2176 : Shape := ⟨1, ![2176]⟩
abbrev S2176x1 : Shape := ⟨2, ![2176, 1]⟩
abbrev S1x2176x128 : Shape := ⟨3, ![1, 2176, 128]⟩
abbrev S128x128 : Shape := ⟨2, ![128, 128]⟩
abbrev S256x128 : Shape := ⟨2, ![256, 128]⟩
abbrev S1x128 : Shape := ⟨2, ![1, 128]⟩
abbrev S1x1x128 : Shape := ⟨3, ![1, 1, 128]⟩
abbrev S256x256 : Shape := ⟨2, ![256, 256]⟩
abbrev S1x256x128 : Shape := ⟨3, ![1, 256, 128]⟩
abbrev S128 : Shape := ⟨1, ![128]⟩
abbrev S1x256x1 : Shape := ⟨3, ![1, 256, 1]⟩
abbrev S256x1 : Shape := ⟨2, ![256, 1]⟩
abbrev S256 : Shape := ⟨1, ![256]⟩
abbrev S64x128 : Shape := ⟨2, ![64, 128]⟩
abbrev S512x128 : Shape := ⟨2, ![512, 128]⟩
abbrev S512x256 : Shape := ⟨2, ![512, 256]⟩
abbrev S1x512x128 : Shape := ⟨3, ![1, 512, 128]⟩
abbrev S1x512x1 : Shape := ⟨3, ![1, 512, 1]⟩
abbrev S512x1 : Shape := ⟨2, ![512, 1]⟩
abbrev S512 : Shape := ⟨1, ![512]⟩
abbrev S128x512 : Shape := ⟨2, ![128, 512]⟩
abbrev S768x128 : Shape := ⟨2, ![768, 128]⟩
abbrev S768x256 : Shape := ⟨2, ![768, 256]⟩
abbrev S1x768x128 : Shape := ⟨3, ![1, 768, 128]⟩
abbrev S1x768x1 : Shape := ⟨3, ![1, 768, 1]⟩
abbrev S768x1 : Shape := ⟨2, ![768, 1]⟩
abbrev S768 : Shape := ⟨1, ![768]⟩
abbrev S128x768 : Shape := ⟨2, ![128, 768]⟩
abbrev S1024x128 : Shape := ⟨2, ![1024, 128]⟩
abbrev S1024x256 : Shape := ⟨2, ![1024, 256]⟩
abbrev S1x1024x128 : Shape := ⟨3, ![1, 1024, 128]⟩
abbrev S1x1024x1 : Shape := ⟨3, ![1, 1024, 1]⟩
abbrev S1024x1 : Shape := ⟨2, ![1024, 1]⟩
abbrev S1024 : Shape := ⟨1, ![1024]⟩
abbrev S128x1024 : Shape := ⟨2, ![128, 1024]⟩
abbrev S1280x128 : Shape := ⟨2, ![1280, 128]⟩
abbrev S1280x256 : Shape := ⟨2, ![1280, 256]⟩
abbrev S1x1280x128 : Shape := ⟨3, ![1, 1280, 128]⟩
abbrev S1x1280x1 : Shape := ⟨3, ![1, 1280, 1]⟩
abbrev S1280x1 : Shape := ⟨2, ![1280, 1]⟩
abbrev S1280 : Shape := ⟨1, ![1280]⟩
abbrev S128x1280 : Shape := ⟨2, ![128, 1280]⟩
abbrev S1536x128 : Shape := ⟨2, ![1536, 128]⟩
abbrev S1536x256 : Shape := ⟨2, ![1536, 256]⟩
abbrev S1x1536x128 : Shape := ⟨3, ![1, 1536, 128]⟩
abbrev S1x1536x1 : Shape := ⟨3, ![1, 1536, 1]⟩
abbrev S1536x1 : Shape := ⟨2, ![1536, 1]⟩
abbrev S1536 : Shape := ⟨1, ![1536]⟩
abbrev S128x1536 : Shape := ⟨2, ![128, 1536]⟩
abbrev S1792x128 : Shape := ⟨2, ![1792, 128]⟩
abbrev S1792x256 : Shape := ⟨2, ![1792, 256]⟩
abbrev S1x1792x128 : Shape := ⟨3, ![1, 1792, 128]⟩
abbrev S1x1792x1 : Shape := ⟨3, ![1, 1792, 1]⟩
abbrev S1792x1 : Shape := ⟨2, ![1792, 1]⟩
abbrev S1792 : Shape := ⟨1, ![1792]⟩
abbrev S128x1792 : Shape := ⟨2, ![128, 1792]⟩
abbrev S2048x128 : Shape := ⟨2, ![2048, 128]⟩
abbrev S2048x256 : Shape := ⟨2, ![2048, 256]⟩
abbrev S1x2048x128 : Shape := ⟨3, ![1, 2048, 128]⟩
abbrev S1x128x128 : Shape := ⟨3, ![1, 128, 128]⟩
abbrev S1x2048x1 : Shape := ⟨3, ![1, 2048, 1]⟩
abbrev S2048x1 : Shape := ⟨2, ![2048, 1]⟩
abbrev S2048 : Shape := ⟨1, ![2048]⟩
abbrev S128x2048 : Shape := ⟨2, ![128, 2048]⟩
abbrev S1x128x1 : Shape := ⟨3, ![1, 128, 1]⟩
abbrev S128x1 : Shape := ⟨2, ![128, 1]⟩
abbrev S1x2176x1 : Shape := ⟨3, ![1, 2176, 1]⟩

abbrev nBuf : Space → Nat
  | .hbm => 75
  | .vmem => 25
  | .smem => 0
  | _ => 0

abbrev bufTy : (tb : Table) → Fin (tcTables nBuf tb) → BufTy
  | .hbm, ⟨0, _⟩ => ⟨S1x2064x512, .f32⟩
  | .hbm, ⟨1, _⟩ => ⟨S1x2064x512, .f32⟩
  | .hbm, ⟨2, _⟩ => ⟨S1x2064x512, .f32⟩
  | .hbm, ⟨3, _⟩ => ⟨S1x2064x8, .f32⟩
  | .hbm, ⟨4, _⟩ => ⟨S1x2064x512, .f32⟩
  | .hbm, ⟨5, _⟩ => ⟨S_, .f32⟩
  | .hbm, ⟨6, _⟩ => ⟨S_, .f32⟩
  | .hbm, ⟨7, _⟩ => ⟨S1x2064x8, .f32⟩
  | .hbm, ⟨8, _⟩ => ⟨S2064x8, .f32⟩
  | .hbm, ⟨9, _⟩ => ⟨S1x2064x8x64, .f32⟩
  | .hbm, ⟨10, _⟩ => ⟨S_, .f32⟩
  | .hbm, ⟨11, _⟩ => ⟨S1x2064x8x64, .f32⟩
  | .hbm, ⟨12, _⟩ => ⟨S1x2064x8x64, .f32⟩
  | .hbm, ⟨13, _⟩ => ⟨S1x2064x8x64, .f32⟩
  | .hbm, ⟨14, _⟩ => ⟨S1x8x2064x2064, .f32⟩
  | .hbm, ⟨15, _⟩ => ⟨S8x2064, .f32⟩
  | .hbm, ⟨16, _⟩ => ⟨S1x8x1x2064, .f32⟩
  | .hbm, ⟨17, _⟩ => ⟨S1x8x2064x2064, .f32⟩
  | .hbm, ⟨18, _⟩ => ⟨S1x8x2064x2064, .f32⟩
  | .hbm, ⟨19, _⟩ => ⟨S2064, .i32⟩
  | .hbm, ⟨20, _⟩ => ⟨S2064x1, .i32⟩
  | .hbm, ⟨21, _⟩ => ⟨S1x2064, .i32⟩
  | .hbm, ⟨22, _⟩ => ⟨S2064x2064, .i32⟩
  | .hbm, ⟨23, _⟩ => ⟨S2064x2064, .i32⟩
  | .hbm, ⟨24, _⟩ => ⟨S2064x2064, .i1⟩
  | .hbm, ⟨25, _⟩ => ⟨S1x1x2064x2064, .i1⟩
  | .hbm, ⟨26, _⟩ => ⟨S_, .f32⟩
  | .hbm, ⟨27, _⟩ => ⟨S_, .f32⟩
  | .hbm, ⟨28, _⟩ => ⟨S1x8x2064x2064, .i1⟩
  | .hbm, ⟨29, _⟩ => ⟨S1x8x2064x2064, .f32⟩
  | .hbm, ⟨30, _⟩ => ⟨S1x8x2064x2064, .f32⟩
  | .hbm, ⟨31, _⟩ => ⟨S_, .f32⟩
  | .hbm, ⟨32, _⟩ => ⟨S1x8x2064, .f32⟩
  | .hbm, ⟨33, _⟩ => ⟨S1x8x2064x1, .f32⟩
  | .hbm, ⟨34, _⟩ => ⟨S1x8x2064, .f32⟩
  | .hbm, ⟨35, _⟩ => ⟨S1x8x2064x2064, .f32⟩
  | .hbm, ⟨36, _⟩ => ⟨S1x8x2064x2064, .f32⟩
  | .hbm, ⟨37, _⟩ => ⟨S1x8x2064x2064, .f32⟩
  | .hbm, ⟨38, _⟩ => ⟨S_, .f32⟩
  | .hbm, ⟨39, _⟩ => ⟨S1x8x2064, .f32⟩
  | .hbm, ⟨40, _⟩ => ⟨S1x8x2064, .f32⟩
  | .hbm, ⟨41, _⟩ => ⟨S1x8x2064, .f32⟩
  | .hbm, ⟨42, _⟩ => ⟨S8x2064, .f32⟩
  | .hbm, ⟨43, _⟩ => ⟨S8x2064, .f32⟩
  | .hbm, ⟨44, _⟩ => ⟨S8x2064, .f32⟩
  | .hbm, ⟨45, _⟩ => ⟨S_, .i32⟩
  | .hbm, ⟨46, _⟩ => ⟨S_, .f32⟩
  | .hbm, ⟨47, _⟩ => ⟨S8x2176, .f32⟩
  | .hbm, ⟨48, _⟩ => ⟨S2x4x2176, .f32⟩
  | .hbm, ⟨49, _⟩ => ⟨S2064x512, .f32⟩
  | .hbm, ⟨50, _⟩ => ⟨S_, .f32⟩
  | .hbm, ⟨51, _⟩ => ⟨S2064x512, .f32⟩
  | .hbm, ⟨52, _⟩ => ⟨S2064x512, .f32⟩
  | .hbm, ⟨53, _⟩ => ⟨S2064x512, .f32⟩
  | .hbm, ⟨54, _⟩ => ⟨S2064x512, .f32⟩
  | .hbm, ⟨55, _⟩ => ⟨S2064x1536, .f32⟩
  | .hbm, ⟨56, _⟩ => ⟨S_, .i32⟩
  | .hbm, ⟨57, _⟩ => ⟨S_, .f32⟩
  | .hbm, ⟨58, _⟩ => ⟨S2176x1536, .f32⟩
  | .hbm, ⟨59, _⟩ => ⟨S2176x1536, .bf16⟩
  | .hbm, ⟨60, _⟩ => ⟨S_, .i32⟩
  | .hbm, ⟨61, _⟩ => ⟨S_, .f32⟩
  | .hbm, ⟨62, _⟩ => ⟨S2176x8, .f32⟩
  | .hbm, ⟨63, _⟩ => ⟨S_, .i32⟩
  | .hbm, ⟨64, _⟩ => ⟨S_, .f32⟩
  | .hbm, ⟨65, _⟩ => ⟨S2176x128, .f32⟩
  | .hbm, ⟨66, _⟩ => ⟨S8x2176, .f32⟩
  | .hbm, ⟨67, _⟩ => ⟨S2064x512, .f32⟩
  | .hbm, ⟨68, _⟩ => ⟨S_, .i32⟩
  | .hbm, ⟨69, _⟩ => ⟨S_, .f32⟩
  | .hbm, ⟨70, _⟩ => ⟨S2176x512, .f32⟩
  | .hbm, ⟨71, _⟩ => ⟨S2176x512, .bf16⟩
  | .hbm, ⟨72, _⟩ => ⟨S2176x512, .bf16⟩
  | .hbm, ⟨73, _⟩ => ⟨S2176x512, .bf16⟩
  | .hbm, ⟨74, _⟩ => ⟨S2176x128, .f32⟩
  | .local _ .vmem, ⟨0, _⟩ => ⟨S128x256, .bf16⟩
  | .local _ .vmem, ⟨1, _⟩ => ⟨S128x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x128, .f32⟩
  | .local _ .vmem, ⟨7, _⟩ => ⟨S8x128, .f32⟩
  | .local _ .vmem, ⟨8, _⟩ => ⟨S8x128, .f32⟩
  | .local _ .vmem, ⟨9, _⟩ => ⟨S1x4x128, .f32⟩
  | .local _ .vmem, ⟨10, _⟩ => ⟨S1x4x128, .f32⟩
  | .local _ .vmem, ⟨11, _⟩ => ⟨S128x256, .f32⟩
  | .local _ .vmem, ⟨12, _⟩ => ⟨S128x256, .f32⟩
  | .local _ .vmem, ⟨13, _⟩ => ⟨S128x256, .bf16⟩
  | .local _ .vmem, ⟨14, _⟩ => ⟨S128x256, .bf16⟩
  | .local _ .vmem, ⟨15, _⟩ => ⟨S2176x256, .bf16⟩
  | .local _ .vmem, ⟨16, _⟩ => ⟨S2176x256, .bf16⟩
  | .local _ .vmem, ⟨17, _⟩ => ⟨S2176x256, .bf16⟩
  | .local _ .vmem, ⟨18, _⟩ => ⟨S2176x256, .bf16⟩
  | .local _ .vmem, ⟨19, _⟩ => ⟨S2176x128, .f32⟩
  | .local _ .vmem, ⟨20, _⟩ => ⟨S2176x256, .f32⟩
  | .local _ .vmem, ⟨21, _⟩ => ⟨S2176x256, .f32⟩
  | .local _ .vmem, ⟨22, _⟩ => ⟨S4x2176x1, .f32⟩
  | .local _ .vmem, ⟨23, _⟩ => ⟨S4x2176x128, .f32⟩
  | .local _ .vmem, ⟨24, _⟩ => ⟨S256x2176, .bf16⟩
  | _, _ => ⟨S1x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_call3_v0 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_call4_v0 : Ref sig .tc := ⟨.hbm, 61, rfl⟩
abbrev main_v41 : Ref sig .tc := ⟨.hbm, 62, rfl⟩
abbrev main_c_6 : Ref sig .tc := ⟨.hbm, 63, rfl⟩
abbrev main_call5_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_call6_v0 : Ref sig .tc := ⟨.hbm, 69, rfl⟩
abbrev main_v45 : Ref sig .tc := ⟨.hbm, 70, rfl⟩
abbrev main_v46_0 : Ref sig .tc := ⟨.hbm, 71, rfl⟩
abbrev main_v46_1 : Ref sig .tc := ⟨.hbm, 72, rfl⟩
abbrev main_v46_2 : Ref sig .tc := ⟨.hbm, 73, rfl⟩
abbrev main_v46_3 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 17], ![false, false]⟩

def k0_cond3 (i : grid0.Coords) : BitVec 1 :=
  let arg1 : BitVec 32 := BitVec.ofNat 32 (i 1).val
  let c0_i32_4 : BitVec 32 := 0#32
  let v8 : BitVec 1 := Scalar.cmpi .sge arg1 c0_i32_4
  let c2_i32 : BitVec 32 := 2#32
  let v9 : BitVec 1 := Scalar.cmpi .slt arg1 c2_i32
  let v10 : BitVec 1 := Scalar.andi v8 v9
  let v11 : BitVec 32 := Scalar.extui v10
  let c0_i32_5 : BitVec 32 := 0#32
  let v12 : BitVec 1 := Scalar.cmpi .ne v11 c0_i32_5
  v12

def k0_mult1 (i : grid0.Coords) : BitVec 32 :=
  let arg1 : BitVec 32 := BitVec.ofNat 32 (i 1).val
  let c128_i32 : BitVec 32 := 128#32
  let v56 : BitVec 32 := Scalar.muli arg1 c128_i32
  v56
def k0_off1 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond4 (i : grid0.Coords) : BitVec 1 :=
  let arg1 : BitVec 32 := BitVec.ofNat 32 (i 1).val
  let c2_i32_6 : BitVec 32 := 2#32
  let v13 : BitVec 1 := Scalar.cmpi .sge arg1 c2_i32_6
  let c4_i32 : BitVec 32 := 4#32
  let v14 : BitVec 1 := Scalar.cmpi .slt arg1 c4_i32
  let v15 : BitVec 1 := Scalar.andi v13 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c128_i32 : BitVec 32 := 128#32
  let v56 : BitVec 32 := Scalar.muli arg1 c128_i32
  v56
def k0_off2 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond5 (i : grid0.Coords) : BitVec 1 :=
  let arg1 : BitVec 32 := BitVec.ofNat 32 (i 1).val
  let c4_i32_8 : BitVec 32 := 4#32
  let v18 : BitVec 1 := Scalar.cmpi .sge arg1 c4_i32_8
  let c6_i32 : BitVec 32 := 6#32
  let v19 : BitVec 1 := Scalar.cmpi .slt arg1 c6_i32
  let v20 : BitVec 1 := Scalar.andi v18 v19
  let v21 : BitVec 32 := Scalar.extui v20
  let c0_i32_9 : BitVec 32 := 0#32
  let v22 : BitVec 1 := Scalar.cmpi .ne v21 c0_i32_9
  v22

def k0_mult3 (i : grid0.Coords) : BitVec 32 :=
  let arg1 : BitVec 32 := BitVec.ofNat 32 (i 1).val
  let c128_i32 : BitVec 32 := 128#32
  let v56 : BitVec 32 := Scalar.muli arg1 c128_i32
  v56
def k0_off3 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond6 (i : grid0.Coords) : BitVec 1 :=
  let arg1 : BitVec 32 := BitVec.ofNat 32 (i 1).val
  let c6_i32_10 : BitVec 32 := 6#32
  let v23 : BitVec 1 := Scalar.cmpi .sge arg1 c6_i32_10
  let c8_i32 : BitVec 32 := 8#32
  let v24 : BitVec 1 := Scalar.cmpi .slt arg1 c8_i32
  let v25 : BitVec 1 := Scalar.andi v23 v24
  let v26 : BitVec 32 := Scalar.extui v25
  let c0_i32_11 : BitVec 32 := 0#32
  let v27 : BitVec 1 := Scalar.cmpi .ne v26 c0_i32_11
  v27

def k0_mult4 (i : grid0.Coords) : BitVec 32 :=
  let arg1 : BitVec 32 := BitVec.ofNat 32 (i 1).val
  let c128_i32 : BitVec 32 := 128#32
  let v56 : BitVec 32 := Scalar.muli arg1 c128_i32
  v56
def k0_off4 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond7 (i : grid0.Coords) : BitVec 1 :=
  let arg1 : BitVec 32 := BitVec.ofNat 32 (i 1).val
  let c8_i32_12 : BitVec 32 := 8#32
  let v28 : BitVec 1 := Scalar.cmpi .sge arg1 c8_i32_12
  let c10_i32 : BitVec 32 := 10#32
  let v29 : BitVec 1 := Scalar.cmpi .slt arg1 c10_i32
  let v30 : BitVec 1 := Scalar.andi v28 v29
  let v31 : BitVec 32 := Scalar.extui v30
  let c0_i32_13 : BitVec 32 := 0#32
  let v32 : BitVec 1 := Scalar.cmpi .ne v31 c0_i32_13
  v32

def k0_mult5 (i : grid0.Coords) : BitVec 32 :=
  let arg1 : BitVec 32 := BitVec.ofNat 32 (i 1).val
  let c128_i32 : BitVec 32 := 128#32
  let v56 : BitVec 32 := Scalar.muli arg1 c128_i32
  v56
def k0_off5 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond8 (i : grid0.Coords) : BitVec 1 :=
  let arg1 : BitVec 32 := BitVec.ofNat 32 (i 1).val
  let c10_i32_14 : BitVec 32 := 10#32
  let v33 : BitVec 1 := Scalar.cmpi .sge arg1 c10_i32_14
  let c12_i32 : BitVec 32 := 12#32
  let v34 : BitVec 1 := Scalar.cmpi .slt arg1 c12_i32
  let v35 : BitVec 1 := Scalar.andi v33 v34
  let v36 : BitVec 32 := Scalar.extui v35
  let c0_i32_15 : BitVec 32 := 0#32
  let v37 : BitVec 1 := Scalar.cmpi .ne v36 c0_i32_15
  v37

def k0_mult6 (i : grid0.Coords) : BitVec 32 :=
  let arg1 : BitVec 32 := BitVec.ofNat 32 (i 1).val
  let c128_i32 : BitVec 32 := 128#32
  let v56 : BitVec 32 := Scalar.muli arg1 c128_i32
  v56
def k0_off6 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond9 (i : grid0.Coords) : BitVec 1 :=
  let arg1 : BitVec 32 := BitVec.ofNat 32 (i 1).val
  let c12_i32_16 : BitVec 32 := 12#32
  let v38 : BitVec 1 := Scalar.cmpi .sge arg1 c12_i32_16
  let c14_i32 : BitVec 32 := 14#32
  let v39 : BitVec 1 := Scalar.cmpi .slt arg1 c14_i32
  let v40 : BitVec 1 := Scalar.andi v38 v39
  let v41 : BitVec 32 := Scalar.extui v40
  let c0_i32_17 : BitVec 32 := 0#32
  let v42 : BitVec 1 := Scalar.cmpi .ne v41 c0_i32_17
  v42

def k0_mult7 (i : grid0.Coords) : BitVec 32 :=
  let arg1 : BitVec 32 := BitVec.ofNat 32 (i 1).val
  let c128_i32 : BitVec 32 := 128#32
  let v56 : BitVec 32 := Scalar.muli arg1 c128_i32
  v56
def k0_off7 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond10 (i : grid0.Coords) : BitVec 1 :=
  let arg1 : BitVec 32 := BitVec.ofNat 32 (i 1).val
  let c14_i32_18 : BitVec 32 := 14#32
  let v43 : BitVec 1 := Scalar.cmpi .sge arg1 c14_i32_18
  let c16_i32 : BitVec 32 := 16#32
  let v44 : BitVec 1 := Scalar.cmpi .slt arg1 c16_i32
  let v45 : BitVec 1 := Scalar.andi v43 v44
  let v46 : BitVec 32 := Scalar.extui v45
  let c0_i32_19 : BitVec 32 := 0#32
  let v47 : BitVec 1 := Scalar.cmpi .ne v46 c0_i32_19
  v47

def k0_mult8 (i : grid0.Coords) : BitVec 32 :=
  let arg1 : BitVec 32 := BitVec.ofNat 32 (i 1).val
  let c128_i32 : BitVec 32 := 128#32
  let v56 : BitVec 32 := Scalar.muli arg1 c128_i32
  v56
def k0_off8 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond11 (i : grid0.Coords) : BitVec 1 :=
  let arg1 : BitVec 32 := BitVec.ofNat 32 (i 1).val
  let c16_i32_20 : BitVec 32 := 16#32
  let v48 : BitVec 1 := Scalar.cmpi .sge arg1 c16_i32_20
  let c17_i32 : BitVec 32 := 17#32
  let v49 : BitVec 1 := Scalar.cmpi .slt arg1 c17_i32
  let v50 : BitVec 1 := Scalar.andi v48 v49
  let v51 : BitVec 32 := Scalar.extui v50
  let c0_i32_21 : BitVec 32 := 0#32
  let v52 : BitVec 1 := Scalar.cmpi .ne v51 c0_i32_21
  v52

def k0_mult9 (i : grid0.Coords) : BitVec 32 :=
  let arg1 : BitVec 32 := BitVec.ofNat 32 (i 1).val
  let c128_i32 : BitVec 32 := 128#32
  let v56 : BitVec 32 := Scalar.muli arg1 c128_i32
  v56
def k0_off9 (i : grid0.Coords) (c0_i32_39 : BitVec 32) : Fin 2 → Nat :=
  let c4_i32_38 : BitVec 32 := 4#32
  let arg0 : BitVec 32 := BitVec.ofNat 32 (i 0).val
  let v109 : BitVec 32 := Scalar.muli c4_i32_38 arg0
  let v110 : BitVec 32 := Scalar.addi v109 c0_i32_39
  let v111 : Index := Scalar.indexCast v110
  let c0_40 : Index := 0#32
  ![v111.toNat, 0]
def k0_cond12 (i : grid0.Coords) : BitVec 1 :=
  let arg1 : BitVec 32 := BitVec.ofNat 32 (i 1).val
  let c16_i32_22 : BitVec 32 := 16#32
  let v53 : BitVec 1 := Scalar.cmpi .eq arg1 c16_i32_22
  let v54 : BitVec 32 := Scalar.extui v53
  let c0_i32_23 : BitVec 32 := 0#32
  let v55 : BitVec 1 := Scalar.cmpi .ne v54 c0_i32_23
  v55

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2176x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2176x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== AttnIdeal.lean ====
variable {F : FTy → Type} [FloatOps F] [Named F]
def κ : String → Option EReal := fun
  | "mask" => some ⊥
  | _ => none
-- ==== AttnRefIdeal.lean ====
abbrev S1x2064x512 : Shape := ⟨3, ![1, 2064, 512]⟩
abbrev S1x2064x8 : Shape := ⟨3, ![1, 2064, 8]⟩
abbrev S_ : Shape := ⟨0, ![]⟩
abbrev S1x2064x8x64 : Shape := ⟨4, ![1, 2064, 8, 64]⟩
abbrev S1x8x2064 : Shape := ⟨3, ![1, 8, 2064]⟩
abbrev S2064 : Shape := ⟨1, ![2064]⟩
abbrev S1x8x2064x2064 : Shape := ⟨4, ![1, 8, 2064, 2064]⟩
abbrev S1x8x2064x1 : Shape := ⟨4, ![1, 8, 2064, 1]⟩
abbrev S1x8x1x2064 : Shape := ⟨4, ![1, 8, 1, 2064]⟩
abbrev S2064x1 : Shape := ⟨2, ![2064, 1]⟩
abbrev S1x2064 : Shape := ⟨2, ![1, 2064]⟩
abbrev S2064x2064 : Shape := ⟨2, ![2064, 2064]⟩
abbrev S1x1x2064x2064 : Shape := ⟨4, ![1, 1, 2064, 2064]⟩
abbrev S1x8x64x2064 : Shape := ⟨4, ![1, 8, 64, 2064]⟩
abbrev S8x2064 : Shape := ⟨2, ![8, 2064]⟩
abbrev S1x8x2064x64 : Shape := ⟨4, ![1, 8, 2064, 64]⟩
abbrev S2064x512 : Shape := ⟨2, ![2064, 512]⟩
abbrev S2176x512 : Shape := ⟨2, ![2176, 512]⟩
abbrev S2064x8 : Shape := ⟨2, ![2064, 8]⟩
abbrev S2176x8 : Shape := ⟨2, ![2176, 8]⟩
abbrev S2176x128 : Shape := ⟨2, ![2176, 128]⟩

abbrev nBuf : Space → Nat
  | .hbm => 147
  | .vmem => 0
  | .smem => 0
  | _ => 0

abbrev hbmTy0_0 (i : Nat) : BufTy := match i % 128 with
  | 0 => ⟨S1x2064x512, .f32⟩
  | 1 => ⟨S1x2064x512, .f32⟩
  | 2 => ⟨S1x2064x512, .f32⟩
  | 3 => ⟨S1x2064x8, .f32⟩
  | 4 => ⟨S1x2064x512, .f32⟩
  | 5 => ⟨S_, .f32⟩
  | 6 => ⟨S_, .f32⟩
  | 7 => ⟨S1x2064x8, .f32⟩
  | 8 => ⟨S1x2064x8x64, .f32⟩
  | 9 => ⟨S1x2064x8x64, .f32⟩
  | 10 => ⟨S1x2064x8x64, .f32⟩
  | 11 => ⟨S1x8x2064, .f32⟩
  | 12 => ⟨S2064, .i32⟩
  | 13 => ⟨S1x8x2064x2064, .f32⟩
  | 14 => ⟨S_, .f32⟩
  | 15 => ⟨S1x8x2064x2064, .f32⟩
  | 16 => ⟨S1x8x2064x2064, .f32⟩
  | 17 => ⟨S1x8x2064x1, .f32⟩
  | 18 => ⟨S1x8x1x2064, .f32⟩
  | 19 => ⟨S1x8x2064x2064, .f32⟩
  | 20 => ⟨S1x8x2064x2064, .f32⟩
  | 21 => ⟨S1x8x2064x2064, .f32⟩
  | 22 => ⟨S2064x1, .i32⟩
  | 23 => ⟨S1x2064, .i32⟩
  | 24 => ⟨S2064x2064, .i32⟩
  | 25 => ⟨S2064x2064, .i32⟩
  | 26 => ⟨S2064x2064, .i1⟩
  | 27 => ⟨S1x1x2064x2064, .i1⟩
  | 28 => ⟨S1x8x2064x2064, .f32⟩
  | 29 => ⟨S_, .f32⟩
  | 30 => ⟨S_, .f32⟩
  | 31 => ⟨S1x8x2064x2064, .i1⟩
  | 32 => ⟨S1x8x2064x2064, .f32⟩
  | 33 => ⟨S1x8x2064x2064, .f32⟩
  | 34 => ⟨S_, .f32⟩
  | 35 => ⟨S1x8x2064x2064, .f32⟩
  | 36 => ⟨S_, .f32⟩
  | 37 => ⟨S1x8x2064, .f32⟩
  | 38 => ⟨S1x8x2064x1, .f32⟩
  | 39 => ⟨S1x8x2064x2064, .f32⟩
  | 40 => ⟨S1x8x2064x2064, .i1⟩
  | 41 => ⟨S1x8x2064x2064, .f32⟩
  | 42 => ⟨S_, .f32⟩
  | 43 => ⟨S1x8x2064, .f32⟩
  | 44 => ⟨S_, .f32⟩
  | 45 => ⟨S1x8x2064, .f32⟩
  | 46 => ⟨S1x8x2064, .f32⟩
  | 47 => ⟨S_, .f32⟩
  | 48 => ⟨S1x8x2064, .f32⟩
  | 49 => ⟨S1x8x2064, .i1⟩
  | 50 => ⟨S_, .f32⟩
  | 51 => ⟨S1x8x2064, .f32⟩
  | 52 => ⟨S1x8x2064, .i1⟩
  | 53 => ⟨S_, .f32⟩
  | 54 => ⟨S1x8x2064, .f32⟩
  | 55 => ⟨S_, .f32⟩
  | 56 => ⟨S1x8x2064, .f32⟩
  | 57 => ⟨S_, .f32⟩
  | 58 => ⟨S1x8x2064, .f32⟩
  | 59 => ⟨S1x8x2064, .f32⟩
  | 60 => ⟨S1x8x2064, .f32⟩
  | 61 => ⟨S1x8x2064x1, .f32⟩
  | 62 => ⟨S1x8x2064x2064, .f32⟩
  | 63 => ⟨S1x8x2064x2064, .f32⟩
  | 64 => ⟨S1x8x2064x2064, .f32⟩
  | 65 => ⟨S_, .f32⟩
  | 66 => ⟨S1x8x2064, .f32⟩
  | 67 => ⟨S1x8x2064x1, .f32⟩
  | 68 => ⟨S1x8x2064x2064, .f32⟩
  | 69 => ⟨S1x8x2064x2064, .f32⟩
  | 70 => ⟨S1x8x2064x1, .f32⟩
  | 71 => ⟨S_, .f32⟩
  | 72 => ⟨S1x8x2064x1, .f32⟩
  | 73 => ⟨S1x8x2064x1, .f32⟩
  | 74 => ⟨S1x8x64x2064, .f32⟩
  | 75 => ⟨S1x2064x8x64, .f32⟩
  | 76 => ⟨S1x2064x512, .f32⟩
  | 77 => ⟨S1x2064x8x64, .f32⟩
  | 78 => ⟨S1x8x64x2064, .f32⟩
  | 79 => ⟨S1x8x2064x2064, .f32⟩
  | 80 => ⟨S1x8x64x2064, .f32⟩
  | 81 => ⟨S1x2064x8x64, .f32⟩
  | 82 => ⟨S1x8x2064x2064, .f32⟩
  | 83 => ⟨S1x8x2064x2064, .f32⟩
  | 84 => ⟨S1x8x2064x2064, .f32⟩
  | 85 => ⟨S_, .f32⟩
  | 86 => ⟨S1x8x2064, .f32⟩
  | 87 => ⟨S1x8x2064x1, .f32⟩
  | 88 => ⟨S1x8x2064x1, .f32⟩
  | 89 => ⟨S1x8x2064x2064, .f32⟩
  | 90 => ⟨S1x8x2064x2064, .f32⟩
  | 91 => ⟨S_, .f32⟩
  | 92 => ⟨S8x2064, .f32⟩
  | 93 => ⟨S1x8x2064, .f32⟩
  | 94 => ⟨S1x8x2064x2064, .f32⟩
  | 95 => ⟨S1x8x2064x2064, .f32⟩
  | 96 => ⟨S1x8x2064x2064, .f32⟩
  | 97 => ⟨S_, .f32⟩
  | 98 => ⟨S1x8x2064x2064, .f32⟩
  | 99 => ⟨S1x8x2064x2064, .f32⟩
  | 100 => ⟨S_, .f32⟩
  | 101 => ⟨S1x8x2064, .f32⟩
  | 102 => ⟨S1x8x2064x1, .f32⟩
  | 103 => ⟨S1x8x2064x2064, .f32⟩
  | 104 => ⟨S_, .f32⟩
  | 105 => ⟨S1x8x2064, .f32⟩
  | 106 => ⟨S1x8x1x2064, .f32⟩
  | 107 => ⟨S_, .f32⟩
  | 108 => ⟨S8x2064, .f32⟩
  | 109 => ⟨S1x8x2064, .f32⟩
  | 110 => ⟨S_, .f32⟩
  | 111 => ⟨S8x2064, .f32⟩
  | 112 => ⟨S1x8x2064, .f32⟩
  | 113 => ⟨S1x8x2064, .f32⟩
  | 114 => ⟨S_, .f32⟩
  | 115 => ⟨S1x8x2064x2064, .f32⟩
  | 116 => ⟨S1x8x2064x2064, .f32⟩
  | 117 => ⟨S1x8x2064x64, .f32⟩
  | 118 => ⟨S1x2064x8x64, .f32⟩
  | 119 => ⟨S1x8x2064x64, .f32⟩
  | 120 => ⟨S1x2064x8x64, .f32⟩
  | 121 => ⟨S1x2064x8, .f32⟩
  | 122 => ⟨S1x2064x512, .f32⟩
  | 123 => ⟨S1x2064x512, .f32⟩
  | 124 => ⟨S1x2064x512, .f32⟩
  | 125 => ⟨S2064x512, .f32⟩
  | 126 => ⟨S_, .i32⟩
  | 127 => ⟨S_, .f32⟩
  | _ => ⟨S1x2064x512, .f32⟩

abbrev hbmTy0_1 (i : Nat) : BufTy := match i % 128 with
  | 0 => ⟨S2176x512, .f32⟩
  | 1 => ⟨S2176x512, .bf16⟩
  | 2 => ⟨S2064x512, .f32⟩
  | 3 => ⟨S_, .i32⟩
  | 4 => ⟨S_, .f32⟩
  | 5 => ⟨S2176x512, .f32⟩
  | 6 => ⟨S2176x512, .bf16⟩
  | 7 => ⟨S2064x512, .f32⟩
  | 8 => ⟨S_, .i32⟩
  | 9 => ⟨S_, .f32⟩
  | 10 => ⟨S2176x512, .f32⟩
  | 11 => ⟨S2176x512, .bf16⟩
  | 12 => ⟨S2064x8, .f32⟩
  | 13 => ⟨S_, .i32⟩
  | 14 => ⟨S_, .f32⟩
  | 15 => ⟨S2176x8, .f32⟩
  | 16 => ⟨S_, .i32⟩
  | 17 => ⟨S_, .f32⟩
  | 18 => ⟨S2176x128, .f32⟩
  | _ => ⟨S1x2064x512, .f32⟩

abbrev hbmTy (i : Nat) : BufTy := match i / 128 with
  | 0 => hbmTy0_0 i
  | 1 => hbmTy0_1 i
  | _ => ⟨S1x2064x512, .f32⟩

abbrev bufTy : (tb : Table) → Fin (tcTables nBuf tb) → BufTy
  | .hbm, ⟨i, _⟩ => hbmTy i
  | _, _ => ⟨S1x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_call1_v0 : Ref sig .tc := ⟨.hbm, 30, rfl⟩
abbrev main_v21_1 : Ref sig .tc := ⟨.hbm, 31, rfl⟩
abbrev main_call1_v2 : Ref sig .tc := ⟨.hbm, 32, rfl⟩
abbrev main_v21_0 : Ref sig .tc := ⟨.hbm, 33, rfl⟩
abbrev main_call1_cst : Ref sig .tc := ⟨.hbm, 34, rfl⟩
abbrev main_v21_2 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call2_cst : Ref sig .tc := ⟨.hbm, 97, rfl⟩
abbrev main_call2_v0 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c : Ref sig .tc := ⟨.hbm, 126, rfl⟩
abbrev main_call3_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_18 : Ref sig .tc := ⟨.hbm, 131, rfl⟩
abbrev main_call4_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_19 : Ref sig .tc := ⟨.hbm, 136, rfl⟩
abbrev main_call5_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_20 : Ref sig .tc := ⟨.hbm, 141, rfl⟩
abbrev main_call6_v0 : Ref sig .tc := ⟨.hbm, 142, rfl⟩
abbrev main_v102 : Ref sig .tc := ⟨.hbm, 143, rfl⟩
abbrev main_c_21 : Ref sig .tc := ⟨.hbm, 144, rfl⟩
abbrev main_call7_v0 : Ref sig .tc := ⟨.hbm, 145, rfl⟩
abbrev main_v103 : Ref sig .tc := ⟨.hbm, 146, rfl⟩

abbrev nD : Nat := 1
abbrev τ : Topo := Topo.v7x

variable {F : FTy → Type} [FloatOps F]
-- ==== Proof.Common.lean ====
/- What several of the value proofs use: rows past the last real one, sums over padded rows, constants. -/
module

public import Idealize.ShloMosaic.Lib.Pointwise
public import Idealize.ShloMosaic.Lib.Pipeline.ValueKit
public import Idealize.ShloMosaic.Lib.IdealHost

@[expose] public section

noncomputable section

open Idealize.ShloMosaic
open scoped BigOperators

namespace Cert.Common

/-- A row of an array padded from 2064 to 2176 rows: the array's row, or zero past its last one. -/
def rowOr0 (r : Fin 2176) (f : Fin 2064 → EReal) : EReal := if h : (r : ℕ) < 2064 then f ⟨r, h⟩ else 0

theorem rowOr0_lt (r : Fin 2176) (f : Fin 2064 → EReal) (h : (r : ℕ) < 2064) : rowOr0 r f = f ⟨r, h⟩ := dif_pos h
theorem rowOr0_ge (r : Fin 2176) (f : Fin 2064 → EReal) (h : ¬ (r : ℕ) < 2064) : rowOr0 r f = 0 := dif_neg h

theorem rowOr0_and {P : Prop} [Decidable P] (hP : P) (r : Fin 2176) (f : Fin 2064 → EReal) :
    (if h : (r : ℕ) < 2064 ∧ P then f ⟨r, h.1⟩ else 0) = rowOr0 r f := by
  unfold rowOr0
  by_cases h : (r : ℕ) < 2064
  · rw [dif_pos ⟨h, hP⟩, dif_pos h]
  · rw [dif_neg fun e => h e.1, dif_neg h]

/-- The pad value the host makes of an integer zero. -/
theorem sitofp_zero : (FloatOps.sitofp (F := Ideal) .f32 0#32 : EReal) = 0 := by
  show (((0#32).toInt : ℝ) : EReal) = 0
  simp

theorem sitofp_zero_bf16 : (FloatOps.sitofp (F := Ideal) .bf16 0#32 : EReal) = 0 := by
  show (((0#32).toInt : ℝ) : EReal) = 0
  simp

theorem ofBits_two_f32 : Ideal.ofBits .f32 0x40000000#32 = (2 : EReal) := by
  have : Ideal.ofBits .f32 0x40000000#32 = ((2 : ℝ) : EReal) := by
    simp [Ideal.ofBits, Ideal.ieee, -EReal.coe_mul]; norm_num
  exact this

/-- A sum over the padded rows of a function that vanishes on the padding. -/
theorem sum_padded (f : Fin 2176 → EReal) (g : Fin 2064 → EReal) (h : ∀ r : Fin 2176, f r = rowOr0 r g) :
    ∑ r, f r = ∑ r, g r := by
  rw [Fin.sum_univ_two_halves 2064 112 rfl f]
  have h2 : ∑ b : Fin 112, f ⟨2064 + b, by omega⟩ = 0 := by
    refine Finset.sum_eq_zero fun b _ => ?_
    rw [h, rowOr0_ge _ _ (by simp)]
  rw [h2, add_zero]
  refine Finset.sum_congr rfl fun a _ => ?_
  rw [h, rowOr0_lt _ _ a.isLt]

theorem rowOr0_zero (r : Fin 2176) : rowOr0 r (fun _ => 0) = 0 := by unfold rowOr0; split <;> rfl

/-- A sum over 4096 columns, slab of 1024 by slab. -/
theorem sum_slabs (f : Fin 4096 → EReal) :
    (∑ k : Fin 1024, f ⟨k, by omega⟩) + (∑ k : Fin 1024, f ⟨1024 + k, by omega⟩) + (∑ k : Fin 1024, f ⟨2048 + k, by omega⟩)
      + (∑ k : Fin 1024, f ⟨3072 + k, by omega⟩) = ∑ l, f l := by
  refine Eq.trans ?_ (Fin.sum_mul_add_fin (S := 4) (n := 1024) f)
  rw [Fin.sum_univ_four]
  refine congrArg₂ _ (congrArg₂ _ (congrArg₂ _ ?_ ?_) ?_) ?_ <;>
    exact Finset.sum_congr rfl fun k _ => congrArg f (Fin.ext (by simp))

/-- A sum over 2176 rows, block of 544 by block. -/
theorem sum_blocks {N : ℕ} (hN : N = 4) (f : Fin 2176 → EReal) :
    ∑ t : Fin N, ∑ r : Fin 544, f ⟨t * 544 + r, by omega⟩ = ∑ R, f R := by
  subst hN
  exact Fin.sum_mul_add_fin (S := 4) (n := 544) f

/-- A sum over the two leading axes of a row stored as a 1 × 1 × n array. -/
theorem reduce_lead {n : ℕ} (h : (⟨3, ![1, 1, n]⟩ : Shape).ReducesTo [0, 1] ⟨1, ![n]⟩)
    (v : (⟨3, ![1, 1, n]⟩ : Shape).Idx → EReal) (init : EReal) (j : Fin n) :
    Ideal.hostReduceAdd h v init (ix1 j) = init + v (ix3 0 0 j) := by
  have hf : (Finset.univ.filter fun i => h.drop i = ix1 j) = {ix3 0 0 j} := by
    ext i
    rw [Finset.mem_filter, Finset.mem_singleton]
    refine ⟨fun e => ?_, fun e => ⟨Finset.mem_univ _, ?_⟩⟩
    · funext a; apply Fin.ext
      match a with
      | ⟨0, _⟩ => exact congrArg Fin.val (Subsingleton.elim (α := Fin 1) (i 0) 0)
      | ⟨1, _⟩ => exact congrArg Fin.val (Subsingleton.elim (α := Fin 1) (i 1) 0)
      | ⟨2, _⟩ => exact congrArg Fin.val (congrFun e.2 0)
    · subst e
      funext b; apply Fin.ext
      match b with
      | ⟨0, _⟩ => rfl
  show init + _ = _
  rw [hf, Finset.sum_singleton]

/-- A sum over the outer axes of a column stored as a 1 × n × 1 array. -/
theorem reduce_outer {n : ℕ} (h : (⟨3, ![1, n, 1]⟩ : Shape).ReducesTo [0, 2] ⟨1, ![n]⟩)
    (v : (⟨3, ![1, n, 1]⟩ : Shape).Idx → EReal) (init : EReal) (j : Fin n) :
    Ideal.hostReduceAdd h v init (ix1 j) = init + v (ix3 0 j 0) := by
  have hf : (Finset.univ.filter fun i => h.drop i = ix1 j) = {ix3 0 j 0} := by
    ext i
    rw [Finset.mem_filter, Finset.mem_singleton]
    refine ⟨fun e => ?_, fun e => ⟨Finset.mem_univ _, ?_⟩⟩
    · funext a; apply Fin.ext
      match a with
      | ⟨0, _⟩ => exact congrArg Fin.val (Subsingleton.elim (α := Fin 1) (i 0) 0)
      | ⟨1, _⟩ => exact congrArg Fin.val (congrFun e.2 0)
      | ⟨2, _⟩ => exact congrArg Fin.val (Subsingleton.elim (α := Fin 1) (i 2) 0)
    · subst e
      funext b; apply Fin.ext
      match b with
      | ⟨0, _⟩ => rfl
  show init + _ = _
  rw [hf, Finset.sum_singleton]

end Cert.Common

end
-- ==== Proof.MlpValue.lean ====
/- The hidden layer's gradient as `mlp_bwd` computes it, set beside the transposed derivative of
   `relu(z @ w_up)² @ w_down`: the three result arrays after the run are the reference's three results. -/
module

public import proofs.«01_k».proof.Proof.Gen.KernelIdeal.Frame
public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem
open Idealize.ShloMosaic.Pipeline (Dat)
open scoped BigOperators

namespace Cert.KernelIdeal.Mlp

open Cert.KernelIdeal Cert.KernelIdeal.Gen Cert.Common

variable (m : (ℓ : Loc nD τ sig) → Buf (Elt Ideal) ℓ)

/-- Every window's block index at a grid point: whole arrays for the cotangent and the layer's input, a half slab
    of `w_down`, a column block of the hidden layer and of the two column-blocked results. -/
theorem idx : ∀ t : Fin cfg0.N, win0_0.index t = ![0, 0] ∧ win0_1.index t = ![0, 0]
    ∧ win0_2.index t = ![t.val / 2, t.val % 2, 0] ∧ win0_3.index t = ![0, t.val]
    ∧ win0_4.index t = ![0, t.val] ∧ win0_5.index t = ![t.val, 0] ∧ win0_6.index t = ![t.val / 2, 0, t.val % 2] :=
  (by decide +kernel : ∀ t : Fin grid0.N, _)

/-- The arguments of the program on one device: the layer's input, the two weights, the cotangent. -/
abbrev argZ (c : Dev nD) : FVec Ideal S1x2064x1024 .f32 := m ((c : Thread nD τ).loc main_arg0)
abbrev argU (c : Dev nD) : FVec Ideal S1024x4096 .f32 := m ((c : Thread nD τ).loc main_arg1)
abbrev argD (c : Dev nD) : FVec Ideal S4096x1024 .f32 := m ((c : Thread nD τ).loc main_arg2)
abbrev argC (c : Dev nD) : FVec Ideal S1x2064x1024 .f32 := m ((c : Thread nD τ).loc main_arg3)

theorem entry_ct (c : Dev nD) (r : Fin 2176) (k : Fin 1024) :
    (V m c main_v5 : FVec Ideal S2176x1024 .bf16) (ix2 r k) = rowOr0 r fun r => argC m c (ix3 0 r k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

theorem entry_wd (c : Dev nD) (s : Fin 4) (j : Fin 1024) (k : Fin 1024) :
    (V m c main_v2 : FVec Ideal S4x1024x1024 .bf16) (ix3 s j k) = argD m c (ix2 ⟨s * 1024 + j, by omega⟩ k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem entry_up (c : Dev nD) (r : Fin 2176) (n : Fin 4096) :
    (V m c main_v8 : FVec Ideal S2176x4096 .bf16) (ix2 r n)
      = rowOr0 r fun r => ∑ k : Fin 1024, argZ m c (ix3 0 r k) * argU m c (ix2 k n) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

theorem entry_z (c : Dev nD) (r : Fin 2176) (k : Fin 1024) :
    (V m c main_v11 : FVec Ideal S2176x1024 .bf16) (ix2 r k) = rowOr0 r fun r => argZ m c (ix3 0 r k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

/-- The pre-activation of the hidden layer. -/
abbrev pre (Z : FVec Ideal S1x2064x1024 .f32) (U : FVec Ideal S1024x4096 .f32) (r : Fin 2064) (n : Fin 4096) : EReal :=
  ∑ k : Fin 1024, Z (ix3 0 r k) * U (ix2 k n)

/-- The cotangent of the pre-activation as the kernel multiplies it. -/
abbrev dpre (Z : FVec Ideal S1x2064x1024 .f32) (U : FVec Ideal S1024x4096 .f32) (D : FVec Ideal S4096x1024 .f32)
    (C : FVec Ideal S1x2064x1024 .f32) (r : Fin 2064) (n : Fin 4096) : EReal :=
  (∑ k : Fin 1024, C (ix3 0 r k) * D (ix2 n k)) * (2 * max (pre Z U r n) 0)

theorem pay3 (D : FVec Ideal S2176x1024 .bf16) (U : FVec Ideal S2176x512 .bf16) (W : FVec Ideal S1x512x1024 .bf16)
    (r : Fin 2176) (j : Fin 512) :
    k0_pay3 (F := Ideal) D U W (ix2 r j) = (∑ k : Fin 1024, D (ix2 r k) * W (ix3 0 j k)) * (2 * max (U (ix2 r j)) 0) := by
  pointwise [k0_pay3, k0_pay2, k0_pay1, ofBits_two_f32]

theorem pay4 (D : FVec Ideal S2176x1024 .bf16) (U : FVec Ideal S2176x512 .bf16) (W : FVec Ideal S1x512x1024 .bf16)
    (r : Fin 2176) (j : Fin 512) :
    k0_pay4 (F := Ideal) D U W (ix2 r j) = (∑ k : Fin 1024, D (ix2 r k) * W (ix3 0 j k)) * (2 * max (U (ix2 r j)) 0) := by
  pointwise [k0_pay4, pay3]

theorem pay5 (D : FVec Ideal S2176x1024 .bf16) (U : FVec Ideal S2176x512 .bf16) (j : Fin 512) (k : Fin 1024) :
    k0_pay5 (F := Ideal) D U (ix2 j k) = ∑ r : Fin 2176, (max (U (ix2 r j)) 0 * max (U (ix2 r j)) 0) * D (ix2 r k) := by
  pointwise [k0_pay5, k0_pay2, k0_pay1]

theorem pay6 (D : FVec Ideal S2176x1024 .bf16) (U : FVec Ideal S2176x512 .bf16) (W : FVec Ideal S1x512x1024 .bf16)
    (Z : FVec Ideal S2176x1024 .bf16) (i : Fin 1024) (j : Fin 512) :
    k0_pay6 (F := Ideal) D U W Z (ix3 0 i j) = ∑ r : Fin 2176, Z (ix2 r i)
      * ((∑ k : Fin 1024, D (ix2 r k) * W (ix3 0 j k)) * (2 * max (U (ix2 r j)) 0)) := by
  pointwise [k0_pay6, pay3]

/-- The derivative of `u * u` after `u = relu p`, both of its terms, against `g * (2 * relu p)`. -/
theorem square_relu (p g : EReal) : (if 0 < p then max p 0 * g + g * max p 0 else 0) = g * (2 * max p 0) := by
  split
  · rename_i h
    have h0 : (0 : EReal) ≤ max p 0 := le_max_right _ _
    rw [← one_add_one_eq_two, EReal.right_distrib_of_nonneg zero_le_one zero_le_one, one_mul,
      EReal.left_distrib_of_nonneg h0 h0, mul_comm (max p 0) g]
  · rename_i h
    rw [max_eq_right (not_lt.mp h)]; simp

theorem ref20 (Z : FVec Ideal S1x2064x1024 .f32) (U : FVec Ideal S1024x4096 .f32) (C : FVec Ideal S1x2064x1024 .f32)
    (n : Fin 4096) (k : Fin 1024) :
    Cert.ReferenceIdeal.Read.val_main_v20 (F := Ideal) Z U C (ix2 n k)
      = ∑ r : Fin 2064, (max (pre Z U r n) 0 * max (pre Z U r n) 0) * C (ix3 0 r k) := by
  rw [← Cert.ReferenceIdeal.Read.val_main_v20_eq]
  pointwise
  rw [Fin.sum_univ_one]
  exact Finset.sum_congr rfl fun r _ => mul_comm _ _

theorem ref19 (Z : FVec Ideal S1x2064x1024 .f32) (U : FVec Ideal S1024x4096 .f32) (D : FVec Ideal S4096x1024 .f32)
    (C : FVec Ideal S1x2064x1024 .f32) (r : Fin 2176) (n : Fin 4096) :
    Cert.ReferenceIdeal.Read.val_main_v19 (F := Ideal) Z U D C (ix2 r n) = rowOr0 r fun r => dpre Z U D C r n := by
  rw [← Cert.ReferenceIdeal.Read.val_main_v19_eq]
  pointwise
  rw [sitofp_zero]
  simp only [square_relu]
  rfl

theorem ref23 (Z : FVec Ideal S1x2064x1024 .f32) (U : FVec Ideal S1024x4096 .f32) (D : FVec Ideal S4096x1024 .f32)
    (C : FVec Ideal S1x2064x1024 .f32) (s : Fin 4) (i j : Fin 1024) :
    Cert.ReferenceIdeal.Read.val_main_v23 (F := Ideal) Z U D C (ix3 s i j)
      = ∑ r : Fin 2064, Z (ix3 0 r i) * dpre Z U D C r ⟨s * 1024 + j, by omega⟩ := by
  rw [← Cert.ReferenceIdeal.Read.val_main_v23_eq]
  pointwise
  rw [Fin.sum_univ_one]
  simp only [square_relu]
  exact Finset.sum_congr rfl fun r _ => mul_comm _ _

/-- The blocks a grid point works on, at their own types. -/
abbrev bC (c : Dev nD) (t : Fin cfg0.N) : FVec Ideal S2176x1024 .bf16 := iblk m c 0 t
abbrev bZ (c : Dev nD) (t : Fin cfg0.N) : FVec Ideal S2176x1024 .bf16 := iblk m c 1 t
abbrev bW (c : Dev nD) (t : Fin cfg0.N) : FVec Ideal S1x512x1024 .bf16 := iblk m c 2 t
abbrev bU (c : Dev nD) (t : Fin cfg0.N) : FVec Ideal S2176x512 .bf16 := iblk m c 3 t

/-- The blocks of the staged arrays, read at the arguments. -/
theorem blk_ct (c : Dev nD) (t : Fin cfg0.N) (r : Fin 2176) (k : Fin 1024) :
    bC m c t (ix2 r k) = rowOr0 r fun r => argC m c (ix3 0 r k) :=
  Eq.trans (by blk_ext [bC, bZ, bW, bU, iblk, idx t]) (entry_ct m c r k)

theorem blk_z (c : Dev nD) (t : Fin cfg0.N) (r : Fin 2176) (k : Fin 1024) :
    bZ m c t (ix2 r k) = rowOr0 r fun r => argZ m c (ix3 0 r k) :=
  Eq.trans (by blk_ext [bC, bZ, bW, bU, iblk, idx t]) (entry_z m c r k)

theorem blk_wd (c : Dev nD) (t : Fin cfg0.N) (j : Fin 512) (k : Fin 1024) (n : Fin 4096) (hn : (n : ℕ) = t * 512 + j) :
    bW m c t (ix3 0 j k) = argD m c (ix2 n k) := by
  have ht : t.val < 8 := lt_of_lt_of_eq t.isLt N_0
  refine Eq.trans ?_ ((entry_wd m c ⟨t.val / 2, by omega⟩ ⟨t.val % 2 * 512 + j, by omega⟩ k).trans ?_)
  · blk_ext [bW, iblk, idx t]
  · refine congrArg _ ((ix2_inj ..).2 ⟨Fin.ext ?_, rfl⟩)
    show t.val / 2 * 1024 + (t.val % 2 * 512 + j) = n
    omega

theorem blk_up (c : Dev nD) (t : Fin cfg0.N) (r : Fin 2176) (j : Fin 512) (n : Fin 4096) (hn : (n : ℕ) = t * 512 + j) :
    bU m c t (ix2 r j) = rowOr0 r fun r => pre (argZ m c) (argU m c) r n :=
  Eq.trans (by blk_ext [bC, bZ, bW, bU, iblk, idx t]) (entry_up m c r n)

/-- One entry of the pre-activation's cotangent, from the blocks of a grid point. -/
theorem dpre_block (c : Dev nD) (t : Fin cfg0.N) (r : Fin 2176) (j : Fin 512) (n : Fin 4096) (hn : (n : ℕ) = t * 512 + j) :
    (∑ k : Fin 1024, bC m c t (ix2 r k)
        * bW m c t (ix3 0 j k))
        * (2 * max (bU m c t (ix2 r j)) 0)
      = rowOr0 r fun r => dpre (argZ m c) (argU m c) (argD m c) (argC m c) r n := by
  rw [blk_up m c t r j n hn]
  simp only [blk_ct m c t, fun k => blk_wd m c t j k n hn]
  by_cases h : (r : ℕ) < 2064
  · simp only [rowOr0_lt _ _ h]
  · simp only [rowOr0_ge _ _ h, max_self, mul_zero]

theorem point_4 (c : Dev nD) (t : Fin cfg0.N) (r : Fin 2176) (j : Fin 512) (n : Fin 4096) (hn : (n : ℕ) = t * 512 + j) :
    k0_pay4 (F := Ideal) (bC m c t) (bU m c t) (bW m c t) (ix2 r j)
      = Cert.ReferenceIdeal.Read.val_main_v19 (F := Ideal) (argZ m c) (argU m c) (argD m c) (argC m c) (ix2 r n) :=
  (pay4 _ _ _ r j).trans ((dpre_block m c t r j n hn).trans (ref19 _ _ _ _ r n).symm)

theorem point_5 (c : Dev nD) (t : Fin cfg0.N) (j : Fin 512) (k : Fin 1024) (n : Fin 4096) (hn : (n : ℕ) = t * 512 + j) :
    k0_pay5 (F := Ideal) (bC m c t) (bU m c t) (ix2 j k)
      = Cert.ReferenceIdeal.Read.val_main_v20 (F := Ideal) (argZ m c) (argU m c) (argC m c) (ix2 n k) := by
  rw [ref20, pay5]
  refine sum_padded _ _ fun r => ?_
  rw [blk_ct m c t r k, blk_up m c t r j n hn]
  by_cases h : (r : ℕ) < 2064
  · simp only [rowOr0_lt _ _ h]
  · simp only [rowOr0_ge _ _ h, mul_zero]

theorem point_6 (c : Dev nD) (t : Fin cfg0.N) (i : Fin 1024) (j : Fin 512) (s : Fin 4) (j' : Fin 1024)
    (hn : (s : ℕ) * 1024 + j' = t * 512 + j) :
    k0_pay6 (F := Ideal) (bC m c t) (bU m c t) (bW m c t) (bZ m c t) (ix3 0 i j)
      = Cert.ReferenceIdeal.Read.val_main_v23 (F := Ideal) (argZ m c) (argU m c) (argD m c) (argC m c) (ix3 s i j') := by
  rw [ref23, pay6]
  refine sum_padded _ _ fun r => ?_
  rw [dpre_block m c t r j ⟨s * 1024 + j', by omega⟩ hn, blk_z m c t r i]
  by_cases h : (r : ℕ) < 2064
  · simp only [rowOr0_lt _ _ h]
  · simp only [rowOr0_ge _ _ h, mul_zero]

/-- The cotangent of the pre-activation after the run. -/
theorem final_4 (c : Dev nD) : (dats m 0 c).arrAt 4 (cfgs 0).N
    = Cert.ReferenceIdeal.Read.val_main_v19 (F := Ideal) (argZ m c) (argU m c) (argD m c) (argC m c) := by
  refine (dats m 0 c).arrAt_eq_of_covers 4 _ (by decide +kernel) fun t hf y => ?_
  blk_simp; rw [after0_4]; frame_out
  have ht : t.val < 8 := lt_of_lt_of_eq t.isLt N_0
  have hy : (y 1 : ℕ) < 512 := (y 1).isLt
  refine (congrArg _ (eq_ix2 y)).trans ((point_4 m c t (y 0) (y 1) ⟨t.val * 512 + (y 1 : ℕ), by omega⟩ rfl).trans
    (congrArg _ (Eq.symm ?_)))
  blk_ext [idx t]

/-- The gradient of `w_down` after the run. -/
theorem final_5 (c : Dev nD) : (dats m 0 c).arrAt 5 (cfgs 0).N
    = Cert.ReferenceIdeal.Read.val_main_v20 (F := Ideal) (argZ m c) (argU m c) (argC m c) := by
  refine (dats m 0 c).arrAt_eq_of_covers 5 _ (by decide +kernel) fun t hf y => ?_
  blk_simp; rw [after0_5]; frame_out
  have ht : t.val < 8 := lt_of_lt_of_eq t.isLt N_0
  have hy : (y 0 : ℕ) < 512 := (y 0).isLt
  refine (congrArg _ (eq_ix2 y)).trans ((point_5 m c t (y 0) (y 1) ⟨t.val * 512 + (y 0 : ℕ), by omega⟩ rfl).trans
    (congrArg _ (Eq.symm ?_)))
  blk_ext [idx t]

/-- The gradient of `w_up` after the run, one slab of columns for each chip. -/
theorem final_6 (c : Dev nD) : (dats m 0 c).arrAt 6 (cfgs 0).N
    = Cert.ReferenceIdeal.Read.val_main_v23 (F := Ideal) (argZ m c) (argU m c) (argD m c) (argC m c) := by
  refine (dats m 0 c).arrAt_eq_of_covers 6 _ (by decide +kernel) fun t hf y => ?_
  blk_simp; rw [after0_6]; frame_out
  have ht : t.val < 8 := lt_of_lt_of_eq t.isLt N_0
  have hy : (y 2 : ℕ) < 512 := (y 2).isLt
  have hy0 : y = ix3 0 (y 1) (y 2) := by blk_ext
  refine (congrArg _ hy0).trans ((point_6 m c t (y 1) (y 2) ⟨t.val / 2, by omega⟩ ⟨t.val % 2 * 512 + (y 2 : ℕ), by omega⟩
    (by show t.val / 2 * 1024 + (t.val % 2 * 512 + (y 2 : ℕ)) = _; omega)).trans (congrArg _ (Eq.symm ?_)))
  blk_ext [idx t]

end Cert.KernelIdeal.Mlp

end
-- ==== Proof.Norm.lean ====
/- The gradient of the root-mean-square norm over the extended reals: the form the kernels compute against the form
   the derivative of `x * rsqrt (mean (x * x) + e)` has. No finiteness is needed: a row with an infinity has the
   inverse root zero in both forms. -/
module

public import Idealize.ShloMosaic.Lib.Pointwise
public import Idealize.ShloMosaic.Lib.IdealHost

@[expose] public section

noncomputable section

open Idealize.ShloMosaic
open scoped BigOperators

namespace Cert.Norm

variable {d : ℕ}

/-- A nonnegative real factor moves out of a finite sum. -/
theorem sum_mul_real (f : Fin d → EReal) (c : ℝ) (hc : 0 ≤ c) : ∑ k, f k * (c : EReal) = (∑ k, f k) * (c : EReal) := by
  classical
  induction (Finset.univ : Finset (Fin d)) using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- Two equal products with a real factor. -/
theorem mul_real_add_self (s : EReal) (k : ℝ) : s * (k : EReal) + s * (k : EReal) = s * ((2 * k : ℝ) : EReal) := by
  induction s with
  | coe r => norm_cast; ring
  | top =>
    rcases lt_trichotomy k 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy k 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The mean square of a row and the small constant, and its inverse root. -/
def ms (n e : EReal) (x : Fin d → EReal) : EReal := Ideal.div (∑ k, x k * x k) n + e
def rs (n e : EReal) (x : Fin d → EReal) : EReal := Ideal.rsqrt (ms n e x)

/-- The gradient of a row as the kernels compute it, `w` being the cotangent times the gain. -/
def dx (n e : EReal) (x w : Fin d → EReal) (i : Fin d) : EReal :=
  rs n e x * (w i - x i * rs n e x * Ideal.div (∑ k, w k * (x k * rs n e x)) n)

/-- What the derivative of the inverse root passes back to `x i * x i`. -/
def back (n e h : EReal) (x w : Fin d → EReal) : EReal :=
  Ideal.div ((∑ k, x k * w k) * (h * Ideal.div (rs n e x) (ms n e x))) n

theorem self_mul_nonneg (a : EReal) : 0 ≤ a * a := by
  induction a with
  | coe r => exact_mod_cast mul_self_nonneg r
  | top => simp
  | bot => simp

/-- A sum of squares with an infinite entry is infinite. -/
theorem sum_sq_top (x : Fin d → EReal) (j : Fin d) (hj : x j = ⊤ ∨ x j = ⊥) : ∑ k, x k * x k = ⊤ := by
  rw [← Finset.add_sum_erase _ _ (Finset.mem_univ j)]
  have hn : ∑ k ∈ Finset.univ.erase j, x k * x k ≠ ⊥ := fun hb => by
    have h0 : (0 : EReal) ≤ ⊥ := hb ▸ Finset.sum_nonneg fun k _ => self_mul_nonneg (x k)
    exact absurd h0 (by simp)
  rcases hj with h | h <;> rw [h]
  · rw [EReal.top_mul_top, EReal.top_add_of_ne_bot hn]
  · rw [EReal.bot_mul_bot, EReal.top_add_of_ne_bot hn]

theorem sum_sq_coe (x : Fin d → ℝ) : ∑ k, (x k : EReal) * (x k : EReal) = ((∑ k, x k * x k : ℝ) : EReal) := by
  classical
  induction (Finset.univ : Finset (Fin d)) using Finset.induction_on with
  | empty => simp
  | insert a s ha ih => rw [Finset.sum_insert ha, Finset.sum_insert ha, ih]; norm_cast

/-- Either some entry is infinite and the inverse root is zero, or the row is real and so is its inverse root. -/
theorem ms_cases (n e : ℝ) (hn : 0 < n) (he : 0 < e) (x : Fin d → EReal) :
    (ms n e x = ⊤ ∧ rs n e x = 0) ∨ ∃ (X : Fin d → ℝ) (v : ℝ), 0 < v ∧ (∀ k, x k = (X k : EReal)) ∧ ms n e x = (v : EReal)
      ∧ rs n e x = (((Real.sqrt v)⁻¹ : ℝ) : EReal) := by
  by_cases h : ∃ j, x j = ⊤ ∨ x j = ⊥
  · obtain ⟨j, hj⟩ := h
    have h1 : ms n e x = ⊤ := by
      rw [ms, sum_sq_top x j hj, Ideal.div_coe hn.ne', EReal.top_mul_coe_of_pos (by positivity)]
      rfl
    exact Or.inl ⟨h1, by rw [rs, h1, Ideal.rsqrt_top]⟩
  · have hr : ∀ k, x k = ((x k).toReal : EReal) := fun k => by
      rw [EReal.coe_toReal]
      · exact fun hk => h ⟨k, Or.inl hk⟩
      · exact fun hk => h ⟨k, Or.inr hk⟩
    refine Or.inr ⟨fun k => (x k).toReal, (∑ k, (x k).toReal * (x k).toReal) * (1 / n) + e, ?_, hr, ?_, ?_⟩
    · have : 0 ≤ ∑ k, (x k).toReal * (x k).toReal := Finset.sum_nonneg fun k _ => mul_self_nonneg _
      positivity
    all_goals
      have hm : ms n e x = (((∑ k, (x k).toReal * (x k).toReal) * (1 / n) + e : ℝ) : EReal) := by
        rw [ms, Ideal.div_coe hn.ne', Finset.sum_congr rfl fun k _ => by rw [hr k], sum_sq_coe]
        norm_cast
    · exact hm
    · have hp : 0 < (∑ k, (x k).toReal * (x k).toReal) * (1 / n) + e := by
        have : 0 ≤ ∑ k, (x k).toReal * (x k).toReal := Finset.sum_nonneg fun k _ => mul_self_nonneg _
        positivity
      rw [rs, hm, Ideal.rsqrt_coe, if_neg (not_lt.2 hp.le), if_neg hp.ne']

/-- The kernels' gradient is the derivative's. -/
theorem dx_eq (n e : ℝ) (hn : 0 < n) (he : 0 < e) (x w : Fin d → EReal) (i : Fin d) :
    dx n e x w i = w i * rs n e x
      + (x i * back n e ((-(1 / 2) : ℝ) : EReal) x w + back n e ((-(1 / 2) : ℝ) : EReal) x w * x i) := by
  rcases ms_cases n e hn he x with ⟨hm, hr⟩ | ⟨X, v, hv, hx, hm, hr⟩
  · have hb : back n e ((-(1 / 2) : ℝ) : EReal) x w = 0 := by
      rw [back, hr, hm]
      simp [Ideal.div, hn.ne']
    rw [dx, hb, hr]
    simp
  · have hs : 0 < Real.sqrt v := Real.sqrt_pos.2 hv
    have hc : 0 ≤ (Real.sqrt v)⁻¹ := (inv_pos.2 hs).le
    have hsum : ∑ k, w k * (x k * (((Real.sqrt v)⁻¹ : ℝ) : EReal)) = (∑ k, x k * w k) * (((Real.sqrt v)⁻¹ : ℝ) : EReal) := by
      rw [← sum_mul_real _ _ hc]
      exact Finset.sum_congr rfl fun k _ => by rw [← mul_assoc, mul_comm (w k)]
    have hb : back n e ((-(1 / 2) : ℝ) : EReal) x w * x i
        = (∑ k, x k * w k) * ((-(1 / 2) * ((Real.sqrt v)⁻¹ * (1 / v)) * (1 / n) * X i : ℝ) : EReal) := by
      rw [back, hr, hm, Ideal.div_coe hn.ne', Ideal.div_coe hv.ne', hx i]
      simp only [mul_assoc, ← EReal.coe_mul]
    rw [mul_comm (x i), hb, mul_real_add_self, dx, hr, hsum, Ideal.div_coe hn.ne', hx i, sub_eq_add_neg,
      EReal.left_distrib_of_nonneg_of_ne_top (EReal.coe_nonneg.2 hc) (EReal.coe_ne_top _), mul_comm (w i),
      mul_neg]
    congr 1
    generalize (∑ k, x k * w k) = S
    have h1 : (((Real.sqrt v)⁻¹ : ℝ) : EReal) * ((X i : EReal) * (((Real.sqrt v)⁻¹ : ℝ) : EReal)
        * (S * (((Real.sqrt v)⁻¹ : ℝ) : EReal) * ((1 / n : ℝ) : EReal)))
        = S * (((Real.sqrt v)⁻¹ * X i * (Real.sqrt v)⁻¹ * (Real.sqrt v)⁻¹ * (1 / n) : ℝ) : EReal) := by
      push_cast
      ac_rfl
    rw [h1, ← mul_neg, ← EReal.coe_neg]
    congr 2
    have hvv : (Real.sqrt v)⁻¹ * (Real.sqrt v)⁻¹ = 1 / v := by
      rw [← mul_inv, Real.mul_self_sqrt hv.le, one_div]
    linear_combination (-(Real.sqrt v)⁻¹ * X i * (1 / n)) * hvv

/-- A row of zeros has no gradient. -/
theorem dx_zero (n e : EReal) (x w : Fin d → EReal) (hx : ∀ k, x k = 0) (hw : ∀ k, w k = 0) (i : Fin d) :
    dx n e x w i = 0 := by
  rw [dx, hx i, hw i, zero_mul, zero_mul, sub_zero, mul_zero]

theorem ofBits_1024 : Ideal.ofBits .f32 0x44800000#32 = ((1024 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

/-- The small constant under the root, the nearest float to 1e-6. -/
abbrev eps : EReal := Ideal.ofBits .f32 0x358637BD#32
theorem eps_pos : ∃ e : ℝ, 0 < e ∧ eps = (e : EReal) := by
  refine ⟨_, ?_, by simp [eps, Ideal.ofBits, Ideal.ieee, -EReal.coe_mul]; rfl⟩
  norm_num

theorem dx_1024 (x w : Fin d → EReal) (i : Fin d) :
    dx (Ideal.ofBits .f32 0x44800000#32) eps x w i = w i * rs (Ideal.ofBits .f32 0x44800000#32) eps x
      + x i * back (Ideal.ofBits .f32 0x44800000#32) eps (Ideal.ofBits .f32 0xBF000000#32) x w
      + back (Ideal.ofBits .f32 0x44800000#32) eps (Ideal.ofBits .f32 0xBF000000#32) x w * x i := by
  obtain ⟨e, he, h⟩ := eps_pos
  rw [h, ofBits_1024, ofBits_neg_half, dx_eq 1024 e (by norm_num) he, add_assoc]

theorem dx_512 (x w : Fin d → EReal) (i : Fin d) :
    dx (Ideal.ofBits .f32 0x44000000#32) eps x w i = w i * rs (Ideal.ofBits .f32 0x44000000#32) eps x
      + x i * back (Ideal.ofBits .f32 0x44000000#32) eps (Ideal.ofBits .f32 0xBF000000#32) x w
      + back (Ideal.ofBits .f32 0x44000000#32) eps (Ideal.ofBits .f32 0xBF000000#32) x w * x i := by
  obtain ⟨e, he, h⟩ := eps_pos
  rw [h, ofBits_512, ofBits_neg_half, dx_eq 512 e (by norm_num) he, add_assoc]

end Cert.Norm

end
-- ==== Proof.LossValue.lean ====
/- The loss head and its gradient as `loss_bwd` computes them, set beside the loss and its transposed derivative:
   four result arrays, the reference's four. -/
module

public import proofs.«01_k».proof.Proof.Common
public import proofs.«01_k».proof.Proof.Norm
public import proofs.«01_k».proof.Proof.Gen.LossIdeal.Frame
public import proofs.«01_k».proof.Proof.Gen.LossRefIdeal.Read
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open scoped BigOperators
namespace Cert.LossIdeal.Loss
open Cert.LossIdeal Cert.LossIdeal.Gen Cert.Common

theorem ofBits_half : Ideal.ofBits .f32 0x3F000000#32 = ((1 / 2 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The factor of the loss's gradient: half of twice a 1024th. -/
theorem factor (e : EReal) : Ideal.div (Ideal.ofBits .f32 0x3F000000#32) (Ideal.ofBits .f32 0x44800000#32)
    * (Ideal.ofBits .f32 0x40000000#32 * e) = e * Ideal.ofBits .f32 0x3A800000#32 := by
  rw [ofBits_half, Norm.ofBits_1024, ofBits_two, ofBits_inv_1024, Ideal.div_coe (by norm_num), ← mul_assoc, ← EReal.coe_mul, ← EReal.coe_mul, mul_comm (G := EReal)]
  norm_num

theorem div_zero_1024 : Ideal.div 0 ((1024 : ℝ) : EReal) = 0 := by
  rw [Ideal.div_coe (by norm_num), zero_mul (M₀ := EReal)]

theorem sge_slt : ∀ (i : Fin 4) (r : Fin 544), IntOp.andi
    (IntOp.cmpi .sge (IntOp.addi (Scalar.muli (BitVec.ofNat 32 i.val) 544#32) (BitVec.ofNat 32 r.val)) 16#32)
    (IntOp.cmpi .slt (IntOp.addi (Scalar.muli (BitVec.ofNat 32 i.val) 544#32) (BitVec.ofNat 32 r.val)) 2064#32)
    = if 16 ≤ i.val * 544 + r.val ∧ i.val * 544 + r.val < 2064 then 1#1 else 0#1 := by
  decide +kernel

theorem pay14 (X : FVec Ideal S544x1024 .f32) (G : FVec Ideal S1x1024 .f32) (E : FVec Ideal S544x1024 .f32) (r : Fin 544) (j : Fin 1024) :
    k0_pay14 (F := Ideal) (k0_pay5 X) (k0_pay6 G) E (ix2 r j) = Norm.dx (Ideal.ofBits .f32 0x44800000#32) Norm.eps
      (fun k => X (ix2 r k)) (fun k => (E (ix2 r k) * Ideal.ofBits .f32 0x3A800000#32) * G (ix2 0 k)) j := by
  pointwise [k0_pay14, k0_pay10, k0_pay12, k0_pay11, k0_pay5, k0_pay6]
  rfl

theorem pay7 (i : grid0.Coords) (X : FVec Ideal S544x1024 .f32) (G : FVec Ideal S1x1024 .f32) (T : FVec Ideal S544x1024 .f32)
    (r : Fin 544) (j : Fin 1024) :
    k0_pay7 (F := Ideal) i X G T (ix2 r j) = if 16 ≤ (i 0).val * 544 + r ∧ (i 0).val * 544 + r < 2064 then
      X (ix2 r j) * Norm.rs (Ideal.ofBits .f32 0x44800000#32) Norm.eps (fun k => X (ix2 r k)) * G (ix2 0 j) - T (ix2 r j) else 0 := by
  pointwise [k0_pay7, k0_pay5, k0_pay6]
  rw [sge_slt (i 0) r]
  split
  · rfl
  · rfl

theorem pay9 (i : grid0.Coords) (X : FVec Ideal S544x1024 .f32) (G : FVec Ideal S1x1024 .f32) (T : FVec Ideal S544x1024 .f32)
    (Z : FVec Ideal S8x128 .f32) (a : Fin 8) (b : Fin 128) :
    k0_pay9 (F := Ideal) Z (k0_pay8 i X G T) (Scalar.ofBits .f32 0x44800000#32) (ix2 a b) = Z (ix2 a b) + Ideal.ofBits .f32 0x3F000000#32 *
      ∑ r : Fin 544, Ideal.div (∑ k : Fin 1024, k0_pay7 (F := Ideal) i X G T (ix2 r k) * k0_pay7 (F := Ideal) i X G T (ix2 r k))
        (Ideal.ofBits .f32 0x44800000#32) := by
  pointwise [k0_pay9, k0_pay8]
  simp only [Finset.univ_unique, Finset.sum_singleton]

theorem pay2 (X E : FVec Ideal S544x1024 .f32) (Z : FVec Ideal S8x1024 .f32) (y : S8x1024.Idx) :
    k0_pay2 (F := Ideal) (k0_pay13 (k0_pay5 X) E) Z y = Z y + ∑ r : Fin 544, (E (ix2 r (y 1)) * Ideal.ofBits .f32 0x3A800000#32) * (X (ix2 r (y 1))
      * Norm.rs (Ideal.ofBits .f32 0x44800000#32) Norm.eps (fun k => X (ix2 r k))) := by
  obtain ⟨a, j, rfl⟩ : ∃ a j, y = ix2 a j := ⟨y 0, y 1, eq_ix2 y⟩
  pointwise [k0_pay2, k0_pay13, k0_pay10, k0_pay12, k0_pay11, k0_pay5]
  rfl

/-- The reference's error: the normed row times the gain minus the target, on the rows behind the first 16. -/
abbrev err (H : FVec Ideal S1x2064x1024 .f32) (G : FVec Ideal S1024 .f32) (T : FVec Ideal S1x2048x1024 .f32)
    (r : Fin 2064) (j : Fin 1024) : EReal :=
  if h : 16 ≤ (r : ℕ) then H (ix3 0 r j) * Norm.rs (Ideal.ofBits .f32 0x44800000#32) Norm.eps (fun k => H (ix3 0 r k)) * G (ix1 j)
    - T (ix3 0 ⟨r - 16, by omega⟩ j) else 0

theorem ref55 (H : FVec Ideal S1x2064x1024 .f32) (G : FVec Ideal S1024 .f32) (T : FVec Ideal S1x2048x1024 .f32) (r : Fin 2176) (j : Fin 1024) :
    Cert.LossRefIdeal.Read.val_main_v55 (F := Ideal) H G T (ix2 r j) = rowOr0 r fun r =>
      Norm.dx (Ideal.ofBits .f32 0x44800000#32) Norm.eps (fun k => H (ix3 0 r k))
        (fun k => Cert.LossRefIdeal.Read.val_main_v32 (F := Ideal) H G T (ix3 0 r k) * G (ix1 k)) j := by
  unfold Cert.LossRefIdeal.Read.val_main_v55
  pointwise [Cert.LossRefIdeal.Read.val_main_v54, Cert.LossRefIdeal.Read.val_main_v53, Cert.LossRefIdeal.Read.val_main_v52, Cert.LossRefIdeal.Read.val_main_v51, Cert.LossRefIdeal.Read.val_main_v50, Cert.LossRefIdeal.Read.val_main_v49, Cert.LossRefIdeal.Read.val_main_v48, Cert.LossRefIdeal.Read.val_main_v47, Cert.LossRefIdeal.Read.val_main_v46, Cert.LossRefIdeal.Read.val_main_v45, Cert.LossRefIdeal.Read.val_main_v44, Cert.LossRefIdeal.Read.val_main_v43, Cert.LossRefIdeal.Read.val_main_v42, Cert.LossRefIdeal.Read.val_main_v41, Cert.LossRefIdeal.Read.val_main_v40, Cert.LossRefIdeal.Read.val_main_v39, Cert.LossRefIdeal.Read.val_main_v37, Cert.LossRefIdeal.Read.val_main_v36, Cert.LossRefIdeal.Read.val_main_v13, Cert.LossRefIdeal.Read.val_main_v10, Cert.LossRefIdeal.Read.val_main_v9, Cert.LossRefIdeal.Read.val_main_v8, Cert.LossRefIdeal.Read.val_main_v7, Cert.LossRefIdeal.Read.val_main_v6, Cert.LossRefIdeal.Read.val_main_v5, Cert.LossRefIdeal.Read.val_main_v4, Cert.LossRefIdeal.Read.val_main_v3, Cert.LossRefIdeal.Read.val_main_v2, Cert.LossRefIdeal.Read.val_main_v1, Cert.LossRefIdeal.Read.val_main_v0, Cert.LossRefIdeal.Read.val_main_cst, Cert.LossRefIdeal.Read.val_main_cst_0, Cert.LossRefIdeal.Read.val_main_cst_1, Cert.LossRefIdeal.Read.val_main_cst_2, Cert.LossRefIdeal.Read.val_main_cst_14, Cert.LossRefIdeal.Read.val_main_cst_15, Cert.LossRefIdeal.Read.val_main_cst_16,
    Cert.LossRefIdeal.Read.val_main_call0_v0, Cert.LossRefIdeal.Read.val_main_c, reduce_outer]
  rw [sitofp_zero]
  unfold rowOr0
  split
  · simp only [Norm.dx_1024, Norm.back, Norm.rs, Norm.ms, add_assoc]
  · rfl

theorem ref32 (H : FVec Ideal S1x2064x1024 .f32) (G : FVec Ideal S1024 .f32) (T : FVec Ideal S1x2048x1024 .f32) (r : Fin 2064) (j : Fin 1024) :
    Cert.LossRefIdeal.Read.val_main_v32 (F := Ideal) H G T (ix3 0 r j) = err H G T r j * Ideal.ofBits .f32 0x3A800000#32 := by
  unfold Cert.LossRefIdeal.Read.val_main_v32
  pointwise [Cert.LossRefIdeal.Read.val_main_v31, Cert.LossRefIdeal.Read.val_main_v30, Cert.LossRefIdeal.Read.val_main_v29, Cert.LossRefIdeal.Read.val_main_v28, Cert.LossRefIdeal.Read.val_main_v27, Cert.LossRefIdeal.Read.val_main_v26, Cert.LossRefIdeal.Read.val_main_v20, Cert.LossRefIdeal.Read.val_main_v19, Cert.LossRefIdeal.Read.val_main_v17, Cert.LossRefIdeal.Read.val_main_v16, Cert.LossRefIdeal.Read.val_main_v15, Cert.LossRefIdeal.Read.val_main_v14, Cert.LossRefIdeal.Read.val_main_v13, Cert.LossRefIdeal.Read.val_main_v12, Cert.LossRefIdeal.Read.val_main_v11, Cert.LossRefIdeal.Read.val_main_v7, Cert.LossRefIdeal.Read.val_main_v6, Cert.LossRefIdeal.Read.val_main_v5, Cert.LossRefIdeal.Read.val_main_v4, Cert.LossRefIdeal.Read.val_main_v3, Cert.LossRefIdeal.Read.val_main_v2, Cert.LossRefIdeal.Read.val_main_v1, Cert.LossRefIdeal.Read.val_main_v0, Cert.LossRefIdeal.Read.val_main_cst, Cert.LossRefIdeal.Read.val_main_cst_0, Cert.LossRefIdeal.Read.val_main_cst_1, Cert.LossRefIdeal.Read.val_main_cst_3, Cert.LossRefIdeal.Read.val_main_cst_8, Cert.LossRefIdeal.Read.val_main_cst_9, Cert.LossRefIdeal.Read.val_main_cst_10, Cert.LossRefIdeal.Read.val_main_cst_11]
  unfold err
  by_cases h : 16 ≤ (r : ℕ)
  · have e : (⟨16 + ((r : ℕ) - 16), by omega⟩ : Fin 2064) = r := Fin.ext (show 16 + ((r : ℕ) - 16) = r by omega)
    rw [dif_pos ⟨h, by omega⟩, dif_pos h, factor]
    exact congrArg (fun q : Fin 2064 => (H (ix3 0 q j) * Norm.rs (Ideal.ofBits .f32 0x44800000#32) Norm.eps (fun k => H (ix3 0 q k))
      * G (ix1 j) - T (ix3 0 ⟨r - 16, by omega⟩ j)) * Ideal.ofBits .f32 0x3A800000#32) e
  · rw [dif_neg fun e => h e.1, dif_neg h]
    exact (zero_mul (M₀ := EReal) _).symm

theorem ref58 (H : FVec Ideal S1x2064x1024 .f32) (G : FVec Ideal S1024 .f32) (T : FVec Ideal S1x2048x1024 .f32) (a : Fin 8) (j : Fin 1024) :
    Cert.LossRefIdeal.Read.val_main_v58 (F := Ideal) H G T (ix2 a j) = ∑ r : Fin 2064, (H (ix3 0 r j)
      * Norm.rs (Ideal.ofBits .f32 0x44800000#32) Norm.eps fun k => H (ix3 0 r k)) * Cert.LossRefIdeal.Read.val_main_v32 (F := Ideal) H G T (ix3 0 r j) := by
  unfold Cert.LossRefIdeal.Read.val_main_v58
  pointwise [Cert.LossRefIdeal.Read.val_main_v57, Cert.LossRefIdeal.Read.val_main_v38, Cert.LossRefIdeal.Read.val_main_v35, Cert.LossRefIdeal.Read.val_main_v34, Cert.LossRefIdeal.Read.val_main_v33, Cert.LossRefIdeal.Read.val_main_v12, Cert.LossRefIdeal.Read.val_main_v11, Cert.LossRefIdeal.Read.val_main_v7, Cert.LossRefIdeal.Read.val_main_v6, Cert.LossRefIdeal.Read.val_main_v5, Cert.LossRefIdeal.Read.val_main_v4, Cert.LossRefIdeal.Read.val_main_v3, Cert.LossRefIdeal.Read.val_main_v2, Cert.LossRefIdeal.Read.val_main_v1, Cert.LossRefIdeal.Read.val_main_v0, Cert.LossRefIdeal.Read.val_main_cst, Cert.LossRefIdeal.Read.val_main_cst_0, Cert.LossRefIdeal.Read.val_main_cst_1, Cert.LossRefIdeal.Read.val_main_cst_12, Cert.LossRefIdeal.Read.val_main_cst_13, reduce_lead]
  rfl

theorem ref59 (H : FVec Ideal S1x2064x1024 .f32) (G : FVec Ideal S1024 .f32) (T : FVec Ideal S1x2048x1024 .f32) (a : Fin 8) (j : Fin 128) :
    Cert.LossRefIdeal.Read.val_main_v59 (F := Ideal) H G T (ix2 a j) = Ideal.ofBits .f32 0x3F000000#32 *
      ∑ r : Fin 2064, Ideal.div (∑ k : Fin 1024, err H G T r k * err H G T r k) (Ideal.ofBits .f32 0x44800000#32) := by
  unfold Cert.LossRefIdeal.Read.val_main_v59
  pointwise [Cert.LossRefIdeal.Read.val_main_v25, Cert.LossRefIdeal.Read.val_main_v24, Cert.LossRefIdeal.Read.val_main_v23, Cert.LossRefIdeal.Read.val_main_v22, Cert.LossRefIdeal.Read.val_main_v21, Cert.LossRefIdeal.Read.val_main_v18, Cert.LossRefIdeal.Read.val_main_v17, Cert.LossRefIdeal.Read.val_main_v16, Cert.LossRefIdeal.Read.val_main_v15, Cert.LossRefIdeal.Read.val_main_v14, Cert.LossRefIdeal.Read.val_main_v13, Cert.LossRefIdeal.Read.val_main_v12, Cert.LossRefIdeal.Read.val_main_v11, Cert.LossRefIdeal.Read.val_main_v7, Cert.LossRefIdeal.Read.val_main_v6, Cert.LossRefIdeal.Read.val_main_v5, Cert.LossRefIdeal.Read.val_main_v4, Cert.LossRefIdeal.Read.val_main_v3, Cert.LossRefIdeal.Read.val_main_v2, Cert.LossRefIdeal.Read.val_main_v1, Cert.LossRefIdeal.Read.val_main_v0, Cert.LossRefIdeal.Read.val_main_cst, Cert.LossRefIdeal.Read.val_main_cst_0, Cert.LossRefIdeal.Read.val_main_cst_1, Cert.LossRefIdeal.Read.val_main_cst_4, Cert.LossRefIdeal.Read.val_main_cst_5, Cert.LossRefIdeal.Read.val_main_cst_6, Cert.LossRefIdeal.Read.val_main_cst_7]
  simp only [Finset.univ_unique, Finset.sum_singleton]
  refine congrArg _ ?_
  rw [Fin.sum_univ_two_halves 16 2048 rfl]
  refine (zero_add (M := EReal) _).symm.trans (congrArg₂ _ (Finset.sum_eq_zero fun b _ => ?_).symm ?_)
  rotate_left
  · refine Finset.sum_congr rfl fun b _ => congrArg (fun s => Ideal.div s _) (Finset.sum_congr rfl fun k _ => ?_)
    have e : err H G T ⟨16 + b, by omega⟩ k = H (ix3 0 ⟨16 + b, by omega⟩ k)
        * Norm.rs (Ideal.ofBits .f32 0x44800000#32) Norm.eps (fun l => H (ix3 0 ⟨16 + b, by omega⟩ l)) * G (ix1 k) - T (ix3 0 b k) :=
      (dif_pos (show 16 ≤ 16 + (b : ℕ) by omega)).trans (congrArg (fun q : Fin 2048 => H (ix3 0 ⟨16 + b, by omega⟩ k)
        * Norm.rs (Ideal.ofBits .f32 0x44800000#32) Norm.eps (fun l => H (ix3 0 ⟨16 + b, by omega⟩ l)) * G (ix1 k) - T (ix3 0 q k))
        (Fin.ext (show 16 + (b : ℕ) - 16 = b by omega)))
    rw [e]
    rfl
  · have e : ∀ k, err H G T ⟨b, by omega⟩ k = 0 := fun k => dif_neg (show ¬ 16 ≤ (b : ℕ) by omega)
    simp only [e, mul_zero, Finset.sum_const_zero]
    rw [Norm.ofBits_1024]
    exact div_zero_1024

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![0, 0]
    ∧ win0_6.index t = ![0, 0] :=
  (by decide +kernel : ∀ t : Fin grid0.N, _)

theorem coord : ∀ t : Fin cfg0.N, (grid0.coords t 0).val = t.val :=
  (by decide +kernel : ∀ t : Fin grid0.N, _)

/-- The program's arguments on one device: the last layer's output, the final gain, the target. -/
abbrev argH (c : Dev nD) : FVec Ideal S1x2064x1024 .f32 := m ((c : Thread nD τ).loc main_arg0)
abbrev argG (c : Dev nD) : FVec Ideal S1024 .f32 := m ((c : Thread nD τ).loc main_arg1)
abbrev argT (c : Dev nD) : FVec Ideal S1x2048x1024 .f32 := m ((c : Thread nD τ).loc main_arg2)

theorem entry_h (c : Dev nD) (r : Fin 2176) (k : Fin 1024) :
    (V m c main_v1 : FVec Ideal S2176x1024 .f32) (ix2 r k) = rowOr0 r fun r => argH m c (ix3 0 r k) := by
  unfold V
  simp only [hostOps0, hostOps0_1, hostOps0_2, hostOps0_3, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

theorem entry_g (c : Dev nD) (k : Fin 1024) : (V m c main_v2 : FVec Ideal S1x1024 .f32) (ix2 0 k) = argG m c (ix1 k) := by
  unfold V
  simp only [hostOps0, hostOps0_1, hostOps0_2, hostOps0_3, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem entry_t (c : Dev nD) (r : Fin 2176) (k : Fin 1024) (h : 16 ≤ (r : ℕ)) (h' : (r : ℕ) < 2064) :
    (V m c main_v4 : FVec Ideal S2176x1024 .f32) (ix2 r k) = argT m c (ix3 0 ⟨r - 16, by omega⟩ k) := by
  unfold V
  simp only [hostOps0, hostOps0_1, hostOps0_2, hostOps0_3, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [dif_pos ⟨h, by omega⟩]

/-- The blocks a grid point works on, at their own types. -/
abbrev bH (c : Dev nD) (t : Fin cfg0.N) : FVec Ideal S544x1024 .f32 := iblk m c 0 t
abbrev bG (c : Dev nD) (t : Fin cfg0.N) : FVec Ideal S1x1024 .f32 := iblk m c 1 t
abbrev bT (c : Dev nD) (t : Fin cfg0.N) : FVec Ideal S544x1024 .f32 := iblk m c 2 t

/-- The error's rows a grid point forms. -/
abbrev bE (c : Dev nD) (t : Fin cfg0.N) : FVec Ideal S544x1024 .f32 :=
  k0_pay7 (grid0.coords t) (bH m c t) (bG m c t) (bT m c t)

theorem row_lt (t : Fin cfg0.N) (r : Fin 544) : t.val * 544 + r.val < 2176 := by
  have ht : t.val < 4 := lt_of_lt_of_eq t.isLt N_0
  have := r.isLt
  omega

theorem blk_h (c : Dev nD) (t : Fin cfg0.N) (r : Fin 544) (k : Fin 1024) :
    bH m c t (ix2 r k) = rowOr0 ⟨t * 544 + r, row_lt t r⟩ fun r => argH m c (ix3 0 r k) :=
  Eq.trans (by blk_ext [bH, iblk, idx t]) (entry_h m c ⟨t * 544 + r, row_lt t r⟩ k)

theorem blk_g (c : Dev nD) (t : Fin cfg0.N) (k : Fin 1024) : bG m c t (ix2 0 k) = argG m c (ix1 k) :=
  Eq.trans (by blk_ext [bG, iblk, idx t]) (entry_g m c k)

theorem blk_t (c : Dev nD) (t : Fin cfg0.N) (r : Fin 544) (k : Fin 1024) (h : 16 ≤ t.val * 544 + r.val) (h' : t.val * 544 + r.val < 2064) :
    bT m c t (ix2 r k) = argT m c (ix3 0 ⟨t * 544 + r - 16, by omega⟩ k) :=
  Eq.trans (by blk_ext [bT, iblk, idx t]) (entry_t m c ⟨t * 544 + r, row_lt t r⟩ k h h')

theorem err_apply (c : Dev nD) (t : Fin cfg0.N) (r : Fin 544) (j : Fin 1024) :
    bE m c t (ix2 r j) = rowOr0 ⟨t * 544 + r, row_lt t r⟩ fun r => err (argH m c) (argG m c) (argT m c) r j := by
  rw [bE, pay7, coord]
  simp only [blk_h, blk_g]
  unfold rowOr0 err
  by_cases h' : t.val * 544 + r.val < 2064
  · simp only [dif_pos h']
    by_cases h : 16 ≤ t.val * 544 + r.val
    · rw [if_pos ⟨h, h'⟩, dif_pos h, blk_t m c t r j h h']
    · rw [if_neg fun e => h e.1, dif_neg h]
  · rw [if_neg fun e => h' e.2, dif_neg h']

abbrev dh (c : Dev nD) (t : Fin cfg0.N) : FVec Ideal S544x1024 .f32 := k0_pay14 (k0_pay5 (bH m c t)) (k0_pay6 (bG m c t)) (bE m c t)

theorem out3 (c : Dev nD) (t : Fin cfg0.N) : (outsAt0 m c t.val t.isLt).1 = k0_pay15 (k0_pay5 (bH m c t)) (k0_pay6 (bG m c t)) (bE m c t) := by
  by_cases h : t.val % 4 = 0
  · rw [outsAt0_A m c t h]; frame_out
  · rw [outsAt0_B m c t h]; frame_out

theorem out4 (c : Dev nD) (t : Fin cfg0.N) : (outsAt0 m c t.val t.isLt).2.1
    = k0_pay1 (k0_pay16 (k0_pay5 (bH m c t)) (k0_pay6 (bG m c t)) (bE m c t)) := by
  by_cases h : t.val % 4 = 0
  · rw [outsAt0_A m c t h]; frame_out
  · rw [outsAt0_B m c t h]; frame_out

theorem pay15 (X : FVec Ideal S544x1024 .f32) (G : FVec Ideal S1x1024 .f32) (E : FVec Ideal S544x1024 .f32) (r : Fin 544) (j : Fin 1024) :
    k0_pay15 (F := Ideal) X G E (ix2 r j) = k0_pay14 (F := Ideal) X G E (ix2 r j) := by
  pointwise [k0_pay15]
theorem pay16 (X : FVec Ideal S544x1024 .f32) (G : FVec Ideal S1x1024 .f32) (E : FVec Ideal S544x1024 .f32) (r : Fin 544) (j : Fin 1024) :
    k0_pay1 (F := Ideal) (k0_pay16 (F := Ideal) X G E) (ix2 r j) = k0_pay14 (F := Ideal) X G E (ix2 r j) := by
  pointwise [k0_pay16, k0_pay1]

theorem point (c : Dev nD) (t : Fin cfg0.N) (r : Fin 544) (j : Fin 1024) (R : Fin 2176) (hR : (R : ℕ) = t * 544 + r) :
    dh m c t (ix2 r j) = Cert.LossRefIdeal.Read.val_main_v55 (F := Ideal) (argH m c) (argG m c) (argT m c) (ix2 R j) := by
  obtain rfl : R = ⟨t * 544 + r, row_lt t r⟩ := Fin.ext hR
  rw [ref55, dh, pay14]
  simp only [ref32, blk_h, blk_g, err_apply]
  unfold rowOr0
  split
  · rfl
  · rw [Norm.dx_zero _ _ _ _ (fun _ => rfl) (fun _ => by rw [zero_mul, zero_mul])]

theorem final_3 (c : Dev nD) : (dats m 0 c).arrAt 3 (cfgs 0).N
    = Cert.LossRefIdeal.Read.val_main_v55 (F := Ideal) (argH m c) (argG m c) (argT m c) := by
  refine (dats m 0 c).arrAt_eq_of_covers 3 _ (by decide +kernel) fun t hf y => ?_
  blk_simp; rw [after0_3, out3]
  refine (congrArg _ (eq_ix2 y)).trans ((pay15 ..).trans ((point m c t (y 0) (y 1) ⟨_, row_lt t (y 0)⟩ rfl).trans
    (congrArg (Cert.LossRefIdeal.Read.val_main_v55 (F := Ideal) (argH m c) (argG m c) (argT m c)) (Eq.symm ?_))))
  blk_ext [idx t]

theorem final_4 (c : Dev nD) : (dats m 0 c).arrAt 4 (cfgs 0).N
    = Cert.LossRefIdeal.Read.val_main_v56 (F := Ideal) (argH m c) (argG m c) (argT m c) := by
  refine (dats m 0 c).arrAt_eq_of_covers 4 _ (by decide +kernel) fun t hf y => ?_
  blk_simp; rw [after0_4, out4]
  refine (congrArg _ (eq_ix2 y)).trans ((pay16 ..).trans ((point m c t (y 0) (y 1) ⟨_, row_lt t (y 0)⟩ rfl).trans
    (congrArg (Cert.LossRefIdeal.Read.val_main_v55 (F := Ideal) (argH m c) (argG m c) (argT m c)) (Eq.symm ?_))))
  blk_ext [idx t]

theorem pay3 (y : S8x1024.Idx) : k0_pay3 (F := Ideal) y = 0 := by
  rw [eq_ix2 y]; pointwise [k0_pay3]
theorem pay4 (y : S8x128.Idx) : k0_pay4 (F := Ideal) y = 0 := by
  rw [eq_ix2 y]; pointwise [k0_pay4]
theorem pay9' (i : grid0.Coords) (X : FVec Ideal S544x1024 .f32) (G : FVec Ideal S1x1024 .f32) (T : FVec Ideal S544x1024 .f32)
    (Z : FVec Ideal S8x128 .f32) (y : S8x128.Idx) :
    k0_pay9 (F := Ideal) Z (k0_pay8 i X G T) (Scalar.ofBits .f32 0x44800000#32) y = Z y + Ideal.ofBits .f32 0x3F000000#32 *
      ∑ r : Fin 544, Ideal.div (∑ k : Fin 1024, k0_pay7 (F := Ideal) i X G T (ix2 r k) * k0_pay7 (F := Ideal) i X G T (ix2 r k))
        (Ideal.ofBits .f32 0x44800000#32) := by
  obtain ⟨a, j, rfl⟩ : ∃ a j, y = ix2 a j := ⟨y 0, y 1, eq_ix2 y⟩
  exact pay9 i X G T Z a j

/-- What a grid point adds to the gain's gradient, and to the loss. -/
abbrev part (c : Dev nD) (t : Fin cfg0.N) (y : S8x1024.Idx) : EReal :=
  ∑ r : Fin 544, (bE m c t (ix2 r (y 1)) * Ideal.ofBits .f32 0x3A800000#32) * (bH m c t (ix2 r (y 1))
      * Norm.rs (Ideal.ofBits .f32 0x44800000#32) Norm.eps (fun k => bH m c t (ix2 r k)))
abbrev lpart (c : Dev nD) (t : Fin cfg0.N) (y : S8x128.Idx) : EReal :=
  Ideal.ofBits .f32 0x3F000000#32 * ∑ r : Fin 544, Ideal.div (∑ k : Fin 1024, bE m c t (ix2 r k) * bE m c t (ix2 r k))
    (Ideal.ofBits .f32 0x44800000#32)

theorem part_sum (c : Dev nD) (y : S8x1024.Idx) : ∑ t, part m c t y
    = Cert.LossRefIdeal.Read.val_main_v58 (F := Ideal) (argH m c) (argG m c) (argT m c) y := by
  obtain ⟨a, k, rfl⟩ : ∃ a k, y = ix2 a k := ⟨y 0, y 1, eq_ix2 y⟩
  refine Eq.trans ?_ (ref58 (argH m c) (argG m c) (argT m c) a k).symm
  refine Eq.trans (Finset.sum_congr rfl fun t _ => Finset.sum_congr rfl fun r _ => ?_) ((sum_blocks N_0 fun R => rowOr0 R fun r =>
    (argH m c (ix3 0 r k) * Norm.rs (Ideal.ofBits .f32 0x44800000#32) Norm.eps fun k => argH m c (ix3 0 r k))
      * Cert.LossRefIdeal.Read.val_main_v32 (F := Ideal) (argH m c) (argG m c) (argT m c) (ix3 0 r k)).trans (sum_padded _ _ fun _ => rfl))
  show (bE m c t (ix2 r k) * _) * (bH m c t (ix2 r k) * Norm.rs _ _ (fun k => bH m c t (ix2 r k))) = _
  simp only [blk_h, err_apply, ref32]
  unfold rowOr0
  split
  · exact mul_comm (G := EReal) _ _
  · rw [zero_mul (M₀ := EReal), zero_mul (M₀ := EReal)]

theorem lpart_sum (c : Dev nD) (y : S8x128.Idx) : ∑ t, lpart m c t y
    = Cert.LossRefIdeal.Read.val_main_v59 (F := Ideal) (argH m c) (argG m c) (argT m c) y := by
  obtain ⟨a, k, rfl⟩ : ∃ a k, y = ix2 a k := ⟨y 0, y 1, eq_ix2 y⟩
  refine Eq.trans ?_ (ref59 (argH m c) (argG m c) (argT m c) a k).symm
  have hh : (0 : ℝ) ≤ 1 / 2 := by norm_num
  unfold lpart
  rw [ofBits_half, mul_comm (G := EReal) _ (∑ r : Fin 2064, _), ← Norm.sum_mul_real _ _ hh]
  refine Eq.trans (Finset.sum_congr rfl fun t _ => ?_) ((sum_blocks N_0 fun R => rowOr0 R fun r =>
    Ideal.div (∑ k : Fin 1024, err (argH m c) (argG m c) (argT m c) r k * err (argH m c) (argG m c) (argT m c) r k) (Ideal.ofBits .f32 0x44800000#32)
      * ((1 / 2 : ℝ) : EReal)).trans (sum_padded _ _ fun _ => rfl))
  rw [mul_comm (G := EReal), ← Norm.sum_mul_real _ _ hh]
  refine Finset.sum_congr rfl fun r _ => ?_
  simp only [err_apply]
  unfold rowOr0
  split
  · rfl
  · simp only [mul_zero, Finset.sum_const_zero]
    rw [Norm.ofBits_1024, div_zero_1024, zero_mul]

theorem final_5 (c : Dev nD) : (dats m 0 c).arrAt 5 (cfgs 0).N
    = Cert.LossRefIdeal.Read.val_main_v58 (F := Ideal) (argH m c) (argG m c) (argT m c) := by
  refine (dats m 0 c).arrAt_eq_of_after_last 5 t0_3 (by decide +kernel) _ fun j => ?_
  blk_simp
  rw [after0_5, Pipeline.eq_sum_fin_of_reset_step_apply_last (fun n h => (outsAt0 m c n h).2.2.1) 4 (fun _ => 0) (part m c)
    (fun t h j => by rw [outsAt0_A m c t h]; frame_out; rw [pay2, pay3])
    (fun t h j => by rw [outsAt0_B m c t h]; frame_out; rw [pay2]) (le_of_eq N_0) t0_3 rfl j, zero_add]
  exact part_sum m c j

theorem final_6 (c : Dev nD) : (dats m 0 c).arrAt 6 (cfgs 0).N
    = Cert.LossRefIdeal.Read.val_main_v59 (F := Ideal) (argH m c) (argG m c) (argT m c) := by
  refine (dats m 0 c).arrAt_eq_of_after_last 6 t0_3 (by decide +kernel) _ fun j => ?_
  blk_simp
  rw [after0_6, Pipeline.eq_sum_fin_of_reset_step_apply_last (fun n h => (outsAt0 m c n h).2.2.2) 4 (fun _ => 0) (lpart m c)
    (fun t h j => by rw [outsAt0_A m c t h]; frame_out; rw [pay9', pay4])
    (fun t h j => by rw [outsAt0_B m c t h]; frame_out; rw [pay9']) (le_of_eq N_0) t0_3 rfl j, zero_add]
  exact lpart_sum m c j

end Cert.LossIdeal.Loss
end
-- ==== Proof.MixerValue.lean ====
/- The gradient of the mixer's output as `mixer_bwd` computes it, set beside the transposed derivative of
   `concat(norm(attn, g_a), norm(rec, g_r)) @ w_out`: three result arrays, the reference's three. -/
module

public import proofs.«01_k».proof.Proof.Common
public import proofs.«01_k».proof.Proof.Norm
public import proofs.«01_k».proof.Proof.Gen.MixerIdeal.Frame
public import proofs.«01_k».proof.Proof.Gen.MixerRefIdeal.Read
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open scoped BigOperators
namespace Cert.MixerIdeal.Mixer
open Cert.MixerIdeal Cert.MixerIdeal.Gen Cert.Common

/-- The rows the first norm's part of the body stores. -/
theorem pay12 (M : FVec Ideal S544x512 .f32) (X : FVec Ideal S544x512 .f32) (G : FVec Ideal S1x512 .f32) (r : Fin 544) (j : Fin 512) :
    k0_pay12 (F := Ideal) M (k0_pay7 X) (k0_pay8 G) (k0_pay9 X) (ix2 r j) = Norm.dx (Ideal.ofBits .f32 0x44000000#32) Norm.eps
      (fun k => X (ix2 r k)) (fun k => M (ix2 r k) * G (ix2 0 k)) j := by
  pointwise [k0_pay12, k0_pay10, k0_pay9, k0_pay8, k0_pay7]
  rfl

/-- The rows the second norm's part of the body stores. -/
theorem pay18 (M : FVec Ideal S544x1024 .f32) (X : FVec Ideal S544x512 .f32) (G : FVec Ideal S1x512 .f32) (r : Fin 544) (j : Fin 512) :
    k0_pay18 (F := Ideal) M X G (ix2 r j) = Norm.dx (Ideal.ofBits .f32 0x44000000#32) Norm.eps
      (fun k => X (ix2 r k)) (fun k => M (ix2 r ⟨512 + k, by omega⟩) * G (ix2 0 k)) j := by
  pointwise [k0_pay18, k0_pay13, k0_pay14, k0_pay15, k0_pay16]
  rfl

theorem pay1 (A : FVec Ideal S544x512 .f32) (r : Fin 544) (j : Fin 512) : k0_pay1 (F := Ideal) A (ix2 r j) = A (ix2 r j) := by
  pointwise [k0_pay1]
theorem pay2 (A : FVec Ideal S544x512 .f32) (r : Fin 544) (j : Fin 512) : k0_pay2 (F := Ideal) A (ix2 r j) = A (ix2 r j) := by
  pointwise [k0_pay2]
theorem pay4 (y : S8x1024.Idx) : k0_pay4 (F := Ideal) y = 0 := by
  rw [eq_ix2 y]; pointwise [k0_pay4]

/-- A row of a norm's normed values: the first 512 columns of the first norm's, the rest of the second's. -/
abbrev normed (X Y : Fin 512 → EReal) (j : Fin 1024) : EReal :=
  if h : (j : ℕ) < 512 then X ⟨j, h⟩ * Norm.rs (Ideal.ofBits .f32 0x44000000#32) Norm.eps X
  else Y ⟨j - 512, by omega⟩ * Norm.rs (Ideal.ofBits .f32 0x44000000#32) Norm.eps Y

theorem pay3 (D : FVec Ideal S544x1024 .bf16) (W0 W1 W2 W3 : FVec Ideal S1x256x1024 .bf16) (X Y : FVec Ideal S544x512 .f32)
    (Z : FVec Ideal S8x1024 .f32) (y : S8x1024.Idx) :
    k0_pay3 (F := Ideal) (k0_pay11 (k0_pay6 D W0 W1 W2 W3) (k0_pay7 X) (k0_pay9 X)) (k0_pay17 (k0_pay5 D W0 W1 W2 W3) Y) Z y
    = Z y + ∑ r : Fin 544, k0_pay5 (F := Ideal) D W0 W1 W2 W3 (ix2 r (y 1)) * normed (fun k => X (ix2 r k)) (fun k => Y (ix2 r k)) (y 1) := by
  obtain ⟨a, j, rfl⟩ : ∃ a j, y = ix2 a j := ⟨y 0, y 1, eq_ix2 y⟩
  pointwise [k0_pay3, k0_pay11, k0_pay6, k0_pay7, k0_pay9, k0_pay10, k0_pay17, k0_pay13, k0_pay14, k0_pay15, k0_pay16]
  refine congrArg _ ?_
  unfold normed
  by_cases h : (j : ℕ) < 512
  · rw [dif_pos h]
    simp only [dif_pos h]
    rfl
  · rw [dif_neg h]
    simp only [dif_neg h]
    have e : (⟨512 + ((j : ℕ) - 512), by omega⟩ : Fin 1024) = j := Fin.ext (show 512 + ((j : ℕ) - 512) = j by omega)
    exact Finset.sum_congr rfl fun r _ => congrArg₂ _ (congrArg (fun l => k0_pay5 (F := Ideal) D W0 W1 W2 W3 (ix2 r l)) e) rfl

/-- The product with the weight's four slabs of 256 rows, given the slabs as rows of one matrix. -/
theorem pay5 (D : FVec Ideal S544x1024 .bf16) (W0 W1 W2 W3 : FVec Ideal S1x256x1024 .bf16) (w : Fin 1024 → Fin 1024 → EReal)
    (h0 : ∀ j k, W0 (ix3 0 j k) = w ⟨j, by omega⟩ k) (h1 : ∀ j k, W1 (ix3 0 j k) = w ⟨256 + j, by omega⟩ k)
    (h2 : ∀ j k, W2 (ix3 0 j k) = w ⟨512 + j, by omega⟩ k) (h3 : ∀ j k, W3 (ix3 0 j k) = w ⟨768 + j, by omega⟩ k)
    (r : Fin 544) (j : Fin 1024) :
    k0_pay5 (F := Ideal) D W0 W1 W2 W3 (ix2 r j) = ∑ k : Fin 1024, D (ix2 r k) * w j k := by
  pointwise [k0_pay5]
  by_cases c0 : (j : ℕ) < 256
  · rw [dif_pos c0]
    exact Finset.sum_congr rfl fun k _ => congrArg _ (h0 ⟨j, c0⟩ k)
  rw [dif_neg c0]
  by_cases c1 : (j : ℕ) - 256 < 256
  · rw [dif_pos c1]
    exact Finset.sum_congr rfl fun k _ => congrArg _ ((h1 ⟨(j : ℕ) - 256, by omega⟩ k).trans
      (congrArg (fun l => w l k) (Fin.ext (show 256 + ((j : ℕ) - 256) = j by omega) : (⟨256 + ((j : ℕ) - 256), by omega⟩ : Fin 1024) = j)))
  rw [dif_neg c1]
  by_cases c2 : (j : ℕ) - 256 - 256 < 256
  · rw [dif_pos c2]
    exact Finset.sum_congr rfl fun k _ => congrArg _ ((h2 ⟨(j : ℕ) - 256 - 256, by omega⟩ k).trans
      (congrArg (fun l => w l k) (Fin.ext (show 512 + ((j : ℕ) - 256 - 256) = j by omega) : (⟨512 + ((j : ℕ) - 256 - 256), by omega⟩ : Fin 1024) = j)))
  rw [dif_neg c2]
  exact Finset.sum_congr rfl fun k _ => congrArg _ ((h3 ⟨(j : ℕ) - 256 - 256 - 256, by omega⟩ k).trans
      (congrArg (fun l => w l k) (Fin.ext (show 768 + ((j : ℕ) - 256 - 256 - 256) = j by omega) : (⟨768 + ((j : ℕ) - 256 - 256 - 256), by omega⟩ : Fin 1024) = j)))

theorem ref80 (X : FVec Ideal S1x2064x512 .f32) (G : FVec Ideal S512 .f32) (W : FVec Ideal S1024x1024 .f32)
    (D : FVec Ideal S1x2064x1024 .f32) (r : Fin 2176) (j : Fin 512) :
    Cert.MixerRefIdeal.Read.val_main_v80 (F := Ideal) X G W D (ix2 r j) = rowOr0 r fun r =>
      Norm.dx (Ideal.ofBits .f32 0x44000000#32) Norm.eps (fun k => X (ix3 0 r k))
        (fun k => (∑ l : Fin 1024, D (ix3 0 r l) * W (ix2 ⟨k, by omega⟩ l)) * G (ix1 k)) j := by
  unfold Cert.MixerRefIdeal.Read.val_main_v80
  pointwise [Cert.MixerRefIdeal.Read.val_main_v79, Cert.MixerRefIdeal.Read.val_main_v78, Cert.MixerRefIdeal.Read.val_main_v77, Cert.MixerRefIdeal.Read.val_main_v76, Cert.MixerRefIdeal.Read.val_main_v75, Cert.MixerRefIdeal.Read.val_main_v74, Cert.MixerRefIdeal.Read.val_main_v73, Cert.MixerRefIdeal.Read.val_main_v72, Cert.MixerRefIdeal.Read.val_main_v71, Cert.MixerRefIdeal.Read.val_main_v70, Cert.MixerRefIdeal.Read.val_main_v69, Cert.MixerRefIdeal.Read.val_main_v68, Cert.MixerRefIdeal.Read.val_main_v67, Cert.MixerRefIdeal.Read.val_main_v66, Cert.MixerRefIdeal.Read.val_main_v65, Cert.MixerRefIdeal.Read.val_main_v64, Cert.MixerRefIdeal.Read.val_main_v62, Cert.MixerRefIdeal.Read.val_main_v61, Cert.MixerRefIdeal.Read.val_main_v35, Cert.MixerRefIdeal.Read.val_main_v34, Cert.MixerRefIdeal.Read.val_main_v13, Cert.MixerRefIdeal.Read.val_main_v10, Cert.MixerRefIdeal.Read.val_main_v9, Cert.MixerRefIdeal.Read.val_main_v8, Cert.MixerRefIdeal.Read.val_main_v7, Cert.MixerRefIdeal.Read.val_main_v6, Cert.MixerRefIdeal.Read.val_main_v5, Cert.MixerRefIdeal.Read.val_main_v4, Cert.MixerRefIdeal.Read.val_main_v3, Cert.MixerRefIdeal.Read.val_main_v2, Cert.MixerRefIdeal.Read.val_main_v1, Cert.MixerRefIdeal.Read.val_main_v0, Cert.MixerRefIdeal.Read.val_main_cst, Cert.MixerRefIdeal.Read.val_main_cst_0, Cert.MixerRefIdeal.Read.val_main_cst_1, Cert.MixerRefIdeal.Read.val_main_cst_2, Cert.MixerRefIdeal.Read.val_main_cst_14, Cert.MixerRefIdeal.Read.val_main_cst_15, Cert.MixerRefIdeal.Read.val_main_cst_16,
    Cert.MixerRefIdeal.Read.val_main_call0_v0, Cert.MixerRefIdeal.Read.val_main_c, reduce_outer]
  rw [sitofp_zero]
  unfold rowOr0
  split
  · simp only [Norm.dx_512, Norm.back, Norm.rs, Norm.ms, add_assoc]
  · rfl

theorem ref82 (X : FVec Ideal S1x2064x512 .f32) (G : FVec Ideal S512 .f32) (W : FVec Ideal S1024x1024 .f32)
    (D : FVec Ideal S1x2064x1024 .f32) (r : Fin 2176) (j : Fin 512) :
    Cert.MixerRefIdeal.Read.val_main_v82 (F := Ideal) X G W D (ix2 r j) = rowOr0 r fun r =>
      Norm.dx (Ideal.ofBits .f32 0x44000000#32) Norm.eps (fun k => X (ix3 0 r k))
        (fun k => (∑ l : Fin 1024, D (ix3 0 r l) * W (ix2 ⟨512 + k, by omega⟩ l)) * G (ix1 k)) j := by
  unfold Cert.MixerRefIdeal.Read.val_main_v82
  pointwise [Cert.MixerRefIdeal.Read.val_main_v81, Cert.MixerRefIdeal.Read.val_main_v57, Cert.MixerRefIdeal.Read.val_main_v56, Cert.MixerRefIdeal.Read.val_main_v55, Cert.MixerRefIdeal.Read.val_main_v54, Cert.MixerRefIdeal.Read.val_main_v53, Cert.MixerRefIdeal.Read.val_main_v52, Cert.MixerRefIdeal.Read.val_main_v51, Cert.MixerRefIdeal.Read.val_main_v50, Cert.MixerRefIdeal.Read.val_main_v49, Cert.MixerRefIdeal.Read.val_main_v48, Cert.MixerRefIdeal.Read.val_main_v47, Cert.MixerRefIdeal.Read.val_main_v46, Cert.MixerRefIdeal.Read.val_main_v45, Cert.MixerRefIdeal.Read.val_main_v44, Cert.MixerRefIdeal.Read.val_main_v43, Cert.MixerRefIdeal.Read.val_main_v41, Cert.MixerRefIdeal.Read.val_main_v40, Cert.MixerRefIdeal.Read.val_main_v36, Cert.MixerRefIdeal.Read.val_main_v34, Cert.MixerRefIdeal.Read.val_main_v29, Cert.MixerRefIdeal.Read.val_main_v26, Cert.MixerRefIdeal.Read.val_main_v25, Cert.MixerRefIdeal.Read.val_main_v24, Cert.MixerRefIdeal.Read.val_main_v23, Cert.MixerRefIdeal.Read.val_main_v22, Cert.MixerRefIdeal.Read.val_main_v21, Cert.MixerRefIdeal.Read.val_main_v20, Cert.MixerRefIdeal.Read.val_main_v19, Cert.MixerRefIdeal.Read.val_main_v18, Cert.MixerRefIdeal.Read.val_main_v17, Cert.MixerRefIdeal.Read.val_main_v16, Cert.MixerRefIdeal.Read.val_main_cst_3, Cert.MixerRefIdeal.Read.val_main_cst_4, Cert.MixerRefIdeal.Read.val_main_cst_5, Cert.MixerRefIdeal.Read.val_main_cst_6, Cert.MixerRefIdeal.Read.val_main_cst_9, Cert.MixerRefIdeal.Read.val_main_cst_10, Cert.MixerRefIdeal.Read.val_main_cst_11,
    Cert.MixerRefIdeal.Read.val_main_call1_v0, Cert.MixerRefIdeal.Read.val_main_c_17, reduce_outer]
  rw [sitofp_zero]
  unfold rowOr0
  split
  · simp only [Norm.dx_512, Norm.back, Norm.rs, Norm.ms, add_assoc]
  · rfl

theorem ref85 (X Y : FVec Ideal S1x2064x512 .f32) (W : FVec Ideal S1024x1024 .f32) (D : FVec Ideal S1x2064x1024 .f32)
    (a : Fin 8) (j : Fin 1024) :
    Cert.MixerRefIdeal.Read.val_main_v85 (F := Ideal) X Y W D (ix2 a j) = ∑ r : Fin 2064,
      normed (fun k => X (ix3 0 r k)) (fun k => Y (ix3 0 r k)) j * ∑ l : Fin 1024, D (ix3 0 r l) * W (ix2 j l) := by
  rw [← Cert.MixerRefIdeal.Read.val_main_v85_eq]
  pointwise [reduce_lead]
  unfold normed
  by_cases h : (j : ℕ) < 512
  · rw [dif_pos h]
    simp only [dif_pos h]
    rfl
  · rw [dif_neg h]
    simp only [dif_neg h]
    have e : (⟨512 + ((j : ℕ) - 512), by omega⟩ : Fin 1024) = j := Fin.ext (show 512 + ((j : ℕ) - 512) = j by omega)
    exact Finset.sum_congr rfl fun r _ => congrArg₂ _ rfl (Finset.sum_congr rfl fun l _ => congrArg (fun q => D (ix3 0 r l) * W (ix2 q l)) e)

variable (m : (ℓ : Loc nD τ sig) → Buf (Elt Ideal) ℓ)

theorem idx : ∀ t : Fin cfg0.N, win0_0.index t = ![t.val, 0] ∧ win0_1.index t = ![0, 0, 0]
    ∧ win0_2.index t = ![t.val, 0] ∧ win0_3.index t = ![t.val, 0] ∧ win0_4.index t = ![0, 0] ∧ win0_5.index t = ![0, 0]
    ∧ win0_6.index t = ![t.val, 0] ∧ win0_7.index t = ![t.val, 0] ∧ win0_8.index t = ![0, 0] :=
  (by decide +kernel : ∀ t : Fin grid0.N, _)

/-- The program's arguments on one device: the two branches, their gains, the output weight, the cotangent. -/
abbrev argA (c : Dev nD) : FVec Ideal S1x2064x512 .f32 := m ((c : Thread nD τ).loc main_arg0)
abbrev argR (c : Dev nD) : FVec Ideal S1x2064x512 .f32 := m ((c : Thread nD τ).loc main_arg1)
abbrev argG (c : Dev nD) : FVec Ideal S512 .f32 := m ((c : Thread nD τ).loc main_arg2)
abbrev argK (c : Dev nD) : FVec Ideal S512 .f32 := m ((c : Thread nD τ).loc main_arg3)
abbrev argW (c : Dev nD) : FVec Ideal S1024x1024 .f32 := m ((c : Thread nD τ).loc main_arg4)
abbrev argD (c : Dev nD) : FVec Ideal S1x2064x1024 .f32 := m ((c : Thread nD τ).loc main_arg5)

theorem entry_d (c : Dev nD) (r : Fin 2176) (k : Fin 1024) :
    (V m c main_v2 : FVec Ideal S2176x1024 .bf16) (ix2 r k) = rowOr0 r fun r => argD m c (ix3 0 r k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

theorem entry_a (c : Dev nD) (r : Fin 2176) (k : Fin 512) :
    (V m c main_v6 : FVec Ideal S2176x512 .f32) (ix2 r k) = rowOr0 r fun r => argA m c (ix3 0 r k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

theorem entry_r (c : Dev nD) (r : Fin 2176) (k : Fin 512) :
    (V m c main_v8 : FVec Ideal S2176x512 .f32) (ix2 r k) = rowOr0 r fun r => argR m c (ix3 0 r k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

theorem entry_g (c : Dev nD) (k : Fin 512) : (V m c main_v9 : FVec Ideal S1x512 .f32) (ix2 0 k) = argG m c (ix1 k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem entry_k (c : Dev nD) (k : Fin 512) : (V m c main_v10 : FVec Ideal S1x512 .f32) (ix2 0 k) = argK m c (ix1 k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem entry_w (c : Dev nD) (s : Fin 4) (j : Fin 256) (k : Fin 1024) :
    (V m c main_v4 : FVec Ideal S4x256x1024 .bf16) (ix3 s j k) = argW m c (ix2 ⟨s * 256 + j, by omega⟩ k) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

/-- The blocks a grid point works on, at their own types. -/
abbrev bD (c : Dev nD) (t : Fin cfg0.N) : FVec Ideal S544x1024 .bf16 := iblk m c 0 t
abbrev bW (c : Dev nD) (t : Fin cfg0.N) : FVec Ideal S4x256x1024 .bf16 := iblk m c 1 t
abbrev bA (c : Dev nD) (t : Fin cfg0.N) : FVec Ideal S544x512 .f32 := iblk m c 2 t
abbrev bR (c : Dev nD) (t : Fin cfg0.N) : FVec Ideal S544x512 .f32 := iblk m c 3 t
abbrev bG (c : Dev nD) (t : Fin cfg0.N) : FVec Ideal S1x512 .f32 := iblk m c 4 t
abbrev bK (c : Dev nD) (t : Fin cfg0.N) : FVec Ideal S1x512 .f32 := iblk m c 5 t

/-- The four slabs of the weight the body reads. -/
abbrev w0 (c : Dev nD) (t : Fin cfg0.N) : FVec Ideal S1x256x1024 .bf16 :=
  View.ld (iblk m c 1 t) (Rect.unit ![0, 0, 0] ![1, 256, 1024] inb_S4x256x1024_S1x256x1024_0_0_0)
abbrev w1 (c : Dev nD) (t : Fin cfg0.N) : FVec Ideal S1x256x1024 .bf16 :=
  View.ld (iblk m c 1 t) (Rect.unit ![1, 0, 0] ![1, 256, 1024] inb_S4x256x1024_S1x256x1024_1_0_0)
abbrev w2 (c : Dev nD) (t : Fin cfg0.N) : FVec Ideal S1x256x1024 .bf16 :=
  View.ld (iblk m c 1 t) (Rect.unit ![2, 0, 0] ![1, 256, 1024] inb_S4x256x1024_S1x256x1024_2_0_0)
abbrev w3 (c : Dev nD) (t : Fin cfg0.N) : FVec Ideal S1x256x1024 .bf16 :=
  View.ld (iblk m c 1 t) (Rect.unit ![3, 0, 0] ![1, 256, 1024] inb_S4x256x1024_S1x256x1024_3_0_0)

/-- The mixed rows' cotangent a grid point forms. -/
abbrev dz (c : Dev nD) (t : Fin cfg0.N) : FVec Ideal S544x1024 .f32 :=
  k0_pay5 (bD m c t) (w0 m c t) (w1 m c t) (w2 m c t) (w3 m c t)

theorem row_lt (t : Fin cfg0.N) (r : Fin 544) : t.val * 544 + r.val < 2176 := by
  have ht : t.val < 4 := lt_of_lt_of_eq t.isLt N_0
  have := r.isLt
  omega

theorem blk_w (c : Dev nD) (t : Fin cfg0.N) (s : Fin 4) (j : Fin 256) (k : Fin 1024) :
    bW m c t (ix3 s j k) = argW m c (ix2 ⟨s * 256 + j, by omega⟩ k) :=
  Eq.trans (by blk_ext [bW, iblk, idx t]) (entry_w m c s j k)

theorem blk_d (c : Dev nD) (t : Fin cfg0.N) (r : Fin 544) (k : Fin 1024) :
    bD m c t (ix2 r k) = rowOr0 ⟨t * 544 + r, row_lt t r⟩ fun r => argD m c (ix3 0 r k) :=
  Eq.trans (by blk_ext [bD, iblk, idx t]) (entry_d m c ⟨t * 544 + r, row_lt t r⟩ k)
theorem blk_a (c : Dev nD) (t : Fin cfg0.N) (r : Fin 544) (k : Fin 512) :
    bA m c t (ix2 r k) = rowOr0 ⟨t * 544 + r, row_lt t r⟩ fun r => argA m c (ix3 0 r k) :=
  Eq.trans (by blk_ext [bA, iblk, idx t]) (entry_a m c ⟨t * 544 + r, row_lt t r⟩ k)
theorem blk_r (c : Dev nD) (t : Fin cfg0.N) (r : Fin 544) (k : Fin 512) :
    bR m c t (ix2 r k) = rowOr0 ⟨t * 544 + r, row_lt t r⟩ fun r => argR m c (ix3 0 r k) :=
  Eq.trans (by blk_ext [bR, iblk, idx t]) (entry_r m c ⟨t * 544 + r, row_lt t r⟩ k)
theorem blk_g (c : Dev nD) (t : Fin cfg0.N) (k : Fin 512) : bG m c t (ix2 0 k) = argG m c (ix1 k) :=
  Eq.trans (by blk_ext [bG, iblk, idx t]) (entry_g m c k)
theorem blk_k (c : Dev nD) (t : Fin cfg0.N) (k : Fin 512) : bK m c t (ix2 0 k) = argK m c (ix1 k) :=
  Eq.trans (by blk_ext [bK, iblk, idx t]) (entry_k m c k)

/-- A slab of the weight at a grid point, read at the argument. -/
theorem blk_w0 (c : Dev nD) (t : Fin cfg0.N) (j : Fin 256) (k : Fin 1024) :
    w0 m c t (ix3 0 j k) = argW m c (ix2 ⟨j, by omega⟩ k) := by
  refine Eq.trans (b := bW m c t (ix3 0 j k)) (by unfold w0; pointwise) ((blk_w m c t 0 j k).trans
    (congrArg (fun l : Fin 1024 => argW m c (ix2 l k)) (Fin.ext (by simp))))
theorem blk_w1 (c : Dev nD) (t : Fin cfg0.N) (j : Fin 256) (k : Fin 1024) :
    w1 m c t (ix3 0 j k) = argW m c (ix2 ⟨256 + j, by omega⟩ k) := by
  refine Eq.trans (b := bW m c t (ix3 1 j k)) (by unfold w1; pointwise) ((blk_w m c t 1 j k).trans
    (congrArg (fun l : Fin 1024 => argW m c (ix2 l k)) (Fin.ext (by simp))))
theorem blk_w2 (c : Dev nD) (t : Fin cfg0.N) (j : Fin 256) (k : Fin 1024) :
    w2 m c t (ix3 0 j k) = argW m c (ix2 ⟨512 + j, by omega⟩ k) := by
  refine Eq.trans (b := bW m c t (ix3 2 j k)) (by unfold w2; pointwise) ((blk_w m c t 2 j k).trans
    (congrArg (fun l : Fin 1024 => argW m c (ix2 l k)) (Fin.ext (by simp))))
theorem blk_w3 (c : Dev nD) (t : Fin cfg0.N) (j : Fin 256) (k : Fin 1024) :
    w3 m c t (ix3 0 j k) = argW m c (ix2 ⟨768 + j, by omega⟩ k) := by
  refine Eq.trans (b := bW m c t (ix3 3 j k)) (by unfold w3; pointwise) ((blk_w m c t 3 j k).trans
    (congrArg (fun l : Fin 1024 => argW m c (ix2 l k)) (Fin.ext (by simp))))

theorem dz_apply (c : Dev nD) (t : Fin cfg0.N) (r : Fin 544) (j : Fin 1024) :
    dz m c t (ix2 r j) = rowOr0 ⟨t * 544 + r, row_lt t r⟩ fun r => ∑ l : Fin 1024, argD m c (ix3 0 r l) * argW m c (ix2 j l) := by
  rw [dz, pay5 _ _ _ _ _ (fun j k => argW m c (ix2 j k)) (fun j k => blk_w0 m c t j k) (fun j k => blk_w1 m c t j k)
    (fun j k => blk_w2 m c t j k) fun j k => blk_w3 m c t j k]
  simp only [blk_d]
  unfold rowOr0
  split
  · rfl
  · simp

/-- The two branches' rows the body stores at a grid point. -/
abbrev da (c : Dev nD) (t : Fin cfg0.N) : FVec Ideal S544x512 .f32 :=
  k0_pay12 (k0_pay6 (bD m c t) (w0 m c t) (w1 m c t) (w2 m c t) (w3 m c t)) (k0_pay7 (bA m c t)) (k0_pay8 (bG m c t)) (k0_pay9 (bA m c t))
abbrev dr (c : Dev nD) (t : Fin cfg0.N) : FVec Ideal S544x512 .f32 := k0_pay18 (dz m c t) (bR m c t) (bK m c t)

theorem out6 (c : Dev nD) (t : Fin cfg0.N) : (outsAt0 m c t.val t.isLt).1 = k0_pay1 (da m c t) := by
  by_cases h : t.val % 4 = 0
  · rw [outsAt0_A m c t h]; frame_out; rfl
  · rw [outsAt0_B m c t h]; frame_out; rfl

theorem out7 (c : Dev nD) (t : Fin cfg0.N) : (outsAt0 m c t.val t.isLt).2.1 = k0_pay2 (dr m c t) := by
  by_cases h : t.val % 4 = 0
  · rw [outsAt0_A m c t h]; frame_out; rfl
  · rw [outsAt0_B m c t h]; frame_out; rfl

theorem pay6 (D : FVec Ideal S544x1024 .bf16) (W0 W1 W2 W3 : FVec Ideal S1x256x1024 .bf16) (r : Fin 544) (j : Fin 512) :
    k0_pay6 (F := Ideal) D W0 W1 W2 W3 (ix2 r j) = k0_pay5 (F := Ideal) D W0 W1 W2 W3 (ix2 r ⟨j, by omega⟩) := by
  pointwise [k0_pay6]

theorem point_a (c : Dev nD) (t : Fin cfg0.N) (r : Fin 544) (j : Fin 512) (R : Fin 2176) (hR : (R : ℕ) = t * 544 + r) :
    da m c t (ix2 r j)
    = Cert.MixerRefIdeal.Read.val_main_v80 (F := Ideal) (argA m c) (argG m c) (argW m c) (argD m c) (ix2 R j) := by
  obtain rfl : R = ⟨t * 544 + r, row_lt t r⟩ := Fin.ext hR
  rw [ref80, da, pay12]
  simp only [pay6, blk_a, blk_g, dz_apply]
  unfold rowOr0
  split
  · rfl
  · rw [Norm.dx_zero _ _ _ _ (fun _ => rfl) (fun _ => zero_mul _)]

theorem point_r (c : Dev nD) (t : Fin cfg0.N) (r : Fin 544) (j : Fin 512) (R : Fin 2176) (hR : (R : ℕ) = t * 544 + r) :
    dr m c t (ix2 r j)
    = Cert.MixerRefIdeal.Read.val_main_v82 (F := Ideal) (argR m c) (argK m c) (argW m c) (argD m c) (ix2 R j) := by
  obtain rfl : R = ⟨t * 544 + r, row_lt t r⟩ := Fin.ext hR
  rw [ref82, dr, pay18]
  simp only [blk_r, blk_k, dz_apply]
  unfold rowOr0
  split
  · rfl
  · rw [Norm.dx_zero _ _ _ _ (fun _ => rfl) (fun _ => zero_mul _)]

theorem final_6 (c : Dev nD) : (dats m 0 c).arrAt 6 (cfgs 0).N
    = Cert.MixerRefIdeal.Read.val_main_v80 (F := Ideal) (argA m c) (argG m c) (argW m c) (argD m c) := by
  refine (dats m 0 c).arrAt_eq_of_covers 6 _ (by decide +kernel) fun t hf y => ?_
  blk_simp; rw [after0_6, out6]
  refine (congrArg _ (eq_ix2 y)).trans ((pay1 ..).trans ((point_a m c t (y 0) (y 1) ⟨_, row_lt t (y 0)⟩ rfl).trans
    (congrArg _ (Eq.symm ?_))))
  blk_ext [idx t]

theorem final_7 (c : Dev nD) : (dats m 0 c).arrAt 7 (cfgs 0).N
    = Cert.MixerRefIdeal.Read.val_main_v82 (F := Ideal) (argR m c) (argK m c) (argW m c) (argD m c) := by
  refine (dats m 0 c).arrAt_eq_of_covers 7 _ (by decide +kernel) fun t hf y => ?_
  blk_simp; rw [after0_7, out7]
  refine (congrArg _ (eq_ix2 y)).trans ((pay2 ..).trans ((point_r m c t (y 0) (y 1) ⟨_, row_lt t (y 0)⟩ rfl).trans
    (congrArg _ (Eq.symm ?_))))
  blk_ext [idx t]

/-- What a grid point adds to the gains' gradient. -/
abbrev part (c : Dev nD) (t : Fin cfg0.N) (y : S8x1024.Idx) : EReal :=
  ∑ r : Fin 544, dz m c t (ix2 r (y 1)) * normed (fun k => bA m c t (ix2 r k)) (fun k => bR m c t (ix2 r k)) (y 1)

theorem part_sum (c : Dev nD) (y : S8x1024.Idx) : ∑ t, part m c t y
    = Cert.MixerRefIdeal.Read.val_main_v85 (F := Ideal) (argA m c) (argR m c) (argW m c) (argD m c) y := by
  obtain ⟨a, k, rfl⟩ : ∃ a k, y = ix2 a k := ⟨y 0, y 1, eq_ix2 y⟩
  refine Eq.trans ?_ (ref85 (argA m c) (argR m c) (argW m c) (argD m c) a k).symm
  refine Eq.trans (Finset.sum_congr rfl fun t _ => Finset.sum_congr rfl fun r _ => ?_) ((sum_blocks N_0 fun R => rowOr0 R fun r =>
    normed (fun k => argA m c (ix3 0 r k)) (fun k => argR m c (ix3 0 r k)) k
      * ∑ l : Fin 1024, argD m c (ix3 0 r l) * argW m c (ix2 k l)).trans (sum_padded _ _ fun _ => rfl))
  show dz m c t (ix2 r k) * normed (fun k => bA m c t (ix2 r k)) (fun k => bR m c t (ix2 r k)) k = _
  simp only [blk_a, blk_r, dz_apply]
  unfold rowOr0
  split
  · exact mul_comm (G := EReal) _ _
  · exact zero_mul (M₀ := EReal) _

theorem final_8 (c : Dev nD) : (dats m 0 c).arrAt 8 (cfgs 0).N
    = Cert.MixerRefIdeal.Read.val_main_v85 (F := Ideal) (argA m c) (argR m c) (argW m c) (argD m c) := by
  refine (dats m 0 c).arrAt_eq_of_after_last 8 t0_3 (by decide +kernel) _ fun j => ?_
  blk_simp
  rw [after0_8, Pipeline.eq_sum_fin_of_reset_step_apply_last (fun n h => (outsAt0 m c n h).2.2) 4 (fun _ => 0) (part m c)
    (fun t h j => by rw [outsAt0_A m c t h]; frame_out; rw [pay3, pay4]; rfl)
    (fun t h j => by rw [outsAt0_B m c t h]; frame_out; rw [pay3]; rfl) (le_of_eq N_0) t0_3 rfl j, zero_add]
  exact part_sum m c j

end Cert.MixerIdeal.Mixer
end
-- ==== Proof.UpValue.lean ====
/- The gradient of the second norm as `dx_norm_bwd` computes it, set beside the transposed derivative of
   `(h, norm(h, g) @ w_up)`: the three result arrays after the run are the reference's three results. -/
module

public import proofs.«01_k».proof.Proof.Common
public import proofs.«01_k».proof.Proof.Norm
public import proofs.«01_k».proof.Proof.Gen.UpIdeal.Frame
public import proofs.«01_k».proof.Proof.Gen.UpRefIdeal.Read
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open scoped BigOperators
namespace Cert.UpIdeal.Up
open Cert.UpIdeal Cert.UpIdeal.Gen Cert.Common

theorem pay7 (D : FVec Ideal S544x1024 .f32) (X : FVec Ideal S544x1024 .f32) (G : FVec Ideal S1x1024 .f32)
    (C : FVec Ideal S544x1024 .f32) (r : Fin 544) (j : Fin 1024) :
    k0_pay7 (F := Ideal) D X G C (ix2 r j) = C (ix2 r j) + Norm.dx (Ideal.ofBits .f32 0x44800000#32) Norm.eps
      (fun k => X (ix2 r k)) (fun k => D (ix2 r k) * G (ix2 0 k)) j := by
  pointwise [k0_pay7, k0_pay6, k0_pay5]
  rfl

theorem pay8 (D : FVec Ideal S544x1024 .f32) (X : FVec Ideal S544x1024 .f32) (G : FVec Ideal S1x1024 .f32)
    (C : FVec Ideal S544x1024 .f32) (r : Fin 544) (j : Fin 1024) :
    k0_pay8 (F := Ideal) D X G C (ix2 r j) = C (ix2 r j) + Norm.dx (Ideal.ofBits .f32 0x44800000#32) Norm.eps
      (fun k => X (ix2 r k)) (fun k => D (ix2 r k) * G (ix2 0 k)) j := by
  pointwise [k0_pay8, pay7]

theorem pay9 (D : FVec Ideal S544x1024 .f32) (X : FVec Ideal S544x1024 .f32) (G : FVec Ideal S1x1024 .f32)
    (C : FVec Ideal S544x1024 .f32) (r : Fin 544) (j : Fin 1024) :
    k0_pay9 (F := Ideal) D X G C (ix2 r j) = C (ix2 r j) + Norm.dx (Ideal.ofBits .f32 0x44800000#32) Norm.eps
      (fun k => X (ix2 r k)) (fun k => D (ix2 r k) * G (ix2 0 k)) j := by
  pointwise [k0_pay9, pay7]

theorem pay10 (D : FVec Ideal S544x1024 .f32) (X : FVec Ideal S544x1024 .f32) (A : FVec Ideal S8x1024 .f32)
    (a : Fin 8) (j : Fin 1024) :
    k0_pay10 (F := Ideal) D X A (ix2 a j) = A (ix2 a j) + ∑ r : Fin 544, D (ix2 r j) * (X (ix2 r j)
      * Norm.rs (Ideal.ofBits .f32 0x44800000#32) Norm.eps (fun k => X (ix2 r k))) := by
  pointwise [k0_pay10, k0_pay6, k0_pay5]
  rfl

theorem pay3 (D0 D1 D2 D3 : FVec Ideal S544x1024 .bf16) (W0 W1 W2 W3 : FVec Ideal S1x1024x1024 .bf16)
    (r : Fin 544) (j : Fin 1024) :
    k0_pay3 (F := Ideal) D0 W0 D1 W1 D2 W2 D3 W3 (ix2 r j) =
     (∑ k : Fin 1024, D0 (ix2 r k) * W0 (ix3 0 j k)) + (∑ k : Fin 1024, D1 (ix2 r k) * W1 (ix3 0 j k))
      + (∑ k : Fin 1024, D2 (ix2 r k) * W2 (ix3 0 j k)) + (∑ k : Fin 1024, D3 (ix2 r k) * W3 (ix3 0 j k)) := by
  pointwise [k0_pay3]

/-- The reference's stages between its gradient and the sums it is made of. -/
theorem ref41 (H : FVec Ideal S1x2064x1024 .f32) (G : FVec Ideal S1024 .f32) (U : FVec Ideal S1024x4096 .f32)
    (C : FVec Ideal S1x2064x1024 .f32) (D : FVec Ideal S1x2064x4096 .f32) (r : Fin 2176) (j : Fin 1024) :
    Cert.UpRefIdeal.Read.val_main_v41 (F := Ideal) H G U C D (ix2 r j) = rowOr0 r fun r => C (ix3 0 r j)
      + Norm.dx (Ideal.ofBits .f32 0x44800000#32) Norm.eps (fun k => H (ix3 0 r k))
        (fun k => (∑ l : Fin 4096, D (ix3 0 r l) * U (ix2 k l)) * G (ix1 k)) j := by
  unfold Cert.UpRefIdeal.Read.val_main_v41
  pointwise [Cert.UpRefIdeal.Read.val_main_v40, Cert.UpRefIdeal.Read.val_main_v39, Cert.UpRefIdeal.Read.val_main_v38,
    Cert.UpRefIdeal.Read.val_main_v37, Cert.UpRefIdeal.Read.val_main_v36, Cert.UpRefIdeal.Read.val_main_v35,
    Cert.UpRefIdeal.Read.val_main_v34, Cert.UpRefIdeal.Read.val_main_v33, Cert.UpRefIdeal.Read.val_main_v32,
    Cert.UpRefIdeal.Read.val_main_v31, Cert.UpRefIdeal.Read.val_main_v30, Cert.UpRefIdeal.Read.val_main_v29,
    Cert.UpRefIdeal.Read.val_main_v28, Cert.UpRefIdeal.Read.val_main_v27, Cert.UpRefIdeal.Read.val_main_v26,
    Cert.UpRefIdeal.Read.val_main_v25, Cert.UpRefIdeal.Read.val_main_v24, Cert.UpRefIdeal.Read.val_main_v22,
    Cert.UpRefIdeal.Read.val_main_v21, Cert.UpRefIdeal.Read.val_main_v17, Cert.UpRefIdeal.Read.val_main_v13,
    Cert.UpRefIdeal.Read.val_main_v11, Cert.UpRefIdeal.Read.val_main_v10, Cert.UpRefIdeal.Read.val_main_v9,
    Cert.UpRefIdeal.Read.val_main_v8, Cert.UpRefIdeal.Read.val_main_v7, Cert.UpRefIdeal.Read.val_main_v6,
    Cert.UpRefIdeal.Read.val_main_v5, Cert.UpRefIdeal.Read.val_main_v4, Cert.UpRefIdeal.Read.val_main_v3,
    Cert.UpRefIdeal.Read.val_main_v2, Cert.UpRefIdeal.Read.val_main_v1, Cert.UpRefIdeal.Read.val_main_v0,
    Cert.UpRefIdeal.Read.val_main_cst, Cert.UpRefIdeal.Read.val_main_cst_0, Cert.UpRefIdeal.Read.val_main_cst_1,
    Cert.UpRefIdeal.Read.val_main_cst_2, Cert.UpRefIdeal.Read.val_main_cst_5, Cert.UpRefIdeal.Read.val_main_cst_6,
    Cert.UpRefIdeal.Read.val_main_cst_7, Cert.UpRefIdeal.Read.val_main_call0_v0, Cert.UpRefIdeal.Read.val_main_c, reduce_outer]
  rw [sitofp_zero]
  unfold rowOr0
  split
  · simp only [Norm.dx_1024, Norm.back, Norm.rs, Norm.ms, add_assoc]
  · rfl

theorem ref44 (H : FVec Ideal S1x2064x1024 .f32) (U : FVec Ideal S1024x4096 .f32) (D : FVec Ideal S1x2064x4096 .f32)
    (a : Fin 8) (j : Fin 1024) :
    Cert.UpRefIdeal.Read.val_main_v44 (F := Ideal) H U D (ix2 a j) = ∑ r : Fin 2064, (H (ix3 0 r j)
      * Norm.rs (Ideal.ofBits .f32 0x44800000#32) Norm.eps fun k => H (ix3 0 r k))
        * ∑ l : Fin 4096, D (ix3 0 r l) * U (ix2 j l) := by
  rw [← Cert.UpRefIdeal.Read.val_main_v44_eq]
  pointwise [reduce_lead]
  rfl

variable (m : (ℓ : Loc nD τ sig) → Buf (Elt Ideal) ℓ)

theorem idx : ∀ t : Fin cfg0.N, win0_0.index t = ![t.val, 0] ∧ win0_1.index t = ![t.val, 1]
    ∧ win0_2.index t = ![t.val, 2] ∧ win0_3.index t = ![t.val, 3]
    ∧ win0_4.index t = ![0, 0, 0] ∧ win0_5.index t = ![t.val, 0] ∧ win0_6.index t = ![0, 0]
    ∧ win0_7.index t = ![t.val, 0] ∧ win0_8.index t = ![t.val, 0] ∧ win0_9.index t = ![t.val, 0]
    ∧ win0_10.index t = ![0, 0] :=
  (by decide +kernel : ∀ t : Fin grid0.N, _)

/-- The program's arguments on one device: the layer's input, the gain, the weight, the two cotangents. -/
abbrev argH (c : Dev nD) : FVec Ideal S1x2064x1024 .f32 := m ((c : Thread nD τ).loc main_arg0)
abbrev argG (c : Dev nD) : FVec Ideal S1024 .f32 := m ((c : Thread nD τ).loc main_arg1)
abbrev argU (c : Dev nD) : FVec Ideal S1024x4096 .f32 := m ((c : Thread nD τ).loc main_arg2)
abbrev argC (c : Dev nD) : FVec Ideal S1x2064x1024 .f32 := m ((c : Thread nD τ).loc main_arg3)
abbrev argD (c : Dev nD) : FVec Ideal S1x2064x4096 .f32 := m ((c : Thread nD τ).loc main_arg4)

theorem entry_w (c : Dev nD) (s : Fin 4) (j k : Fin 1024) :
    (V m c main_v2 : FVec Ideal S4x1024x1024 .bf16) (ix3 s j k) = argU m c (ix2 j ⟨s * 1024 + k, by omega⟩) := by
  unfold V
  simp only [hostOps0, hostOps0_1, hostOps0_2, hostOps0_3, hostOps0_4, hostOps0_5, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem entry_d (c : Dev nD) (r : Fin 2176) (l : Fin 4096) :
    (V m c main_v5 : FVec Ideal S2176x4096 .bf16) (ix2 r l) = rowOr0 r fun r => argD m c (ix3 0 r l) := by
  unfold V
  simp only [hostOps0, hostOps0_1, hostOps0_2, hostOps0_3, hostOps0_4, hostOps0_5, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

theorem entry_h (c : Dev nD) (r : Fin 2176) (k : Fin 1024) :
    (V m c main_v7 : FVec Ideal S2176x1024 .f32) (ix2 r k) = rowOr0 r fun r => argH m c (ix3 0 r k) := by
  unfold V
  simp only [hostOps0, hostOps0_1, hostOps0_2, hostOps0_3, hostOps0_4, hostOps0_5, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

theorem entry_g (c : Dev nD) (k : Fin 1024) :
    (V m c main_v8 : FVec Ideal S1x1024 .f32) (ix2 0 k) = argG m c (ix1 k) := by
  unfold V
  simp only [hostOps0, hostOps0_1, hostOps0_2, hostOps0_3, hostOps0_4, hostOps0_5, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem entry_c (c : Dev nD) (r : Fin 2176) (k : Fin 1024) :
    (V m c main_v10 : FVec Ideal S2176x1024 .f32) (ix2 r k) = rowOr0 r fun r => argC m c (ix3 0 r k) := by
  unfold V
  simp only [hostOps0, hostOps0_1, hostOps0_2, hostOps0_3, hostOps0_4, hostOps0_5, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  rfl

/-- The blocks a grid point works on, at their own types. -/
abbrev bD0 (c : Dev nD) (t : Fin cfg0.N) : FVec Ideal S544x1024 .bf16 := iblk m c 0 t
abbrev bD1 (c : Dev nD) (t : Fin cfg0.N) : FVec Ideal S544x1024 .bf16 := iblk m c 1 t
abbrev bD2 (c : Dev nD) (t : Fin cfg0.N) : FVec Ideal S544x1024 .bf16 := iblk m c 2 t
abbrev bD3 (c : Dev nD) (t : Fin cfg0.N) : FVec Ideal S544x1024 .bf16 := iblk m c 3 t
abbrev bW (c : Dev nD) (t : Fin cfg0.N) : FVec Ideal S4x1024x1024 .bf16 := iblk m c 4 t
abbrev bH (c : Dev nD) (t : Fin cfg0.N) : FVec Ideal S544x1024 .f32 := iblk m c 5 t
abbrev bG (c : Dev nD) (t : Fin cfg0.N) : FVec Ideal S1x1024 .f32 := iblk m c 6 t
abbrev bC (c : Dev nD) (t : Fin cfg0.N) : FVec Ideal S544x1024 .f32 := iblk m c 7 t

/-- The four slabs of the weight the body reads. -/
abbrev w0 (c : Dev nD) (t : Fin cfg0.N) : FVec Ideal S1x1024x1024 .bf16 :=
  View.ld (iblk m c 4 t) (Rect.unit ![0, 0, 0] ![1, 1024, 1024] inb_S4x1024x1024_S1x1024x1024_0_0_0)
abbrev w1 (c : Dev nD) (t : Fin cfg0.N) : FVec Ideal S1x1024x1024 .bf16 :=
  View.ld (iblk m c 4 t) (Rect.unit ![1, 0, 0] ![1, 1024, 1024] inb_S4x1024x1024_S1x1024x1024_1_0_0)
abbrev w2 (c : Dev nD) (t : Fin cfg0.N) : FVec Ideal S1x1024x1024 .bf16 :=
  View.ld (iblk m c 4 t) (Rect.unit ![2, 0, 0] ![1, 1024, 1024] inb_S4x1024x1024_S1x1024x1024_2_0_0)
abbrev w3 (c : Dev nD) (t : Fin cfg0.N) : FVec Ideal S1x1024x1024 .bf16 :=
  View.ld (iblk m c 4 t) (Rect.unit ![3, 0, 0] ![1, 1024, 1024] inb_S4x1024x1024_S1x1024x1024_3_0_0)

/-- The cotangent of the normed rows a grid point forms. -/
abbrev dz (c : Dev nD) (t : Fin cfg0.N) : FVec Ideal S544x1024 .f32 :=
  k0_pay3 (bD0 m c t) (w0 m c t) (bD1 m c t) (w1 m c t) (bD2 m c t) (w2 m c t) (bD3 m c t) (w3 m c t)

theorem row_lt (t : Fin cfg0.N) (r : Fin 544) : t.val * 544 + r.val < 2176 := by
  have ht : t.val < 4 := lt_of_lt_of_eq t.isLt N_0
  have := r.isLt
  omega

theorem blk_w (c : Dev nD) (t : Fin cfg0.N) (s : Fin 4) (j k : Fin 1024) :
    bW m c t (ix3 s j k) = argU m c (ix2 j ⟨s * 1024 + k, by omega⟩) :=
  Eq.trans (by blk_ext [bW, iblk, idx t]) (entry_w m c s j k)

theorem blk_h (c : Dev nD) (t : Fin cfg0.N) (r : Fin 544) (k : Fin 1024) :
    bH m c t (ix2 r k) = rowOr0 ⟨t * 544 + r, row_lt t r⟩ fun r => argH m c (ix3 0 r k) :=
  Eq.trans (by blk_ext [bH, iblk, idx t]) (entry_h m c ⟨t * 544 + r, row_lt t r⟩ k)

theorem blk_c (c : Dev nD) (t : Fin cfg0.N) (r : Fin 544) (k : Fin 1024) :
    bC m c t (ix2 r k) = rowOr0 ⟨t * 544 + r, row_lt t r⟩ fun r => argC m c (ix3 0 r k) :=
  Eq.trans (by blk_ext [bC, iblk, idx t]) (entry_c m c ⟨t * 544 + r, row_lt t r⟩ k)

theorem blk_g (c : Dev nD) (t : Fin cfg0.N) (k : Fin 1024) : bG m c t (ix2 0 k) = argG m c (ix1 k) :=
  Eq.trans (by blk_ext [bG, iblk, idx t]) (entry_g m c k)

theorem blk_d0 (c : Dev nD) (t : Fin cfg0.N) (r : Fin 544) (k : Fin 1024) :
    bD0 m c t (ix2 r k) = rowOr0 ⟨t * 544 + r, row_lt t r⟩ fun r => argD m c (ix3 0 r ⟨k, by omega⟩) :=
  Eq.trans (by blk_ext [bD0, iblk, idx t]) (entry_d m c ⟨t * 544 + r, row_lt t r⟩ ⟨k, by omega⟩)
theorem blk_d1 (c : Dev nD) (t : Fin cfg0.N) (r : Fin 544) (k : Fin 1024) :
    bD1 m c t (ix2 r k) = rowOr0 ⟨t * 544 + r, row_lt t r⟩ fun r => argD m c (ix3 0 r ⟨1024 + k, by omega⟩) :=
  Eq.trans (by blk_ext [bD1, iblk, idx t]) (entry_d m c ⟨t * 544 + r, row_lt t r⟩ ⟨1024 + k, by omega⟩)
theorem blk_d2 (c : Dev nD) (t : Fin cfg0.N) (r : Fin 544) (k : Fin 1024) :
    bD2 m c t (ix2 r k) = rowOr0 ⟨t * 544 + r, row_lt t r⟩ fun r => argD m c (ix3 0 r ⟨2048 + k, by omega⟩) :=
  Eq.trans (by blk_ext [bD2, iblk, idx t]) (entry_d m c ⟨t * 544 + r, row_lt t r⟩ ⟨2048 + k, by omega⟩)
theorem blk_d3 (c : Dev nD) (t : Fin cfg0.N) (r : Fin 544) (k : Fin 1024) :
    bD3 m c t (ix2 r k) = rowOr0 ⟨t * 544 + r, row_lt t r⟩ fun r => argD m c (ix3 0 r ⟨3072 + k, by omega⟩) :=
  Eq.trans (by blk_ext [bD3, iblk, idx t]) (entry_d m c ⟨t * 544 + r, row_lt t r⟩ ⟨3072 + k, by omega⟩)

/-- A slab of the weight at a grid point, read at the argument. -/
theorem blk_w0 (c : Dev nD) (t : Fin cfg0.N) (j k : Fin 1024) : w0 m c t (ix3 0 j k) = argU m c (ix2 j ⟨k, by omega⟩) := by
  refine Eq.trans (b := bW m c t (ix3 0 j k)) ?_ ((blk_w m c t 0 j k).trans (congrArg _ ((ix2_inj ..).2 ⟨rfl, Fin.ext (by simp)⟩)))
  unfold w0
  pointwise
theorem blk_w1 (c : Dev nD) (t : Fin cfg0.N) (j k : Fin 1024) : w1 m c t (ix3 0 j k) = argU m c (ix2 j ⟨1024 + k, by omega⟩) := by
  refine Eq.trans (b := bW m c t (ix3 1 j k)) ?_ ((blk_w m c t 1 j k).trans (congrArg _ ((ix2_inj ..).2 ⟨rfl, Fin.ext (by simp)⟩)))
  unfold w1
  pointwise
theorem blk_w2 (c : Dev nD) (t : Fin cfg0.N) (j k : Fin 1024) : w2 m c t (ix3 0 j k) = argU m c (ix2 j ⟨2048 + k, by omega⟩) := by
  refine Eq.trans (b := bW m c t (ix3 2 j k)) ?_ ((blk_w m c t 2 j k).trans (congrArg _ ((ix2_inj ..).2 ⟨rfl, Fin.ext (by simp)⟩)))
  unfold w2
  pointwise
theorem blk_w3 (c : Dev nD) (t : Fin cfg0.N) (j k : Fin 1024) : w3 m c t (ix3 0 j k) = argU m c (ix2 j ⟨3072 + k, by omega⟩) := by
  refine Eq.trans (b := bW m c t (ix3 3 j k)) ?_ ((blk_w m c t 3 j k).trans (congrArg _ ((ix2_inj ..).2 ⟨rfl, Fin.ext (by simp)⟩)))
  unfold w3
  pointwise

theorem dz_apply (c : Dev nD) (t : Fin cfg0.N) (r : Fin 544) (j : Fin 1024) :
    dz m c t (ix2 r j) = rowOr0 ⟨t * 544 + r, row_lt t r⟩ fun r => ∑ l : Fin 4096, argD m c (ix3 0 r l) * argU m c (ix2 j l) := by
  rw [dz, pay3]
  simp only [blk_d0, blk_d1, blk_d2, blk_d3, blk_w0, blk_w1, blk_w2, blk_w3]
  unfold rowOr0
  split
  · rename_i h
    exact sum_slabs fun l => argD m c (ix3 0 ⟨t * 544 + r, h⟩ l) * argU m c (ix2 j l)
  · simp

theorem out8 (c : Dev nD) (t : Fin cfg0.N) : (outsAt0 m c t.val t.isLt).1
    = k0_pay8 (dz m c t) (k0_pay4 (bH m c t)) (bG m c t) (bC m c t) := by
  by_cases h : t.val % 4 = 0
  · rw [outsAt0_A m c t h]; frame_out; rfl
  · rw [outsAt0_B m c t h]; frame_out; rfl

theorem out9 (c : Dev nD) (t : Fin cfg0.N) : (outsAt0 m c t.val t.isLt).2.1
    = k0_pay9 (dz m c t) (k0_pay4 (bH m c t)) (bG m c t) (bC m c t) := by
  by_cases h : t.val % 4 = 0
  · rw [outsAt0_A m c t h]; frame_out; rfl
  · rw [outsAt0_B m c t h]; frame_out; rfl

theorem pay4 (X : FVec Ideal S544x1024 .f32) (r : Fin 544) (k : Fin 1024) : k0_pay4 (F := Ideal) X (ix2 r k) = X (ix2 r k) := by
  pointwise [k0_pay4]

theorem point (c : Dev nD) (t : Fin cfg0.N) (r : Fin 544) (j : Fin 1024) (R : Fin 2176) (hR : (R : ℕ) = t * 544 + r) :
    bC m c t (ix2 r j) + Norm.dx (Ideal.ofBits .f32 0x44800000#32) Norm.eps (fun k => k0_pay4 (F := Ideal) (bH m c t) (ix2 r k))
      (fun k => dz m c t (ix2 r k) * bG m c t (ix2 0 k)) j
    = Cert.UpRefIdeal.Read.val_main_v41 (F := Ideal) (argH m c) (argG m c) (argU m c) (argC m c) (argD m c) (ix2 R j) := by
  obtain rfl : R = ⟨t * 544 + r, row_lt t r⟩ := Fin.ext hR
  rw [ref41]
  simp only [pay4, blk_h, blk_c, blk_g, dz_apply]
  unfold rowOr0
  split
  · rfl
  · rw [Norm.dx_zero _ _ _ _ (fun _ => rfl) (fun _ => zero_mul _), add_zero]

theorem final_8 (c : Dev nD) : (dats m 0 c).arrAt 8 (cfgs 0).N
    = Cert.UpRefIdeal.Read.val_main_v41 (F := Ideal) (argH m c) (argG m c) (argU m c) (argC m c) (argD m c) := by
  refine (dats m 0 c).arrAt_eq_of_covers 8 _ (by decide +kernel) fun t hf y => ?_
  blk_simp; rw [after0_8, out8]
  refine (congrArg _ (eq_ix2 y)).trans ((pay8 ..).trans ((point m c t (y 0) (y 1) ⟨_, row_lt t (y 0)⟩ rfl).trans
    (congrArg _ (Eq.symm ?_))))
  blk_ext [idx t]

theorem final_9 (c : Dev nD) : (dats m 0 c).arrAt 9 (cfgs 0).N
    = Cert.UpRefIdeal.Read.val_main_v42 (F := Ideal) (argH m c) (argG m c) (argU m c) (argC m c) (argD m c) := by
  refine (dats m 0 c).arrAt_eq_of_covers 9 _ (by decide +kernel) fun t hf y => ?_
  blk_simp; rw [after0_9, out9]
  refine (congrArg _ (eq_ix2 y)).trans ((pay9 ..).trans ((point m c t (y 0) (y 1) ⟨_, row_lt t (y 0)⟩ rfl).trans
    (congrArg (Cert.UpRefIdeal.Read.val_main_v41 (F := Ideal) (argH m c) (argG m c) (argU m c) (argC m c) (argD m c)) (Eq.symm ?_))))
  blk_ext [idx t]

theorem pay1 (A : FVec Ideal S8x1024 .f32) : k0_pay1 (F := Ideal) A = A := by
  funext y; rw [eq_ix2 y]; pointwise [k0_pay1]
theorem pay2 (y : S8x1024.Idx) : k0_pay2 (F := Ideal) y = 0 := by
  rw [eq_ix2 y]; pointwise [k0_pay2]

/-- What a grid point adds to the gain's gradient. -/
abbrev part (c : Dev nD) (t : Fin cfg0.N) (y : S8x1024.Idx) : EReal :=
  ∑ r : Fin 544, dz m c t (ix2 r (y 1)) * (k0_pay4 (F := Ideal) (bH m c t) (ix2 r (y 1))
      * Norm.rs (Ideal.ofBits .f32 0x44800000#32) Norm.eps (fun k => k0_pay4 (F := Ideal) (bH m c t) (ix2 r k)))

theorem pay10' (D : FVec Ideal S544x1024 .f32) (X : FVec Ideal S544x1024 .f32) (A : FVec Ideal S8x1024 .f32)
    (y : S8x1024.Idx) :
    k0_pay10 (F := Ideal) D X A y = A y + ∑ r : Fin 544, D (ix2 r (y 1)) * (X (ix2 r (y 1))
      * Norm.rs (Ideal.ofBits .f32 0x44800000#32) Norm.eps (fun k => X (ix2 r k))) := by
  obtain ⟨a, j, rfl⟩ : ∃ a j, y = ix2 a j := ⟨y 0, y 1, eq_ix2 y⟩
  exact pay10 D X A a j

theorem part_sum (c : Dev nD) (y : S8x1024.Idx) : ∑ t, part m c t y
    = Cert.UpRefIdeal.Read.val_main_v44 (F := Ideal) (argH m c) (argU m c) (argD m c) y := by
  obtain ⟨a, k, rfl⟩ : ∃ a k, y = ix2 a k := ⟨y 0, y 1, eq_ix2 y⟩
  refine Eq.trans ?_ (ref44 (argH m c) (argU m c) (argD m c) a k).symm
  refine Eq.trans (Finset.sum_congr rfl fun t _ => Finset.sum_congr rfl fun r _ => ?_) ((sum_blocks N_0 fun R => rowOr0 R fun r =>
    (argH m c (ix3 0 r k) * Norm.rs (Ideal.ofBits .f32 0x44800000#32) Norm.eps fun k => argH m c (ix3 0 r k))
      * ∑ l : Fin 4096, argD m c (ix3 0 r l) * argU m c (ix2 k l)).trans (sum_padded _ _ fun _ => rfl))
  show dz m c t (ix2 r k) * (k0_pay4 (F := Ideal) (bH m c t) (ix2 r k) * _) = _
  simp only [pay4, blk_h, dz_apply]
  unfold rowOr0
  split
  · exact mul_comm (G := EReal) _ _
  · exact zero_mul (M₀ := EReal) _

theorem final_10 (c : Dev nD) : (dats m 0 c).arrAt 10 (cfgs 0).N
    = Cert.UpRefIdeal.Read.val_main_v44 (F := Ideal) (argH m c) (argU m c) (argD m c) := by
  refine (dats m 0 c).arrAt_eq_of_after_last 10 t0_3 (by decide +kernel) _ fun j => ?_
  blk_simp
  rw [after0_10, Pipeline.eq_sum_fin_of_reset_step_apply_last (fun n h => (outsAt0 m c n h).2.2) 4 (fun _ => 0) (part m c)
    (fun t h j => by rw [outsAt0_A m c t h]; frame_out; rw [pay1, pay10', pay2]; rfl)
    (fun t h j => by rw [outsAt0_B m c t h]; frame_out; rw [pay1, pay10']; rfl) (le_of_eq N_0) t0_3 rfl j, zero_add]
  exact part_sum m c j

end Cert.UpIdeal.Up
end
-- ==== Proof.InValue.lean ====
/- The gradient of the first norm as `dx_norm_bwd` computes it from the six column groups of the packed projection,
   set beside the transposed derivative of `(h, norm(h, g) @ w_in)`: three result arrays, the reference's three. -/
module

public import proofs.«01_k».proof.Proof.Common
public import proofs.«01_k».proof.Proof.Norm
public import proofs.«01_k».proof.Proof.Gen.InIdeal.Frame
public import proofs.«01_k».proof.Proof.Gen.InRefIdeal.Read
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open scoped BigOperators
namespace Cert.InIdeal.In
open Cert.InIdeal Cert.InIdeal.Gen Cert.Common

/-- The row the body stores: the incoming gradient plus the norm's. -/
theorem pay12 (A B : FVec Ideal S544x1024 .f32) (E : FVec Ideal S544x128 .bf16) (W : FVec Ideal S128x1024 .bf16)
    (X : FVec Ideal S544x1024 .f32) (G : FVec Ideal S1x1024 .f32) (C : FVec Ideal S544x1024 .f32) (r : Fin 544) (j : Fin 1024) :
    k0_pay12 (F := Ideal) A B E W X G C (ix2 r j) = C (ix2 r j) + Norm.dx (Ideal.ofBits .f32 0x44800000#32) Norm.eps
      (fun k => X (ix2 r k)) (fun k => k0_pay7 (F := Ideal) A B E W (ix2 r k) * G (ix2 0 k)) j := by
  pointwise [k0_pay12, k0_pay10, k0_pay9, k0_pay8]
  rfl

theorem pay1 (A : FVec Ideal S544x1024 .f32) (r : Fin 544) (j : Fin 1024) : k0_pay1 (F := Ideal) A (ix2 r j) = A (ix2 r j) := by
  pointwise [k0_pay1]
theorem pay2 (A : FVec Ideal S544x1024 .f32) (r : Fin 544) (j : Fin 1024) : k0_pay2 (F := Ideal) A (ix2 r j) = A (ix2 r j) := by
  pointwise [k0_pay2]

theorem pay3 (A B : FVec Ideal S544x1024 .f32) (E : FVec Ideal S544x128 .bf16) (W : FVec Ideal S128x1024 .bf16)
    (X : FVec Ideal S544x1024 .f32) (Z : FVec Ideal S8x1024 .f32) (y : S8x1024.Idx) :
    k0_pay3 (F := Ideal) (k0_pay11 A B E W X) Z y = Z y + ∑ r : Fin 544, k0_pay7 (F := Ideal) A B E W (ix2 r (y 1)) * (X (ix2 r (y 1))
      * Norm.rs (Ideal.ofBits .f32 0x44800000#32) Norm.eps (fun k => X (ix2 r k))) := by
  obtain ⟨a, j, rfl⟩ : ∃ a j, y = ix2 a j := ⟨y 0, y 1, eq_ix2 y⟩
  pointwise [k0_pay3, k0_pay11, k0_pay10, k0_pay9, k0_pay8]
  rfl

theorem pay4 (y : S8x1024.Idx) : k0_pay4 (F := Ideal) y = 0 := by
  rw [eq_ix2 y]; pointwise [k0_pay4]

/-- The product with the six pieces, as the body sums it. -/
theorem pay7 (D0 D1 D2 D3 D4 : FVec Ideal S544x512 .bf16) (D5 : FVec Ideal S544x128 .bf16)
    (W0 W1 W2 W3 W4 : FVec Ideal S512x1024 .bf16) (W5 : FVec Ideal S128x1024 .bf16) (r : Fin 544) (j : Fin 1024) :
    k0_pay7 (F := Ideal) (k0_pay5 D0 W0 D1 W1 D2 W2 D3 W3) (k0_pay6 D4 W4) D5 W5 (ix2 r j)
    = (∑ k : Fin 512, D0 (ix2 r k) * W0 (ix2 k j)) + (∑ k : Fin 512, D1 (ix2 r k) * W1 (ix2 k j))
      + (∑ k : Fin 512, D2 (ix2 r k) * W2 (ix2 k j)) + (∑ k : Fin 512, D3 (ix2 r k) * W3 (ix2 k j))
      + (∑ k : Fin 512, D4 (ix2 r k) * W4 (ix2 k j)) + ∑ k : Fin 128, D5 (ix2 r k) * W5 (ix2 k j) := by
  pointwise [k0_pay7, k0_pay6, k0_pay5]

/-- A sum over the 2568 columns, piece of the packed order by piece. -/
theorem sum_pieces (f : Fin 2568 → EReal) :
    (∑ k : Fin 512, f ⟨k, by omega⟩) + (∑ k : Fin 512, f ⟨512 + k, by omega⟩) + (∑ k : Fin 512, f ⟨1024 + k, by omega⟩)
      + (∑ k : Fin 512, f ⟨1544 + k, by omega⟩) + (∑ k : Fin 512, f ⟨2056 + k, by omega⟩)
      + (∑ k : Fin 8, f ⟨1536 + k, by omega⟩) = ∑ l, f l := by
  have h1 := Fin.sum_univ_two_halves 1536 1032 rfl f
  have h2 := Fin.sum_univ_two_halves 512 1024 rfl fun k : Fin 1536 => f ⟨k, by omega⟩
  have h3 := Fin.sum_univ_two_halves 512 512 rfl fun k : Fin 1024 => f ⟨512 + k, by omega⟩
  have h4 := Fin.sum_univ_two_halves 8 1024 rfl fun k : Fin 1032 => f ⟨1536 + k, by omega⟩
  have h5 := Fin.sum_univ_two_halves 512 512 rfl fun k : Fin 1024 => f ⟨1536 + (8 + k), by omega⟩
  rw [h1]
  refine Eq.trans ?_ (congrArg₂ (· + ·) (h2.trans (congrArg₂ (· + ·) rfl h3)) (h4.trans (congrArg₂ (· + ·) rfl h5))).symm
  simp only [← Nat.add_assoc, Nat.reduceAdd]
  abel

/-- The reference's stages between its gradient and the sums it is made of. -/
theorem ref41 (H : FVec Ideal S1x2064x1024 .f32) (G : FVec Ideal S1024 .f32) (U : FVec Ideal S1024x2568 .f32)
    (C : FVec Ideal S1x2064x1024 .f32) (D : FVec Ideal S1x2064x2568 .f32) (r : Fin 2176) (j : Fin 1024) :
    Cert.InRefIdeal.Read.val_main_v41 (F := Ideal) H G U C D (ix2 r j) = rowOr0 r fun r => C (ix3 0 r j)
      + Norm.dx (Ideal.ofBits .f32 0x44800000#32) Norm.eps (fun k => H (ix3 0 r k))
        (fun k => (∑ l : Fin 2568, D (ix3 0 r l) * U (ix2 k l)) * G (ix1 k)) j := by
  unfold Cert.InRefIdeal.Read.val_main_v41
  pointwise [Cert.InRefIdeal.Read.val_main_v40, Cert.InRefIdeal.Read.val_main_v39, Cert.InRefIdeal.Read.val_main_v38,
    Cert.InRefIdeal.Read.val_main_v37, Cert.InRefIdeal.Read.val_main_v36, Cert.InRefIdeal.Read.val_main_v35,
    Cert.InRefIdeal.Read.val_main_v34, Cert.InRefIdeal.Read.val_main_v33, Cert.InRefIdeal.Read.val_main_v32,
    Cert.InRefIdeal.Read.val_main_v31, Cert.InRefIdeal.Read.val_main_v30, Cert.InRefIdeal.Read.val_main_v29,
    Cert.InRefIdeal.Read.val_main_v28, Cert.InRefIdeal.Read.val_main_v27, Cert.InRefIdeal.Read.val_main_v26,
    Cert.InRefIdeal.Read.val_main_v25, Cert.InRefIdeal.Read.val_main_v24, Cert.InRefIdeal.Read.val_main_v22,
    Cert.InRefIdeal.Read.val_main_v21, Cert.InRefIdeal.Read.val_main_v17, Cert.InRefIdeal.Read.val_main_v13,
    Cert.InRefIdeal.Read.val_main_v11, Cert.InRefIdeal.Read.val_main_v10, Cert.InRefIdeal.Read.val_main_v9,
    Cert.InRefIdeal.Read.val_main_v8, Cert.InRefIdeal.Read.val_main_v7, Cert.InRefIdeal.Read.val_main_v6,
    Cert.InRefIdeal.Read.val_main_v5, Cert.InRefIdeal.Read.val_main_v4, Cert.InRefIdeal.Read.val_main_v3,
    Cert.InRefIdeal.Read.val_main_v2, Cert.InRefIdeal.Read.val_main_v1, Cert.InRefIdeal.Read.val_main_v0,
    Cert.InRefIdeal.Read.val_main_cst, Cert.InRefIdeal.Read.val_main_cst_0, Cert.InRefIdeal.Read.val_main_cst_1,
    Cert.InRefIdeal.Read.val_main_cst_2, Cert.InRefIdeal.Read.val_main_cst_5, Cert.InRefIdeal.Read.val_main_cst_6,
    Cert.InRefIdeal.Read.val_main_cst_7, Cert.InRefIdeal.Read.val_main_call0_v0, Cert.InRefIdeal.Read.val_main_c, reduce_outer]
  rw [sitofp_zero]
  unfold rowOr0
  split
  · simp only [Norm.dx_1024, Norm.back, Norm.rs, Norm.ms, add_assoc]
  · rfl

theorem ref44 (H : FVec Ideal S1x2064x1024 .f32) (U : FVec Ideal S1024x2568 .f32) (D : FVec Ideal S1x2064x2568 .f32)
    (a : Fin 8) (j : Fin 1024) :
    Cert.InRefIdeal.Read.val_main_v44 (F := Ideal) H U D (ix2 a j) = ∑ r : Fin 2064, (H (ix3 0 r j)
      * Norm.rs (Ideal.ofBits .f32 0x44800000#32) Norm.eps fun k => H (ix3 0 r k))
        * ∑ l : Fin 2568, D (ix3 0 r l) * U (ix2 j l) := by
  rw [← Cert.InRefIdeal.Read.val_main_v44_eq]
  pointwise [reduce_lead]
  rfl

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![0, 0] ∧ win0_7.index t = ![t.val, 0] ∧ win0_8.index t = ![0, 0] ∧ win0_9.index t = ![t.val, 0]
    ∧ win0_10.index t = ![t.val, 0] ∧ win0_11.index t = ![t.val, 0] ∧ win0_12.index t = ![0, 0] :=
  (by decide +kernel : ∀ t : Fin grid0.N, _)

/-- The program's arguments on one device: the layer's input, the gain, the weight, the two cotangents. -/
abbrev argH (c : Dev nD) : FVec Ideal S1x2064x1024 .f32 := m ((c : Thread nD τ).loc main_arg0)
abbrev argG (c : Dev nD) : FVec Ideal S1024 .f32 := m ((c : Thread nD τ).loc main_arg1)
abbrev argU (c : Dev nD) : FVec Ideal S1024x2568 .f32 := m ((c : Thread nD τ).loc main_arg2)
abbrev argC (c : Dev nD) : FVec Ideal S1x2064x1024 .f32 := m ((c : Thread nD τ).loc main_arg3)
abbrev argD (c : Dev nD) : FVec Ideal S1x2064x2568 .f32 := m ((c : Thread nD τ).loc main_arg4)

/-- The packed weight's row `R` is the column of the weight that the packing puts there; the last 120 rows are zero. -/
theorem entry_w (c : Dev nD) (R : Fin 2688) (j : Fin 1024) :
    (V m c main_v6 : FVec Ideal S2688x1024 .bf16) (ix2 R j)
    = if h : (R : ℕ) < 1536 then argU m c (ix2 j ⟨R, by omega⟩) else
      if h : (R : ℕ) < 2560 then argU m c (ix2 j ⟨R + 8, by omega⟩) else
      if h : (R : ℕ) < 2568 then argU m c (ix2 j ⟨R - 1024, by omega⟩) else 0 := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  after_results_simp
  pointwise
  by_cases h1 : (R : ℕ) < 1536
  · rw [dif_pos h1, dif_pos h1]
  rw [dif_neg h1, dif_neg h1]
  by_cases h2 : (R : ℕ) < 2560
  · rw [dif_pos (show (R : ℕ) - 1536 < 1024 by omega), dif_pos h2]
    exact congrArg (fun l : Fin 2568 => argU m c (ix2 j l)) (Fin.ext (by (try simp) <;> omega))
  rw [dif_neg (show ¬ (R : ℕ) - 1536 < 1024 by omega), dif_neg h2]
  by_cases h3 : (R : ℕ) < 2568
  · rw [dif_pos (show (R : ℕ) - 1536 - 1024 < 8 by omega), dif_pos h3]
    exact congrArg (fun l : Fin 2568 => argU m c (ix2 j l)) (Fin.ext (by (try simp) <;> omega))
  rw [dif_neg (show ¬ (R : ℕ) - 1536 - 1024 < 8 by omega), dif_neg h3]

theorem entry_v10 (c : Dev nD) (r : Fin 2176) (k : Fin 512) :
    (V m c main_v10 : FVec Ideal S2176x512 .bf16) (ix2 r k) = rowOr0 r fun r => argD m c (ix3 0 r ⟨k, by omega⟩) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  rw [sitofp_zero]
  exact rowOr0_and (by omega) r fun r => argD m c (ix3 0 r ⟨k, by omega⟩)

theorem entry_v11 (c : Dev nD) (r : Fin 2176) (k : Fin 512) :
    (V m c main_v11 : FVec Ideal S2176x512 .bf16) (ix2 r k) = rowOr0 r fun r => argD m c (ix3 0 r ⟨512 + k, by omega⟩) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  rw [sitofp_zero]
  exact rowOr0_and (by omega) r fun r => argD m c (ix3 0 r ⟨512 + k, by omega⟩)

theorem entry_v12 (c : Dev nD) (r : Fin 2176) (k : Fin 512) :
    (V m c main_v12 : FVec Ideal S2176x512 .bf16) (ix2 r k) = rowOr0 r fun r => argD m c (ix3 0 r ⟨1024 + k, by omega⟩) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  rw [sitofp_zero]
  exact rowOr0_and (by omega) r fun r => argD m c (ix3 0 r ⟨1024 + k, by omega⟩)

theorem entry_v14 (c : Dev nD) (r : Fin 2176) (k : Fin 512) :
    (V m c main_v14 : FVec Ideal S2176x512 .bf16) (ix2 r k) = rowOr0 r fun r => argD m c (ix3 0 r ⟨1544 + k, by omega⟩) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  rw [sitofp_zero]
  exact rowOr0_and (by omega) r fun r => argD m c (ix3 0 r ⟨1544 + k, by omega⟩)

theorem entry_v15 (c : Dev nD) (r : Fin 2176) (k : Fin 512) :
    (V m c main_v15 : FVec Ideal S2176x512 .bf16) (ix2 r k) = rowOr0 r fun r => argD m c (ix3 0 r ⟨2056 + k, by omega⟩) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  rw [sitofp_zero]
  exact rowOr0_and (by omega) r fun r => argD m c (ix3 0 r ⟨2056 + k, by omega⟩)

theorem entry_v16 (c : Dev nD) (r : Fin 2176) (k : Fin 128) :
    (V m c main_v16 : FVec Ideal S2176x128 .bf16) (ix2 r k)
    = if h : (k : ℕ) < 8 then rowOr0 r fun r => argD m c (ix3 0 r ⟨1536 + k, by omega⟩) else 0 := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  rw [sitofp_zero, sitofp_zero_bf16]
  refine dite_congr rfl (fun h => ?_) fun _ => rfl
  exact rowOr0_and (by omega) r fun r => argD m c (ix3 0 r ⟨1536 + k, by omega⟩)

theorem entry_h (c : Dev nD) (r : Fin 2176) (k : Fin 1024) :
    (V m c main_v18 : FVec Ideal S2176x1024 .f32) (ix2 r k) = rowOr0 r fun r => argH m c (ix3 0 r k) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  rw [sitofp_zero]
  rfl

theorem entry_g (c : Dev nD) (k : Fin 1024) :
    (V m c main_v19 : FVec Ideal S1x1024 .f32) (ix2 0 k) = argG m c (ix1 k) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise

theorem entry_c (c : Dev nD) (r : Fin 2176) (k : Fin 1024) :
    (V m c main_v21 : FVec Ideal S2176x1024 .f32) (ix2 r k) = rowOr0 r fun r => argC m c (ix3 0 r k) := by
  unfold V
  simp only [hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.unary, StableHlo.TRef.nary, StableHlo.TRef.toBuf, StableHlo.TRef.ofBuf, cast_eq]
  after_results_simp
  pointwise
  rw [sitofp_zero]
  rfl

/-- The blocks a grid point works on, at their own types. -/
abbrev bD0 (c : Dev nD) (t : Fin cfg0.N) : FVec Ideal S544x512 .bf16 := iblk m c 0 t
abbrev bD1 (c : Dev nD) (t : Fin cfg0.N) : FVec Ideal S544x512 .bf16 := iblk m c 1 t
abbrev bD2 (c : Dev nD) (t : Fin cfg0.N) : FVec Ideal S544x512 .bf16 := iblk m c 2 t
abbrev bD3 (c : Dev nD) (t : Fin cfg0.N) : FVec Ideal S544x512 .bf16 := iblk m c 3 t
abbrev bD4 (c : Dev nD) (t : Fin cfg0.N) : FVec Ideal S544x512 .bf16 := iblk m c 4 t
abbrev bD5 (c : Dev nD) (t : Fin cfg0.N) : FVec Ideal S544x128 .bf16 := iblk m c 5 t
abbrev bW (c : Dev nD) (t : Fin cfg0.N) : FVec Ideal S2688x1024 .bf16 := iblk m c 6 t
abbrev bH (c : Dev nD) (t : Fin cfg0.N) : FVec Ideal S544x1024 .f32 := iblk m c 7 t
abbrev bG (c : Dev nD) (t : Fin cfg0.N) : FVec Ideal S1x1024 .f32 := iblk m c 8 t
abbrev bC (c : Dev nD) (t : Fin cfg0.N) : FVec Ideal S544x1024 .f32 := iblk m c 9 t

/-- The row ranges of the packed weight the body reads. -/
abbrev w0 (c : Dev nD) (t : Fin cfg0.N) : FVec Ideal S512x1024 .bf16 :=
  View.ld (iblk m c 6 t) (Rect.unit ![0, 0] ![512, 1024] inb_S2688x1024_S512x1024_0_0)
abbrev w1 (c : Dev nD) (t : Fin cfg0.N) : FVec Ideal S512x1024 .bf16 :=
  View.ld (iblk m c 6 t) (Rect.unit ![512, 0] ![512, 1024] inb_S2688x1024_S512x1024_512_0)
abbrev w2 (c : Dev nD) (t : Fin cfg0.N) : FVec Ideal S512x1024 .bf16 :=
  View.ld (iblk m c 6 t) (Rect.unit ![1024, 0] ![512, 1024] inb_S2688x1024_S512x1024_1024_0)
abbrev w3 (c : Dev nD) (t : Fin cfg0.N) : FVec Ideal S512x1024 .bf16 :=
  View.ld (iblk m c 6 t) (Rect.unit ![1536, 0] ![512, 1024] inb_S2688x1024_S512x1024_1536_0)
abbrev w4 (c : Dev nD) (t : Fin cfg0.N) : FVec Ideal S512x1024 .bf16 :=
  View.ld (iblk m c 6 t) (Rect.unit ![2048, 0] ![512, 1024] inb_S2688x1024_S512x1024_2048_0)
abbrev w5 (c : Dev nD) (t : Fin cfg0.N) : FVec Ideal S128x1024 .bf16 :=
  View.ld (iblk m c 6 t) (Rect.unit ![2560, 0] ![128, 1024] inb_S2688x1024_S128x1024_2560_0)

/-- The cotangent of the normed rows a grid point forms. -/
abbrev dz (c : Dev nD) (t : Fin cfg0.N) : FVec Ideal S544x1024 .f32 :=
  k0_pay7 (k0_pay5 (bD0 m c t) (w0 m c t) (bD1 m c t) (w1 m c t) (bD2 m c t) (w2 m c t) (bD3 m c t) (w3 m c t))
    (k0_pay6 (bD4 m c t) (w4 m c t)) (bD5 m c t) (w5 m c t)

theorem row_lt (t : Fin cfg0.N) (r : Fin 544) : t.val * 544 + r.val < 2176 := by
  have ht : t.val < 4 := lt_of_lt_of_eq t.isLt N_0
  have := r.isLt
  omega

theorem blk_w (c : Dev nD) (t : Fin cfg0.N) (R : Fin 2688) (j : Fin 1024) :
    bW m c t (ix2 R j) = (V m c main_v6 : FVec Ideal S2688x1024 .bf16) (ix2 R j) := by
  blk_ext [bW, iblk, idx t]

theorem blk_h (c : Dev nD) (t : Fin cfg0.N) (r : Fin 544) (k : Fin 1024) :
    bH m c t (ix2 r k) = rowOr0 ⟨t * 544 + r, row_lt t r⟩ fun r => argH m c (ix3 0 r k) :=
  Eq.trans (by blk_ext [bH, iblk, idx t]) (entry_h m c ⟨t * 544 + r, row_lt t r⟩ k)

theorem blk_c (c : Dev nD) (t : Fin cfg0.N) (r : Fin 544) (k : Fin 1024) :
    bC m c t (ix2 r k) = rowOr0 ⟨t * 544 + r, row_lt t r⟩ fun r => argC m c (ix3 0 r k) :=
  Eq.trans (by blk_ext [bC, iblk, idx t]) (entry_c m c ⟨t * 544 + r, row_lt t r⟩ k)

theorem blk_g (c : Dev nD) (t : Fin cfg0.N) (k : Fin 1024) : bG m c t (ix2 0 k) = argG m c (ix1 k) :=
  Eq.trans (by blk_ext [bG, iblk, idx t]) (entry_g m c k)

theorem blk_d0 (c : Dev nD) (t : Fin cfg0.N) (r : Fin 544) (k : Fin 512) :
    bD0 m c t (ix2 r k) = rowOr0 ⟨t * 544 + r, row_lt t r⟩ fun r => argD m c (ix3 0 r ⟨k, by omega⟩) :=
  Eq.trans (by blk_ext [bD0, iblk, idx t]) (entry_v10 m c ⟨t * 544 + r, row_lt t r⟩ k)
theorem blk_d1 (c : Dev nD) (t : Fin cfg0.N) (r : Fin 544) (k : Fin 512) :
    bD1 m c t (ix2 r k) = rowOr0 ⟨t * 544 + r, row_lt t r⟩ fun r => argD m c (ix3 0 r ⟨512 + k, by omega⟩) :=
  Eq.trans (by blk_ext [bD1, iblk, idx t]) (entry_v11 m c ⟨t * 544 + r, row_lt t r⟩ k)
theorem blk_d2 (c : Dev nD) (t : Fin cfg0.N) (r : Fin 544) (k : Fin 512) :
    bD2 m c t (ix2 r k) = rowOr0 ⟨t * 544 + r, row_lt t r⟩ fun r => argD m c (ix3 0 r ⟨1024 + k, by omega⟩) :=
  Eq.trans (by blk_ext [bD2, iblk, idx t]) (entry_v12 m c ⟨t * 544 + r, row_lt t r⟩ k)
theorem blk_d3 (c : Dev nD) (t : Fin cfg0.N) (r : Fin 544) (k : Fin 512) :
    bD3 m c t (ix2 r k) = rowOr0 ⟨t * 544 + r, row_lt t r⟩ fun r => argD m c (ix3 0 r ⟨1544 + k, by omega⟩) :=
  Eq.trans (by blk_ext [bD3, iblk, idx t]) (entry_v14 m c ⟨t * 544 + r, row_lt t r⟩ k)
theorem blk_d4 (c : Dev nD) (t : Fin cfg0.N) (r : Fin 544) (k : Fin 512) :
    bD4 m c t (ix2 r k) = rowOr0 ⟨t * 544 + r, row_lt t r⟩ fun r => argD m c (ix3 0 r ⟨2056 + k, by omega⟩) :=
  Eq.trans (by blk_ext [bD4, iblk, idx t]) (entry_v15 m c ⟨t * 544 + r, row_lt t r⟩ k)
theorem blk_d5 (c : Dev nD) (t : Fin cfg0.N) (r : Fin 544) (k : Fin 128) :
    bD5 m c t (ix2 r k)
    = if h : (k : ℕ) < 8 then rowOr0 ⟨t * 544 + r, row_lt t r⟩ fun r => argD m c (ix3 0 r ⟨1536 + k, by omega⟩) else 0 :=
  Eq.trans (by blk_ext [bD5, iblk, idx t]) (entry_v16 m c ⟨t * 544 + r, row_lt t r⟩ k)

/-- The ranges of the packed weight, read at the argument. -/
theorem blk_w0 (c : Dev nD) (t : Fin cfg0.N) (k : Fin 512) (j : Fin 1024) :
    w0 m c t (ix2 k j) = argU m c (ix2 j ⟨k, by omega⟩) := by
  refine Eq.trans (b := bW m c t (ix2 ⟨k, by omega⟩ j)) (by unfold w0; pointwise) ?_
  rw [blk_w, entry_w, dif_pos (by simp; omega)]
theorem blk_w1 (c : Dev nD) (t : Fin cfg0.N) (k : Fin 512) (j : Fin 1024) :
    w1 m c t (ix2 k j) = argU m c (ix2 j ⟨512 + k, by omega⟩) := by
  refine Eq.trans (b := bW m c t (ix2 ⟨512 + k, by omega⟩ j)) (by unfold w1; pointwise) ?_
  rw [blk_w, entry_w, dif_pos (by simp; omega)]
theorem blk_w2 (c : Dev nD) (t : Fin cfg0.N) (k : Fin 512) (j : Fin 1024) :
    w2 m c t (ix2 k j) = argU m c (ix2 j ⟨1024 + k, by omega⟩) := by
  refine Eq.trans (b := bW m c t (ix2 ⟨1024 + k, by omega⟩ j)) (by unfold w2; pointwise) ?_
  rw [blk_w, entry_w, dif_pos (by simp; omega)]
theorem blk_w3 (c : Dev nD) (t : Fin cfg0.N) (k : Fin 512) (j : Fin 1024) :
    w3 m c t (ix2 k j) = argU m c (ix2 j ⟨1544 + k, by omega⟩) := by
  refine Eq.trans (b := bW m c t (ix2 ⟨1536 + k, by omega⟩ j)) (by unfold w3; pointwise) ?_
  rw [blk_w, entry_w, dif_neg (by simp <;> omega), dif_pos (by simp; omega)]
  exact congrArg (fun l : Fin 2568 => argU m c (ix2 j l)) (Fin.ext (by (try simp) <;> omega))
theorem blk_w4 (c : Dev nD) (t : Fin cfg0.N) (k : Fin 512) (j : Fin 1024) :
    w4 m c t (ix2 k j) = argU m c (ix2 j ⟨2056 + k, by omega⟩) := by
  refine Eq.trans (b := bW m c t (ix2 ⟨2048 + k, by omega⟩ j)) (by unfold w4; pointwise) ?_
  rw [blk_w, entry_w, dif_neg (by simp <;> omega), dif_pos (by simp; omega)]
  exact congrArg (fun l : Fin 2568 => argU m c (ix2 j l)) (Fin.ext (by (try simp) <;> omega))
theorem blk_w5 (c : Dev nD) (t : Fin cfg0.N) (k : Fin 128) (j : Fin 1024) :
    w5 m c t (ix2 k j) = if h : (k : ℕ) < 8 then argU m c (ix2 j ⟨1536 + k, by omega⟩) else 0 := by
  refine Eq.trans (b := bW m c t (ix2 ⟨2560 + k, by omega⟩ j)) (by unfold w5; pointwise) ?_
  rw [blk_w, entry_w, dif_neg (by simp; omega), dif_neg (by simp <;> omega)]
  by_cases h : (k : ℕ) < 8
  · rw [dif_pos (show 2560 + (k : ℕ) < 2568 by omega), dif_pos h]
    exact congrArg (fun l : Fin 2568 => argU m c (ix2 j l)) (Fin.ext (by (try simp) <;> omega))
  · rw [dif_neg (show ¬ 2560 + (k : ℕ) < 2568 by omega), dif_neg h]

/-- The last piece's product is over its 8 columns: the other 120 are zero on both sides. -/
theorem sum_gate (f g : Fin 8 → EReal) :
    (∑ k : Fin 128, (if h : (k : ℕ) < 8 then f ⟨k, h⟩ else 0) * (if h : (k : ℕ) < 8 then g ⟨k, h⟩ else 0)) = ∑ k, f k * g k := by
  rw [Fin.sum_univ_two_halves 8 120 rfl]
  have h2 : ∑ b : Fin 120, (if h : 8 + (b : ℕ) < 8 then f ⟨8 + b, h⟩ else 0) * (if h : 8 + (b : ℕ) < 8 then g ⟨8 + b, h⟩ else 0) = 0 :=
    Finset.sum_eq_zero fun b _ => by rw [dif_neg (by omega)]; exact zero_mul _
  refine (congrArg₂ _ (Finset.sum_congr rfl fun a _ => ?_) h2).trans (add_zero _)
  rw [dif_pos a.isLt, dif_pos a.isLt]

theorem dz_apply (c : Dev nD) (t : Fin cfg0.N) (r : Fin 544) (j : Fin 1024) :
    dz m c t (ix2 r j) = rowOr0 ⟨t * 544 + r, row_lt t r⟩ fun r => ∑ l : Fin 2568, argD m c (ix3 0 r l) * argU m c (ix2 j l) := by
  rw [dz, pay7]
  simp only [blk_d0, blk_d1, blk_d2, blk_d3, blk_d4, blk_d5, blk_w0, blk_w1, blk_w2, blk_w3, blk_w4, blk_w5]
  unfold rowOr0
  split
  · rename_i h
    refine Eq.trans (congrArg₂ _ rfl ?_) (sum_pieces fun l => argD m c (ix3 0 ⟨t * 544 + r, h⟩ l) * argU m c (ix2 j l))
    exact sum_gate (fun k => argD m c (ix3 0 ⟨t * 544 + r, h⟩ ⟨1536 + k, by omega⟩)) fun k => argU m c (ix2 j ⟨1536 + k, by omega⟩)
  · simp

/-- The rows the body stores at a grid point. -/
abbrev dh (c : Dev nD) (t : Fin cfg0.N) : FVec Ideal S544x1024 .f32 :=
  k0_pay12 (k0_pay5 (bD0 m c t) (w0 m c t) (bD1 m c t) (w1 m c t) (bD2 m c t) (w2 m c t) (bD3 m c t) (w3 m c t))
    (k0_pay6 (bD4 m c t) (w4 m c t)) (bD5 m c t) (w5 m c t) (bH m c t) (bG m c t) (bC m c t)

theorem out10 (c : Dev nD) (t : Fin cfg0.N) : (outsAt0 m c t.val t.isLt).1 = k0_pay1 (dh m c t) := by
  by_cases h : t.val % 4 = 0
  · rw [outsAt0_A m c t h]; frame_out; rfl
  · rw [outsAt0_B m c t h]; frame_out; rfl

theorem out11 (c : Dev nD) (t : Fin cfg0.N) : (outsAt0 m c t.val t.isLt).2.1 = k0_pay2 (dh m c t) := by
  by_cases h : t.val % 4 = 0
  · rw [outsAt0_A m c t h]; frame_out; rfl
  · rw [outsAt0_B m c t h]; frame_out; rfl

theorem point (c : Dev nD) (t : Fin cfg0.N) (r : Fin 544) (j : Fin 1024) (R : Fin 2176) (hR : (R : ℕ) = t * 544 + r) :
    dh m c t (ix2 r j)
    = Cert.InRefIdeal.Read.val_main_v41 (F := Ideal) (argH m c) (argG m c) (argU m c) (argC m c) (argD m c) (ix2 R j) := by
  obtain rfl : R = ⟨t * 544 + r, row_lt t r⟩ := Fin.ext hR
  rw [ref41, dh, pay12]
  simp only [blk_h, blk_c, blk_g, dz_apply]
  unfold rowOr0
  split
  · rfl
  · rw [Norm.dx_zero _ _ _ _ (fun _ => rfl) (fun _ => zero_mul _), add_zero]

theorem final_10 (c : Dev nD) : (dats m 0 c).arrAt 10 (cfgs 0).N
    = Cert.InRefIdeal.Read.val_main_v41 (F := Ideal) (argH m c) (argG m c) (argU m c) (argC m c) (argD m c) := by
  refine (dats m 0 c).arrAt_eq_of_covers 10 _ (by decide +kernel) fun t hf y => ?_
  blk_simp; rw [after0_10, out10]
  refine (congrArg _ (eq_ix2 y)).trans ((pay1 ..).trans ((point m c t (y 0) (y 1) ⟨_, row_lt t (y 0)⟩ rfl).trans
    (congrArg _ (Eq.symm ?_))))
  blk_ext [idx t]

theorem final_11 (c : Dev nD) : (dats m 0 c).arrAt 11 (cfgs 0).N
    = Cert.InRefIdeal.Read.val_main_v42 (F := Ideal) (argH m c) (argG m c) (argU m c) (argC m c) (argD m c) := by
  refine (dats m 0 c).arrAt_eq_of_covers 11 _ (by decide +kernel) fun t hf y => ?_
  blk_simp; rw [after0_11, out11]
  refine (congrArg _ (eq_ix2 y)).trans ((pay2 ..).trans ((point m c t (y 0) (y 1) ⟨_, row_lt t (y 0)⟩ rfl).trans
    (congrArg (Cert.InRefIdeal.Read.val_main_v41 (F := Ideal) (argH m c) (argG m c) (argU m c) (argC m c) (argD m c)) (Eq.symm ?_))))
  blk_ext [idx t]

/-- What a grid point adds to the gain's gradient. -/
abbrev part (c : Dev nD) (t : Fin cfg0.N) (y : S8x1024.Idx) : EReal :=
  ∑ r : Fin 544, dz m c t (ix2 r (y 1)) * (bH m c t (ix2 r (y 1))
      * Norm.rs (Ideal.ofBits .f32 0x44800000#32) Norm.eps (fun k => bH m c t (ix2 r k)))

theorem part_sum (c : Dev nD) (y : S8x1024.Idx) : ∑ t, part m c t y
    = Cert.InRefIdeal.Read.val_main_v44 (F := Ideal) (argH m c) (argU m c) (argD m c) y := by
  obtain ⟨a, k, rfl⟩ : ∃ a k, y = ix2 a k := ⟨y 0, y 1, eq_ix2 y⟩
  refine Eq.trans ?_ (ref44 (argH m c) (argU m c) (argD m c) a k).symm
  refine Eq.trans (Finset.sum_congr rfl fun t _ => Finset.sum_congr rfl fun r _ => ?_) ((sum_blocks N_0 fun R => rowOr0 R fun r =>
    (argH m c (ix3 0 r k) * Norm.rs (Ideal.ofBits .f32 0x44800000#32) Norm.eps fun k => argH m c (ix3 0 r k))
      * ∑ l : Fin 2568, argD m c (ix3 0 r l) * argU m c (ix2 k l)).trans (sum_padded _ _ fun _ => rfl))
  show dz m c t (ix2 r k) * (bH m c t (ix2 r k) * _) = _
  simp only [blk_h, dz_apply]
  unfold rowOr0
  split
  · exact mul_comm (G := EReal) _ _
  · exact zero_mul (M₀ := EReal) _

theorem final_12 (c : Dev nD) : (dats m 0 c).arrAt 12 (cfgs 0).N
    = Cert.InRefIdeal.Read.val_main_v44 (F := Ideal) (argH m c) (argU m c) (argD m c) := by
  refine (dats m 0 c).arrAt_eq_of_after_last 12 t0_3 (by decide +kernel) _ fun j => ?_
  blk_simp
  rw [after0_12, Pipeline.eq_sum_fin_of_reset_step_apply_last (fun n h => (outsAt0 m c n h).2.2) 4 (fun _ => 0) (part m c)
    (fun t h j => by rw [outsAt0_A m c t h]; frame_out; rw [pay3, pay4]; rfl)
    (fun t h j => by rw [outsAt0_B m c t h]; frame_out; rw [pay3]; rfl) (le_of_eq N_0) t0_3 rfl j, zero_add]
  exact part_sum m c j

end Cert.InIdeal.In
end
-- ==== Proof.GateRun.lean ====
/- The forget gate's gradient: one run of the kernel, its loop by an invariant that says what the scratch holds. -/
module

public import proofs.«01_k».proof.Proof.Gen.GateIdeal.Frame
public import proofs.«01_k».proof.Proof.Gen.GateIdeal.Skeleton
public import Idealize.ShloMosaic.Lib.Claim
public import Idealize.ShloMosaic.Lib.WritesUnit
public import Idealize.ShloMosaic.Lib.WholeRead
public import Idealize.ShloMosaic.Lib.VecWindow

@[expose] public section

set_option maxRecDepth 16384

noncomputable section

namespace Cert.GateIdeal.Hand

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the kernel computes, trip by trip -/

/-- The eight rows of an array that trip `k` reads: tile `271 - k`. -/
def tile (x : Vec F S2176x128 .f32) (k : Fin k0_t1_loop.trips) : Vec F S8x128 .f32 :=
  View.ld x (Rect.unit (s := S2176x128) (k0_off1 k) S8x128.size (k0_off1_inb k))

/-- The row number of each element of a tile. -/
abbrev rowNo : IVec S8x128 32 := iota .tc S8x128 32 [0] iota_S8x128_d0_w32

variable (x : Vec F S2176x128 .f32) (b : Vec F S1x128 .f32) (y : Vec F S2176x128 .f32)

/-- What the loop carries before trip `k`: the sum of the rows already passed, and the running tile of results. -/
def carry : ℕ → FVec F S1x128 .f32 × FVec F S8x128 .f32
  | 0 => (k0_pay2, k0_pay3)
  | k + 1 => if h : k < k0_t1_loop.trips then
      (k0_pay5 (k0_pay9 rowNo (carry k).1 (tile y ⟨k, h⟩)),
        k0_pay6 (carry k).2 (k0_pay10 (k0_pay1 b) rowNo (carry k).1 (tile y ⟨k, h⟩) (tile x ⟨k, h⟩)))
    else carry k

/-- The tile trip `k` stores. -/
def out (k : Fin k0_t1_loop.trips) : FVec F S8x128 .f32 :=
  k0_pay4 (k0_pay10 (k0_pay1 b) rowNo (carry x b y k).1 (tile y k) (tile x k))

theorem trips_eq : k0_t1_loop.trips = 272 := by decide

/-- The trip that writes a row. -/
def tripOf (i : S2176x128.Idx) : Fin k0_t1_loop.trips :=
  ⟨271 - (i 0).val / 8, by rw [trips_eq]; omega⟩

/-- A row's place in its tile. -/
def inTile (i : S2176x128.Idx) : S8x128.Idx := fun a => match a with
  | ⟨0, _⟩ => ⟨(i 0).val % 8, Nat.mod_lt _ (by decide)⟩
  | ⟨1, _⟩ => ⟨(i 1).val, (i 1).isLt⟩

/-- What the loop leaves in the scratch. -/
def table : Vec F S2176x128 .f32 := fun i => out x b y (tripOf i) (inTile i)

/-! ## The loop -/

variable (c : Dev nD) (i : grid0.Coords) (arg1 : Memref sig .tc .vmem S2176x128 .f32) (harg1 : arg1.IsWhole)
  (arg2 : Memref sig .tc .vmem S1x128 .f32) (harg2 : arg2.IsWhole) (arg3 : Memref sig .tc .vmem S2176x128 .f32) (harg3 : arg3.IsWhole)
  (arg4 : Memref sig .tc .vmem S2176x128 .bf16) (harg4 : arg4.IsWhole) (arg5 : Memref sig .tc .vmem S8x128 .f32) (harg5 : arg5.IsWhole)
  (arg6 : Memref sig .tc .vmem S2176x128 .f32) (harg6 : arg6.IsWhole)

/-- Before trip `k`: the two arrays read as they came, the scratch's last `8 k` rows written, the carried pair. -/
def inv (k : ℕ) (acc : FVec F S1x128 .f32 × FVec F S8x128 .f32) : sProp 𝕄 :=
  iprop((arg1.view.loc (c : Thread nD τ) ↦[arg1.view.set]{fullShare} harg1.unread x)
    ∗ (arg3.view.loc (c : Thread nD τ) ↦[arg3.view.set]{fullShare} harg3.unread y)
    ∗ (∃ f, (arg6.view.loc (c : Thread nD τ) ↦[arg6.view.set]{fullShare} f)
        ∗ ⌜∀ i : S2176x128.Idx, 2176 ≤ (i 0).val + 8 * k → arg6.view.read (Elt F) f i = table x b y i⌝)
    ∗ ⌜acc = carry x b y k⌝)

/-- A tile read off an array held whole. -/
theorem read_tile (m : Memref sig .tc .vmem S2176x128 .f32) (h : m.IsWhole) (z : Vec F S2176x128 .f32) (k : Fin k0_t1_loop.trips) :
    View.readAt (Elt F) m.view (Rect.unit (s := S2176x128) (k0_off1 k) S8x128.size (k0_off1_inb k)).toLoadRect (h.unread z) = tile z k :=
  funext fun j => h.readAt_unread z _ j

/-- The bias row loaded whole. -/
theorem read_bias (m : Memref sig .tc .vmem S1x128 .f32) (h : m.IsWhole) (z : Vec F S1x128 .f32) :
    View.readAt (Elt F) m.view (Rect.unit (s := S1x128) ![0, 0] S1x128.size inb_S1x128_S1x128_0_0).toLoadRect (h.unread z) = z :=
  funext fun j => (h.readAt_unread z _ j).trans (congrArg z (funext fun a => Fin.ext (match a with
    | ⟨0, _⟩ => by show 0 + 1 * (j 0).val = (j 0).val; omega
    | ⟨1, _⟩ => by show 0 + 1 * (j 1).val = (j 1).val; omega)))

theorem step (k : Fin k0_t1_loop.trips) (acc : FVec F S1x128 .f32 × FVec F S8x128 .f32) :
    inv x b y c arg1 harg1 arg3 harg3 arg6 k acc
      ⊢ wp frame (wpE (defs₀ (F := F)) Variants.none (c : Thread nD τ) none) Set.univ
          (k0_t1_body i arg1 harg1 arg2 harg2 arg3 harg3 arg4 harg4 arg5 harg5 arg6 harg6 b rowNo k acc)
          (inv x b y c arg1 harg1 arg3 harg3 arg6 (k.val + 1)) := by
  have hk : k.val < 272 := trips_eq ▸ k.isLt
  unfold inv k0_t1_body
  iintro ⟨H1, H3, ⟨%f, H6, %hf⟩, %hacc⟩
  subst hacc
  sl_exec
  sl_step
  isplitl [H1]; · iexact H1
  isplitl [H3]; · iexact H3
  isplitl [H6]
  · iexists _; isplitl [H6]; · iexact H6
    ipureintro
    intro j hj
    rw [View.read_writes_cons_rows arg6.view f (k0_off1_inb k) _ [] j (k0_off1_eq k) (W := 8) rfl rfl]
    split
    · rename_i h
      have ht : tripOf j = k := Fin.ext (by show 271 - (j 0).val / 8 = k.val; have := h.1; have := h.2; omega)
      unfold table out
      rw [ht]
      unfold step.sl.r_1
      rw [read_tile, read_tile]
      refine congrArg _ (funext fun a => Fin.ext ?_)
      rw [Rect.unitLocal_val]
      match a with
      | ⟨0, _⟩ => show (j 0).val - (2168 - 8 * k.val) = (j 0).val % 8; have := h.1; have := h.2; omega
      | ⟨1, _⟩ => rfl
    · rename_i h
      refine hf j ?_
      by_contra hlt
      exact h (by constructor <;> omega)
  ipureintro
  unfold step.sl.r step.sl.r_1
  rw [read_tile, read_tile, carry, dif_pos k.isLt]

set_option warn.classDefReducibility false in
/-- The loop by that invariant. -/
def loopInv : LoopInv (M := 𝕄) frame (wpE (defs₀ (F := F)) Variants.none (c : Thread nD τ) none) Set.univ
    k0_t1_loop.lb k0_t1_loop.ub k0_t1_loop.st k0_t1_ok (k0_pay2 (F := F), k0_pay3 (F := F))
    (k0_t1_body (F := F) i arg1 harg1 arg2 harg2 arg3 harg3 arg4 harg4 arg5 harg5 arg6 harg6 b rowNo) where
  inv := inv x b y c arg1 harg1 arg3 harg3 arg6
  step := step x b y c i arg1 harg1 arg2 harg2 arg3 harg3 arg4 harg4 arg5 harg5 arg6 harg6

/-! ## The whole body -/

/-- The first result: the scratch in the narrow format. -/
def outF : FVec F S2176x128 .bf16 := k0_pay7 (table x b y)
/-- The second: the running tile's column sums, in every row. -/
def outB : FVec F S8x128 .f32 := k0_pay8 (carry x b y 272).2

set_option maxHeartbeats 1000000 in
theorem run (K : PUnit → sProp 𝕄) :
    iprop(owns (c : Thread nD τ) arg1 fullShare x ∗ owns (c : Thread nD τ) arg2 fullShare b ∗ owns (c : Thread nD τ) arg3 fullShare y
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b ∗ owns (c : Thread nD τ) arg3 fullShare y
            ∗ owns (c : Thread nD τ) arg4 fullShare (outF x b y) ∗ owns (c : Thread nD τ) arg5 fullShare (outB x b y)
            ∗ (∃ d, owns (c : Thread nD τ) arg6 fullShare d)) -∗ K ⟨⟩))
      ⊢ wp frame (wpE (defs₀ (F := F)) Variants.none c none) Set.univ (cc0_fgate_bwd i arg1 harg1 arg2 harg2 arg3 harg3 arg4 harg4 arg5 harg5 arg6 harg6) K := by
  simp only [cc0_fgate_bwd_eq_skeleton]; unfold cc0_fgate_bwd_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2

  sl_exec
  rw [read_bias]
  unfold run.sl.v2
  let L := loopInv x b y c i arg1 harg1 arg2 harg2 arg3 harg3 arg4 harg4 arg5 harg5 arg6 harg6
  have h0 : ∀ j : S2176x128.Idx, 2176 ≤ (j 0).val + 8 * 0 → arg6.view.read (Elt F) fs0 j = table x b y j := fun j hj => absurd (show (j 0).val < 2176 from (j 0).isLt) (by omega)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [View.read_writes_full]
    unfold outF
    rw [View.readAt_full]
    refine congrArg _ (funext fun j => hL3 j ?_)
    have ht : Scf.trips k0_t1_loop.lb k0_t1_loop.ub k0_t1_loop.st = 272 := trips_eq
    rw [ht]; omega
  isplitl [H4]
  · iexists _; isplitr; swap; · iexact H4
    ipureintro
    rw [View.read_writes_full]
    unfold outB
    have ht : Scf.trips k0_t1_loop.lb k0_t1_loop.ub k0_t1_loop.st = 272 := trips_eq
    rw [ht]
  iexists _, _; isplitr; swap; · iexact HS0
  ipureintro; rfl

end Cert.GateIdeal.Hand

end
-- ==== Proof.GateFrame.lean ====
/- The forget gate's gradient: the launch around the kernel's one run, what it leaves in both results, and the frames. -/
module

public import proofs.«01_k».proof.Proof.GateRun
public import proofs.«01_k».proof.Defs
public import proofs.«01_k».proof.Proof.Gen.Gate.Launch

@[expose] public section

set_option maxRecDepth 16384

noncomputable section

namespace Cert.GateIdeal.Hand

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant between points: the scratch at anything, and the generator's register. -/
theorem phi_eq (c : Dev nD) : (Pipeline.ΦA spec0 c : sProp 𝕄)
    = iprop((∃ f, owns (c : Thread nD τ) (Memref.whole cc0_scratch0) fullShare f) ∗ (∃ r, prngReg c r)) := by
  unfold Pipeline.ΦA; rw [scopedRest0_eq]; simp only [owns_whole]; try rfl

/-- What each window holds: the inputs their blocks, the results what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outF (iblk m c 0 t) (iblk m c 1 t) (iblk m c 2 t)
    | ⟨4, _⟩ => outB (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by dsimp only [dats]
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) :
    (dats m 0 c).after 3 t = outF (iblk m c 0 t) (iblk m c 1 t) (iblk m c 2 t) := by dsimp only [dats]
theorem left4 (c : Dev nD) (t : Fin cfg0.N) :
    (dats m 0 c).after 4 t = outB (iblk m c 0 t) (iblk m c 1 t) (iblk m c 2 t) := by dsimp only [dats]

theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem body_triple (c : Dev nD) (t : Fin cfg0.N) :
    pre m c t ⊢ wp frame (wpE (defs₀ (F := F)) Variants.none c none) Set.univ (bodyAt0 t) (fun _ => post m c t) := by
  unfold pre post bodyAt0
  simp only [found0, found1, found2]
  rw [show (dats m 0 c).Φ t.succ = (dats m 0 c).Φ t.castSucc from rfl,
    show (dats m 0 c).owesAt () t.succ = (dats m 0 c).owesAt () t.castSucc from rfl,
    left0, left1, left2, left3, left4]
  rw [show (dats m 0 c).Φ t.castSucc = Pipeline.ΦA spec0 c from rfl, phi_eq]
  iintro ⟨⟨HS0, Hg⟩, Ho, ⟨%d0, H0⟩, ⟨%d1, H1⟩, ⟨%d2, H2⟩, ⟨%d3, H3⟩, ⟨%d4, H4⟩⟩
  iapply (run (iblk m c 0 t) (iblk m c 1 t) (iblk m c 2 t) c (grid0.coords t) _ _ _ _ _ _ _ _ _ _ _ _ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, H3, H4, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  iexact H4

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_triple m c t) rfl .rfl fun _ => .rfl

set_option backward.isDefEq.respectTransparency.types false in
/-- The launch: it ends, every array of the pipeline at what the proof data say, and no semaphore counts. -/
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

/-- The arguments end as they began and no semaphore counts. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (run_main m ρ)) ((θ_run defs _ _).mono (fun _ h => h.2) (run_all m ρ))

end Cert.GateIdeal.Hand

open Idealize.ShloMosaic Idealize.SL.Sem in
/-- The same program at the machine's floats: its arguments end unchanged and no semaphore counts. -/
def Cert.GateIdeal.Hand.FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem Cert.Gate.same : Cert.GateIdeal.Hand.FrameBits = @Cert.quiescent_Gate Cert.Gate.Gen.facts := by
  sl_kernel_rfl

/-- The original's frame: it is the same program. -/
theorem Cert.Gate.frame_hand : @Cert.quiescent_Gate Cert.Gate.Gen.facts := by
  rw [← Cert.Gate.same]
  exact fun m g _ => Cert.GateIdeal.Hand.frame m g

end
-- ==== Proof.GateTiles.lean ====
/- The forget gate's gradient over the reals: the kernel's tiles of suffix sums, and the reference's own. -/
module

public import proofs.«01_k».proof.Proof.GateFrame
public import proofs.«01_k».proof.Proof.Common
public import proofs.«01_k».proof.Proof.Gen.GateRefIdeal.Read
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open scoped BigOperators
namespace Cert.GateIdeal.Hand
open Cert.GateIdeal Cert.GateIdeal.Gen Cert.Common

/-! ## Sums from a row to the end -/

/-- The sum of a column from row `n` to the last of the 2176. -/
def suf (f : ℕ → EReal) (n : ℕ) : EReal := ∑ i ∈ Finset.Ico n 2176, f i

theorem suf_end (f : ℕ → EReal) : suf f 2176 = 0 := by simp [suf]

/-- Eight more rows in front. -/
theorem suf_tile (f : ℕ → EReal) (n : ℕ) (h : n + 8 ≤ 2176) : suf f n = (∑ k : Fin 8, f (n + k)) + suf f (n + 8) := by
  unfold suf
  rw [← Finset.sum_Ico_consecutive f (Nat.le_add_right n 8) h, Finset.sum_Ico_eq_sum_range, Nat.add_sub_cancel_left,
    Fin.sum_univ_eq_sum_range (fun k => f (n + k)) 8]

/-- The same from a row inside the eight. -/
theorem suf_tail (f : ℕ → EReal) (n : ℕ) (h : n + 8 ≤ 2176) (a : Fin 8) :
    suf f (n + a) = (∑ k : Fin 8, if a ≤ k then f (n + k) else 0) + suf f (n + 8) := by
  unfold suf
  rw [← Finset.sum_Ico_consecutive f (show n + a ≤ n + 8 by omega) h]
  refine congrArg (· + _) ?_
  rw [Finset.sum_Ico_eq_sum_range, ← Finset.sum_filter]
  refine Finset.sum_bij' (fun i hi => (⟨a + i, by have := Finset.mem_range.mp hi; omega⟩ : Fin 8)) (fun k _ => k.val - a.val) ?_ ?_ ?_ ?_ ?_
  · intro i hi; rw [Finset.mem_filter]; exact ⟨Finset.mem_univ _, Fin.mk_le_mk.mpr (Nat.le_add_right _ _)⟩
  · intro k hk; have := (Finset.mem_filter.mp hk).2; rw [Finset.mem_range]; have h1 : a.val ≤ k.val := this; omega
  · intro i hi; exact Nat.add_sub_cancel_left ..
  · intro k hk; have h1 : a.val ≤ k.val := (Finset.mem_filter.mp hk).2; exact Fin.ext (by show a.val + (k.val - a.val) = k.val; omega)
  · intro i hi; exact congrArg f (Nat.add_assoc ..)

/-- A column that ends at row 2064 may be summed to any later row. -/
theorem sum_long (f : ℕ → EReal) (hf : ∀ n, 2064 ≤ n → f n = 0) (n M : ℕ) (hM : 2064 ≤ M) :
    ∑ i ∈ Finset.Ico n M, f i = ∑ i ∈ Finset.Ico n 2064, f i := by
  symm
  refine Finset.sum_subset (fun i hi => ?_) fun i hi hi' => hf i ?_
  · rw [Finset.mem_Ico] at hi ⊢; omega
  · rw [Finset.mem_Ico] at hi hi'; omega

/-! ## The kernel's tiles -/

/-- The derivative's factor. -/
abbrev sg (z : EReal) : EReal := Ideal.div 1 (1 + Ideal.exp (0 - (0 - z)))

theorem pay9 (A : FVec Ideal S1x128 .f32) (T : FVec Ideal S8x128 .f32) (a : Fin 8) (j : Fin 128) :
    k0_pay9 (F := Ideal) rowNo A T (ix2 a j) = (∑ k : Fin 8, if a ≤ k then T (ix2 k j) else 0) + A (ix2 0 j) := by
  pointwise [k0_pay9, rowNo]
  refine congrArg (· + _) ?_
  generalize hT : (fun k : Fin 8 => T (ix2 k j)) = f
  have e : ∀ k : Fin 8, T (ix2 k j) = f k := fun k => congrFun hT k
  simp only [e]
  rw [Fin.sum_univ_eight]
  fin_cases a <;> simp [Scalar.select, IntOp.cmpi] <;> abel

theorem pay10 (b A : FVec Ideal S1x128 .f32) (T X : FVec Ideal S8x128 .f32) (a : Fin 8) (j : Fin 128) :
    k0_pay10 (F := Ideal) (k0_pay1 b) rowNo A T X (ix2 a j)
      = k0_pay9 (F := Ideal) rowNo A T (ix2 a j) * sg (X (ix2 a j) + b (ix2 0 j)) := by
  pointwise [k0_pay10, k0_pay1]

theorem pay8 (Z : FVec Ideal S8x128 .f32) (a : Fin 8) (j : Fin 128) :
    k0_pay8 (F := Ideal) Z (ix2 a j) = ∑ k : Fin 8, Z (ix2 k j) := by
  pointwise [k0_pay8]

theorem pay5 (Z : FVec Ideal S8x128 .f32) (j : Fin 128) : k0_pay5 (F := Ideal) Z (ix2 0 j) = Z (ix2 0 j) := by
  pointwise [k0_pay5]
theorem pay6 (Y Z : FVec Ideal S8x128 .f32) (a : Fin 8) (j : Fin 128) :
    k0_pay6 (F := Ideal) Y Z (ix2 a j) = Y (ix2 a j) + Z (ix2 a j) := by
  pointwise [k0_pay6]
theorem pay4 (Z : FVec Ideal S8x128 .f32) (y : S8x128.Idx) : k0_pay4 (F := Ideal) Z y = Z y := by
  rw [eq_ix2 y]; pointwise [k0_pay4]
theorem pay7 (Z : FVec Ideal S2176x128 .f32) (r : Fin 2176) (j : Fin 128) :
    k0_pay7 (F := Ideal) Z (ix2 r j) = Z (ix2 r j) := by
  pointwise [k0_pay7]
theorem pay2 (j : Fin 128) : k0_pay2 (F := Ideal) (ix2 0 j) = 0 := by
  pointwise [k0_pay2]
theorem pay3 (a : Fin 8) (j : Fin 128) : k0_pay3 (F := Ideal) (ix2 a j) = 0 := by
  pointwise [k0_pay3]

theorem tile_apply (Y : FVec Ideal S2176x128 .f32) (k : Fin k0_t1_loop.trips) (a : Fin 8) (j : Fin 128) :
    tile (F := Ideal) Y k (ix2 a j) = Y (ix2 ⟨2168 - 8 * k + a, by have : k.val < 272 := lt_of_lt_of_eq k.isLt trips_eq; omega⟩ j) := by
  unfold tile
  refine congrArg Y (funext fun ax => Fin.ext ((Rect.idx_unit_val ..).trans ?_))
  have e := k0_off1_eq k
  match ax with
  | ⟨0, _⟩ =>
    show k0_off1 k 0 + a.val = _
    rw [e]; rfl
  | ⟨1, _⟩ =>
    show k0_off1 k 1 + j.val = _
    rw [e]; exact Nat.zero_add _

section table
variable (X : FVec Ideal S2176x128 .f32) (b : FVec Ideal S1x128 .f32) (Y : FVec Ideal S2176x128 .f32)

/-- A column of an array, by row number. -/
def colOf (Y : FVec Ideal S2176x128 .f32) (j : Fin 128) (n : ℕ) : EReal := if h : n < 2176 then Y (ix2 ⟨n, h⟩ j) else 0

/-- What the kernel puts in row `n`. -/
def row (j : Fin 128) (n : ℕ) : EReal := suf (colOf Y j) n * sg (colOf X j n + b (ix2 0 j))

theorem tile_col (k : Fin k0_t1_loop.trips) (a : Fin 8) (j : Fin 128) : tile (F := Ideal) Y k (ix2 a j) = colOf Y j (2168 - 8 * k + a) := by
  rw [tile_apply]
  unfold colOf
  rw [dif_pos]

theorem pay9_carry (k : Fin k0_t1_loop.trips) (a : Fin 8) (j : Fin 128) (A : FVec Ideal S1x128 .f32)
    (hA : A (ix2 0 j) = suf (colOf Y j) (2176 - 8 * k)) :
    k0_pay9 (F := Ideal) rowNo A (tile Y k) (ix2 a j) = suf (colOf Y j) (2168 - 8 * k + a) := by
  have hk : k.val < 272 := lt_of_lt_of_eq k.isLt trips_eq
  rw [pay9, hA, suf_tail _ _ (by omega) a, show 2168 - 8 * k.val + 8 = 2176 - 8 * k.val by omega]
  simp only [tile_col]

theorem carry_fst (k : ℕ) (hk : k ≤ 272) (j : Fin 128) : (carry (F := Ideal) X b Y k).1 (ix2 0 j) = suf (colOf Y j) (2176 - 8 * k) := by
  induction k with
  | zero => exact (pay2 j).trans (suf_end _).symm
  | succ k ih =>
    have hk' : k < k0_t1_loop.trips := by rw [trips_eq]; omega
    rw [carry, dif_pos hk']
    refine (pay5 _ j).trans ((pay9_carry Y ⟨k, hk'⟩ 0 j _ (ih (by omega))).trans (congrArg _ ?_))
    show 2168 - 8 * k + 0 = 2176 - 8 * (k + 1)
    omega

theorem out_apply (k : Fin k0_t1_loop.trips) (a : Fin 8) (j : Fin 128) :
    k0_pay10 (F := Ideal) (k0_pay1 b) rowNo (carry X b Y k).1 (tile Y k) (tile X k) (ix2 a j) = row X b Y j (2168 - 8 * k + a) := by
  have hk : k.val < 272 := lt_of_lt_of_eq k.isLt trips_eq
  rw [pay10, pay9_carry Y k a j _ (carry_fst X b Y k (by omega) j), tile_col]
  rfl

theorem table_apply (r : Fin 2176) (j : Fin 128) : table (F := Ideal) X b Y (ix2 r j) = row X b Y j r := by
  unfold table out
  rw [pay4]
  have e : inTile (ix2 r j) = ix2 (⟨r.val % 8, Nat.mod_lt _ (by decide)⟩ : Fin 8) j := by
    funext a
    match a with
    | ⟨0, _⟩ => rfl
    | ⟨1, _⟩ => rfl
  have e' : (tripOf (ix2 r j)).val = 271 - r.val / 8 := rfl
  rw [e, out_apply, e']
  refine congrArg _ ?_
  show 2168 - 8 * (271 - r.val / 8) + r.val % 8 = r.val
  have := r.isLt
  omega

theorem carry_snd (k : ℕ) (hk : k ≤ 272) (j : Fin 128) :
    ∑ a : Fin 8, (carry (F := Ideal) X b Y k).2 (ix2 a j) = suf (row X b Y j) (2176 - 8 * k) := by
  induction k with
  | zero =>
    refine Eq.trans (Finset.sum_eq_zero fun a _ => pay3 a j) (suf_end _).symm
  | succ k ih =>
    have hk' : k < k0_t1_loop.trips := by rw [trips_eq]; omega
    rw [carry, dif_pos hk']
    refine Eq.trans (Finset.sum_congr rfl fun a _ => (pay6 _ _ a j).trans (congrArg _ (out_apply X b Y ⟨k, hk'⟩ a j))) ?_
    rw [Finset.sum_add_distrib, ih (by omega), show 2176 - 8 * (k + 1) = 2168 - 8 * k by omega, suf_tile _ (2168 - 8 * k) (by omega),
      show 2168 - 8 * k + 8 = 2176 - 8 * k by omega, add_comm (G := EReal)]

theorem outF_apply (r : Fin 2176) (j : Fin 128) : outF (F := Ideal) X b Y (ix2 r j) = row X b Y j r := by
  unfold outF
  rw [pay7, table_apply]

theorem outB_apply (a : Fin 8) (j : Fin 128) : outB (F := Ideal) X b Y (ix2 a j) = suf (row X b Y j) 0 := by
  unfold outB
  rw [pay8, carry_snd X b Y 272 le_rfl j]

end table

end Cert.GateIdeal.Hand
end
-- ==== Proof.GateRef.lean ====
/- The reference's gradient of the forget gate, read at an element. -/
module

public import proofs.«01_k».proof.Proof.GateTiles

@[expose] public section
set_option maxRecDepth 16384
noncomputable section
open Idealize.ShloMosaic Idealize.ShloMosaic.TcCoe Idealize.SL.Sem
open scoped BigOperators
namespace Cert.GateIdeal.Hand
open Cert.GateIdeal Cert.GateIdeal.Gen Cert.Common

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A column of the host's array by row number, nothing past its last row. -/
def hostCol (D : FVec Ideal S1x2064x8 .f32) (j : Fin 8) (n : ℕ) : EReal := if h : n < 2064 then D (ix3 0 ⟨n, h⟩ j) else 0

theorem hostCol_past (D : FVec Ideal S1x2064x8 .f32) (j : Fin 8) (n : ℕ) (h : 2064 ≤ n) : hostCol D j n = 0 := dif_neg (by omega)

/-- The host's window sum, padded behind, is the suffix sum. -/
theorem window_sum (D : FVec Ideal S1x2064x8 .f32) (h : S1x2064x8.ReduceWindows ![1, 2064, 1] ![1, 1, 1] ![0, 0, 0] ![0, 2063, 0] S1x2064x8)
    (r : Fin 2064) (j : Fin 8) :
    Ideal.hostReduceWindowAdd ![1, 2064, 1] ![1, 1, 1] ![0, 0, 0] ![0, 2063, 0] h D 0 (ix3 0 r j) = suf (hostCol D j) r := by
  unfold Ideal.hostReduceWindowAdd Host.reduceWindow
  dsimp only
  refine (foldl_add _ _ _).trans ?_
  rw [zero_add (M := EReal), ← Fin.sum_univ_def]
  unfold suf
  rw [sum_long _ (hostCol_past D j) r 2176 (by omega), ← sum_long _ (hostCol_past D j) r (r + 2064) (by omega),
    Finset.sum_Ico_eq_sum_range, Nat.add_sub_cancel_left, ← Fin.sum_univ_eq_sum_range (fun n => hostCol D j (r + n)) 2064]
  refine Fintype.sum_equiv ((Shape.rowMajor ⟨3, ![1, 2064, 1]⟩).symm.trans
    ⟨fun w => (w 1 : Fin 2064), fun k => ix3 (0 : Fin 1) k (0 : Fin 1), fun w => ?_, fun k => rfl⟩) _ _ fun n => ?_
  · funext a
    match a with
    | ⟨0, _⟩ => exact Subsingleton.elim (α := Fin 1) _ _
    | ⟨1, _⟩ => rfl
    | ⟨2, _⟩ => exact Subsingleton.elim (α := Fin 1) _ _
  · show _ = hostCol D j (r.val + ((Shape.rowMajor ⟨3, ![1, 2064, 1]⟩).symm n 1).val)
    let w : Shape.Idx ⟨3, ![1, 2064, 1]⟩ := (Shape.rowMajor ⟨3, ![1, 2064, 1]⟩).symm n
    show _ = hostCol D j (r.val + (w 1).val)
    have h0 : (w 0).val = 0 := Nat.lt_one_iff.mp (w 0).isLt
    have h2 : (w 2).val = 0 := Nat.lt_one_iff.mp (w 2).isLt
    have hj := j.isLt
    unfold hostCol
    by_cases hin : r.val + (w 1).val < 2064
    · rw [dif_pos hin, dif_pos]
      · refine congrArg D (funext fun a => Fin.ext ?_)
        match a with
        | ⟨0, _⟩ => show 0 * 1 + (w 0).val - 0 = 0; omega
        | ⟨1, _⟩ => show r.val * 1 + (w 1).val - 0 = r.val + (w 1).val; omega
        | ⟨2, _⟩ => show j.val * 1 + (w 2).val - 0 = j.val; omega
      · intro a
        match a with
        | ⟨0, _⟩ => show 0 ≤ 0 * 1 + (w 0).val ∧ 0 * 1 + (w 0).val - 0 < 1; omega
        | ⟨1, _⟩ => show 0 ≤ r.val * 1 + (w 1).val ∧ r.val * 1 + (w 1).val - 0 < 2064; omega
        | ⟨2, _⟩ => show 0 ≤ j.val * 1 + (w 2).val ∧ j.val * 1 + (w 2).val - 0 < 8; omega
    · rw [dif_neg hin, dif_neg]
      intro hall
      have h1 := (hall 1).2
      change r.val * 1 + (w 1).val - 0 < 2064 at h1
      omega

/-! ## The logistic function -/

theorem coe_max (a b : ℝ) : ((max a b : ℝ) : EReal) = max (a : EReal) (b : EReal) :=
  EReal.coe_strictMono.monotone.map_max

theorem log_add_one (r : ℝ) (h : 0 ≤ r) : Ideal.log1p (r : EReal) = ((Real.log (1 + r) : ℝ) : EReal) := by
  unfold Ideal.log1p
  have e : (1 : EReal) + (r : EReal) = ((1 + r : ℝ) : EReal) := by push_cast; rfl
  rw [e]
  show (if 1 + r ≤ 0 then (⊥ : EReal) else _) = _
  rw [if_neg (by linarith)]

/-- `log (1 + e^u)` as it is written to keep the exponent negative. -/
abbrev softplus (u : EReal) : EReal := max u 0 + Ideal.log1p (Ideal.exp (-(max u (-u))))

/-- `e^(u - log (1 + e^u))` at `u = -z`, its corners taken apart, is `1 / (1 + e^z)`. -/
theorem logistic_eq (z : EReal) : Ideal.exp ((if -z = ⊤ then 0 else -z) - (if softplus (-z) = ⊤ then 0 else softplus (-z))) = sg z := by
  have e1 : Ideal.log1p 0 = 0 := by
    have h := log_add_one 0 le_rfl
    rw [add_zero, Real.log_one] at h
    exact h
  have e2 : Ideal.exp 0 = 1 := by
    show ((Real.exp 0 : ℝ) : EReal) = 1
    rw [Real.exp_zero]; rfl
  have e3 : Ideal.exp ⊥ = 0 := rfl
  have e4 : Ideal.exp ⊤ = ⊤ := rfl
  induction z using EReal.rec with
  | bot =>
    have e : softplus (-⊥) = ⊤ := by
      unfold softplus
      simp [e1, e3]
    rw [e]
    simp [e2, e3, sg, Ideal.div]
  | top =>
    have e : softplus (-⊤) = 0 := by
      unfold softplus
      simp [e1, e3]
    rw [e]
    have e5 : (1 : EReal) + ⊤ = ⊤ := EReal.add_top_of_ne_bot (by decide)
    simp [e3, e4, e5, sg, Ideal.div]
  | coe r =>
    have e : softplus (-(r : EReal)) = ((max (-r) 0 + Real.log (1 + Real.exp (-(max (-r) r))) : ℝ) : EReal) := by
      unfold softplus
      have h1 : -(max (-(r : EReal)) (-(-(r : EReal)))) = ((-(max (-r) r) : ℝ) : EReal) := by
        rw [neg_neg, ← EReal.coe_neg, ← coe_max, ← EReal.coe_neg]
      rw [h1]
      change max (-(r : EReal)) 0 + Ideal.log1p ((Real.exp (-(max (-r) r)) : ℝ) : EReal) = _
      rw [log_add_one _ (Real.exp_pos _).le, ← EReal.coe_neg, ← EReal.coe_zero, ← coe_max, ← EReal.coe_add]
    rw [e, if_neg (EReal.coe_ne_top _), ← EReal.coe_neg, if_neg (EReal.coe_ne_top _), ← EReal.coe_sub]
    have h2 : sg (r : EReal) = ((1 / (1 + Real.exp r) : ℝ) : EReal) := by
      have h3 : (0 : EReal) - (0 - (r : EReal)) = (r : EReal) := by
        rw [zero_sub, zero_sub, neg_neg]
      unfold sg
      rw [h3]
      change Ideal.div 1 (1 + ((Real.exp r : ℝ) : EReal)) = _
      have h4 : (1 : EReal) + ((Real.exp r : ℝ) : EReal) = ((1 + Real.exp r : ℝ) : EReal) := by push_cast; rfl
      rw [h4]
      rw [Ideal.div_coe (show (1 + Real.exp r : ℝ) ≠ 0 from (by have := Real.exp_pos r; linarith : (0 : ℝ) < 1 + Real.exp r).ne'), one_mul]
    rw [h2]
    change ((Real.exp _ : ℝ) : EReal) = _
    refine congrArg _ ?_
    have hp : 0 < 1 + Real.exp (-(max (-r) r)) := by have := Real.exp_pos (-(max (-r) r)); linarith
    rw [Real.exp_sub, Real.exp_add, Real.exp_log hp, div_eq_div_iff (mul_ne_zero (Real.exp_pos _).ne' hp.ne') (by have := Real.exp_pos r; linarith : (0 : ℝ) < 1 + Real.exp r).ne']
    rcases le_total 0 r with h | h
    · rw [max_eq_right (by linarith : -r ≤ 0), max_eq_right (by linarith : -r ≤ r), Real.exp_zero, mul_add, ← Real.exp_add, neg_add_cancel, Real.exp_zero]
      ring
    · rw [max_eq_left (by linarith : 0 ≤ -r), max_eq_left (by linarith : r ≤ -r), neg_neg, one_mul]

theorem top_bits : Ideal.ofBits .f32 0x7F800000#32 = ⊤ := by simp [Ideal.ofBits, Ideal.ieee]

theorem ref3 (X : FVec Ideal S1x2064x8 .f32) (B : FVec Ideal S8 .f32) (r : Fin 2064) (j : Fin 8) :
    Cert.GateRefIdeal.Read.val_main_v3_1 (F := Ideal) X B (ix3 0 r j) = sg (X (ix3 0 r j) + B (ix1 j)) := by
  rw [← logistic_eq]
  unfold Cert.GateRefIdeal.Read.val_main_v3_1
  pointwise [Cert.GateRefIdeal.Read.val_main_call0_call0_v21, Cert.GateRefIdeal.Read.val_main_call0_call0_v16, Cert.GateRefIdeal.Read.val_main_call0_call0_v20, Cert.GateRefIdeal.Read.val_main_call0_call0_v18, Cert.GateRefIdeal.Read.val_main_call0_call0_v14, Cert.GateRefIdeal.Read.val_main_call0_v1_0, Cert.GateRefIdeal.Read.val_main_call0_call0_v11, Cert.GateRefIdeal.Read.val_main_call0_call0_v10, Cert.GateRefIdeal.Read.val_main_call0_call0_v9, Cert.GateRefIdeal.Read.val_main_call0_call0_v8, Cert.GateRefIdeal.Read.val_main_call0_call0_v7, Cert.GateRefIdeal.Read.val_main_call0_call0_v6, Cert.GateRefIdeal.Read.val_main_call0_call0_v5, Cert.GateRefIdeal.Read.val_main_call0_call0_v4, Cert.GateRefIdeal.Read.val_main_call0_call0_v3, Cert.GateRefIdeal.Read.val_main_call0_call0_v2, Cert.GateRefIdeal.Read.val_main_call0_call0_v1, Cert.GateRefIdeal.Read.val_main_call0_call0_v0, Cert.GateRefIdeal.Read.val_main_call0_call0_v13, Cert.GateRefIdeal.Read.val_main_call0_call0_v15, Cert.GateRefIdeal.Read.val_main_call0_call0_v17, Cert.GateRefIdeal.Read.val_main_call0_call0_v19, Cert.GateRefIdeal.Read.val_main_call0_v0, Cert.GateRefIdeal.Read.val_main_v2, Cert.GateRefIdeal.Read.val_main_v1, Cert.GateRefIdeal.Read.val_main_v0, Cert.GateRefIdeal.Read.val_main_call0_call0_cst, Cert.GateRefIdeal.Read.val_main_call0_call0_cst_0, Cert.GateRefIdeal.Read.val_main_call0_call0_cst_1, Cert.GateRefIdeal.Read.val_main_call0_call0_cst_2, Cert.GateRefIdeal.Read.val_main_call0_call0_cst_3]
  rw [top_bits]
  simp only [ne_eq, not_true, if_false]
  rfl

theorem window_host {s t u : Shape} (w st lo hi : Fin s.rank → Nat) (x : FVec Ideal s .f32) (init : FVec Ideal u .f32)
    (h : s.ReduceWindows w st lo hi t) (hu : 0 < u.numel) (v : EReal) (hv : init (Shape.Idx.first hu) = v) (i : t.Idx) :
    Host.reduceWindowAdd w st lo hi x init h hu i = Ideal.hostReduceWindowAdd w st lo hi h x v i := by
  subst hv; rfl

theorem ref5 (D : FVec Ideal S1x2064x8 .f32) (r : Fin 2064) (j : Fin 8) :
    Cert.GateRefIdeal.Read.val_main_v5 (F := Ideal) D (ix3 0 r j) = suf (hostCol D j) r := by
  unfold Cert.GateRefIdeal.Read.val_main_v5
  refine (window_host _ _ _ _ _ _ _ _ 0 ?_ _).trans (window_sum D _ r j)
  pointwise [Cert.GateRefIdeal.Read.val_main_call2_call0_v0, Cert.GateRefIdeal.Read.val_main_call2_call0_cst]

theorem ref6 (X : FVec Ideal S1x2064x8 .f32) (B : FVec Ideal S8 .f32) (D : FVec Ideal S1x2064x8 .f32) (r : Fin 2064) (j : Fin 8) :
    Cert.GateRefIdeal.Read.val_main_v6 (F := Ideal) X B D (ix3 0 r j) = suf (hostCol D j) r * sg (X (ix3 0 r j) + B (ix1 j)) := by
  unfold Cert.GateRefIdeal.Read.val_main_v6
  pointwise [Cert.GateRefIdeal.Read.val_main_call3_v1, Cert.GateRefIdeal.Read.val_main_call3_v0]
  rw [ref5, ref3, EReal.neg_mul, neg_neg]

theorem ref12 (X : FVec Ideal S1x2064x8 .f32) (B : FVec Ideal S8 .f32) (D : FVec Ideal S1x2064x8 .f32) (r : Fin 2176) (j : Fin 128) :
    Cert.GateRefIdeal.Read.val_main_v12 (F := Ideal) X B D (ix2 r j) = if h : r.val < 2064 ∧ j.val < 8 then
      suf (hostCol D ⟨j, h.2⟩) r * sg (X (ix3 0 ⟨r, h.1⟩ ⟨j, h.2⟩) + B (ix1 ⟨j, h.2⟩)) else 0 := by
  unfold Cert.GateRefIdeal.Read.val_main_v12
  pointwise [Cert.GateRefIdeal.Read.val_main_v11, Cert.GateRefIdeal.Read.val_main_v10, Cert.GateRefIdeal.Read.val_main_call4_v0,
    Cert.GateRefIdeal.Read.val_main_c]
  simp only [ref6, sitofp_zero]

theorem ref15 (X : FVec Ideal S1x2064x8 .f32) (B : FVec Ideal S8 .f32) (D : FVec Ideal S1x2064x8 .f32) (a : Fin 8) (j : Fin 128) :
    Cert.GateRefIdeal.Read.val_main_v15 (F := Ideal) X B D (ix2 a j) = if h : j.val < 8 then
      ∑ r : Fin 2064, suf (hostCol D ⟨j, h⟩) r * sg (X (ix3 0 r ⟨j, h⟩) + B (ix1 ⟨j, h⟩)) else 0 := by
  unfold Cert.GateRefIdeal.Read.val_main_v15
  pointwise [Cert.GateRefIdeal.Read.val_main_v14, Cert.GateRefIdeal.Read.val_main_v13, Cert.GateRefIdeal.Read.val_main_v9, Cert.GateRefIdeal.Read.val_main_v8, Cert.GateRefIdeal.Read.val_main_v7, reduce_lead, Cert.GateRefIdeal.Read.val_main_call5_v0,
    Cert.GateRefIdeal.Read.val_main_c_1, Cert.GateRefIdeal.Read.val_main_cst, Cert.GateRefIdeal.Read.val_main_cst_0]
  simp only [ref6, sitofp_zero, zero_add]

end Cert.GateIdeal.Hand
end
-- ==== Proof.GateValue.lean ====
/- The forget gate's gradient: the kernel's two result arrays are the reference's. -/
module

public import proofs.«01_k».proof.Proof.GateRef

@[expose] public section
set_option maxRecDepth 16384
noncomputable section
open Idealize.ShloMosaic Idealize.ShloMosaic.TcCoe Idealize.SL.Sem
open scoped BigOperators
namespace Cert.GateIdeal.Hand
open Cert.GateIdeal Cert.GateIdeal.Gen Cert.Common

variable (m : (ℓ : Loc nD τ sig) → Buf (Elt Ideal) ℓ) (ρ : Dev nD → PrngReg)

theorem idx : ∀ t : Fin cfg0.N, win0_0.index t = ![0, 8] ∧ win0_1.index t = ![0, 0]
    ∧ win0_2.index t = ![0, 0] ∧ win0_3.index t = ![0, 0] ∧ win0_4.index t = ![0, 0] :=
  (by decide +kernel : ∀ t : Fin grid0.N, _)

/-- The program's arguments on one device: the gate's input, its bias, the cotangent of the running sums. -/
abbrev argX (c : Dev nD) : FVec Ideal S1x2064x8 .f32 := m ((c : Thread nD τ).loc main_arg0)
abbrev argB (c : Dev nD) : FVec Ideal S8 .f32 := m ((c : Thread nD τ).loc main_arg1)
abbrev argD (c : Dev nD) : FVec Ideal S1x2064x8 .f32 := m ((c : Thread nD τ).loc main_arg2)

theorem entry_x (c : Dev nD) (r : Fin 2064) (j : Fin 8) :
    (V m c main_v1 : FVec Ideal S2176x1152 .f32) (ix2 ⟨r, by omega⟩ ⟨1024 + j, by omega⟩) = argX m c (ix3 0 r j) := by
  unfold V
  simp only [hostOps0, hostOps0_1, hostOps0_2, hostOps0_3, hostOps0_4, hostOps0_5, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem entry_b (c : Dev nD) (j : Fin 8) :
    (V m c main_v3 : FVec Ideal S1x128 .f32) (ix2 0 ⟨j, by omega⟩) = argB m c (ix1 j) := by
  unfold V
  simp only [hostOps0, hostOps0_1, hostOps0_2, hostOps0_3, hostOps0_4, hostOps0_5, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise

theorem entry_d (c : Dev nD) (r : Fin 2176) (j : Fin 128) :
    (V m c main_v5 : FVec Ideal S2176x128 .f32) (ix2 r j) = if h : j.val < 8 then hostCol (argD m c) ⟨j, h⟩ r else 0 := by
  unfold V
  simp only [hostOps0, hostOps0_1, hostOps0_2, hostOps0_3, hostOps0_4, hostOps0_5, List.flatten_cons,
    List.flatten_nil, List.append_nil, List.cons_append, List.nil_append, StableHlo.TRef.binary, StableHlo.TRef.nullary,
    StableHlo.TRef.unary, StableHlo.TRef.toBuf, StableHlo.TRef.ofBuf, cast_eq]
  after_results_simp
  pointwise
  rw [sitofp_zero]
  unfold hostCol
  by_cases hj : j.val < 8
  · by_cases hr : r.val < 2064
    · rw [dif_pos ⟨hr, hj⟩, dif_pos hj, dif_pos hr]
    · rw [dif_neg fun e => hr e.1, dif_pos hj, dif_neg hr]
  · rw [dif_neg fun e => hj e.2, dif_neg hj]

/-- The blocks the grid point works on, at their own types. -/
abbrev bX (c : Dev nD) (t : Fin cfg0.N) : FVec Ideal S2176x128 .f32 := iblk m c 0 t
abbrev bB (c : Dev nD) (t : Fin cfg0.N) : FVec Ideal S1x128 .f32 := iblk m c 1 t
abbrev bD (c : Dev nD) (t : Fin cfg0.N) : FVec Ideal S2176x128 .f32 := iblk m c 2 t

theorem blk_x (c : Dev nD) (t : Fin cfg0.N) (r : Fin 2064) (j : Fin 8) :
    bX m c t (ix2 ⟨r, by omega⟩ ⟨j, by omega⟩) = argX m c (ix3 0 r j) :=
  Eq.trans (by blk_ext [bX, iblk, idx t]) (entry_x m c r j)
theorem blk_b (c : Dev nD) (t : Fin cfg0.N) (j : Fin 8) : bB m c t (ix2 0 ⟨j, by omega⟩) = argB m c (ix1 j) :=
  Eq.trans (by blk_ext [bB, iblk, idx t]) (entry_b m c j)
theorem blk_d (c : Dev nD) (t : Fin cfg0.N) (r : Fin 2176) (j : Fin 128) :
    bD m c t (ix2 r j) = if h : j.val < 8 then hostCol (argD m c) ⟨j, h⟩ r else 0 :=
  Eq.trans (by blk_ext [bD, iblk, idx t]) (entry_d m c r j)

/-- The suffix sums of a column of the cotangent: the host's on the first eight columns, nothing behind. -/
theorem suf_col (c : Dev nD) (t : Fin cfg0.N) (j : Fin 128) (n : ℕ) :
    suf (colOf (bD m c t) j) n = if h : j.val < 8 then suf (hostCol (argD m c) ⟨j, h⟩) n else 0 := by
  have e : ∀ i ∈ Finset.Ico n 2176, colOf (bD m c t) j i = if h : j.val < 8 then hostCol (argD m c) ⟨j, h⟩ i else 0 := fun i hi => by
    have hi' : i < 2176 := (Finset.mem_Ico.mp hi).2
    unfold colOf
    rw [dif_pos hi', blk_d]
  unfold suf
  rw [Finset.sum_congr rfl e]
  split
  · rfl
  · exact Finset.sum_const_zero

theorem row_apply (c : Dev nD) (t : Fin cfg0.N) (j : Fin 128) (n : ℕ) :
    row (bX m c t) (bB m c t) (bD m c t) j n = if h : n < 2064 ∧ j.val < 8 then
      suf (hostCol (argD m c) ⟨j, h.2⟩) n * sg (argX m c (ix3 0 ⟨n, h.1⟩ ⟨j, h.2⟩) + argB m c (ix1 ⟨j, h.2⟩)) else 0 := by
  unfold row
  rw [suf_col]
  by_cases hj : j.val < 8
  · rw [dif_pos hj]
    by_cases hn : n < 2064
    · rw [dif_pos ⟨hn, hj⟩]
      have e : colOf (bX m c t) j n = argX m c (ix3 0 ⟨n, hn⟩ ⟨j, hj⟩) :=
        (dif_pos (show n < 2176 by omega)).trans (blk_x m c t ⟨n, hn⟩ ⟨j, hj⟩)
      rw [e]
      exact congrArg (fun z => _ * sg (_ + z)) (blk_b m c t ⟨j, hj⟩)
    · rw [dif_neg fun e => hn e.1]
      have e : suf (hostCol (argD m c) ⟨j, hj⟩) n = 0 :=
        Finset.sum_eq_zero fun i hi => hostCol_past _ _ _ (by have := (Finset.mem_Ico.mp hi).1; omega)
      rw [e, zero_mul (M₀ := EReal)]
  · rw [dif_neg hj, dif_neg fun e => hj e.2, zero_mul (M₀ := EReal)]

theorem outF_ref (c : Dev nD) (t : Fin cfg0.N) (r : Fin 2176) (j : Fin 128) :
    outF (F := Ideal) (bX m c t) (bB m c t) (bD m c t) (ix2 r j)
      = Cert.GateRefIdeal.Read.val_main_v12 (F := Ideal) (argX m c) (argB m c) (argD m c) (ix2 r j) := by
  rw [outF_apply, row_apply, ref12]

theorem outB_ref (c : Dev nD) (t : Fin cfg0.N) (a : Fin 8) (j : Fin 128) :
    outB (F := Ideal) (bX m c t) (bB m c t) (bD m c t) (ix2 a j)
      = Cert.GateRefIdeal.Read.val_main_v15 (F := Ideal) (argX m c) (argB m c) (argD m c) (ix2 a j) := by
  rw [outB_apply, ref15]
  unfold suf
  by_cases hj : j.val < 8
  · rw [dif_pos hj, sum_long (row (bX m c t) (bB m c t) (bD m c t) j) (fun n hn => by
      rw [row_apply, dif_neg fun e => absurd e.1 (by omega)]) 0 2176 (by omega), Finset.sum_Ico_eq_sum_range]
    refine (Fin.sum_univ_eq_sum_range (fun n => row (bX m c t) (bB m c t) (bD m c t) j (0 + n)) 2064).symm.trans
      (Finset.sum_congr rfl fun r _ => ?_)
    rw [Nat.zero_add, row_apply, dif_pos ⟨r.isLt, hj⟩]
    rfl
  · rw [dif_neg hj]
    exact Finset.sum_eq_zero fun n _ => by rw [row_apply, dif_neg fun e => hj e.2]

theorem final_3 (c : Dev nD) : (dats m 0 c).arrAt 3 (cfgs 0).N
    = Cert.GateRefIdeal.Read.val_main_v12 (F := Ideal) (argX m c) (argB m c) (argD m c) := by
  refine (dats m 0 c).arrAt_eq_of_covers 3 _ (by decide +kernel) fun t hf y => ?_
  blk_simp; rw [left3]
  refine (congrArg _ (eq_ix2 y)).trans ((outF_ref m c t (y 0) (y 1)).trans
    (congrArg (Cert.GateRefIdeal.Read.val_main_v12 (F := Ideal) (argX m c) (argB m c) (argD m c)) (Eq.symm ?_)))
  blk_ext [idx t]

theorem final_4 (c : Dev nD) : (dats m 0 c).arrAt 4 (cfgs 0).N
    = Cert.GateRefIdeal.Read.val_main_v15 (F := Ideal) (argX m c) (argB m c) (argD m c) := by
  refine (dats m 0 c).arrAt_eq_of_covers 4 _ (by decide +kernel) fun t hf y => ?_
  blk_simp; rw [left4]
  refine (congrArg _ (eq_ix2 y)).trans ((outB_ref m c t (y 0) (y 1)).trans
    (congrArg (Cert.GateRefIdeal.Read.val_main_v15 (F := Ideal) (argX m c) (argB m c) (argD m c)) (Eq.symm ?_)))
  blk_ext [idx t]

/-- The run, both result arrays named and the arguments unchanged. -/
theorem run_blocks : θ_run defs (onTc (τ := τ) (main (F := Ideal))) ⟨m, fun _ => 0, ρ⟩ fun r => ∀ c : Dev nD,
      r.2.mem ((c : Thread nD τ).loc main_v6_0) = (dats m 0 c).arrAt 3 cfg0.N
      ∧ r.2.mem ((c : Thread nD τ).loc main_v6_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Cert.GateIdeal.Hand
end
-- ==== Proof.AttnTile.lean ====
module

public import Idealize.ShloMosaic.Lib.Pipeline.ValueKit
public import Idealize.ShloMosaic.Lib.Pointwise
public import Idealize.ShloMosaic.Lib.MatmulPlain
public import Idealize.ShloMosaic.Lib.ValueLayout
public import proofs.«01_k».proof.Proof.Common

/-!
# One tile of the attention gradient, for any number of keys

The backward kernel treats 128 queries of two heads at a time against a run of `n` keys.  The definitions below are its
steps for any `n`; the theorems read them entry by entry over the extended reals.
-/

@[expose] public section

noncomputable section

namespace Cert.AttnTile

open Idealize.ShloMosaic Idealize.ShloMosaic.TcCoe

/-- Matrices. -/
abbrev M (a b : ℕ) : Shape := ⟨2, ![a, b]⟩
/-- Stacks of matrices. -/
abbrev C (a b c : ℕ) : Shape := ⟨3, ![a, b, c]⟩
/-- Vectors. -/
abbrev W (a : ℕ) : Shape := ⟨1, ![a]⟩

/-- The shape facts the steps need at `n` keys. -/
structure Facts (n : ℕ) : Prop where
  same : (M n 128).ShapeCasts (M n 128)
  slab : (C 1 n 128).ShapeCasts (M n 128)
  left : (M n 256).Slices ![0, 0] (M n 128)
  right : (M n 256).Slices ![0, 128] (M n 128)
  rows : (M 1 128).Broadcasts (M n 128)
  sumRows : (M n 128).Reduces [0] (W 128)
  sumCols : (M n 128).Reduces [1] (W n)
  iota0 : (M n 128).Iotas .tc 32 [0]
  iota1 : (M n 128).Iotas .tc 32 [1]
  cat : Shape.Concatenates [M n 128, M n 128] (M n 256) 1
  colIn : (C 1 n 1).ShapeCasts (M n 1)
  colOut : (M n 1).ShapeCasts (C 1 n 1)
  col : (W n).ShapeCasts (M n 1)

theorem facts256 : Facts 256 := by constructor <;> decide

variable {n : ℕ}

/-- The keys' (or values') products with the query columns of two heads side by side. -/
def prods (h : Facts n) (k : FVec Ideal (M n 128) .bf16) (qc : FVec Ideal (M 128 256) .bf16) : FVec Ideal (M n 256) .f32 :=
  matmul (DotDims.plain n 128 256) none (shapeCast (M n 128) k h.same) qc (constant (M n 256) .f32 0x00000000#32)

/-- One head's half of the products. -/
def half (off : ℕ) (h : (M n 256).Slices ![0, off] (M n 128)) (x : FVec Ideal (M n 256) .f32) : FVec Ideal (M n 128) .f32 :=
  extractStridedSlice (M n 128) ![0, off] x h

/-- The log-weights before the query's own terms. -/
def logits (h : Facts n) (x : FVec Ideal (M n 128) .f32) (ck : FVec Ideal (C 1 n 128) .f32) : FVec Ideal (M n 128) .f32 :=
  subf x (shapeCast (M n 128) ck h.slab)

/-- Which keys `k0 + s` the query `q0 + t` sees. -/
def seen (h : Facts n) (k0 q0 : BitVec 32) : IVec (M n 128) 1 :=
  cmpi .sle (addi (broadcast (M n 128) k0) (iota .tc (M n 128) 32 [0] h.iota0))
    (addi (broadcast (M n 128) q0) (iota .tc (M n 128) 32 [1] h.iota1))

/-- The weights of a run of keys all of which are seen. -/
def weights (h : Facts n) (x : FVec Ideal (M n 128) .f32) (row : FVec Ideal (M 1 128) .f32) : FVec Ideal (M n 128) .f32 :=
  exp (addf x (broadcastTo (M n 128) row h.rows))

/-- The log-weights with the unseen keys at `z`. -/
def masked (h : Facts n) (z : Ideal .f32) (k0 q0 : BitVec 32) (x : FVec Ideal (M n 128) .f32) : FVec Ideal (M n 128) .f32 :=
  select (seen h k0 q0) x (broadcast (M n 128) z)

/-- The sum over a run's keys of weight times score gradient. -/
def keySum (h : Facts n) (pr dp : FVec Ideal (M n 128) .f32) : FVec Ideal (M 1 128) .f32 :=
  shapeCast (M 1 128) (multiReduction .add [0] (W 128) (mulf pr dp) 0x00000000#32 h.sumRows (.inl rfl) rfl) (by decide)

/-- The scores' gradient. -/
def scoreGrad (h : Facts n) (pr dp : FVec Ideal (M n 128) .f32) (ks : FVec Ideal (M 1 128) .f32) : FVec Ideal (M n 128) .f32 :=
  mulf pr (subf dp (broadcastTo (M n 128) ks h.rows))

/-- A key's decay gradient, added to what the run before left. -/
def decayAcc (h : Facts n) (ds : FVec Ideal (M n 128) .f32) (old : FVec Ideal (C 1 n 1) .f32) : FVec Ideal (C 1 n 1) .f32 :=
  shapeCast (C 1 n 1) (addf (shapeCast (M n 1) old h.colIn)
    (shapeCast (M n 1) (multiReduction .add [1] (W n) ds 0x00000000#32 h.sumCols (.inl rfl) rfl) h.col)) h.colOut

/-- Two heads side by side. -/
def both (h : Facts n) (a b : FVec Ideal (M n 128) .f32) : FVec Ideal (M n 256) .bf16 :=
  concatenate (M n 256) 1 [⟨M n 128, truncf .bf16 a (by decide)⟩, ⟨M n 128, truncf .bf16 b (by decide)⟩] h.cat

/-- The keys' (or values') gradient, added to what the run before left. -/
def rowsAcc (h : Facts n) (a b : FVec Ideal (M n 128) .f32) (qr : FVec Ideal (M 256 128) .bf16) (old : FVec Ideal (M n 128) .f32) :
    FVec Ideal (M n 128) .f32 :=
  shapeCast (M n 128) (addf old (matmul (DotDims.plain n 256 128) none (both h a b) qr (constant (M n 128) .f32 0x00000000#32))) h.same

/-- The queries' gradient a run contributes, both heads. -/
def queryAcc (h : Facts n) (a b : FVec Ideal (M n 128) .f32) (kt : FVec Ideal (M 128 n) .bf16) : FVec Ideal (M 128 256) .f32 :=
  matmul (DotDims.plain 128 n 256) none kt (both h a b) (constant (M 128 256) .f32 0x00000000#32)

theorem const_zero (S : Shape) (i : S.Idx) : constant (F := Ideal) S .f32 0x00000000#32 i = (0 : EReal) := by
  pointwise

theorem prods_apply (h : Facts n) (k : FVec Ideal (M n 128) .bf16) (qc : FVec Ideal (M 128 256) .bf16) (s : Fin n) (t : Fin 256) :
    prods h k qc (ix2 s t) = ∑ d : Fin 128, k (ix2 s d) * qc (ix2 d t) := by
  unfold prods
  rw [shapeCast_id]
  refine (Ideal.matmul_plain_apply none k qc _ s t).trans ?_
  rw [const_zero]
  exact zero_add (M := EReal) _

theorem half_apply (off : ℕ) (h : (M n 256).Slices ![0, off] (M n 128)) (x : FVec Ideal (M n 256) .f32) (s : Fin n) (t : Fin 128)
    (ho : off + 128 ≤ 256) :
    half off h x (ix2 s t) = x (ix2 s ⟨off + t.val, by omega⟩) := by
  unfold half
  refine congrArg x (funext fun a => Fin.ext ?_)
  match a with
  | ⟨0, _⟩ => exact Nat.zero_add _
  | ⟨1, _⟩ => rfl

theorem logits_apply (h : Facts n) (x : FVec Ideal (M n 128) .f32) (ck : FVec Ideal (C 1 n 128) .f32) (s : Fin n) (t : Fin 128) :
    logits h x ck (ix2 s t) = x (ix2 s t) - ck (ix3 0 s t) := by
  unfold logits
  exact congrArg (fun i => x (ix2 s t) - ck i) (ValueIdx.reshapeEquiv_ix2_1ab h.slab s t)

theorem weights_apply (h : Facts n) (x : FVec Ideal (M n 128) .f32) (row : FVec Ideal (M 1 128) .f32) (s : Fin n) (t : Fin 128) :
    weights h x row (ix2 s t) = Ideal.exp (x (ix2 s t) + row (ix2 0 t)) := by
  unfold weights
  pointwise

theorem keySum_apply (h : Facts n) (pr dp : FVec Ideal (M n 128) .f32) (t : Fin 128) :
    keySum h pr dp (ix2 0 t) = ∑ s : Fin n, pr (ix2 s t) * dp (ix2 s t) := by
  unfold keySum
  pointwise

theorem scoreGrad_apply (h : Facts n) (pr dp : FVec Ideal (M n 128) .f32) (ks : FVec Ideal (M 1 128) .f32) (s : Fin n) (t : Fin 128) :
    scoreGrad h pr dp ks (ix2 s t) = pr (ix2 s t) * (dp (ix2 s t) - ks (ix2 0 t)) := by
  unfold scoreGrad
  pointwise

theorem decayAcc_apply (h : Facts n) (ds : FVec Ideal (M n 128) .f32) (old : FVec Ideal (C 1 n 1) .f32) (s : Fin n) :
    decayAcc h ds old (ix3 0 s 0) = old (ix3 0 s 0) + ∑ t : Fin 128, ds (ix2 s t) := by
  unfold decayAcc
  pointwise
  refine congrArg (old (ix3 0 s 0) + ·) (Finset.sum_congr rfl fun x _ => congrArg ds (congrArg (ix2 · x) ?_))
  refine congrFun (Shape.reshapeEquiv_eq_of_rowMajor _ (y := (ix1 s : (W n).Idx)) ?_) 0
  rw [Shape.rowMajor_val_one, Shape.rowMajor_val_three]
  show s.val = (0 * n + s.val) * 1 + 0
  omega

theorem both_apply (h : Facts n) (a b : FVec Ideal (M n 128) .f32) (s : Fin n) (t : Fin 256) :
    both h a b (ix2 s t) = if ht : t.val < 128 then a (ix2 s ⟨t.val, ht⟩) else b (ix2 s ⟨t.val - 128, by omega⟩) := by
  unfold both
  pointwise
  split <;> refine congrArg _ (funext fun i => Fin.ext ?_) <;>
    match i with
    | ⟨0, _⟩ => rfl
    | ⟨1, _⟩ => rfl

theorem rowsAcc_apply (h : Facts n) (a b : FVec Ideal (M n 128) .f32) (qr : FVec Ideal (M 256 128) .bf16) (old : FVec Ideal (M n 128) .f32)
    (s : Fin n) (j : Fin 128) :
    rowsAcc h a b qr old (ix2 s j) = old (ix2 s j) + ∑ t : Fin 256, both h a b (ix2 s t) * qr (ix2 t j) := by
  unfold rowsAcc
  rw [shapeCast_id]
  refine congrArg (old (ix2 s j) + ·) ((Ideal.matmul_plain_apply none (both h a b) qr _ s j).trans ?_)
  rw [const_zero]
  exact zero_add (M := EReal) _

theorem queryAcc_apply (h : Facts n) (a b : FVec Ideal (M n 128) .f32) (kt : FVec Ideal (M 128 n) .bf16) (j : Fin 128) (t : Fin 256) :
    queryAcc h a b kt (ix2 j t) = ∑ s : Fin n, kt (ix2 j s) * both h a b (ix2 s t) := by
  unfold queryAcc
  refine (Ideal.matmul_plain_apply none kt (both h a b) _ j t).trans ?_
  rw [const_zero]
  exact zero_add (M := EReal) _

theorem cat_columns : Shape.Concatenates [M 128 128, M 128 128] (M 128 256) 1 := by decide
theorem cat_rows : Shape.Concatenates [M 128 128, M 128 128] (M 256 128) 0 := by decide

theorem cat_halves : Shape.Concatenates [M 64 128, M 64 128] (M 128 128) 0 := by decide

/-- The query columns of two heads side by side, each head's rows of the other one zero. -/
def columns (x : FVec Ideal (M 128 128) .bf16) : FVec Ideal (M 128 256) .bf16 :=
  concatenate (M 128 256) 1
    [⟨M 128 128, select (cmpi .slt (iota .tc (M 128 128) 32 [0] (by decide)) (broadcast (M 128 128) 64#32))
        (truncf .bf16 (transpose (M 128 128) [1, 0] (extf .f32 x (by decide)) (by decide)) (by decide))
        (broadcast (M 128 128) (Scalar.sitofp .bf16 0#32))⟩,
     ⟨M 128 128, select (cmpi .slt (iota .tc (M 128 128) 32 [0] (by decide)) (broadcast (M 128 128) 64#32))
        (broadcast (M 128 128) (Scalar.sitofp .bf16 0#32))
        (truncf .bf16 (transpose (M 128 128) [1, 0] (extf .f32 x (by decide)) (by decide)) (by decide))⟩] cat_columns

/-- The query rows of two heads one above the other, each head's columns of the other one zero. -/
def stacked (x : FVec Ideal (M 128 128) .bf16) : FVec Ideal (M 256 128) .bf16 :=
  concatenate (M 256 128) 0
    [⟨M 128 128, select (cmpi .slt (iota .tc (M 128 128) 32 [1] (by decide)) (broadcast (M 128 128) 64#32))
        x (broadcast (M 128 128) (Scalar.sitofp .bf16 0#32))⟩,
     ⟨M 128 128, select (cmpi .slt (iota .tc (M 128 128) 32 [1] (by decide)) (broadcast (M 128 128) 64#32))
        (broadcast (M 128 128) (Scalar.sitofp .bf16 0#32)) x⟩] cat_rows

theorem toInt_small (a : ℕ) (ha : a < 2147483648) : (BitVec.ofNat 32 a).toInt = (a : ℤ) := by
  rw [BitVec.toInt_eq_toNat_of_lt (by rw [BitVec.toNat_ofNat]; omega), BitVec.toNat_ofNat, Nat.mod_eq_of_lt (by omega)]

theorem slt_small (a b : ℕ) (ha : a < 2147483648) (hb : b < 2147483648) :
    (BitVec.ofNat 32 a).slt (BitVec.ofNat 32 b) = decide (a < b) := by
  rw [BitVec.slt, toInt_small a ha, toInt_small b hb]
  simp

theorem sle_small (a b : ℕ) (ha : a < 2147483648) (hb : b < 2147483648) :
    (BitVec.ofNat 32 a).sle (BitVec.ofNat 32 b) = decide (a ≤ b) := by
  rw [BitVec.sle, toInt_small a ha, toInt_small b hb]
  simp

theorem select_slt64 (a : ℕ) (ha : a < 128) (x y : EReal) :
    Scalar.select (IntOp.cmpi CmpIPredicate.slt (BitVec.ofNat 32 a) 64#32) x y = if a < 64 then x else y := by
  have e : IntOp.cmpi CmpIPredicate.slt (BitVec.ofNat 32 a) 64#32 = BitVec.ofBool (decide (a < 64)) :=
    congrArg BitVec.ofBool (slt_small a 64 (by omega) (by omega))
  rw [e, Scalar.select]
  by_cases h : a < 64 <;> simp [h]

theorem columns_apply (x : FVec Ideal (M 128 128) .bf16) (d : Fin 128) (t : Fin 256) :
    columns x (ix2 d t) = if (d.val < 64 ↔ t.val < 128) then x (ix2 ⟨t.val % 128, by omega⟩ d) else (0 : EReal) := by
  unfold columns
  pointwise
  simp only [select_slt64 d.val d.isLt]
  by_cases h : t.val < 128 <;> by_cases h' : d.val < 64 <;>
    simp [h, h', Nat.mod_eq_of_lt, show ¬ t.val < 128 → t.val % 128 = t.val - 128 by omega]

theorem stacked_apply (x : FVec Ideal (M 128 128) .bf16) (t : Fin 256) (j : Fin 128) :
    stacked x (ix2 t j) = if (j.val < 64 ↔ t.val < 128) then x (ix2 ⟨t.val % 128, by omega⟩ j) else (0 : EReal) := by
  unfold stacked
  pointwise
  simp only [select_slt64 j.val j.isLt]
  by_cases h : t.val < 128 <;> by_cases h' : j.val < 64 <;>
    simp [h, h', Nat.mod_eq_of_lt, show ¬ t.val < 128 → t.val % 128 = t.val - 128 by omega]

theorem seen_apply (h : Facts n) (k0 Q : ℕ) (s : Fin n) (t : Fin 128) (hk : k0 + n ≤ 2176) (hq : Q + 128 ≤ 2176) :
    seen h (BitVec.ofNat 32 k0) (BitVec.ofNat 32 Q) (ix2 s t) = BitVec.ofBool (decide (k0 + s.val ≤ Q + t.val)) := by
  unfold seen
  pointwise
  rw [IntOp.addi, IntOp.addi, ← BitVec.ofNat_add, ← BitVec.ofNat_add]
  exact congrArg BitVec.ofBool (sle_small _ _ (by omega) (by omega))

theorem masked_apply (h : Facts n) (z : Ideal .f32) (k0 Q : ℕ) (x : FVec Ideal (M n 128) .f32)
    (s : Fin n) (t : Fin 128) (hk : k0 + n ≤ 2176) (hq : Q + 128 ≤ 2176) :
    masked h z (BitVec.ofNat 32 k0) (BitVec.ofNat 32 Q) x (ix2 s t) = if k0 + s.val ≤ Q + t.val then x (ix2 s t) else z := by
  show Scalar.select (seen h (BitVec.ofNat 32 k0) (BitVec.ofNat 32 Q) (ix2 s t)) (x (ix2 s t)) z = _
  rw [seen_apply h k0 Q s t hk hq, Scalar.select]
  by_cases h : k0 + s.val ≤ Q + t.val <;> simp [h]

/-! ### The point's inputs -/

theorem in2 {a b : ℕ} (r c n w : ℕ) (h1 : r + n ≤ a) (h2 : c + w ≤ b) : ∀ i : Fin 2, ![r, c] i + ![n, w] i ≤ ![a, b] i
  | 0 => h1
  | 1 => h2

theorem in3 {a b c : ℕ} (p r q k n w : ℕ) (h0 : p + k ≤ a) (h1 : r + n ≤ b) (h2 : q + w ≤ c) :
    ∀ i : Fin 3, ![p, r, q] i + ![k, n, w] i ≤ ![a, b, c] i
  | 0 => h0
  | 1 => h1
  | 2 => h2

/-- A part of a matrix. -/
def cut {a b : ℕ} {φ : FTy} (X : FVec Ideal (M a b) φ) (r c n w : ℕ) (h1 : r + n ≤ a) (h2 : c + w ≤ b) : FVec Ideal (M n w) φ :=
  fun x => X ((Rect.unit (s := M a b) ![r, c] ![n, w] (in2 r c n w h1 h2)).idx x)

/-- A part of a stack. -/
def cut3 {a b c : ℕ} {φ : FTy} (X : FVec Ideal (C a b c) φ) (p r q k n w : ℕ) (h0 : p + k ≤ a) (h1 : r + n ≤ b) (h2 : q + w ≤ c) :
    FVec Ideal (C k n w) φ :=
  fun x => X ((Rect.unit (s := C a b c) ![p, r, q] ![k, n, w] (in3 p r q k n w h0 h1 h2)).idx x)

theorem cut_apply {a b : ℕ} {φ : FTy} (X : FVec Ideal (M a b) φ) (r c n w : ℕ) (h1 : r + n ≤ a) (h2 : c + w ≤ b) (s : Fin n) (d : Fin w) :
    cut X r c n w h1 h2 (ix2 s d) = X (ix2 ⟨r + s.val, by omega⟩ ⟨c + d.val, by omega⟩) := by
  refine congrArg X (funext fun i => Fin.ext ?_)
  match i with
  | ⟨0, _⟩ => exact Rect.idx_unit_val _ _ _ _ _
  | ⟨1, _⟩ => exact Rect.idx_unit_val _ _ _ _ _

theorem cut3_apply {a b c : ℕ} {φ : FTy} (X : FVec Ideal (C a b c) φ) (p r q k n w : ℕ) (h0 : p + k ≤ a) (h1 : r + n ≤ b)
    (h2 : q + w ≤ c) (e : Fin k) (s : Fin n) (d : Fin w) :
    cut3 X p r q k n w h0 h1 h2 (ix3 e s d) = X (ix3 ⟨p + e.val, by omega⟩ ⟨r + s.val, by omega⟩ ⟨q + d.val, by omega⟩) := by
  refine congrArg X (funext fun i => Fin.ext ?_)
  match i with
  | ⟨0, _⟩ => exact Rect.idx_unit_val _ _ _ _ _
  | ⟨1, _⟩ => exact Rect.idx_unit_val _ _ _ _ _
  | ⟨2, _⟩ => exact Rect.idx_unit_val _ _ _ _ _

/-- What a point reads: its queries and their cotangents, a group's keys and values, what the point before left, the masked
value and the first query's position. -/
structure Inp where
  q : FVec Ideal (M 128 256) .bf16
  g : FVec Ideal (M 128 256) .f32
  k : FVec Ideal (M 2176 256) .bf16
  v : FVec Ideal (M 2176 256) .bf16
  ck : FVec Ideal (C 4 2176 128) .f32
  kt : FVec Ideal (M 256 2176) .bf16
  dk : FVec Ideal (M 2176 256) .f32
  dv : FVec Ideal (M 2176 256) .f32
  dc : FVec Ideal (C 4 2176 1) .f32
  z : Ideal .f32
  pos : BitVec 32

/-- One head of the four: its pair's first column, its place among the heads, its half of the pair's products, and the
queries' own terms. -/
structure Hd where
  lo : ℕ
  hh : ℕ
  off : ℕ
  hlo : lo + 128 ≤ 256
  hhh : hh + 1 ≤ 4
  hoff : off + 128 ≤ 256
  row : FVec Ideal (M 1 128) .f32

/-- A pair's columns of the queries. -/
def pairOf {φ : FTy} (X : FVec Ideal (M 128 256) φ) (lo : ℕ) (h : lo + 128 ≤ 256) : FVec Ideal (M 128 128) φ :=
  shapeCast (M 128 128) (cut X 0 lo 128 128 (by decide) h) (by decide)

theorem pairOf_apply {φ : FTy} (X : FVec Ideal (M 128 256) φ) (lo : ℕ) (h : lo + 128 ≤ 256) (t d : Fin 128) :
    pairOf X lo h (ix2 t d) = X (ix2 t ⟨lo + d.val, by omega⟩) := by
  unfold pairOf
  rw [shapeCast_id, cut_apply]
  exact congrArg (fun r => X (ix2 r _)) (Fin.ext (Nat.zero_add _))

theorem slices (n off : ℕ) (h : off + 128 ≤ 256) : (M n 256).Slices ![0, off] (M n 128) :=
  ⟨rfl, fun | ⟨0, _⟩ => le_of_eq (Nat.zero_add _) | ⟨1, _⟩ => h⟩

variable (I : Inp) (H : Hd)

def logitOf (f : Facts n) (k0 : ℕ) (hk : k0 + n ≤ 2176) : FVec Ideal (M n 128) .f32 :=
  logits f (half H.off (slices n H.off H.hoff) (prods f (cut I.k k0 H.lo n 128 hk H.hlo) (columns (pairOf I.q H.lo H.hlo))))
    (cut3 I.ck H.hh k0 0 1 n 128 H.hhh hk (by decide))
/-- The weights of a run of seen keys. -/
def prFull (f : Facts n) (k0 : ℕ) (hk : k0 + n ≤ 2176) : FVec Ideal (M n 128) .f32 :=
  weights f (logitOf I H f k0 hk) H.row
/-- The weights of a run of keys some of which are not seen. -/
def prMask (f : Facts n) (k0 : ℕ) (hk : k0 + n ≤ 2176) : FVec Ideal (M n 128) .f32 :=
  weights f (masked f I.z (BitVec.ofNat 32 k0) I.pos (logitOf I H f k0 hk)) H.row
/-- The gradient of the weights. -/
def dpOf (f : Facts n) (k0 : ℕ) (hk : k0 + n ≤ 2176) : FVec Ideal (M n 128) .f32 :=
  half H.off (slices n H.off H.hoff) (prods f (cut I.v k0 H.lo n 128 hk H.hlo) (columns (truncf .bf16 (pairOf I.g H.lo H.hlo) (by decide))))

/-! ### The same, entry by entry -/

/-- Head `H`'s log-weight of key `s` for query `t`. -/
def Lg (s : Fin 2176) (t : Fin 128) : EReal :=
  (∑ d : Fin 128, I.k (ix2 s ⟨H.lo + d.val, by have := H.hlo; omega⟩) * columns (pairOf I.q H.lo H.hlo) (ix2 d ⟨H.off + t.val, by have := H.hoff; omega⟩))
    - I.ck (ix3 ⟨H.hh, H.hhh⟩ s t)
/-- Its weight, the first query being number `Q`. -/
def Wt (Q : ℕ) (s : Fin 2176) (t : Fin 128) : EReal := Ideal.exp ((if s.val ≤ Q + t.val then Lg I H s t else ⊥) + H.row (ix2 0 t))
/-- The gradient of the weight. -/
def Dp (s : Fin 2176) (t : Fin 128) : EReal :=
  ∑ d : Fin 128, I.v (ix2 s ⟨H.lo + d.val, by have := H.hlo; omega⟩)
    * columns (truncf .bf16 (pairOf I.g H.lo H.hlo) (by decide)) (ix2 d ⟨H.off + t.val, by have := H.hoff; omega⟩)
/-- The query's sum of weight times its gradient. -/
def Ks (Q : ℕ) (t : Fin 128) : EReal := ∑ s : Fin 2176, Wt I H Q s t * Dp I H s t
/-- The score's gradient. -/
def Ds (Q : ℕ) (s : Fin 2176) (t : Fin 128) : EReal := Wt I H Q s t * (Dp I H s t - Ks I H Q t)

theorem logitOf_apply (f : Facts n) (k0 : ℕ) (hk : k0 + n ≤ 2176) (s : Fin n) (t : Fin 128) :
    logitOf I H f k0 hk (ix2 s t) = Lg I H ⟨k0 + s.val, by omega⟩ t := by
  unfold logitOf Lg
  rw [logits_apply, half_apply _ _ _ _ _ H.hoff, prods_apply, cut3_apply]
  simp only [cut_apply]
  exact congrArg (fun r => _ - I.ck r) (by simp)

theorem prFull_apply (f : Facts n) (k0 Q : ℕ) (hk : k0 + n ≤ 2176) (s : Fin n) (t : Fin 128) (hs : k0 + s.val ≤ Q + t.val) :
    prFull I H f k0 hk (ix2 s t) = Wt I H Q ⟨k0 + s.val, by omega⟩ t := by
  unfold prFull Wt
  rw [weights_apply, logitOf_apply, if_pos hs]

theorem prMask_apply (f : Facts n) (k0 Q : ℕ) (hk : k0 + n ≤ 2176) (hQ : Q + 128 ≤ 2176) (hp : I.pos = BitVec.ofNat 32 Q)
    (hz : I.z = (⊥ : EReal)) (s : Fin n) (t : Fin 128) :
    prMask I H f k0 hk (ix2 s t) = Wt I H Q ⟨k0 + s.val, by omega⟩ t := by
  unfold prMask Wt
  rw [weights_apply, hp, masked_apply f _ k0 Q _ s t hk hQ, logitOf_apply, hz]

theorem dpOf_apply (f : Facts n) (k0 : ℕ) (hk : k0 + n ≤ 2176) (s : Fin n) (t : Fin 128) :
    dpOf I H f k0 hk (ix2 s t) = Dp I H ⟨k0 + s.val, by omega⟩ t := by
  unfold dpOf Dp
  rw [half_apply _ _ _ _ _ H.hoff, prods_apply]
  simp only [cut_apply]

theorem Wt_unseen (Q : ℕ) (s : Fin 2176) (t : Fin 128) (h : Q + t.val < s.val) : Wt I H Q s t = 0 := by
  unfold Wt
  rw [if_neg (by omega), EReal.bot_add]
  rfl

theorem Ds_unseen (Q : ℕ) (s : Fin 2176) (t : Fin 128) (h : Q + t.val < s.val) : Ds I H Q s t = 0 := by
  unfold Ds
  rw [Wt_unseen I H Q s t h, zero_mul (M₀ := EReal)]

/-- A sum over all keys, zero past two runs, is the two runs' sums. -/
theorem sum_two (n1 n2 : ℕ) (h : n1 + n2 ≤ 2176) (F : Fin 2176 → EReal) (hF : ∀ s : Fin 2176, n1 + n2 ≤ s.val → F s = 0) :
    ∑ s : Fin 2176, F s = ∑ s : Fin n1, F ⟨0 + s.val, by omega⟩ + ∑ s : Fin n2, F ⟨n1 + s.val, by omega⟩ := by
  obtain ⟨r, hr⟩ := Nat.exists_eq_add_of_le h
  rw [← Equiv.sum_comp (finCongr hr.symm) F, Fin.sum_univ_add, Fin.sum_univ_add]
  rw [Finset.sum_eq_zero (s := Finset.univ) (f := fun i : Fin r => F (finCongr hr.symm (Fin.natAdd (n1 + n2) i)))
    (fun i _ => hF _ (by simp))]
  rw [add_zero (M := EReal)]
  refine congrArg₂ (· + ·) (Finset.sum_congr rfl fun s _ => congrArg F (Fin.ext ?_)) (Finset.sum_congr rfl fun s _ => congrArg F (Fin.ext ?_)) <;> simp

theorem sum_one (n2 : ℕ) (h : n2 ≤ 2176) (F : Fin 2176 → EReal) (hF : ∀ s : Fin 2176, n2 ≤ s.val → F s = 0) :
    ∑ s : Fin 2176, F s = ∑ s : Fin n2, F ⟨0 + s.val, by omega⟩ := by
  rw [sum_two 0 n2 (by omega) F (fun s hs => hF s (by omega))]
  simp

end Cert.AttnTile
-- ==== Proof.AttnPoint.lean ====
module

public import proofs.«01_k».proof.Proof.AttnTile

/-!
# What one point of the attention gradient computes

A point treats 128 queries against two runs of keys, the first wholly seen and the second masked, or (for the first
queries) against one masked run.  Either way its results are the same sums over all keys.
-/

@[expose] public section

noncomputable section

namespace Cert.AttnTile

open Idealize.ShloMosaic Idealize.ShloMosaic.TcCoe

variable {n n1 n2 : ℕ}

theorem rows_entry (f : Facts n) (a b : FVec Ideal (M n 128) .f32) (x : FVec Ideal (M 128 128) .bf16)
    (old : FVec Ideal (M n 128) .f32) (s : Fin n) (j : Fin 128) :
    rowsAcc f a b (stacked x) old (ix2 s j)
      = old (ix2 s j) + ∑ t : Fin 128, (if j.val < 64 then a (ix2 s t) else b (ix2 s t)) * x (ix2 t j) := by
  rw [rowsAcc_apply]
  refine congrArg (old (ix2 s j) + ·) ?_
  rw [show (∑ t : Fin 256, both f a b (ix2 s t) * stacked x (ix2 t j))
      = ∑ t : Fin (128 + 128), both f a b (ix2 s t) * stacked x (ix2 t j) from rfl, Fin.sum_univ_add, ← Finset.sum_add_distrib]
  refine Finset.sum_congr rfl fun t _ => ?_
  rw [both_apply, both_apply, stacked_apply, stacked_apply]
  have h1 : (Fin.castAdd 128 t : Fin (128 + 128)).val = t.val := rfl
  have h2 : (Fin.natAdd 128 t : Fin (128 + 128)).val = 128 + t.val := rfl
  by_cases h : j.val < 64 <;>
    simp [h, h1, h2, t.isLt, Nat.mod_eq_of_lt]

/-! ### Two runs -/

section Two
variable (I : Inp) (f1 : Facts n1) (f2 : Facts n2) (h : n1 + n2 ≤ 2176) (H A B : Hd)

def ksTwo : FVec Ideal (M 1 128) .f32 :=
  addf (addf (broadcast (M 1 128) (Scalar.ofBits .f32 0x00000000#32))
      (keySum f1 (prFull I H f1 0 (by omega)) (dpOf I H f1 0 (by omega))))
    (keySum f2 (prMask I H f2 n1 h) (dpOf I H f2 n1 h))
def dsFst : FVec Ideal (M n1 128) .f32 := scoreGrad f1 (prFull I H f1 0 (by omega)) (dpOf I H f1 0 (by omega)) (ksTwo I f1 f2 h H)
def dsSnd : FVec Ideal (M n2 128) .f32 := scoreGrad f2 (prMask I H f2 n1 h) (dpOf I H f2 n1 h) (ksTwo I f1 f2 h H)
def dkFst : FVec Ideal (M n1 128) .f32 :=
  rowsAcc f1 (dsFst I f1 f2 h A) (dsFst I f1 f2 h B) (stacked (pairOf I.q A.lo A.hlo)) (cut I.dk 0 A.lo n1 128 (by omega) A.hlo)
def dkSnd : FVec Ideal (M n2 128) .f32 :=
  rowsAcc f2 (dsSnd I f1 f2 h A) (dsSnd I f1 f2 h B) (stacked (pairOf I.q A.lo A.hlo)) (cut I.dk n1 A.lo n2 128 h A.hlo)
def dvFst : FVec Ideal (M n1 128) .f32 :=
  rowsAcc f1 (prFull I A f1 0 (by omega)) (prFull I B f1 0 (by omega)) (stacked (truncf .bf16 (pairOf I.g A.lo A.hlo) (by decide)))
    (cut I.dv 0 A.lo n1 128 (by omega) A.hlo)
def dvSnd : FVec Ideal (M n2 128) .f32 :=
  rowsAcc f2 (prMask I A f2 n1 h) (prMask I B f2 n1 h) (stacked (truncf .bf16 (pairOf I.g A.lo A.hlo) (by decide)))
    (cut I.dv n1 A.lo n2 128 h A.hlo)
def dcFst : FVec Ideal (C 1 n1 1) .f32 :=
  decayAcc f1 (dsFst I f1 f2 h H) (cut3 I.dc H.hh 0 0 1 n1 1 H.hhh (by omega) (by decide))
def dcSnd : FVec Ideal (C 1 n2 1) .f32 :=
  decayAcc f2 (dsSnd I f1 f2 h H) (cut3 I.dc H.hh n1 0 1 n2 1 H.hhh h (by decide))
def dqFull : FVec Ideal (M 128 256) .f32 :=
  addf (addf (broadcast (M 128 256) (Scalar.ofBits .f32 0x00000000#32))
      (queryAcc f1 (dsFst I f1 f2 h A) (dsFst I f1 f2 h B) (cut I.kt A.lo 0 128 n1 A.hlo (by omega))))
    (queryAcc f2 (dsSnd I f1 f2 h A) (dsSnd I f1 f2 h B) (cut I.kt A.lo n1 128 n2 A.hlo h))
end Two

/-! ### One run -/

/-- What the stores of the points before left, as a point of one run loads it: for each pair of heads, or for each head. -/
structure Src (n : ℕ) where
  dk : Fin 2 → FVec Ideal (M n 128) .f32
  dv : Fin 2 → FVec Ideal (M n 128) .f32
  dc : Fin 4 → FVec Ideal (C 1 n 1) .f32
  ck : Fin 4 → FVec Ideal (C 1 n 128) .f32
  kt : Fin 2 → FVec Ideal (M 128 n) .bf16

section One
variable (I : Inp) (f : Facts n) (h : 0 + n ≤ 2176) (H A B : Hd) (S : Src n) (ck ck' : FVec Ideal (C 1 n 128) .f32)

def prOne : FVec Ideal (M n 128) .f32 :=
  weights f (masked f I.z (BitVec.ofNat 32 0) I.pos
    (logits f (half H.off (slices n H.off H.hoff) (prods f (cut I.k 0 H.lo n 128 h H.hlo) (columns (pairOf I.q H.lo H.hlo)))) ck)) H.row
def ksOne : FVec Ideal (M 1 128) .f32 :=
  addf (broadcast (M 1 128) (Scalar.ofBits .f32 0x00000000#32)) (keySum f (prOne I f h H ck) (dpOf I H f 0 h))
def dsOne : FVec Ideal (M n 128) .f32 := scoreGrad f (prOne I f h H ck) (dpOf I H f 0 h) (ksOne I f h H ck)
def dkOne (old : FVec Ideal (M n 128) .f32) : FVec Ideal (M n 128) .f32 :=
  rowsAcc f (dsOne I f h A ck) (dsOne I f h B ck') (stacked (pairOf I.q A.lo A.hlo)) old
def dvOne (old : FVec Ideal (M n 128) .f32) : FVec Ideal (M n 128) .f32 :=
  rowsAcc f (prOne I f h A ck) (prOne I f h B ck') (stacked (truncf .bf16 (pairOf I.g A.lo A.hlo) (by decide))) old
def dcOne (old : FVec Ideal (C 1 n 1) .f32) : FVec Ideal (C 1 n 1) .f32 := decayAcc f (dsOne I f h H ck) old
def dqOne (kt : FVec Ideal (M 128 n) .bf16) : FVec Ideal (M 128 256) .f32 :=
  addf (broadcast (M 128 256) (Scalar.ofBits .f32 0x00000000#32))
    (queryAcc f (dsOne I f h A ck) (dsOne I f h B ck') kt)
end One

/-- The queries' gradient of four heads, scaled and turned. -/
def dqOut (x y : FVec Ideal (M 128 256) .f32) : FVec Ideal (M 128 256) .bf16 :=
  shapeCast (M 128 256) (truncf .bf16 (transpose (M 128 256) [1, 0]
    (mulf (concatenate (M 256 128) 0
        [⟨M 128 128, concatenate (M 128 128) 0 [⟨M 64 128, extractStridedSlice (M 64 128) ![0, 0] x (by decide)⟩,
            ⟨M 64 128, extractStridedSlice (M 64 128) ![64, 128] x (by decide)⟩] cat_halves⟩,
         ⟨M 128 128, concatenate (M 128 128) 0 [⟨M 64 128, extractStridedSlice (M 64 128) ![0, 0] y (by decide)⟩,
            ⟨M 64 128, extractStridedSlice (M 64 128) ![64, 128] y (by decide)⟩] cat_halves⟩] cat_rows)
      (broadcast (M 256 128) (Scalar.ofBits .f32 0x3E000000#32))) (by decide)) (by decide)) (by decide)

/-! ### What the stores leave -/

section Pieces
variable (I : Inp) (H : Fin 4 → Hd)

/-- A store of rows from `r`, columns from `c`. -/
def put (r c n : ℕ) (hr : r + n ≤ 2176) (hc : c + 128 ≤ 256) (x : FVec Ideal (M n 128) .f32) : View.Piece (Elt Ideal) (M 2176 256) .f32 :=
  ⟨Rect.unit (s := M 2176 256) ![r, c] ![n, 128] (in2 r c n 128 hr hc), x⟩
/-- A store of one head's column from row `r`. -/
def putCol (p r n : ℕ) (hp : p + 1 ≤ 4) (hr : r + n ≤ 2176) (x : FVec Ideal (C 1 n 1) .f32) : View.Piece (Elt Ideal) (C 4 2176 1) .f32 :=
  ⟨Rect.unit (s := C 4 2176 1) ![p, r, 0] ![1, n, 1] (in3 p r 0 1 n 1 hp hr (by decide)), x⟩

section
variable (f1 : Facts n1) (f2 : Facts n2) (h : n1 + n2 ≤ 2176)
def dkTwo : List (View.Piece (Elt Ideal) (M 2176 256) .f32) :=
  [put n1 128 n2 h (by decide) (dkSnd I f1 f2 h (H 2) (H 3)), put 0 128 n1 (by omega) (by decide) (dkFst I f1 f2 h (H 2) (H 3)),
   put n1 0 n2 h (by decide) (dkSnd I f1 f2 h (H 0) (H 1)), put 0 0 n1 (by omega) (by decide) (dkFst I f1 f2 h (H 0) (H 1))]
def dvTwo : List (View.Piece (Elt Ideal) (M 2176 256) .f32) :=
  [put n1 128 n2 h (by decide) (dvSnd I f2 h (H 2) (H 3)), put 0 128 n1 (by omega) (by decide) (dvFst I f1 h (H 2) (H 3)),
   put n1 0 n2 h (by decide) (dvSnd I f2 h (H 0) (H 1)), put 0 0 n1 (by omega) (by decide) (dvFst I f1 h (H 0) (H 1))]
def dcTwo : List (View.Piece (Elt Ideal) (C 4 2176 1) .f32) :=
  [putCol 3 n1 n2 (by decide) h (dcSnd I f1 f2 h (H 3)), putCol 2 n1 n2 (by decide) h (dcSnd I f1 f2 h (H 2)),
   putCol 3 0 n1 (by decide) (by omega) (dcFst I f1 f2 h (H 3)), putCol 2 0 n1 (by decide) (by omega) (dcFst I f1 f2 h (H 2)),
   putCol 1 n1 n2 (by decide) h (dcSnd I f1 f2 h (H 1)), putCol 0 n1 n2 (by decide) h (dcSnd I f1 f2 h (H 0)),
   putCol 1 0 n1 (by decide) (by omega) (dcFst I f1 f2 h (H 1)), putCol 0 0 n1 (by decide) (by omega) (dcFst I f1 f2 h (H 0))]
end

section
variable (f : Facts n) (h : 0 + n ≤ 2176) (S : Src n)
def dkOnce : List (View.Piece (Elt Ideal) (M 2176 256) .f32) :=
  [put 0 128 n h (by decide) (dkOne I f h (H 2) (H 3) (S.ck 2) (S.ck 3) (S.dk 1)),
   put 0 0 n h (by decide) (dkOne I f h (H 0) (H 1) (S.ck 0) (S.ck 1) (S.dk 0))]
def dvOnce : List (View.Piece (Elt Ideal) (M 2176 256) .f32) :=
  [put 0 128 n h (by decide) (dvOne I f h (H 2) (H 3) (S.ck 2) (S.ck 3) (S.dv 1)),
   put 0 0 n h (by decide) (dvOne I f h (H 0) (H 1) (S.ck 0) (S.ck 1) (S.dv 0))]
def dcOnce : List (View.Piece (Elt Ideal) (C 4 2176 1) .f32) :=
  [putCol 3 0 n (by decide) h (dcOne I f h (H 3) (S.ck 3) (S.dc 3)), putCol 2 0 n (by decide) h (dcOne I f h (H 2) (S.ck 2) (S.dc 2)),
   putCol 1 0 n (by decide) h (dcOne I f h (H 1) (S.ck 1) (S.dc 1)), putCol 0 0 n (by decide) h (dcOne I f h (H 0) (S.ck 0) (S.dc 0))]
def dqOnce : FVec Ideal (M 128 256) .bf16 :=
  dqOut (dqOne I f h (H 0) (H 1) (S.ck 0) (S.ck 1) (S.kt 0)) (dqOne I f h (H 2) (H 3) (S.ck 2) (S.ck 3) (S.kt 1))
end

end Pieces

end Cert.AttnTile
-- ==== Proof.AttnSpec.lean ====
module

public import proofs.«01_k».proof.Proof.AttnPoint
public import Idealize.ShloMosaic.Lib.Writes

/-!
# The entries of one point's results
-/

@[expose] public section

noncomputable section

namespace Cert.AttnTile

open Idealize.ShloMosaic Idealize.ShloMosaic.TcCoe

variable {n n1 n2 : ℕ}

/-- Reading stores that agree with one function, over contents that agree with it elsewhere, reads that function. -/
theorem read_kept {sig' : RefSig} {κ' : Kind} {sp' : Space} {s : Shape} {e : EltTy} (v : View sig' κ' sp' s e)
    (base : v.ty.Contents (Elt Ideal)) (G : s.Idx → Elt Ideal e) (L : List (View.Piece (Elt Ideal) s e))
    (hL : ∀ p ∈ L, ∀ x : p.1.shape.Idx, p.2 x = G (p.1.emb x))
    (hout : ∀ y : s.Idx, (∀ p ∈ L, y ∉ p.1.set) → v.read (Elt Ideal) base y = G y) :
    v.read (Elt Ideal) (v.writes (Elt Ideal) base L) = G := by
  funext y
  by_cases h : ∃ p ∈ L, y ∈ p.1.set
  · exact View.read_writes_apply_of_pieces v base G L hL y h
  · have h' : ∀ p ∈ L, y ∉ p.1.set := fun p hp hy => h ⟨p, hp, hy⟩
    rw [View.read_writes_apply_of_forall_not_mem v base y L h']
    exact hout y h'

theorem put_ok (r c n : ℕ) (hr : r + n ≤ 2176) (hc : c + 128 ≤ 256) (x : FVec Ideal (M n 128) .f32) (G : (M 2176 256).Idx → EReal)
    (h : ∀ (s : Fin n) (j : Fin 128), x (ix2 s j) = G (ix2 ⟨r + s.val, by omega⟩ ⟨c + j.val, by omega⟩)) :
    ∀ y, (put r c n hr hc x).2 y = G ((put r c n hr hc x).1.emb y) := by
  intro y
  have e := h (y 0) (y 1)
  rw [show (ix2 (y 0) (y 1) : (M n 128).Idx) = y from ix2_eta y] at e
  refine e.trans (congrArg G (funext fun i => Fin.ext ?_))
  match i with
  | ⟨0, _⟩ => exact (Rect.idx_unit_val (s := M 2176 256) ![r, c] ![n, 128] (in2 r c n 128 hr hc) y 0).symm
  | ⟨1, _⟩ => exact (Rect.idx_unit_val (s := M 2176 256) ![r, c] ![n, 128] (in2 r c n 128 hr hc) y 1).symm

theorem put_mem (r c n : ℕ) (hr : r + n ≤ 2176) (hc : c + 128 ≤ 256) (x : FVec Ideal (M n 128) .f32) (y : (M 2176 256).Idx)
    (h0 : r ≤ (y 0).val ∧ (y 0).val < r + n) (h1 : c ≤ (y 1).val ∧ (y 1).val < c + 128) : y ∈ (put r c n hr hc x).1.set := by
  refine (Rect.mem_set_unit (s := M 2176 256) (off := ![r, c]) (size := ![n, 128]) (inb := in2 r c n 128 hr hc)).2 fun a => ?_
  match a with
  | ⟨0, _⟩ => exact h0
  | ⟨1, _⟩ => exact h1

theorem putCol_ok (p r n : ℕ) (hp : p + 1 ≤ 4) (hr : r + n ≤ 2176) (x : FVec Ideal (C 1 n 1) .f32) (G : (C 4 2176 1).Idx → EReal)
    (h : ∀ s : Fin n, x (ix3 0 s 0) = G (ix3 ⟨p, by omega⟩ ⟨r + s.val, by omega⟩ 0)) :
    ∀ y, (putCol p r n hp hr x).2 y = G ((putCol p r n hp hr x).1.emb y) := by
  intro y
  have e := h (y 1)
  have h0 : (y 0).val = 0 := by have := (y 0).isLt; change (y 0).val < 1 at this; omega
  have h2 : (y 2).val = 0 := by have := (y 2).isLt; change (y 2).val < 1 at this; omega
  rw [show (ix3 0 (y 1) 0 : (C 1 n 1).Idx) = y from funext fun i => Fin.ext (match i with
    | ⟨0, _⟩ => h0.symm
    | ⟨1, _⟩ => rfl
    | ⟨2, _⟩ => h2.symm)] at e
  refine e.trans (congrArg G (funext fun i => Fin.ext ?_))
  match i with
  | ⟨0, _⟩ => exact (show p = p + (y 0).val by omega).trans (Rect.idx_unit_val (s := C 4 2176 1) ![p, r, 0] ![1, n, 1] (in3 p r 0 1 n 1 hp hr (by decide)) y 0).symm
  | ⟨1, _⟩ => exact (Rect.idx_unit_val (s := C 4 2176 1) ![p, r, 0] ![1, n, 1] (in3 p r 0 1 n 1 hp hr (by decide)) y 1).symm
  | ⟨2, _⟩ => exact (show 0 = 0 + (y 2).val by omega).trans (Rect.idx_unit_val (s := C 4 2176 1) ![p, r, 0] ![1, n, 1] (in3 p r 0 1 n 1 hp hr (by decide)) y 2).symm

theorem putCol_mem (p r n : ℕ) (hp : p + 1 ≤ 4) (hr : r + n ≤ 2176) (x : FVec Ideal (C 1 n 1) .f32) (y : (C 4 2176 1).Idx)
    (h0 : (y 0).val = p) (h1 : r ≤ (y 1).val ∧ (y 1).val < r + n) : y ∈ (putCol p r n hp hr x).1.set := by
  have h2 : (y 2).val < 1 := (y 2).isLt
  refine (Rect.mem_set_unit (s := C 4 2176 1) (off := ![p, r, 0]) (size := ![1, n, 1]) (inb := in3 p r 0 1 n 1 hp hr (by decide))).2 fun a => ?_
  match a with
  | ⟨0, _⟩ => exact ⟨le_of_eq h0.symm, (show (y 0).val < p + 1 by omega)⟩
  | ⟨1, _⟩ => exact h1
  | ⟨2, _⟩ => exact ⟨Nat.zero_le _, (show (y 2).val < 0 + 1 by omega)⟩

/-! ### Rows -/

/-- The head a column belongs to. -/
def hdOf (J : Fin 256) : Fin 4 := ⟨J.val / 64, by omega⟩

/-- A key's gradient after the point: what it was and each query's share. -/
def rowsNew (old : FVec Ideal (M 2176 256) .f32) (E : Fin 4 → Fin 2176 → Fin 128 → EReal) (X : Fin 128 → Fin 256 → EReal) (y : (M 2176 256).Idx) : EReal :=
  old y + ∑ t : Fin 128, E (hdOf (y 1)) (y 0) t * X t (y 1)

theorem rows_piece (f : Facts n) (p r lo : ℕ) (hp : p < 2) (hlo : lo = 128 * p) (hlo' : lo + 128 ≤ 256) (hr : r + n ≤ 2176)
    (a b : FVec Ideal (M n 128) .f32) (x : FVec Ideal (M 128 128) .bf16) (old : FVec Ideal (M n 128) .f32)
    (G : FVec Ideal (M 2176 256) .f32) (E : Fin 4 → Fin 2176 → Fin 128 → EReal) (X : Fin 128 → Fin 256 → EReal)
    (ha : ∀ s t, a (ix2 s t) = E ⟨2 * p, by omega⟩ ⟨r + s.val, by omega⟩ t)
    (hb : ∀ s t, b (ix2 s t) = E ⟨2 * p + 1, by omega⟩ ⟨r + s.val, by omega⟩ t)
    (hx : ∀ t j, x (ix2 t j) = X t ⟨lo + j.val, by omega⟩)
    (hold : ∀ s j, old (ix2 s j) = G (ix2 ⟨r + s.val, by omega⟩ ⟨lo + j.val, by omega⟩)) (s : Fin n) (j : Fin 128) :
    rowsAcc f a b (stacked x) old (ix2 s j) = rowsNew G E X (ix2 ⟨r + s.val, by omega⟩ ⟨128 * p + j.val, by omega⟩) := by
  subst hlo
  rw [rows_entry, hold]
  unfold rowsNew
  refine congrArg (_ + ·) (Finset.sum_congr rfl fun t _ => ?_)
  rw [ha, hb, hx]
  refine congrArg (· * _) ?_
  by_cases h : j.val < 64
  · rw [if_pos h]
    exact congrArg (fun i => E i _ t) (Fin.ext (show 2 * p = (128 * p + j.val) / 64 by omega))
  · rw [if_neg h]
    exact congrArg (fun i => E i _ t) (Fin.ext (show 2 * p + 1 = (128 * p + j.val) / 64 by omega))

theorem rowsNew_of_zero (old : FVec Ideal (M 2176 256) .f32) (E : Fin 4 → Fin 2176 → Fin 128 → EReal) (X : Fin 128 → Fin 256 → EReal)
    (y : (M 2176 256).Idx) (h : ∀ i t, E i (y 0) t = 0) : rowsNew old E X y = old y := by
  unfold rowsNew
  rw [Finset.sum_eq_zero fun t _ => by rw [h, zero_mul (M₀ := EReal)]]
  exact add_zero (M := EReal) _

section
variable {sig' : RefSig} {κ' : Kind} {sp' : Space}

theorem rows_two (v : View sig' κ' sp' (M 2176 256) .f32) (base : v.ty.Contents (Elt Ideal)) (h : n1 + n2 ≤ 2176) (h1 : 0 + n1 ≤ 2176)
    (G : FVec Ideal (M 2176 256) .f32) (E : Fin 4 → Fin 2176 → Fin 128 → EReal) (X : Fin 128 → Fin 256 → EReal)
    (hE : ∀ i (s : Fin 2176) t, n1 + n2 ≤ s.val → E i s t = 0)
    (hbase : ∀ y : (M 2176 256).Idx, n1 + n2 ≤ (y 0).val → v.read (Elt Ideal) base y = G y)
    (x00 x01 : FVec Ideal (M n1 128) .f32) (x10 x11 : FVec Ideal (M n2 128) .f32)
    (h00 : ∀ s j, x00 (ix2 s j) = rowsNew G E X (ix2 ⟨0 + s.val, by omega⟩ ⟨128 * 0 + j.val, by omega⟩))
    (h01 : ∀ s j, x01 (ix2 s j) = rowsNew G E X (ix2 ⟨0 + s.val, by omega⟩ ⟨128 * 1 + j.val, by omega⟩))
    (h10 : ∀ s j, x10 (ix2 s j) = rowsNew G E X (ix2 ⟨n1 + s.val, by omega⟩ ⟨128 * 0 + j.val, by omega⟩))
    (h11 : ∀ s j, x11 (ix2 s j) = rowsNew G E X (ix2 ⟨n1 + s.val, by omega⟩ ⟨128 * 1 + j.val, by omega⟩)) :
    v.read (Elt Ideal) (v.writes (Elt Ideal) base [put n1 128 n2 h (by decide) x11, put 0 128 n1 h1 (by decide) x01,
      put n1 0 n2 h (by decide) x10, put 0 0 n1 h1 (by decide) x00]) = rowsNew G E X := by
  refine read_kept v base _ _ ?_ ?_
  · intro p hp
    simp only [List.mem_cons, List.not_mem_nil, or_false] at hp
    rcases hp with rfl | rfl | rfl | rfl
    · exact put_ok _ _ _ _ _ _ _ h11
    · exact put_ok _ _ _ _ _ _ _ h01
    · exact put_ok _ _ _ _ _ _ _ h10
    · exact put_ok _ _ _ _ _ _ _ h00
  · intro y hy
    have hy1 : (y 1).val < 256 := (y 1).isLt
    have hlt : n1 + n2 ≤ (y 0).val := by
      by_contra hc
      by_cases a : (y 0).val < n1 <;> by_cases b : (y 1).val < 128
      · exact hy _ (List.mem_cons_of_mem _ (List.mem_cons_of_mem _ (List.mem_cons_of_mem _ List.mem_cons_self)))
          (put_mem _ _ _ _ _ _ _ ⟨by omega, by omega⟩ ⟨by omega, by omega⟩)
      · exact hy _ (List.mem_cons_of_mem _ List.mem_cons_self) (put_mem _ _ _ _ _ _ _ ⟨by omega, by omega⟩ ⟨by omega, by omega⟩)
      · exact hy _ (List.mem_cons_of_mem _ (List.mem_cons_of_mem _ List.mem_cons_self))
          (put_mem _ _ _ _ _ _ _ ⟨by omega, by omega⟩ ⟨by omega, by omega⟩)
      · exact hy _ List.mem_cons_self (put_mem _ _ _ _ _ _ _ ⟨by omega, by omega⟩ ⟨by omega, by omega⟩)
    rw [hbase y hlt, rowsNew_of_zero _ _ _ _ fun i t => hE i _ t hlt]

theorem rows_one (v : View sig' κ' sp' (M 2176 256) .f32) (base : v.ty.Contents (Elt Ideal)) (h : 0 + n ≤ 2176)
    (G : FVec Ideal (M 2176 256) .f32) (E : Fin 4 → Fin 2176 → Fin 128 → EReal) (X : Fin 128 → Fin 256 → EReal)
    (hE : ∀ i (s : Fin 2176) t, n ≤ s.val → E i s t = 0)
    (hbase : ∀ y : (M 2176 256).Idx, n ≤ (y 0).val → v.read (Elt Ideal) base y = G y)
    (x0 x1 : FVec Ideal (M n 128) .f32)
    (h0 : ∀ s j, x0 (ix2 s j) = rowsNew G E X (ix2 ⟨0 + s.val, by omega⟩ ⟨128 * 0 + j.val, by omega⟩))
    (h1 : ∀ s j, x1 (ix2 s j) = rowsNew G E X (ix2 ⟨0 + s.val, by omega⟩ ⟨128 * 1 + j.val, by omega⟩)) :
    v.read (Elt Ideal) (v.writes (Elt Ideal) base [put 0 128 n h (by decide) x1, put 0 0 n h (by decide) x0]) = rowsNew G E X := by
  refine read_kept v base _ _ ?_ ?_
  · intro p hp
    simp only [List.mem_cons, List.not_mem_nil, or_false] at hp
    rcases hp with rfl | rfl
    · exact put_ok _ _ _ _ _ _ _ h1
    · exact put_ok _ _ _ _ _ _ _ h0
  · intro y hy
    have hy1 : (y 1).val < 256 := (y 1).isLt
    have hlt : n ≤ (y 0).val := by
      by_contra hc
      by_cases b : (y 1).val < 128
      · exact hy _ (List.mem_cons_of_mem _ List.mem_cons_self) (put_mem _ _ _ _ _ _ _ ⟨by omega, by omega⟩ ⟨by omega, by omega⟩)
      · exact hy _ List.mem_cons_self (put_mem _ _ _ _ _ _ _ ⟨by omega, by omega⟩ ⟨by omega, by omega⟩)
    rw [hbase y hlt, rowsNew_of_zero _ _ _ _ fun i t => hE i _ t hlt]
end

/-! ### The decays -/

/-- A key's decay gradient after the point. -/
def colsNew (old : FVec Ideal (C 4 2176 1) .f32) (E : Fin 4 → Fin 2176 → Fin 128 → EReal) (y : (C 4 2176 1).Idx) : EReal :=
  old y + ∑ t : Fin 128, E (y 0) (y 1) t

theorem cols_piece (f : Facts n) (p r : ℕ) (hp : p < 4) (hr : r + n ≤ 2176) (a : FVec Ideal (M n 128) .f32) (old : FVec Ideal (C 1 n 1) .f32)
    (G : FVec Ideal (C 4 2176 1) .f32) (E : Fin 4 → Fin 2176 → Fin 128 → EReal)
    (ha : ∀ s t, a (ix2 s t) = E ⟨p, hp⟩ ⟨r + s.val, by omega⟩ t)
    (hold : ∀ s : Fin n, old (ix3 0 s 0) = G (ix3 ⟨p, hp⟩ ⟨r + s.val, by omega⟩ 0)) (s : Fin n) :
    decayAcc f a old (ix3 0 s 0) = colsNew G E (ix3 ⟨p, hp⟩ ⟨r + s.val, by omega⟩ 0) := by
  rw [decayAcc_apply, hold]
  unfold colsNew
  exact congrArg (_ + ·) (Finset.sum_congr rfl fun t _ => ha s t)

theorem colsNew_of_zero (old : FVec Ideal (C 4 2176 1) .f32) (E : Fin 4 → Fin 2176 → Fin 128 → EReal) (y : (C 4 2176 1).Idx)
    (h : ∀ i t, E i (y 1) t = 0) : colsNew old E y = old y := by
  exact (congrArg (old y + ·) (Finset.sum_eq_zero fun t _ => h _ t)).trans (add_zero (M := EReal) _)

section
variable {sig' : RefSig} {κ' : Kind} {sp' : Space}

theorem cols_two (v : View sig' κ' sp' (C 4 2176 1) .f32) (base : v.ty.Contents (Elt Ideal)) (h : n1 + n2 ≤ 2176) (h1 : 0 + n1 ≤ 2176)
    (G : FVec Ideal (C 4 2176 1) .f32) (E : Fin 4 → Fin 2176 → Fin 128 → EReal)
    (hE : ∀ i (s : Fin 2176) t, n1 + n2 ≤ s.val → E i s t = 0)
    (hbase : ∀ y : (C 4 2176 1).Idx, n1 + n2 ≤ (y 1).val → v.read (Elt Ideal) base y = G y)
    (x : Fin 4 → FVec Ideal (C 1 n1 1) .f32) (z : Fin 4 → FVec Ideal (C 1 n2 1) .f32)
    (hx : ∀ p s, x p (ix3 0 s 0) = colsNew G E (ix3 p ⟨0 + s.val, by omega⟩ 0))
    (hz : ∀ p s, z p (ix3 0 s 0) = colsNew G E (ix3 p ⟨n1 + s.val, by omega⟩ 0)) :
    v.read (Elt Ideal) (v.writes (Elt Ideal) base
      [putCol 3 n1 n2 (by decide) h (z 3), putCol 2 n1 n2 (by decide) h (z 2), putCol 3 0 n1 (by decide) h1 (x 3), putCol 2 0 n1 (by decide) h1 (x 2),
       putCol 1 n1 n2 (by decide) h (z 1), putCol 0 n1 n2 (by decide) h (z 0), putCol 1 0 n1 (by decide) h1 (x 1), putCol 0 0 n1 (by decide) h1 (x 0)])
      = colsNew G E := by
  refine read_kept v base _ _ ?_ ?_
  · intro p hp
    simp only [List.mem_cons, List.not_mem_nil, or_false] at hp
    rcases hp with rfl | rfl | rfl | rfl | rfl | rfl | rfl | rfl
    · exact putCol_ok _ _ _ _ _ _ _ (hz 3)
    · exact putCol_ok _ _ _ _ _ _ _ (hz 2)
    · exact putCol_ok _ _ _ _ _ _ _ (hx 3)
    · exact putCol_ok _ _ _ _ _ _ _ (hx 2)
    · exact putCol_ok _ _ _ _ _ _ _ (hz 1)
    · exact putCol_ok _ _ _ _ _ _ _ (hz 0)
    · exact putCol_ok _ _ _ _ _ _ _ (hx 1)
    · exact putCol_ok _ _ _ _ _ _ _ (hx 0)
  · intro y hy
    simp only [List.mem_cons, List.not_mem_nil, or_false, forall_eq_or_imp, forall_eq] at hy
    obtain ⟨a3, a2, b3, b2, a1, a0, b1, b0⟩ := hy
    have hy0 : (y 0).val < 4 := (y 0).isLt
    have hlt : n1 + n2 ≤ (y 1).val := by
      by_contra hc
      have hcase : (y 0).val = 0 ∨ (y 0).val = 1 ∨ (y 0).val = 2 ∨ (y 0).val = 3 := by omega
      by_cases a : (y 1).val < n1 <;> rcases hcase with e | e | e | e
      · exact b0 (putCol_mem _ _ _ _ _ _ _ e ⟨by omega, by omega⟩)
      · exact b1 (putCol_mem _ _ _ _ _ _ _ e ⟨by omega, by omega⟩)
      · exact b2 (putCol_mem _ _ _ _ _ _ _ e ⟨by omega, by omega⟩)
      · exact b3 (putCol_mem _ _ _ _ _ _ _ e ⟨by omega, by omega⟩)
      · exact a0 (putCol_mem _ _ _ _ _ _ _ e ⟨by omega, by omega⟩)
      · exact a1 (putCol_mem _ _ _ _ _ _ _ e ⟨by omega, by omega⟩)
      · exact a2 (putCol_mem _ _ _ _ _ _ _ e ⟨by omega, by omega⟩)
      · exact a3 (putCol_mem _ _ _ _ _ _ _ e ⟨by omega, by omega⟩)
    rw [hbase y hlt, colsNew_of_zero _ _ _ fun i t => hE i _ t hlt]

theorem cols_one (v : View sig' κ' sp' (C 4 2176 1) .f32) (base : v.ty.Contents (Elt Ideal)) (h : 0 + n ≤ 2176)
    (G : FVec Ideal (C 4 2176 1) .f32) (E : Fin 4 → Fin 2176 → Fin 128 → EReal)
    (hE : ∀ i (s : Fin 2176) t, n ≤ s.val → E i s t = 0)
    (hbase : ∀ y : (C 4 2176 1).Idx, n ≤ (y 1).val → v.read (Elt Ideal) base y = G y)
    (x : Fin 4 → FVec Ideal (C 1 n 1) .f32)
    (hx : ∀ p s, x p (ix3 0 s 0) = colsNew G E (ix3 p ⟨0 + s.val, by omega⟩ 0)) :
    v.read (Elt Ideal) (v.writes (Elt Ideal) base
      [putCol 3 0 n (by decide) h (x 3), putCol 2 0 n (by decide) h (x 2), putCol 1 0 n (by decide) h (x 1), putCol 0 0 n (by decide) h (x 0)])
      = colsNew G E := by
  refine read_kept v base _ _ ?_ ?_
  · intro p hp
    simp only [List.mem_cons, List.not_mem_nil, or_false] at hp
    rcases hp with rfl | rfl | rfl | rfl
    · exact putCol_ok _ _ _ _ _ _ _ (hx 3)
    · exact putCol_ok _ _ _ _ _ _ _ (hx 2)
    · exact putCol_ok _ _ _ _ _ _ _ (hx 1)
    · exact putCol_ok _ _ _ _ _ _ _ (hx 0)
  · intro y hy
    simp only [List.mem_cons, List.not_mem_nil, or_false, forall_eq_or_imp, forall_eq] at hy
    obtain ⟨b3, b2, b1, b0⟩ := hy
    have hy0 : (y 0).val < 4 := (y 0).isLt
    have hlt : n ≤ (y 1).val := by
      by_contra hc
      have hcase : (y 0).val = 0 ∨ (y 0).val = 1 ∨ (y 0).val = 2 ∨ (y 0).val = 3 := by omega
      rcases hcase with e | e | e | e
      · exact b0 (putCol_mem _ _ _ _ _ _ _ e ⟨by omega, by omega⟩)
      · exact b1 (putCol_mem _ _ _ _ _ _ _ e ⟨by omega, by omega⟩)
      · exact b2 (putCol_mem _ _ _ _ _ _ _ e ⟨by omega, by omega⟩)
      · exact b3 (putCol_mem _ _ _ _ _ _ _ e ⟨by omega, by omega⟩)
    rw [hbase y hlt, colsNew_of_zero _ _ _ fun i t => hE i _ t hlt]
end

/-! ### The queries -/

/-- A query's gradient. -/
def queryNew (kt : FVec Ideal (M 256 2176) .bf16) (E : Fin 4 → Fin 2176 → Fin 128 → EReal) (t : Fin 128) (J : Fin 256) : EReal :=
  (∑ s : Fin 2176, kt (ix2 J s) * E (hdOf J) s t) * Ideal.ofBits .f32 0x3E000000#32

theorem dqOut_apply (x y : FVec Ideal (M 128 256) .f32) (t : Fin 128) (J : Fin 256) :
    dqOut x y (ix2 t J) = (if h : J.val < 128 then x (ix2 ⟨J.val, h⟩ ⟨(if J.val % 128 < 64 then t.val else 128 + t.val), by split <;> omega⟩)
      else y (ix2 ⟨J.val - 128, by omega⟩ ⟨(if J.val % 128 < 64 then t.val else 128 + t.val), by split <;> omega⟩)) * Ideal.ofBits .f32 0x3E000000#32 := by
  unfold dqOut
  rw [shapeCast_id]
  pointwise
  refine congrArg (· * Ideal.ofBits .f32 0x3E000000#32) ?_
  by_cases h : J.val < 128
  · rw [dif_pos h]; try rw [dif_pos h]
    by_cases h' : J.val < 64
    · have e : J.val % 128 < 64 := by omega
      simp only [h', e, dif_pos, if_pos]
    · have e : ¬ J.val % 128 < 64 := by omega
      simp only [h', e, dif_neg, if_neg, not_false_eq_true]
      refine congrArg x (funext fun a => Fin.ext ?_)
      match a with
      | ⟨0, _⟩ => exact (show 64 + (J.val - 64) = J.val by omega)
      | ⟨1, _⟩ => rfl
  · rw [dif_neg h]; try rw [dif_neg h]
    by_cases h' : J.val - 128 < 64
    · have e : J.val % 128 < 64 := by omega
      simp only [h', e, dif_pos, if_pos]
    · have e : ¬ J.val % 128 < 64 := by omega
      simp only [h', e, dif_neg, if_neg, not_false_eq_true]
      refine congrArg y (funext fun a => Fin.ext ?_)
      match a with
      | ⟨0, _⟩ => exact (show 64 + (J.val - 128 - 64) = J.val - 128 by omega)
      | ⟨1, _⟩ => rfl

end Cert.AttnTile
-- ==== Proof.AttnStep.lean ====
module

public import proofs.«01_k».proof.Proof.AttnSpec

/-!
# What one point of the attention gradient leaves
-/

@[expose] public section

noncomputable section

namespace Cert.AttnTile

open Idealize.ShloMosaic Idealize.ShloMosaic.TcCoe

variable {n n1 n2 : ℕ}

/-- The four heads lie two in each pair of columns. -/
def HdOK (H : Fin 4 → Hd) : Prop := ∀ i : Fin 4, (H i).lo = 128 * (i.val / 2) ∧ (H i).hh = i.val ∧ (H i).off = 128 * (i.val % 2)

/-- The point's first query is number `Q`, and what a query does not see weighs nothing. -/
structure At (I : Inp) (Q : ℕ) : Prop where
  z : I.z = (⊥ : EReal)
  pos : I.pos = BitVec.ofNat 32 Q
  le : Q + 128 ≤ 2176

theorem bcast_zero (S : Shape) (i : S.Idx) : broadcast S (Scalar.ofBits (F := Ideal) .f32 0x00000000#32) i = (0 : EReal) := by
  pointwise

section Two
variable (I : Inp) (f1 : Facts n1) (f2 : Facts n2) (h : n1 + n2 ≤ 2176) (Q : ℕ) (hI : At I Q) (h1 : n1 ≤ Q) (h2 : Q + 128 ≤ n1 + n2)
include hI h1 h2

theorem ksTwo_apply (H : Hd) (t : Fin 128) : ksTwo I f1 f2 h H (ix2 0 t) = Ks I H Q t := by
  unfold ksTwo Ks
  rw [sum_two n1 n2 h _ fun s hs => by rw [Wt_unseen I H Q s t (by omega), zero_mul (M₀ := EReal)]]
  show (broadcast (M 1 128) (Scalar.ofBits (F := Ideal) .f32 0x00000000#32) (ix2 0 t) + keySum f1 _ _ (ix2 0 t)) + keySum f2 _ _ (ix2 0 t) = _
  rw [bcast_zero, keySum_apply, keySum_apply]
  refine congrArg₂ (· + ·) ((zero_add (M := EReal) _).trans (Finset.sum_congr rfl fun s _ => ?_)) (Finset.sum_congr rfl fun s _ => ?_)
  · rw [prFull_apply I H f1 0 Q _ s t (by omega), dpOf_apply]
  · rw [prMask_apply I H f2 n1 Q h hI.le hI.pos hI.z, dpOf_apply]

theorem dsFst_apply (H : Hd) (s : Fin n1) (t : Fin 128) : dsFst I f1 f2 h H (ix2 s t) = Ds I H Q ⟨0 + s.val, by omega⟩ t := by
  unfold dsFst Ds
  rw [scoreGrad_apply, ksTwo_apply I f1 f2 h Q hI h1 h2, prFull_apply I H f1 0 Q _ s t (by omega), dpOf_apply]

theorem dsSnd_apply (H : Hd) (s : Fin n2) (t : Fin 128) : dsSnd I f1 f2 h H (ix2 s t) = Ds I H Q ⟨n1 + s.val, by omega⟩ t := by
  unfold dsSnd Ds
  rw [scoreGrad_apply, ksTwo_apply I f1 f2 h Q hI h1 h2, prMask_apply I H f2 n1 Q h hI.le hI.pos hI.z, dpOf_apply]

variable {sig' : RefSig} {κ' : Kind} {sp' : Space} (H : Fin 4 → Hd) (hH : HdOK H)
include hH

theorem dkTwo_read (v : View sig' κ' sp' (M 2176 256) .f32) (base : v.ty.Contents (Elt Ideal))
    (hbase : ∀ y : (M 2176 256).Idx, n1 + n2 ≤ (y 0).val → v.read (Elt Ideal) base y = I.dk y) :
    v.read (Elt Ideal) (v.writes (Elt Ideal) base (dkTwo I H f1 f2 h)) = rowsNew I.dk (fun i => Ds I (H i) Q) (fun t J => I.q (ix2 t J)) := by
  refine rows_two v base h (by omega) I.dk _ _ (fun i s t hs => Ds_unseen I _ Q s t (by omega)) hbase _ _ _ _ ?_ ?_ ?_ ?_
  · exact rows_piece f1 0 0 _ (by decide) (hH 0).1 (H 0).hlo (by omega) _ _ _ _ _ _ _ (fun s t => dsFst_apply I f1 f2 h Q hI h1 h2 (H 0) s t)
      (fun s t => dsFst_apply I f1 f2 h Q hI h1 h2 (H 1) s t) (pairOf_apply I.q _ (H 0).hlo) (cut_apply I.dk 0 _ _ _ (by omega) (H 0).hlo)
  · exact rows_piece f1 1 0 _ (by decide) (hH 2).1 (H 2).hlo (by omega) _ _ _ _ _ _ _ (fun s t => dsFst_apply I f1 f2 h Q hI h1 h2 (H 2) s t)
      (fun s t => dsFst_apply I f1 f2 h Q hI h1 h2 (H 3) s t) (pairOf_apply I.q _ (H 2).hlo) (cut_apply I.dk 0 _ _ _ (by omega) (H 2).hlo)
  · exact rows_piece f2 0 n1 _ (by decide) (hH 0).1 (H 0).hlo h _ _ _ _ _ _ _ (fun s t => dsSnd_apply I f1 f2 h Q hI h1 h2 (H 0) s t)
      (fun s t => dsSnd_apply I f1 f2 h Q hI h1 h2 (H 1) s t) (pairOf_apply I.q _ (H 0).hlo) (cut_apply I.dk n1 _ _ _ h (H 0).hlo)
  · exact rows_piece f2 1 n1 _ (by decide) (hH 2).1 (H 2).hlo h _ _ _ _ _ _ _ (fun s t => dsSnd_apply I f1 f2 h Q hI h1 h2 (H 2) s t)
      (fun s t => dsSnd_apply I f1 f2 h Q hI h1 h2 (H 3) s t) (pairOf_apply I.q _ (H 2).hlo) (cut_apply I.dk n1 _ _ _ h (H 2).hlo)

theorem dvTwo_read (v : View sig' κ' sp' (M 2176 256) .f32) (base : v.ty.Contents (Elt Ideal))
    (hbase : ∀ y : (M 2176 256).Idx, n1 + n2 ≤ (y 0).val → v.read (Elt Ideal) base y = I.dv y) :
    v.read (Elt Ideal) (v.writes (Elt Ideal) base (dvTwo I H f1 f2 h)) = rowsNew I.dv (fun i => Wt I (H i) Q) (fun t J => I.g (ix2 t J)) := by
  refine rows_two v base h (by omega) I.dv _ _ (fun i s t hs => Wt_unseen I _ Q s t (by omega)) hbase _ _ _ _ ?_ ?_ ?_ ?_
  · exact rows_piece f1 0 0 _ (by decide) (hH 0).1 (H 0).hlo (by omega) _ _ _ _ _ _ _ (fun s t => prFull_apply I (H 0) f1 0 Q (by omega) s t (by omega))
      (fun s t => prFull_apply I (H 1) f1 0 Q (by omega) s t (by omega)) (pairOf_apply I.g _ (H 0).hlo) (cut_apply I.dv 0 _ _ _ (by omega) (H 0).hlo)
  · exact rows_piece f1 1 0 _ (by decide) (hH 2).1 (H 2).hlo (by omega) _ _ _ _ _ _ _ (fun s t => prFull_apply I (H 2) f1 0 Q (by omega) s t (by omega))
      (fun s t => prFull_apply I (H 3) f1 0 Q (by omega) s t (by omega)) (pairOf_apply I.g _ (H 2).hlo) (cut_apply I.dv 0 _ _ _ (by omega) (H 2).hlo)
  · exact rows_piece f2 0 n1 _ (by decide) (hH 0).1 (H 0).hlo h _ _ _ _ _ _ _ (fun s t => prMask_apply I (H 0) f2 n1 Q h hI.le hI.pos hI.z s t)
      (fun s t => prMask_apply I (H 1) f2 n1 Q h hI.le hI.pos hI.z s t) (pairOf_apply I.g _ (H 0).hlo) (cut_apply I.dv n1 _ _ _ h (H 0).hlo)
  · exact rows_piece f2 1 n1 _ (by decide) (hH 2).1 (H 2).hlo h _ _ _ _ _ _ _ (fun s t => prMask_apply I (H 2) f2 n1 Q h hI.le hI.pos hI.z s t)
      (fun s t => prMask_apply I (H 3) f2 n1 Q h hI.le hI.pos hI.z s t) (pairOf_apply I.g _ (H 2).hlo) (cut_apply I.dv n1 _ _ _ h (H 2).hlo)

theorem dcTwo_read (v : View sig' κ' sp' (C 4 2176 1) .f32) (base : v.ty.Contents (Elt Ideal))
    (hbase : ∀ y : (C 4 2176 1).Idx, n1 + n2 ≤ (y 1).val → v.read (Elt Ideal) base y = I.dc y) :
    v.read (Elt Ideal) (v.writes (Elt Ideal) base (dcTwo I H f1 f2 h)) = colsNew I.dc (fun i => Ds I (H i) Q) := by
  refine cols_two v base h (by omega) I.dc _ (fun i s t hs => Ds_unseen I _ Q s t (by omega)) hbase (fun p => dcFst I f1 f2 h (H p))
    (fun p => dcSnd I f1 f2 h (H p)) ?_ ?_
  · intro p s
    refine cols_piece f1 p.val 0 p.isLt (by omega) _ _ I.dc (fun i => Ds I (H i) Q) (fun s t => dsFst_apply I f1 f2 h Q hI h1 h2 (H p) s t) (fun s => ?_) s
    rw [cut3_apply]
    exact congrArg (fun r => I.dc (ix3 r _ 0)) (Fin.ext (show (H p).hh + 0 = p.val by rw [(hH p).2.1]; rfl))
  · intro p s
    refine cols_piece f2 p.val n1 p.isLt h _ _ I.dc (fun i => Ds I (H i) Q) (fun s t => dsSnd_apply I f1 f2 h Q hI h1 h2 (H p) s t) (fun s => ?_) s
    rw [cut3_apply]
    exact congrArg (fun r => I.dc (ix3 r _ 0)) (Fin.ext (show (H p).hh + 0 = p.val by rw [(hH p).2.1]; rfl))

omit hH in
theorem dqFull_apply (A B : Hd) (j : Fin 128) (t : Fin 256) :
    dqFull I f1 f2 h A B (ix2 j t) = ∑ s : Fin 2176, I.kt (ix2 ⟨A.lo + j.val, by have := A.hlo; omega⟩ s)
      * Ds I (if t.val < 128 then A else B) Q s ⟨t.val % 128, by omega⟩ := by
  have key : ∀ s : Fin 2176, n1 + n2 ≤ s.val → I.kt (ix2 ⟨A.lo + j.val, by have := A.hlo; omega⟩ s)
      * Ds I (if t.val < 128 then A else B) Q s ⟨t.val % 128, by omega⟩ = 0 := fun s hs => by
    rw [Ds_unseen I _ Q s _ (by show Q + t.val % 128 < s.val; omega), mul_zero (M₀ := EReal)]
  rw [sum_two n1 n2 h _ key]
  show (broadcast (M 128 256) (Scalar.ofBits (F := Ideal) .f32 0x00000000#32) (ix2 j t) + queryAcc f1 _ _ _ (ix2 j t)) + queryAcc f2 _ _ _ (ix2 j t) = _
  rw [bcast_zero, queryAcc_apply, queryAcc_apply]
  refine congrArg₂ (· + ·) ((zero_add (M := EReal) _).trans (Finset.sum_congr rfl fun s _ => ?_)) (Finset.sum_congr rfl fun s _ => ?_)
  · rw [cut_apply, both_apply]
    refine congrArg₂ (· * ·) rfl ?_
    by_cases ht : t.val < 128
    · rw [dif_pos ht, if_pos ht, dsFst_apply I f1 f2 h Q hI h1 h2]
      exact congrArg (Ds I A Q _) (Fin.ext (show t.val = t.val % 128 by omega))
    · rw [dif_neg ht, if_neg ht, dsFst_apply I f1 f2 h Q hI h1 h2]
      exact congrArg (Ds I B Q _) (Fin.ext (show t.val - 128 = t.val % 128 by omega))
  · rw [cut_apply, both_apply]
    refine congrArg₂ (· * ·) rfl ?_
    by_cases ht : t.val < 128
    · rw [dif_pos ht, if_pos ht, dsSnd_apply I f1 f2 h Q hI h1 h2]
      exact congrArg (Ds I A Q _) (Fin.ext (show t.val = t.val % 128 by omega))
    · rw [dif_neg ht, if_neg ht, dsSnd_apply I f1 f2 h Q hI h1 h2]
      exact congrArg (Ds I B Q _) (Fin.ext (show t.val - 128 = t.val % 128 by omega))

end Two

/-- The queries' gradient from the two pairs'. -/
theorem query_out (kt : FVec Ideal (M 256 2176) .bf16) (E : Fin 4 → Fin 2176 → Fin 128 → EReal) (x y : FVec Ideal (M 128 256) .f32)
    (hx : ∀ (j : Fin 128) (t : Fin 256), x (ix2 j t) = ∑ s : Fin 2176, kt (ix2 ⟨j.val, by omega⟩ s)
      * E (if t.val < 128 then 0 else 1) s ⟨t.val % 128, by omega⟩)
    (hy : ∀ (j : Fin 128) (t : Fin 256), y (ix2 j t) = ∑ s : Fin 2176, kt (ix2 ⟨128 + j.val, by omega⟩ s)
      * E (if t.val < 128 then 2 else 3) s ⟨t.val % 128, by omega⟩) (t : Fin 128) (J : Fin 256) :
    dqOut x y (ix2 t J) = queryNew kt E t J := by
  rw [dqOut_apply]
  unfold queryNew
  refine congrArg (· * Ideal.ofBits .f32 0x3E000000#32) ?_
  have hJ := J.isLt
  have ht := t.isLt
  by_cases a : J.val < 128 <;> by_cases b : J.val % 128 < 64
  · rw [dif_pos a, hx]
    refine Finset.sum_congr rfl fun s _ => congrArg₂ (· * ·) rfl ?_
    simp only [b, if_true, ht]
    refine congrArg₂ (fun i t => E i s t) (Fin.ext ?_) (Fin.ext ?_)
    · show 0 = J.val / 64; omega
    · show t.val % 128 = t.val; omega
  · rw [dif_pos a, hx]
    refine Finset.sum_congr rfl fun s _ => congrArg₂ (· * ·) rfl ?_
    simp only [b, if_false, show ¬ 128 + t.val < 128 by omega]
    refine congrArg₂ (fun i t => E i s t) (Fin.ext ?_) (Fin.ext ?_)
    · show 1 = J.val / 64; omega
    · show (128 + t.val) % 128 = t.val; omega
  · rw [dif_neg a, hy]
    refine Finset.sum_congr rfl fun s _ => congrArg₂ (· * ·) (congrArg (fun r => kt (ix2 r s)) (Fin.ext (show 128 + (J.val - 128) = J.val by omega))) ?_
    simp only [b, if_true, ht]
    refine congrArg₂ (fun i t => E i s t) (Fin.ext ?_) (Fin.ext ?_)
    · show 2 = J.val / 64; omega
    · show t.val % 128 = t.val; omega
  · rw [dif_neg a, hy]
    refine Finset.sum_congr rfl fun s _ => congrArg₂ (· * ·) (congrArg (fun r => kt (ix2 r s)) (Fin.ext (show 128 + (J.val - 128) = J.val by omega))) ?_
    simp only [b, if_false, show ¬ 128 + t.val < 128 by omega]
    refine congrArg₂ (fun i t => E i s t) (Fin.ext ?_) (Fin.ext ?_)
    · show 3 = J.val / 64; omega
    · show (128 + t.val) % 128 = t.val; omega

theorem dqTwo_apply (I : Inp) (f1 : Facts n1) (f2 : Facts n2) (h : n1 + n2 ≤ 2176) (Q : ℕ) (hI : At I Q) (h1 : n1 ≤ Q) (h2 : Q + 128 ≤ n1 + n2)
    (H : Fin 4 → Hd) (hH : HdOK H) (t : Fin 128) (J : Fin 256) :
    dqOut (dqFull I f1 f2 h (H 0) (H 1)) (dqFull I f1 f2 h (H 2) (H 3)) (ix2 t J) = queryNew I.kt (fun i => Ds I (H i) Q) t J := by
  refine query_out _ _ _ _ (fun j t => ?_) (fun j t => ?_) t J
  · rw [dqFull_apply I f1 f2 h Q hI h1 h2]
    refine Finset.sum_congr rfl fun s _ => congrArg₂ (· * ·) (congrArg (fun r => I.kt (ix2 r s)) (Fin.ext ?_)) ?_
    · show (H 0).lo + j.val = j.val
      rw [(hH 0).1]; show 128 * (0 / 2) + j.val = j.val; omega
    · by_cases ht : t.val < 128 <;> simp only [ht, if_true, if_false]
  · rw [dqFull_apply I f1 f2 h Q hI h1 h2]
    refine Finset.sum_congr rfl fun s _ => congrArg₂ (· * ·) (congrArg (fun r => I.kt (ix2 r s)) (Fin.ext ?_)) ?_
    · show (H 2).lo + j.val = 128 + j.val
      rw [(hH 2).1]
      rfl
    · by_cases ht : t.val < 128 <;> simp only [ht, if_true, if_false]

/-! ### Whole stores -/

section
variable {sig' : RefSig} {κ' : Kind} {sp' : Space}

theorem read_whole2 {e : EltTy} (a b : ℕ) (v : View sig' κ' sp' (M a b) e) (base : v.ty.Contents (Elt Ideal)) (h : ∀ i, ![0, 0] i + ![a, b] i ≤ ![a, b] i)
    (x : (M a b).Idx → Elt Ideal e) :
    v.read (Elt Ideal) (v.writes (Elt Ideal) base [⟨Rect.unit (s := M a b) ![0, 0] ![a, b] h, x⟩]) = x := by
  refine read_kept v base x _ ?_ ?_
  · intro p hp
    obtain rfl := List.mem_singleton.1 hp
    intro y
    refine congrArg x (funext fun i => Fin.ext ?_)
    refine Eq.trans ?_ (Rect.idx_unit_val (s := M a b) ![0, 0] ![a, b] h y i).symm
    match i with
    | ⟨0, _⟩ => exact (Nat.zero_add _).symm
    | ⟨1, _⟩ => exact (Nat.zero_add _).symm
  · intro y hy
    refine absurd ((Rect.mem_set_unit (s := M a b) (off := ![0, 0]) (size := ![a, b]) (inb := h)).2 fun i => ?_) (hy _ (List.mem_singleton.2 rfl))
    match i with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩

theorem read_whole3 {e : EltTy} (a b c : ℕ) (v : View sig' κ' sp' (C a b c) e) (base : v.ty.Contents (Elt Ideal))
    (h : ∀ i, ![0, 0, 0] i + ![a, b, c] i ≤ ![a, b, c] i) (x : (C a b c).Idx → Elt Ideal e) :
    v.read (Elt Ideal) (v.writes (Elt Ideal) base [⟨Rect.unit (s := C a b c) ![0, 0, 0] ![a, b, c] h, x⟩]) = x := by
  refine read_kept v base x _ ?_ ?_
  · intro p hp
    obtain rfl := List.mem_singleton.1 hp
    intro y
    refine congrArg x (funext fun i => Fin.ext ?_)
    refine Eq.trans ?_ (Rect.idx_unit_val (s := C a b c) ![0, 0, 0] ![a, b, c] h y i).symm
    match i with
    | ⟨0, _⟩ => exact (Nat.zero_add _).symm
    | ⟨1, _⟩ => exact (Nat.zero_add _).symm
    | ⟨2, _⟩ => exact (Nat.zero_add _).symm
  · intro y hy
    refine absurd ((Rect.mem_set_unit (s := C a b c) (off := ![0, 0, 0]) (size := ![a, b, c]) (inb := h)).2 fun i => ?_) (hy _ (List.mem_singleton.2 rfl))
    match i with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩
    | ⟨2, _⟩ => exact ⟨Nat.zero_le _, lt_of_lt_of_eq (y 2).isLt (Nat.zero_add _).symm⟩

theorem cut_whole {φ : FTy} (a b : ℕ) (x : FVec Ideal (M a b) φ) (h1 : 0 + a ≤ a) (h2 : 0 + b ≤ b) : cut x 0 0 a b h1 h2 = x := by
  funext y
  refine congrArg x (funext fun i => Fin.ext ?_)
  refine (Rect.idx_unit_val (s := M a b) ![0, 0] ![a, b] _ y i).trans ?_
  match i with
  | ⟨0, _⟩ => exact Nat.zero_add _
  | ⟨1, _⟩ => exact Nat.zero_add _

theorem ld_whole {e : EltTy} (a b : ℕ) (x : (M a b).Idx → Elt Ideal e) (h : ∀ i, ![0, 0] i + ![a, b] i ≤ ![a, b] i) :
    View.ld x (Rect.unit (s := M a b) ![0, 0] ![a, b] h) = x := by
  funext y
  refine congrArg x (funext fun i => Fin.ext ?_)
  refine (Rect.idx_unit_val (s := M a b) ![0, 0] ![a, b] h y i).trans ?_
  match i with
  | ⟨0, _⟩ => exact Nat.zero_add _
  | ⟨1, _⟩ => exact Nat.zero_add _
end

/-! ### One run -/

/-- What a point of one run loads is what the stores before left. -/
structure SrcOK (S : Src n) (I : Inp) (h : 0 + n ≤ 2176) : Prop where
  dk : ∀ (p : Fin 2) (s : Fin n) (j : Fin 128), S.dk p (ix2 s j) = I.dk (ix2 ⟨0 + s.val, by omega⟩ ⟨128 * p.val + j.val, by omega⟩)
  dv : ∀ (p : Fin 2) (s : Fin n) (j : Fin 128), S.dv p (ix2 s j) = I.dv (ix2 ⟨0 + s.val, by omega⟩ ⟨128 * p.val + j.val, by omega⟩)
  dc : ∀ (i : Fin 4) (s : Fin n), S.dc i (ix3 0 s 0) = I.dc (ix3 i ⟨0 + s.val, by omega⟩ 0)
  ck : ∀ (i : Fin 4) (s : Fin n) (t : Fin 128), S.ck i (ix3 0 s t) = I.ck (ix3 i ⟨0 + s.val, by omega⟩ t)
  kt : ∀ (p : Fin 2) (j : Fin 128) (s : Fin n), S.kt p (ix2 j s) = I.kt (ix2 ⟨128 * p.val + j.val, by omega⟩ ⟨0 + s.val, by omega⟩)

section One
variable (I : Inp) (f : Facts n) (h : 0 + n ≤ 2176) (Q : ℕ) (hI : At I Q) (h2 : Q + 128 ≤ n)

theorem prOne_apply (hI : At I Q) (H : Hd) (ck : FVec Ideal (C 1 n 128) .f32)
    (hck : ∀ (s : Fin n) (t : Fin 128), ck (ix3 0 s t) = I.ck (ix3 ⟨H.hh, H.hhh⟩ ⟨0 + s.val, by omega⟩ t)) (s : Fin n) (t : Fin 128) :
    prOne I f h H ck (ix2 s t) = Wt I H Q ⟨0 + s.val, by omega⟩ t := by
  unfold prOne Wt Lg
  rw [weights_apply, hI.pos, masked_apply f _ 0 Q _ s t h hI.le, logits_apply, half_apply _ _ _ _ _ H.hoff, prods_apply, hI.z, hck]
  simp only [cut_apply]

variable (H : Hd) (ck : FVec Ideal (C 1 n 128) .f32)
    (hck : ∀ (s : Fin n) (t : Fin 128), ck (ix3 0 s t) = I.ck (ix3 ⟨H.hh, H.hhh⟩ ⟨0 + s.val, by omega⟩ t))
include hI h2 hck

theorem ksOne_apply (t : Fin 128) : ksOne I f h H ck (ix2 0 t) = Ks I H Q t := by
  unfold ksOne Ks
  rw [sum_one n (by omega) _ fun s hs => by rw [Wt_unseen I H Q s t (by omega), zero_mul (M₀ := EReal)]]
  show broadcast (M 1 128) (Scalar.ofBits (F := Ideal) .f32 0x00000000#32) (ix2 0 t) + keySum f _ _ (ix2 0 t) = _
  rw [bcast_zero, keySum_apply]
  refine (zero_add (M := EReal) _).trans (Finset.sum_congr rfl fun s _ => ?_)
  rw [prOne_apply I f h Q hI H ck hck, dpOf_apply]

theorem dsOne_apply (s : Fin n) (t : Fin 128) : dsOne I f h H ck (ix2 s t) = Ds I H Q ⟨0 + s.val, by omega⟩ t := by
  unfold dsOne Ds
  rw [scoreGrad_apply, ksOne_apply I f h Q hI h2 H ck hck, prOne_apply I f h Q hI H ck hck, dpOf_apply]

end One

/-- The decays a point of one run loads are the heads'. -/
def CkOK (I : Inp) (h : 0 + n ≤ 2176) (S : Src n) : Prop :=
  ∀ (i : Fin 4) (s : Fin n) (t : Fin 128), S.ck i (ix3 0 s t) = I.ck (ix3 i ⟨0 + s.val, by omega⟩ t)

theorem ck_head (I : Inp) (h : 0 + n ≤ 2176) (S : Src n) (H : Fin 4 → Hd) (hH : HdOK H) (hck : CkOK I h S) (i : Fin 4) (s : Fin n) (t : Fin 128) :
    S.ck i (ix3 0 s t) = I.ck (ix3 ⟨(H i).hh, (H i).hhh⟩ ⟨0 + s.val, by omega⟩ t) := by
  rw [hck]
  exact congrArg (fun r => I.ck (ix3 r _ t)) (Fin.ext (hH i).2.1.symm)

theorem two_lt (p : ℕ) (hp : p < 2) : 2 * p < 4 := by omega
theorem two_lt' (p : ℕ) (hp : p < 2) : 2 * p + 1 < 4 := by omega

section Once
variable (I : Inp) (f : Facts n) (h : 0 + n ≤ 2176) (Q : ℕ) (hI : At I Q) (h2 : Q + 128 ≤ n) (S : Src n)
  {sig' : RefSig} {κ' : Kind} {sp' : Space} (H : Fin 4 → Hd) (hH : HdOK H)

variable (hck : CkOK I h S)
include hI h2 hH hck

theorem dkOne_apply (p : ℕ) (hp : p < 2) (A B : Fin 4) (hA : A.val = 2 * p) (hB : B.val = 2 * p + 1) (old : FVec Ideal (M n 128) .f32)
    (hold : ∀ (s : Fin n) (j : Fin 128), old (ix2 s j) = I.dk (ix2 ⟨0 + s.val, by omega⟩ ⟨128 * p + j.val, by omega⟩)) (s : Fin n) (j : Fin 128) :
    dkOne I f h (H A) (H B) (S.ck A) (S.ck B) old (ix2 s j)
      = rowsNew I.dk (fun i => Ds I (H i) Q) (fun t J => I.q (ix2 t J)) (ix2 ⟨0 + s.val, by omega⟩ ⟨128 * p + j.val, by omega⟩) := by
  have ea : 2 * p < 4 := two_lt p hp
  have eb : 2 * p + 1 < 4 := two_lt' p hp
  obtain rfl : A = ⟨2 * p, ea⟩ := Fin.ext hA
  obtain rfl : B = ⟨2 * p + 1, eb⟩ := Fin.ext hB
  have hlo : (H ⟨2 * p, ea⟩).lo = 128 * p := by rw [(hH _).1]; show 128 * (2 * p / 2) = 128 * p; omega
  refine rows_piece f p 0 _ hp hlo (H _).hlo h _ _ _ _ I.dk _ _
    (fun s t => dsOne_apply I f h Q hI h2 _ _ (ck_head I h S H hH hck _) s t)
    (fun s t => dsOne_apply I f h Q hI h2 _ _ (ck_head I h S H hH hck _) s t) (pairOf_apply I.q _ (H _).hlo) (fun s j => ?_) s j
  rw [hold]
  exact congrArg (fun r => I.dk (ix2 _ r)) (Fin.ext (show 128 * p + j.val = (H ⟨2 * p, ea⟩).lo + j.val by rw [hlo]))

theorem dvOne_apply (p : ℕ) (hp : p < 2) (A B : Fin 4) (hA : A.val = 2 * p) (hB : B.val = 2 * p + 1) (old : FVec Ideal (M n 128) .f32)
    (hold : ∀ (s : Fin n) (j : Fin 128), old (ix2 s j) = I.dv (ix2 ⟨0 + s.val, by omega⟩ ⟨128 * p + j.val, by omega⟩)) (s : Fin n) (j : Fin 128) :
    dvOne I f h (H A) (H B) (S.ck A) (S.ck B) old (ix2 s j)
      = rowsNew I.dv (fun i => Wt I (H i) Q) (fun t J => I.g (ix2 t J)) (ix2 ⟨0 + s.val, by omega⟩ ⟨128 * p + j.val, by omega⟩) := by
  have ea : 2 * p < 4 := two_lt p hp
  have eb : 2 * p + 1 < 4 := two_lt' p hp
  obtain rfl : A = ⟨2 * p, ea⟩ := Fin.ext hA
  obtain rfl : B = ⟨2 * p + 1, eb⟩ := Fin.ext hB
  have hlo : (H ⟨2 * p, ea⟩).lo = 128 * p := by rw [(hH _).1]; show 128 * (2 * p / 2) = 128 * p; omega
  refine rows_piece f p 0 _ hp hlo (H _).hlo h _ _ _ _ I.dv _ _
    (fun s t => prOne_apply I f h Q hI _ _ (ck_head I h S H hH hck _) s t)
    (fun s t => prOne_apply I f h Q hI _ _ (ck_head I h S H hH hck _) s t) (pairOf_apply I.g _ (H _).hlo) (fun s j => ?_) s j
  rw [hold]
  exact congrArg (fun r => I.dv (ix2 _ r)) (Fin.ext (show 128 * p + j.val = (H ⟨2 * p, ea⟩).lo + j.val by rw [hlo]))

theorem dcOne_apply (i : Fin 4) (old : FVec Ideal (C 1 n 1) .f32)
    (hold : ∀ s : Fin n, old (ix3 0 s 0) = I.dc (ix3 i ⟨0 + s.val, by omega⟩ 0)) (s : Fin n) :
    dcOne I f h (H i) (S.ck i) old (ix3 0 s 0) = colsNew I.dc (fun i => Ds I (H i) Q) (ix3 i ⟨0 + s.val, by omega⟩ 0) :=
  cols_piece f i.val 0 i.isLt h _ _ I.dc (fun i => Ds I (H i) Q)
    (fun s t => dsOne_apply I f h Q hI h2 _ _ (ck_head I h S H hH hck i) s t) hold s

theorem dkOnce_read (hS : SrcOK S I h) (v : View sig' κ' sp' (M 2176 256) .f32) (base : v.ty.Contents (Elt Ideal))
    (hbase : ∀ y : (M 2176 256).Idx, n ≤ (y 0).val → v.read (Elt Ideal) base y = I.dk y) :
    v.read (Elt Ideal) (v.writes (Elt Ideal) base (dkOnce I H f h S)) = rowsNew I.dk (fun i => Ds I (H i) Q) (fun t J => I.q (ix2 t J)) :=
  rows_one v base h I.dk _ _ (fun i s t hs => Ds_unseen I _ Q s t (by omega)) hbase _ _
    (dkOne_apply I f h Q hI h2 S H hH hck 0 (by decide) 0 1 rfl rfl _ (hS.dk 0))
    (dkOne_apply I f h Q hI h2 S H hH hck 1 (by decide) 2 3 rfl rfl _ (hS.dk 1))

theorem dvOnce_read (hS : SrcOK S I h) (v : View sig' κ' sp' (M 2176 256) .f32) (base : v.ty.Contents (Elt Ideal))
    (hbase : ∀ y : (M 2176 256).Idx, n ≤ (y 0).val → v.read (Elt Ideal) base y = I.dv y) :
    v.read (Elt Ideal) (v.writes (Elt Ideal) base (dvOnce I H f h S)) = rowsNew I.dv (fun i => Wt I (H i) Q) (fun t J => I.g (ix2 t J)) :=
  rows_one v base h I.dv _ _ (fun i s t hs => Wt_unseen I _ Q s t (by omega)) hbase _ _
    (dvOne_apply I f h Q hI h2 S H hH hck 0 (by decide) 0 1 rfl rfl _ (hS.dv 0))
    (dvOne_apply I f h Q hI h2 S H hH hck 1 (by decide) 2 3 rfl rfl _ (hS.dv 1))

theorem dcOnce_read (hS : SrcOK S I h) (v : View sig' κ' sp' (C 4 2176 1) .f32) (base : v.ty.Contents (Elt Ideal))
    (hbase : ∀ y : (C 4 2176 1).Idx, n ≤ (y 1).val → v.read (Elt Ideal) base y = I.dc y) :
    v.read (Elt Ideal) (v.writes (Elt Ideal) base (dcOnce I H f h S)) = colsNew I.dc (fun i => Ds I (H i) Q) :=
  cols_one v base h I.dc _ (fun i s t hs => Ds_unseen I _ Q s t (by omega)) hbase (fun p => dcOne I f h (H p) (S.ck p) (S.dc p))
    (fun p => dcOne_apply I f h Q hI h2 S H hH hck p _ (hS.dc p))

theorem dqOne_apply (p : ℕ) (hp : p < 2) (A B : Fin 4) (kt : FVec Ideal (M 128 n) .bf16)
    (hkt : ∀ (j : Fin 128) (s : Fin n), kt (ix2 j s) = I.kt (ix2 ⟨128 * p + j.val, by omega⟩ ⟨0 + s.val, by omega⟩)) (j : Fin 128) (t : Fin 256) :
    dqOne I f h (H A) (H B) (S.ck A) (S.ck B) kt (ix2 j t) = ∑ s : Fin 2176, I.kt (ix2 ⟨128 * p + j.val, by omega⟩ s)
      * Ds I (H (if t.val < 128 then A else B)) Q s ⟨t.val % 128, by omega⟩ := by
  have key : ∀ s : Fin 2176, n ≤ s.val → I.kt (ix2 ⟨128 * p + j.val, by omega⟩ s)
      * Ds I (H (if t.val < 128 then A else B)) Q s ⟨t.val % 128, by omega⟩ = 0 := fun s hs => by
    rw [Ds_unseen I _ Q s _ (by show Q + t.val % 128 < s.val; omega), mul_zero (M₀ := EReal)]
  rw [sum_one n (by omega) _ key]
  show broadcast (M 128 256) (Scalar.ofBits (F := Ideal) .f32 0x00000000#32) (ix2 j t) + queryAcc f _ _ _ (ix2 j t) = _
  rw [bcast_zero, queryAcc_apply]
  refine (zero_add (M := EReal) _).trans (Finset.sum_congr rfl fun s _ => ?_)
  rw [hkt, both_apply]
  refine congrArg₂ (· * ·) rfl ?_
  by_cases ht : t.val < 128
  · rw [dif_pos ht, if_pos ht, dsOne_apply I f h Q hI h2 _ _ (ck_head I h S H hH hck _)]
    exact congrArg (Ds I (H A) Q _) (Fin.ext (show t.val = t.val % 128 by omega))
  · rw [dif_neg ht, if_neg ht, dsOne_apply I f h Q hI h2 _ _ (ck_head I h S H hH hck _)]
    exact congrArg (Ds I (H B) Q _) (Fin.ext (show t.val - 128 = t.val % 128 by omega))

theorem dqOnce_apply (hS : SrcOK S I h) (t : Fin 128) (J : Fin 256) :
    dqOnce I H f h S (ix2 t J) = queryNew I.kt (fun i => Ds I (H i) Q) t J := by
  refine query_out _ _ _ _ (fun j t => ?_) (fun j t => ?_) t J
  · rw [dqOne_apply I f h Q hI h2 S H hH hck 0 (by decide) 0 1 _ (hS.kt 0)]
    exact Finset.sum_congr rfl fun s _ => congrArg₂ (· * ·) (congrArg (fun r => I.kt (ix2 r s)) (Fin.ext (show 128 * 0 + j.val = j.val by omega))) rfl
  · rw [dqOne_apply I f h Q hI h2 S H hH hck 1 (by decide) 2 3 _ (hS.kt 1)]

end Once

end Cert.AttnTile
-- ==== Proof.AttnRun.lean ====
module

public import proofs.«01_k».proof.Proof.AttnPoint
public import proofs.«01_k».proof.Proof.Gen.AttnIdeal.Frame
public import Idealize.ShloMosaic.Lib.Pipeline.ReadBack

/-!
# The attention gradient's points
-/

@[expose] public section

set_option maxRecDepth 100000

noncomputable section

namespace Cert.AttnIdeal.Attn

open Idealize.ShloMosaic Idealize.ShloMosaic.TcCoe
open Cert.AttnIdeal Cert.AttnIdeal.Gen Cert.AttnTile

variable (m : (ℓ : Loc nD τ sig) → Buf (Elt Ideal) ℓ)

theorem unit_row : S1x1x128.ShapeCasts S1x128 := by decide
theorem unit_row' : S1x128.ShapeCasts S1x128 := by decide

theorem row_inb : ∀ (i : grid0.Coords) (r : Fin 4) (a : Fin 2),
    (k0_off2 i (BitVec.ofNat 32 r.val)) a + S1x128.size a ≤ S8x128.size a := by decide +kernel

/-- The queries' own terms of head `hh` of the group. -/
def row (c : Dev nD) (t : Fin cfg0.N) (hh : Fin 4) : FVec Ideal (M 1 128) .f32 :=
  subf (shapeCast S1x128 (View.ld (View.read (Elt Ideal) (ms0_4 t).view ((hs0_4 t).unread (iblk m c 4 t)) : Vec Ideal S8x128 .f32)
      (Rect.unit (s := S8x128) (k0_off2 (grid0.coords t) (BitVec.ofNat 32 hh.val)) S1x128.size (row_inb _ hh))) unit_row')
    (shapeCast S1x128 (View.ld (View.read (Elt Ideal) (ms0_5 t).view ((hs0_5 t).unread (iblk m c 5 t)) : Vec Ideal S1x4x128 .f32)
      (Rect.unit (s := S1x4x128) ![0, hh.val, 0] S1x1x128.size (in3 0 hh.val 0 1 1 128 (by decide) hh.isLt (by decide)))) unit_row)

/-- The four heads of a group. -/
def hd (c : Dev nD) (t : Fin cfg0.N) : Fin 4 → Hd
  | 0 => ⟨0, 0, 0, by decide, by decide, by decide, row m c t 0⟩
  | 1 => ⟨0, 1, 128, by decide, by decide, by decide, row m c t 1⟩
  | 2 => ⟨128, 2, 0, by decide, by decide, by decide, row m c t 2⟩
  | 3 => ⟨128, 3, 128, by decide, by decide, by decide, row m c t 3⟩

/-- What point `t` reads, over what the scratches hold. -/
def inp (c : Dev nD) (t : Fin cfg0.N) (dk dv : Vec Ideal S2176x256 .f32) (dc : Vec Ideal S4x2176x1 .f32) (ck : Vec Ideal S4x2176x128 .f32)
    (kt : Vec Ideal S256x2176 .bf16) : Inp where
  q := View.read (Elt Ideal) (ms0_0 t).view ((hs0_0 t).unread (iblk m c 0 t))
  g := View.read (Elt Ideal) (ms0_6 t).view ((hs0_6 t).unread (iblk m c 6 t))
  k := View.read (Elt Ideal) (ms0_1 t).view ((hs0_1 t).unread (iblk m c 1 t))
  v := View.read (Elt Ideal) (ms0_2 t).view ((hs0_2 t).unread (iblk m c 2 t))
  ck := View.read (Elt Ideal) (View.whole cc0_scratch3) ((Memref.isWhole_whole cc0_scratch3).unread ck)
  kt := View.read (Elt Ideal) (View.whole cc0_scratch4) ((Memref.isWhole_whole cc0_scratch4).unread kt)
  dk := View.read (Elt Ideal) (View.whole cc0_scratch0) ((Memref.isWhole_whole cc0_scratch0).unread dk)
  dv := View.read (Elt Ideal) (View.whole cc0_scratch1) ((Memref.isWhole_whole cc0_scratch1).unread dv)
  dc := View.read (Elt Ideal) (View.whole cc0_scratch2) ((Memref.isWhole_whole cc0_scratch2).unread dc)
  z := Named.named κ "mask" 0xF149F2CA#32
  pos := Scalar.muli (BitVec.ofNat 32 (grid0.coords t 1).val) 128#32

/-- A value split into its parts. -/
def after (c : Dev nD) (t : Fin cfg0.N) : Inp :=
  inp m c t (outsAt0 m c t.val t.isLt).2.2.2.2.1 (outsAt0 m c t.val t.isLt).2.2.2.2.2.1 (outsAt0 m c t.val t.isLt).2.2.2.2.2.2.1
    (outsAt0 m c t.val t.isLt).2.2.2.2.2.2.2.1 (outsAt0 m c t.val t.isLt).2.2.2.2.2.2.2.2

theorem pred_lt (t : Fin cfg0.N) : t.val - 1 < cfg0.N := lt_of_le_of_lt (Nat.sub_le _ _) t.isLt

/-- What point `t` reads after the point before it. -/
def before (c : Dev nD) (t : Fin cfg0.N) : Inp :=
  inp m c t (outsAt0 m c (t.val - 1) (pred_lt t)).2.2.2.2.1 (outsAt0 m c (t.val - 1) (pred_lt t)).2.2.2.2.2.1
    (outsAt0 m c (t.val - 1) (pred_lt t)).2.2.2.2.2.2.1 (outsAt0 m c (t.val - 1) (pred_lt t)).2.2.2.2.2.2.2.1
    (outsAt0 m c (t.val - 1) (pred_lt t)).2.2.2.2.2.2.2.2

theorem facts128 : AttnTile.Facts 128 := by constructor <;> decide
theorem facts512 : AttnTile.Facts 512 := by constructor <;> decide
theorem facts768 : AttnTile.Facts 768 := by constructor <;> decide
theorem facts1024 : AttnTile.Facts 1024 := by constructor <;> decide
theorem facts1280 : AttnTile.Facts 1280 := by constructor <;> decide
theorem facts1536 : AttnTile.Facts 1536 := by constructor <;> decide
theorem facts1792 : AttnTile.Facts 1792 := by constructor <;> decide
theorem facts2048 : AttnTile.Facts 2048 := by constructor <;> decide

/-- What a point holds: the four outputs' blocks, then the five scratches. -/
abbrev Outs : Type := Vec Ideal S128x256 .bf16 × Vec Ideal S2176x256 .bf16 × Vec Ideal S2176x256 .bf16 × Vec Ideal S2176x128 .f32
  × Vec Ideal S2176x256 .f32 × Vec Ideal S2176x256 .f32 × Vec Ideal S4x2176x1 .f32 × Vec Ideal S4x2176x128 .f32 × Vec Ideal S256x2176 .bf16

/-- A block stored whole. -/
def stored (x : FVec Ideal (M 128 256) .bf16) : Vec Ideal S128x256 .bf16 :=
  View.read (Elt Ideal) VO0_7 (VO0_7.writes (Elt Ideal) VO0_7.junk
    [⟨Rect.unit (s := S128x256) ![0, 0] ![128, 256] (in2 0 0 128 256 (by decide) (by decide)), x⟩])

/-- What the scratches hold once a point's stores stand over what they held. -/
def kept0 (base : (View.whole cc0_scratch0).ty.Contents (Elt Ideal)) (L : List (View.Piece (Elt Ideal) (M 2176 256) .f32)) : Vec Ideal S2176x256 .f32 :=
  View.read (Elt Ideal) (View.whole cc0_scratch0) ((View.whole cc0_scratch0).writes (Elt Ideal) base L)
@[inherit_doc kept0]
def kept1 (base : (View.whole cc0_scratch1).ty.Contents (Elt Ideal)) (L : List (View.Piece (Elt Ideal) (M 2176 256) .f32)) : Vec Ideal S2176x256 .f32 :=
  View.read (Elt Ideal) (View.whole cc0_scratch1) ((View.whole cc0_scratch1).writes (Elt Ideal) base L)
@[inherit_doc kept0]
def kept2 (base : (View.whole cc0_scratch2).ty.Contents (Elt Ideal)) (L : List (View.Piece (Elt Ideal) (C 4 2176 1) .f32)) : Vec Ideal S4x2176x1 .f32 :=
  View.read (Elt Ideal) (View.whole cc0_scratch2) ((View.whole cc0_scratch2).writes (Elt Ideal) base L)

/-- What the first three scratches held. -/
def base0 (c : Dev nD) (t : Fin cfg0.N) := (Memref.isWhole_whole cc0_scratch0).unread (outsAt0 m c (t.val - 1) (pred_lt t)).2.2.2.2.1
@[inherit_doc base0]
def base1 (c : Dev nD) (t : Fin cfg0.N) := (Memref.isWhole_whole cc0_scratch1).unread (outsAt0 m c (t.val - 1) (pred_lt t)).2.2.2.2.2.1
@[inherit_doc base0]
def base2 (c : Dev nD) (t : Fin cfg0.N) := (Memref.isWhole_whole cc0_scratch2).unread (outsAt0 m c (t.val - 1) (pred_lt t)).2.2.2.2.2.2.1

/-- A point of two runs, from what the point before holds to what it holds itself, over given contents of the scratches. -/
def StepTwo {n1 n2 : ℕ} (f1 : AttnTile.Facts n1) (f2 : AttnTile.Facts n2) (h : n1 + n2 ≤ 2176) (b0 : (View.whole cc0_scratch0).ty.Contents (Elt Ideal))
    (b1 : (View.whole cc0_scratch1).ty.Contents (Elt Ideal)) (b2 : (View.whole cc0_scratch2).ty.Contents (Elt Ideal))
    (c : Dev nD) (t : Fin cfg0.N) (O : Outs) : Prop :=
  O.1 = stored (dqOut (dqFull (before m c t) f1 f2 h (hd m c t 0) (hd m c t 1)) (dqFull (before m c t) f1 f2 h (hd m c t 2) (hd m c t 3)))
  ∧ O.2.2.2.2.1 = kept0 b0 (dkTwo (before m c t) (hd m c t) f1 f2 h)
  ∧ O.2.2.2.2.2.1 = kept1 b1 (dvTwo (before m c t) (hd m c t) f1 f2 h)
  ∧ O.2.2.2.2.2.2.1 = kept2 b2 (dcTwo (before m c t) (hd m c t) f1 f2 h)
  ∧ O.2.2.2.2.2.2.2.1 = (outsAt0 m c (t.val - 1) (pred_lt t)).2.2.2.2.2.2.2.1
  ∧ O.2.2.2.2.2.2.2.2 = (outsAt0 m c (t.val - 1) (pred_lt t)).2.2.2.2.2.2.2.2

/-- What the points before left, cut for a point of one run. -/
def srcOf (I : Inp) : Src 256 where
  dk p := cut I.dk 0 (128 * p.val) 256 128 (by decide) (by omega)
  dv p := cut I.dv 0 (128 * p.val) 256 128 (by decide) (by omega)
  dc i := cut3 I.dc i.val 0 0 1 256 1 i.isLt (by decide) (by decide)
  ck i := cut3 I.ck i.val 0 0 1 256 128 i.isLt (by decide) (by decide)
  kt p := cut I.kt (128 * p.val) 0 128 256 (by omega) (by decide)

/-- A point of one run, the same way. -/
def StepOne (I : Inp) (S : Src 256) (b0 : (View.whole cc0_scratch0).ty.Contents (Elt Ideal))
    (b1 : (View.whole cc0_scratch1).ty.Contents (Elt Ideal)) (b2 : (View.whole cc0_scratch2).ty.Contents (Elt Ideal))
    (c : Dev nD) (t : Fin cfg0.N) (O : Outs) : Prop :=
  O.1 = stored (dqOnce I (hd m c t) facts256 (by decide) S)
  ∧ O.2.2.2.2.1 = kept0 b0 (dkOnce I (hd m c t) facts256 (by decide) S)
  ∧ O.2.2.2.2.2.1 = kept1 b1 (dvOnce I (hd m c t) facts256 (by decide) S)
  ∧ O.2.2.2.2.2.2.1 = kept2 b2 (dcOnce I (hd m c t) facts256 (by decide) S)

theorem stepC (c : Dev nD) (t : Fin cfg0.N) (h : 2 ≤ t.val % 17 ∧ t.val % 17 ≤ 3) :
    StepTwo m facts256 facts256 (by decide) (base0 m c t) (base1 m c t) (base2 m c t) c t (outsAt0 m c t.val t.isLt)
      ∧ (outsAt0 m c t.val t.isLt).2.2.2.1 = (outsAt0 m c (t.val - 1) (pred_lt t)).2.2.2.1 := by
  rw [outsAt0_C m c t (by omega) (by omega) (by omega) (by omega) (by omega) (by omega) (by omega) (by omega) (by omega) (by omega) (by omega) (by omega)]
  refine ⟨?_, ?_⟩
  · refine ⟨?_, ?_, ?_, ?_, ?_, ?_⟩
    all_goals sl_kernel_rfl
  · sl_kernel_rfl

theorem stepD (c : Dev nD) (t : Fin cfg0.N) (h : 4 ≤ t.val % 17 ∧ t.val % 17 ≤ 5) :
    StepTwo m facts512 facts256 (by decide) (base0 m c t) (base1 m c t) (base2 m c t) c t (outsAt0 m c t.val t.isLt)
      ∧ (outsAt0 m c t.val t.isLt).2.2.2.1 = (outsAt0 m c (t.val - 1) (pred_lt t)).2.2.2.1 := by
  rw [outsAt0_D m c t (by omega) (by omega) (by omega) (by omega) (by omega) (by omega) (by omega) (by omega) (by omega) (by omega) (by omega) (by omega)]
  refine ⟨?_, ?_⟩
  · refine ⟨?_, ?_, ?_, ?_, ?_, ?_⟩
    all_goals sl_kernel_rfl
  · sl_kernel_rfl

theorem stepE (c : Dev nD) (t : Fin cfg0.N) (h : 6 ≤ t.val % 17 ∧ t.val % 17 ≤ 7) :
    StepTwo m facts768 facts256 (by decide) (base0 m c t) (base1 m c t) (base2 m c t) c t (outsAt0 m c t.val t.isLt)
      ∧ (outsAt0 m c t.val t.isLt).2.2.2.1 = (outsAt0 m c (t.val - 1) (pred_lt t)).2.2.2.1 := by
  rw [outsAt0_E m c t (by omega) (by omega) (by omega) (by omega) (by omega) (by omega) (by omega) (by omega) (by omega) (by omega) (by omega) (by omega)]
  refine ⟨?_, ?_⟩
  · refine ⟨?_, ?_, ?_, ?_, ?_, ?_⟩
    all_goals sl_kernel_rfl
  · sl_kernel_rfl

theorem stepF (c : Dev nD) (t : Fin cfg0.N) (h : 8 ≤ t.val % 17 ∧ t.val % 17 ≤ 9) :
    StepTwo m facts1024 facts256 (by decide) (base0 m c t) (base1 m c t) (base2 m c t) c t (outsAt0 m c t.val t.isLt)
      ∧ (outsAt0 m c t.val t.isLt).2.2.2.1 = (outsAt0 m c (t.val - 1) (pred_lt t)).2.2.2.1 := by
  rw [outsAt0_F m c t (by omega) (by omega) (by omega) (by omega) (by omega) (by omega) (by omega) (by omega) (by omega) (by omega) (by omega) (by omega)]
  refine ⟨?_, ?_⟩
  · refine ⟨?_, ?_, ?_, ?_, ?_, ?_⟩
    all_goals sl_kernel_rfl
  · sl_kernel_rfl

theorem stepG (c : Dev nD) (t : Fin cfg0.N) (h : 10 ≤ t.val % 17 ∧ t.val % 17 ≤ 11) :
    StepTwo m facts1280 facts256 (by decide) (base0 m c t) (base1 m c t) (base2 m c t) c t (outsAt0 m c t.val t.isLt)
      ∧ (outsAt0 m c t.val t.isLt).2.2.2.1 = (outsAt0 m c (t.val - 1) (pred_lt t)).2.2.2.1 := by
  rw [outsAt0_G m c t (by omega) (by omega) (by omega) (by omega) (by omega) (by omega) (by omega) (by omega) (by omega) (by omega) (by omega) (by omega)]
  refine ⟨?_, ?_⟩
  · refine ⟨?_, ?_, ?_, ?_, ?_, ?_⟩
    all_goals sl_kernel_rfl
  · sl_kernel_rfl

theorem stepH (c : Dev nD) (t : Fin cfg0.N) (h : 12 ≤ t.val % 17 ∧ t.val % 17 ≤ 13) :
    StepTwo m facts1536 facts256 (by decide) (base0 m c t) (base1 m c t) (base2 m c t) c t (outsAt0 m c t.val t.isLt)
      ∧ (outsAt0 m c t.val t.isLt).2.2.2.1 = (outsAt0 m c (t.val - 1) (pred_lt t)).2.2.2.1 := by
  rw [outsAt0_H m c t (by omega) (by omega) (by omega) (by omega) (by omega) (by omega) (by omega) (by omega) (by omega) (by omega) (by omega) (by omega)]
  refine ⟨?_, ?_⟩
  · refine ⟨?_, ?_, ?_, ?_, ?_, ?_⟩
    all_goals sl_kernel_rfl
  · sl_kernel_rfl

theorem stepI (c : Dev nD) (t : Fin cfg0.N) (h : 14 ≤ t.val % 17 ∧ t.val % 17 ≤ 15) :
    StepTwo m facts1792 facts256 (by decide) (base0 m c t) (base1 m c t) (base2 m c t) c t (outsAt0 m c t.val t.isLt)
      ∧ (outsAt0 m c t.val t.isLt).2.2.2.1 = (outsAt0 m c (t.val - 1) (pred_lt t)).2.2.2.1 := by
  rw [outsAt0_I m c t (by omega) (by omega) (by omega) (by omega) (by omega) (by omega) (by omega) (by omega) (by omega) (by omega) (by omega) (by omega)]
  refine ⟨?_, ?_⟩
  · refine ⟨?_, ?_, ?_, ?_, ?_, ?_⟩
    all_goals sl_kernel_rfl
  · sl_kernel_rfl

theorem stepB (c : Dev nD) (t : Fin cfg0.N) (h : t.val % 17 = 1) :
    StepOne m (before m c t) (srcOf (before m c t)) (base0 m c t) (base1 m c t) (base2 m c t) c t (outsAt0 m c t.val t.isLt)
      ∧ (outsAt0 m c t.val t.isLt).2.2.2.2.2.2.2.1 = (outsAt0 m c (t.val - 1) (pred_lt t)).2.2.2.2.2.2.2.1
      ∧ (outsAt0 m c t.val t.isLt).2.2.2.2.2.2.2.2 = (outsAt0 m c (t.val - 1) (pred_lt t)).2.2.2.2.2.2.2.2
      ∧ (outsAt0 m c t.val t.isLt).2.2.2.1 = (outsAt0 m c (t.val - 1) (pred_lt t)).2.2.2.1 := by
  rw [outsAt0_B m c t (by omega) (by omega) (by omega) (by omega) (by omega) (by omega) (by omega) (by omega) (by omega) (by omega) (by omega) (by omega)]
  refine ⟨⟨?_, ?_, ?_, ?_⟩, ?_, ?_, ?_⟩
  all_goals sl_kernel_rfl

theorem stepJ (c : Dev nD) (t : Fin cfg0.N) (h : t.val % 17 = 16) :
    StepTwo m facts2048 facts128 (by decide) VS0_0.junk VS0_1.junk VS0_2.junk c t (outsAt0 m c t.val t.isLt) := by
  rw [outsAt0_J m c t (by omega) (by omega) (by omega) (by omega) (by omega) (by omega) (by omega) (by omega) (by omega) (by omega) (by omega) (by omega)]
  refine ⟨?_, ?_, ?_, ?_, ?_, ?_⟩
  all_goals sl_kernel_rfl

/-! ### The last point of a group -/

/-- The keys' (or values') gradient, rounded. -/
def rowsOut (x : Vec Ideal S2176x256 .f32) : FVec Ideal (M 2176 256) .bf16 :=
  shapeCast (M 2176 256) (truncf .bf16 (cut (show FVec Ideal (M 2176 256) .f32 from x) 0 0 2176 256 (by decide) (by decide)) (by decide)) (by decide)

/-- One head's decay gradient put into its lane. -/
def lane (p : BitVec 32) (hh : BitVec 32) (x : FVec Ideal (C 1 2176 1) .f32) (old : FVec Ideal (M 2176 128) .f32) : FVec Ideal (M 2176 128) .f32 :=
  select (cmpi .eq (iota .tc (M 2176 128) 32 [1] (by decide)) (broadcast (M 2176 128) (Scalar.addi (Scalar.muli 4#32 p) hh)))
    (broadcastTo (M 2176 128) (shapeCast (M 2176 1) (subf (broadcast (M 2176 1) (Scalar.ofBits .f32 0x00000000#32))
      (shapeCast (M 2176 1) x (by decide))) (by decide)) (by decide)) old

/-- One head's part of the decay scratch. -/
def headOf (X : Vec Ideal S4x2176x1 .f32) (hh : ℕ) (h : hh + 1 ≤ 4) : FVec Ideal (C 1 2176 1) .f32 :=
  cut3 (show FVec Ideal (C 4 2176 1) .f32 from X) hh 0 0 1 2176 1 h (by decide) (by decide)

/-- The decay gradients written before, as the last point of a group loads them. -/
def held (c : Dev nD) (t : Fin cfg0.N) : FVec Ideal (M 2176 128) .f32 :=
  View.ld (View.read (Elt Ideal) (ms0_10 t).view ((hs0_10 t).unread (outsAt0 m c (t.val - 1) (pred_lt t)).2.2.2.1) : Vec Ideal S2176x128 .f32)
    (Rect.unit (s := S2176x128) ![0, 0] ![2176, 128] (in2 0 0 2176 128 (by decide) (by decide)))

/-- What the last point of a group writes out, `X`, `Y` and `Z` being what the scratches then hold. -/
def Last (c : Dev nD) (t : Fin cfg0.N) (X Y : Vec Ideal S2176x256 .f32) (Z : Vec Ideal S4x2176x1 .f32) (O : Outs) : Prop :=
  O.2.1 = View.read (Elt Ideal) VO0_8 (VO0_8.writes (Elt Ideal) VO0_8.junk
      [⟨Rect.unit (s := S2176x256) ![0, 0] ![2176, 256] (in2 0 0 2176 256 (by decide) (by decide)), rowsOut X⟩])
  ∧ O.2.2.1 = View.read (Elt Ideal) VO0_9 (VO0_9.writes (Elt Ideal) VO0_9.junk
      [⟨Rect.unit (s := S2176x256) ![0, 0] ![2176, 256] (in2 0 0 2176 256 (by decide) (by decide)), rowsOut Y⟩])
  ∧ O.2.2.2.1 = View.read (Elt Ideal) VO0_10 (VO0_10.writes (Elt Ideal) VO0_10.junk
      [⟨Rect.unit (s := S2176x128) ![0, 0] ![2176, 128] (in2 0 0 2176 128 (by decide) (by decide)),
        shapeCast (M 2176 128) (lane (BitVec.ofNat 32 (grid0.coords t 0).val) 3#32 (headOf Z 3 (by decide))
          (lane (BitVec.ofNat 32 (grid0.coords t 0).val) 2#32 (headOf Z 2 (by decide))
            (lane (BitVec.ofNat 32 (grid0.coords t 0).val) 1#32 (headOf Z 1 (by decide))
              (lane (BitVec.ofNat 32 (grid0.coords t 0).val) 0#32 (headOf Z 0 (by decide))
                (held m c t))))) (by decide)⟩])

end Cert.AttnIdeal.Attn
-- ==== Proof.AttnInit.lean ====
module

public import proofs.«01_k».proof.Proof.AttnRun

/-!
# The attention gradient's last and first points
-/

@[expose] public section

set_option maxRecDepth 100000

noncomputable section

namespace Cert.AttnIdeal.Attn

open Idealize.ShloMosaic Idealize.ShloMosaic.TcCoe
open Cert.AttnIdeal Cert.AttnIdeal.Gen Cert.AttnTile

variable (m : (ℓ : Loc nD τ sig) → Buf (Elt Ideal) ℓ)

theorem lastJ (c : Dev nD) (t : Fin cfg0.N) (h : t.val % 17 = 16) :
    Last m c t (kept0 VS0_0.junk (dkTwo (before m c t) (hd m c t) facts2048 facts128 (by decide)))
      (kept1 VS0_1.junk (dvTwo (before m c t) (hd m c t) facts2048 facts128 (by decide)))
      (kept2 VS0_2.junk (dcTwo (before m c t) (hd m c t) facts2048 facts128 (by decide))) (outsAt0 m c t.val t.isLt) := by
  rw [outsAt0_J m c t (by omega) (by omega) (by omega) (by omega) (by omega) (by omega) (by omega) (by omega) (by omega) (by omega) (by omega) (by omega)]
  refine ⟨?_, ?_, ?_⟩
  all_goals sl_kernel_rfl

/-! ### The first point of a group -/

/-- The zeros the sums start from. -/
def zeroRows : View.Piece (Elt Ideal) (M 2176 256) .f32 :=
  ⟨Rect.unit (s := M 2176 256) ![0, 0] ![2176, 256] (in2 0 0 2176 256 (by decide) (by decide)),
    shapeCast (M 2176 256) (broadcast (M 2176 256) (Scalar.ofBits (F := Ideal) .f32 0x00000000#32)) (by decide)⟩
@[inherit_doc zeroRows]
def zeroCols : View.Piece (Elt Ideal) (C 4 2176 1) .f32 :=
  ⟨Rect.unit (s := C 4 2176 1) ![0, 0, 0] ![4, 2176, 1] (in3 0 0 0 4 2176 1 (by decide) (by decide) (by decide)),
    shapeCast (C 4 2176 1) (broadcast (C 4 2176 1) (Scalar.ofBits (F := Ideal) .f32 0x00000000#32)) (by decide)⟩

/-- A head's decays, the same in all lanes. -/
def lanes (x : FVec Ideal (M 2176 128) .f32) (p hh : BitVec 32) : FVec Ideal (C 1 2176 128) .f32 :=
  shapeCast (C 1 2176 128) (broadcastTo (M 2176 128) (shapeCast (M 2176 1) (shapeCast (M 2176 1)
    (multiReduction .add [1] (W 2176)
      (select (cmpi .eq (iota .tc (M 2176 128) 32 [1] (by decide)) (broadcast (M 2176 128) (Scalar.addi (Scalar.muli 4#32 p) hh)))
        (shapeCast (M 2176 128) x (by decide)) (broadcast (M 2176 128) (Scalar.ofBits .f32 0x00000000#32)))
      0x00000000#32 (by decide) (.inl rfl) rfl) (by decide)) (by decide)) (by decide)) (by decide)

/-- The decays as a group's first point stores them. -/
def lanesAt (c : Dev nD) (t : Fin cfg0.N) (hh : ℕ) (h : hh + 1 ≤ 4) : View.Piece (Elt Ideal) (C 4 2176 128) .f32 :=
  ⟨Rect.unit (s := C 4 2176 128) ![hh, 0, 0] ![1, 2176, 128] (in3 hh 0 0 1 2176 128 h (by decide) (by decide)),
    lanes (View.ld (View.read (Elt Ideal) (ms0_3 t).view ((hs0_3 t).unread (iblk m c 3 t)) : Vec Ideal S2176x128 .f32)
      (Rect.unit (s := S2176x128) ![0, 0] ![2176, 128] (in2 0 0 2176 128 (by decide) (by decide))))
      (BitVec.ofNat 32 (grid0.coords t 0).val) (BitVec.ofNat 32 hh)⟩

/-- The decays the first point of a group leaves. -/
def ckInit (c : Dev nD) (t : Fin cfg0.N) : Vec Ideal S4x2176x128 .f32 :=
  View.read (Elt Ideal) (View.whole cc0_scratch3) ((View.whole cc0_scratch3).writes (Elt Ideal) VS0_3.junk
    [lanesAt m c t 3 (by decide), lanesAt m c t 2 (by decide), lanesAt m c t 1 (by decide), lanesAt m c t 0 (by decide)])

/-- The keys turned. -/
def turned (x : FVec Ideal (M 2176 256) .bf16) : FVec Ideal (M 256 2176) .bf16 :=
  shapeCast (M 256 2176) (truncf .bf16 (transpose (M 256 2176) [1, 0] (extf .f32 (shapeCast (M 2176 256) x (by decide)) (by decide)) (by decide))
    (by decide)) (by decide)

/-- The keys turned, as the first point of a group leaves them. -/
def ktInit (c : Dev nD) (t : Fin cfg0.N) : Vec Ideal S256x2176 .bf16 :=
  View.read (Elt Ideal) (View.whole cc0_scratch4) ((View.whole cc0_scratch4).writes (Elt Ideal) VS0_4.junk
    [⟨Rect.unit (s := M 256 2176) ![0, 0] ![256, 2176] (in2 0 0 256 2176 (by decide) (by decide)),
      turned (View.ld (View.read (Elt Ideal) (ms0_1 t).view ((hs0_1 t).unread (iblk m c 1 t)) : Vec Ideal S2176x256 .bf16)
          (Rect.unit (s := S2176x256) ![0, 0] ![2176, 256] (in2 0 0 2176 256 (by decide) (by decide))))⟩])

/-- What a group's first point reads. -/
def first (c : Dev nD) (t : Fin cfg0.N) : Inp :=
  inp m c t (fun _ => (0 : EReal)) (fun _ => (0 : EReal)) (fun _ => (0 : EReal)) (ckInit m c t) (ktInit m c t)

section
variable (I : Inp) (ck : FVec Ideal (C 4 2176 128) .f32) (kt : FVec Ideal (M 256 2176) .bf16) (H : Fin 4 → Hd)

def ckCut (i : Fin 4) : FVec Ideal (C 1 256 128) .f32 := cut3 ck i.val 0 0 1 256 128 i.isLt (by decide) (by decide)
def dkInit0 : FVec Ideal (M 256 128) .f32 := cut (kept0 VS0_0.junk [zeroRows]) 0 0 256 128 (by decide) (by decide)
def dkInit1 : FVec Ideal (M 256 128) .f32 :=
  cut (kept0 VS0_0.junk [put 0 0 256 (by decide) (by decide) (dkOne I facts256 (by decide) (H 0) (H 1) (ckCut ck 0) (ckCut ck 1) dkInit0),
    zeroRows]) 0 128 256 128 (by decide) (by decide)
def dvInit0 : FVec Ideal (M 256 128) .f32 := cut (kept1 VS0_1.junk [zeroRows]) 0 0 256 128 (by decide) (by decide)
def dvInit1 : FVec Ideal (M 256 128) .f32 :=
  cut (kept1 VS0_1.junk [put 0 0 256 (by decide) (by decide) (dvOne I facts256 (by decide) (H 0) (H 1) (ckCut ck 0) (ckCut ck 1) dvInit0),
    zeroRows]) 0 128 256 128 (by decide) (by decide)
def dcInit0 : FVec Ideal (C 1 256 1) .f32 := cut3 (kept2 VS0_2.junk [zeroCols]) 0 0 0 1 256 1 (by decide) (by decide) (by decide)
def dcPut0 : View.Piece (Elt Ideal) (C 4 2176 1) .f32 :=
  putCol 0 0 256 (by decide) (by decide) (dcOne I facts256 (by decide) (H 0) (ckCut ck 0) dcInit0)
def dcInit1 : FVec Ideal (C 1 256 1) .f32 :=
  cut3 (kept2 VS0_2.junk [dcPut0 I ck H, zeroCols]) 1 0 0 1 256 1 (by decide) (by decide) (by decide)
def dcPut1 : View.Piece (Elt Ideal) (C 4 2176 1) .f32 :=
  putCol 1 0 256 (by decide) (by decide) (dcOne I facts256 (by decide) (H 1) (ckCut ck 1) (dcInit1 I ck H))
def dcInit2 : FVec Ideal (C 1 256 1) .f32 :=
  cut3 (kept2 VS0_2.junk [dcPut1 I ck H, dcPut0 I ck H, zeroCols]) 2 0 0 1 256 1 (by decide) (by decide) (by decide)
def dcPut2 : View.Piece (Elt Ideal) (C 4 2176 1) .f32 :=
  putCol 2 0 256 (by decide) (by decide) (dcOne I facts256 (by decide) (H 2) (ckCut ck 2) (dcInit2 I ck H))
def dcInit3 : FVec Ideal (C 1 256 1) .f32 :=
  cut3 (kept2 VS0_2.junk [dcPut2 I ck H, dcPut1 I ck H, dcPut0 I ck H, zeroCols]) 3 0 0 1 256 1 (by decide) (by decide) (by decide)

/-- What a group's first point loads of what it has itself stored. -/
def srcInit : Src 256 where
  dk := fun | 0 => dkInit0 | 1 => dkInit1 I ck H
  dv := fun | 0 => dvInit0 | 1 => dvInit1 I ck H
  dc := fun | 0 => dcInit0 | 1 => dcInit1 I ck H | 2 => dcInit2 I ck H | 3 => dcInit3 I ck H
  ck i := ckCut ck i
  kt p := cut kt (128 * p.val) 0 128 256 (by omega) (by decide)
end

/-- A group's first point. -/
def StepFirst (c : Dev nD) (t : Fin cfg0.N) (O : Outs) : Prop :=
  StepOne m (first m c t) (srcInit (first m c t) (ckInit m c t) (ktInit m c t) (hd m c t))
    ((View.whole cc0_scratch0).writes (Elt Ideal) VS0_0.junk [zeroRows]) ((View.whole cc0_scratch1).writes (Elt Ideal) VS0_1.junk [zeroRows])
    ((View.whole cc0_scratch2).writes (Elt Ideal) VS0_2.junk [zeroCols]) c t O
  ∧ O.2.2.2.2.2.2.2.1 = ckInit m c t ∧ O.2.2.2.2.2.2.2.2 = ktInit m c t

theorem stepK (c : Dev nD) (t : Fin cfg0.N) (h : t.val % 17 = 0) (h' : t.val % 34 ≠ 0) :
    StepFirst m c t (outsAt0 m c t.val t.isLt) ∧ (outsAt0 m c t.val t.isLt).2.2.2.1 = (outsAt0 m c (t.val - 1) (pred_lt t)).2.2.2.1 := by
  rw [outsAt0_K m c t (by omega) (by omega) (by omega) (by omega) (by omega) (by omega) (by omega) (by omega) (by omega) (by omega) (by omega) (by omega)]
  refine ⟨⟨⟨?_, ?_, ?_, ?_⟩, ?_, ?_⟩, ?_⟩
  all_goals sl_kernel_rfl

theorem stepA (c : Dev nD) (t : Fin cfg0.N) (h : t.val % 34 = 0) :
    StepFirst m c t (outsAt0 m c t.val t.isLt)
      ∧ (outsAt0 m c t.val t.isLt).2.2.2.1 = View.read (Elt Ideal) VO0_10 (VO0_10.writes (Elt Ideal) VO0_10.junk
      [⟨Rect.unit (s := S2176x128) ![0, 0] ![2176, 128] (in2 0 0 2176 128 (by decide) (by decide)),
        shapeCast (M 2176 128) (broadcast (M 2176 128) (Scalar.ofBits (F := Ideal) .f32 0x00000000#32)) (by decide)⟩]) := by
  rw [outsAt0_A m c t (by omega) (by omega) (by omega) (by omega) (by omega) (by omega) (by omega) (by omega) (by omega) (by omega) (by omega) (by omega)]
  refine ⟨⟨⟨?_, ?_, ?_, ?_⟩, ?_, ?_⟩, ?_⟩
  all_goals sl_kernel_rfl

end Cert.AttnIdeal.Attn
-- ==== Proof.AttnWalk.lean ====
module

public import proofs.«01_k».proof.Proof.AttnStep
public import proofs.«01_k».proof.Proof.AttnInit

/-!
# From point to point of the attention gradient
-/

@[expose] public section

set_option maxRecDepth 100000

noncomputable section

namespace Cert.AttnIdeal.Attn

open Idealize.ShloMosaic Idealize.ShloMosaic.TcCoe
open Cert.AttnIdeal Cert.AttnIdeal.Gen Cert.AttnTile

variable (m : (ℓ : Loc nD τ sig) → Buf (Elt Ideal) ℓ)

theorem hd_ok (c : Dev nD) (t : Fin cfg0.N) : HdOK (hd m c t) := fun
  | 0 => ⟨rfl, rfl, rfl⟩
  | 1 => ⟨rfl, rfl, rfl⟩
  | 2 => ⟨rfl, rfl, rfl⟩
  | 3 => ⟨rfl, rfl, rfl⟩

theorem coords_0 (t : Fin cfg0.N) : (grid0.coords t 0).val = t.val / 17 := by
  revert t
  decide +kernel

theorem coords_1 (t : Fin cfg0.N) : (grid0.coords t 1).val = t.val % 17 := by
  revert t
  decide +kernel

theorem N_eq : cfg0.N = 34 := by decide +kernel

theorem inp_at (c : Dev nD) (t : Fin cfg0.N) (dk dv : Vec Ideal S2176x256 .f32) (dc : Vec Ideal S4x2176x1 .f32) (ck : Vec Ideal S4x2176x128 .f32)
    (kt : Vec Ideal S256x2176 .bf16) : At (inp m c t dk dv dc ck kt) (128 * (t.val % 17)) where
  z := by
    unfold inp
    rfl
  pos := by
    show Scalar.muli (BitVec.ofNat 32 (grid0.coords t 1).val) 128#32 = _
    rw [coords_1]
    show BitVec.ofNat 32 (t.val % 17) * BitVec.ofNat 32 128 = _
    rw [← BitVec.ofNat_mul, Nat.mul_comm]
  le := by omega

section
variable (c : Dev nD) (t : Fin cfg0.N) (dk dv : Vec Ideal S2176x256 .f32) (dc : Vec Ideal S4x2176x1 .f32) (ck : Vec Ideal S4x2176x128 .f32)
    (kt : Vec Ideal S256x2176 .bf16)
theorem inp_dk : (inp m c t dk dv dc ck kt).dk = dk :=
  (Memref.isWhole_whole cc0_scratch0).read_unread dk
theorem inp_dv : (inp m c t dk dv dc ck kt).dv = dv :=
  (Memref.isWhole_whole cc0_scratch1).read_unread dv
theorem inp_dc : (inp m c t dk dv dc ck kt).dc = dc :=
  (Memref.isWhole_whole cc0_scratch2).read_unread dc
theorem inp_ck : (inp m c t dk dv dc ck kt).ck = ck :=
  (Memref.isWhole_whole cc0_scratch3).read_unread ck
theorem inp_kt : (inp m c t dk dv dc ck kt).kt = kt :=
  (Memref.isWhole_whole cc0_scratch4).read_unread kt
end

/-- What a point leaves, from what it reads. -/
structure Done (c : Dev nD) (t : Fin cfg0.N) (I : Inp) (O : Outs) : Prop where
  dq : ∀ (s : Fin 128) (J : Fin 256), O.1 (ix2 s J) = queryNew I.kt (fun i => Ds I (hd m c t i) (128 * (t.val % 17))) s J
  dk : O.2.2.2.2.1 = rowsNew I.dk (fun i => Ds I (hd m c t i) (128 * (t.val % 17))) (fun s J => I.q (ix2 s J))
  dv : O.2.2.2.2.2.1 = rowsNew I.dv (fun i => Wt I (hd m c t i) (128 * (t.val % 17))) (fun s J => I.g (ix2 s J))
  dc : O.2.2.2.2.2.2.1 = colsNew I.dc (fun i => Ds I (hd m c t i) (128 * (t.val % 17)))
  ck : O.2.2.2.2.2.2.2.1 = I.ck
  kt : O.2.2.2.2.2.2.2.2 = I.kt

theorem stored_eq (x : FVec Ideal (M 128 256) .bf16) : stored x = x := by
  unfold stored
  exact read_whole2 (e := .bf16) 128 256 _ _ _ x

theorem done_two {n1 n2 : ℕ} (f1 : AttnTile.Facts n1) (f2 : AttnTile.Facts n2) (h : n1 + n2 ≤ 2176) (b0 : (View.whole cc0_scratch0).ty.Contents (Elt Ideal))
    (b1 : (View.whole cc0_scratch1).ty.Contents (Elt Ideal)) (b2 : (View.whole cc0_scratch2).ty.Contents (Elt Ideal))
    (c : Dev nD) (t : Fin cfg0.N) (O : Outs) (h1 : n1 ≤ 128 * (t.val % 17)) (h2 : 128 * (t.val % 17) + 128 ≤ n1 + n2)
    (hb0 : ∀ y : (M 2176 256).Idx, n1 + n2 ≤ (y 0).val → View.read (Elt Ideal) (View.whole cc0_scratch0) b0 y = (before m c t).dk y)
    (hb1 : ∀ y : (M 2176 256).Idx, n1 + n2 ≤ (y 0).val → View.read (Elt Ideal) (View.whole cc0_scratch1) b1 y = (before m c t).dv y)
    (hb2 : ∀ y : (C 4 2176 1).Idx, n1 + n2 ≤ (y 1).val → View.read (Elt Ideal) (View.whole cc0_scratch2) b2 y = (before m c t).dc y)
    (hs : StepTwo m f1 f2 h b0 b1 b2 c t O) : Done m c t (before m c t) O where
  dq s J := by
    rw [hs.1, stored_eq]
    exact dqTwo_apply _ f1 f2 h _ (inp_at m c t _ _ _ _ _) h1 h2 _ (hd_ok m c t) s J
  dk := hs.2.1.trans (dkTwo_read _ f1 f2 h _ (inp_at m c t _ _ _ _ _) h1 h2 _ (hd_ok m c t) _ b0 hb0)
  dv := hs.2.2.1.trans (dvTwo_read _ f1 f2 h _ (inp_at m c t _ _ _ _ _) h1 h2 _ (hd_ok m c t) _ b1 hb1)
  dc := hs.2.2.2.1.trans (dcTwo_read _ f1 f2 h _ (inp_at m c t _ _ _ _ _) h1 h2 _ (hd_ok m c t) _ b2 hb2)
  ck := hs.2.2.2.2.1.trans (inp_ck m c t _ _ _ _ _).symm
  kt := hs.2.2.2.2.2.trans (inp_kt m c t _ _ _ _ _).symm

theorem done_one (I : Inp) (S : Src 256) (b0 : (View.whole cc0_scratch0).ty.Contents (Elt Ideal))
    (b1 : (View.whole cc0_scratch1).ty.Contents (Elt Ideal)) (b2 : (View.whole cc0_scratch2).ty.Contents (Elt Ideal))
    (c : Dev nD) (t : Fin cfg0.N) (O : Outs) (h2 : 128 * (t.val % 17) + 128 ≤ 256) (hI : At I (128 * (t.val % 17)))
    (hS : SrcOK S I (by decide))
    (hb0 : ∀ y : (M 2176 256).Idx, 256 ≤ (y 0).val → View.read (Elt Ideal) (View.whole cc0_scratch0) b0 y = I.dk y)
    (hb1 : ∀ y : (M 2176 256).Idx, 256 ≤ (y 0).val → View.read (Elt Ideal) (View.whole cc0_scratch1) b1 y = I.dv y)
    (hb2 : ∀ y : (C 4 2176 1).Idx, 256 ≤ (y 1).val → View.read (Elt Ideal) (View.whole cc0_scratch2) b2 y = I.dc y)
    (hs : StepOne m I S b0 b1 b2 c t O) (hck : O.2.2.2.2.2.2.2.1 = I.ck) (hkt : O.2.2.2.2.2.2.2.2 = I.kt) : Done m c t I O where
  dq s J := by
    rw [hs.1, stored_eq]
    exact dqOnce_apply I facts256 _ _ hI h2 S _ (hd_ok m c t) hS.ck hS s J
  dk := hs.2.1.trans (dkOnce_read I facts256 _ _ hI h2 S _ (hd_ok m c t) hS.ck hS _ b0 hb0)
  dv := hs.2.2.1.trans (dvOnce_read I facts256 _ _ hI h2 S _ (hd_ok m c t) hS.ck hS _ b1 hb1)
  dc := hs.2.2.2.trans (dcOnce_read I facts256 _ _ hI h2 S _ (hd_ok m c t) hS.ck hS _ b2 hb2)
  ck := hck
  kt := hkt

theorem src_ok (I : Inp) : SrcOK (srcOf I) I (by decide) where
  dk p s j := cut_apply I.dk 0 (128 * p.val) 256 128 (by decide) (by omega) s j
  dv p s j := cut_apply I.dv 0 (128 * p.val) 256 128 (by decide) (by omega) s j
  dc i s := by
    show cut3 I.dc i.val 0 0 1 256 1 i.isLt (by decide) (by decide) (ix3 0 s 0) = _
    rw [cut3_apply]
    rfl
  ck i s t := by
    show cut3 I.ck i.val 0 0 1 256 128 i.isLt (by decide) (by decide) (ix3 0 s t) = _
    rw [cut3_apply]
    exact congrArg (fun r => I.ck (ix3 i _ r)) (Fin.ext (Nat.zero_add _))
  kt p j s := cut_apply I.kt (128 * p.val) 0 128 256 (by omega) (by decide) j s

theorem done_mid (c : Dev nD) (t : Fin cfg0.N) (h : t.val % 17 ≠ 0) : Done m c t (before m c t) (outsAt0 m c t.val t.isLt) := by
  have hl : t.val % 17 < 17 := Nat.mod_lt _ (by decide)
  rcases (show t.val % 17 = 1 ∨ (2 ≤ t.val % 17 ∧ t.val % 17 ≤ 3) ∨ (4 ≤ t.val % 17 ∧ t.val % 17 ≤ 5) ∨ (6 ≤ t.val % 17 ∧ t.val % 17 ≤ 7)
    ∨ (8 ≤ t.val % 17 ∧ t.val % 17 ≤ 9) ∨ (10 ≤ t.val % 17 ∧ t.val % 17 ≤ 11) ∨ (12 ≤ t.val % 17 ∧ t.val % 17 ≤ 13)
    ∨ (14 ≤ t.val % 17 ∧ t.val % 17 ≤ 15) ∨ t.val % 17 = 16 by omega) with e | e | e | e | e | e | e | e | e
  · have s := stepB m c t e
    exact done_one m _ _ _ _ _ c t _ (by omega) (inp_at m c t _ _ _ _ _) (src_ok _) (fun _ _ => rfl) (fun _ _ => rfl) (fun _ _ => rfl) s.1
      (s.2.1.trans (inp_ck m c t _ _ _ _ _).symm) (s.2.2.1.trans (inp_kt m c t _ _ _ _ _).symm)
  · exact done_two m _ _ _ _ _ _ c t _ (by omega) (by omega) (fun _ _ => rfl) (fun _ _ => rfl) (fun _ _ => rfl) (stepC m c t e).1
  · exact done_two m _ _ _ _ _ _ c t _ (by omega) (by omega) (fun _ _ => rfl) (fun _ _ => rfl) (fun _ _ => rfl) (stepD m c t e).1
  · exact done_two m _ _ _ _ _ _ c t _ (by omega) (by omega) (fun _ _ => rfl) (fun _ _ => rfl) (fun _ _ => rfl) (stepE m c t e).1
  · exact done_two m _ _ _ _ _ _ c t _ (by omega) (by omega) (fun _ _ => rfl) (fun _ _ => rfl) (fun _ _ => rfl) (stepF m c t e).1
  · exact done_two m _ _ _ _ _ _ c t _ (by omega) (by omega) (fun _ _ => rfl) (fun _ _ => rfl) (fun _ _ => rfl) (stepG m c t e).1
  · exact done_two m _ _ _ _ _ _ c t _ (by omega) (by omega) (fun _ _ => rfl) (fun _ _ => rfl) (fun _ _ => rfl) (stepH m c t e).1
  · exact done_two m _ _ _ _ _ _ c t _ (by omega) (by omega) (fun _ _ => rfl) (fun _ _ => rfl) (fun _ _ => rfl) (stepI m c t e).1
  · exact done_two m _ _ _ _ _ _ c t _ (by omega) (by omega)
      (fun y hy => absurd (y 0).isLt (not_lt.2 hy)) (fun y hy => absurd (y 0).isLt (not_lt.2 hy)) (fun y hy => absurd (y 1).isLt (not_lt.2 hy)) (stepJ m c t e)

/-! ### A group's first point -/

section
variable {sig' : RefSig} {κ' : Kind} {sp' : Space}

theorem zeroRows_read (v : View sig' κ' sp' (M 2176 256) .f32) (base : v.ty.Contents (Elt Ideal)) (y : (M 2176 256).Idx) :
    v.read (Elt Ideal) (v.writes (Elt Ideal) base [zeroRows]) y = (0 : EReal) := by
  unfold zeroRows
  rw [read_whole2, shapeCast_id, bcast_zero]

theorem zeroCols_read (v : View sig' κ' sp' (C 4 2176 1) .f32) (base : v.ty.Contents (Elt Ideal)) (y : (C 4 2176 1).Idx) :
    v.read (Elt Ideal) (v.writes (Elt Ideal) base [zeroCols]) y = (0 : EReal) := by
  unfold zeroCols
  rw [read_whole3, shapeCast_id, bcast_zero]

theorem put_zero (v : View sig' κ' sp' (M 2176 256) .f32) (base : v.ty.Contents (Elt Ideal)) (x : FVec Ideal (M 256 128) .f32) (h h')
    (y : (M 2176 256).Idx) (hy : 128 ≤ (y 1).val) :
    v.read (Elt Ideal) (v.writes (Elt Ideal) base [put 0 0 256 h h' x, zeroRows]) y = (0 : EReal) := by
  refine (View.read_writes_apply_of_forall_not_mem v (v.writes (Elt Ideal) base [zeroRows]) y [put 0 0 256 h h' x] fun p hp hm => ?_).trans
    (zeroRows_read v base y)
  obtain rfl := List.mem_singleton.1 hp
  have := ((Rect.mem_set_unit (s := M 2176 256) (off := ![0, 0]) (size := ![256, 128]) (inb := in2 0 0 256 128 h h')).1 hm 1).2
  change (y 1).val < 0 + 128 at this
  omega

theorem putCol_not_mem (p r n : ℕ) (hp hr) (x : FVec Ideal (C 1 n 1) .f32) (y : (C 4 2176 1).Idx) (hy : (y 0).val ≠ p) :
    y ∉ (putCol p r n hp hr x).1.set := fun hm => by
  have := (Rect.mem_set_unit (s := C 4 2176 1) (off := ![p, r, 0]) (size := ![1, n, 1]) (inb := in3 p r 0 1 n 1 hp hr (by decide))).1 hm 0
  change p ≤ (y 0).val ∧ (y 0).val < p + 1 at this
  omega

theorem cols_zero (v : View sig' κ' sp' (C 4 2176 1) .f32) (base : v.ty.Contents (Elt Ideal)) (L : List (View.Piece (Elt Ideal) (C 4 2176 1) .f32))
    (y : (C 4 2176 1).Idx) (hL : ∀ p ∈ L, y ∉ p.1.set) :
    v.read (Elt Ideal) (v.writes (Elt Ideal) (v.writes (Elt Ideal) base [zeroCols]) L) y = (0 : EReal) :=
  (View.read_writes_apply_of_forall_not_mem v _ y L hL).trans (zeroCols_read v base y)
end

section
variable (I : Inp) (ck : FVec Ideal (C 4 2176 128) .f32) (H : Fin 4 → Hd) (s : Fin 256)

theorem dkInit0_apply (j : Fin 128) : dkInit0 (ix2 s j) = (0 : EReal) := by
  unfold dkInit0
  rw [cut_apply]
  unfold kept0
  exact zeroRows_read _ _ _
theorem dkInit1_apply (j : Fin 128) : dkInit1 I ck H (ix2 s j) = (0 : EReal) := by
  unfold dkInit1
  rw [cut_apply]
  unfold kept0
  exact put_zero _ _ _ _ _ _ (Nat.le_add_right 128 j.val)
theorem dvInit0_apply (j : Fin 128) : dvInit0 (ix2 s j) = (0 : EReal) := by
  unfold dvInit0
  rw [cut_apply]
  unfold kept1
  exact zeroRows_read _ _ _
theorem dvInit1_apply (j : Fin 128) : dvInit1 I ck H (ix2 s j) = (0 : EReal) := by
  unfold dvInit1
  rw [cut_apply]
  unfold kept1
  exact put_zero _ _ _ _ _ _ (Nat.le_add_right 128 j.val)
theorem dcInit0_apply : dcInit0 (ix3 0 s 0) = (0 : EReal) := by
  unfold dcInit0
  rw [cut3_apply]
  unfold kept2
  exact zeroCols_read _ _ _
theorem dcInit1_apply : dcInit1 I ck H (ix3 0 s 0) = (0 : EReal) := by
  unfold dcInit1
  rw [cut3_apply]
  unfold kept2
  refine cols_zero _ _ [dcPut0 I ck H] _ ?_
  simp only [List.mem_cons, List.not_mem_nil, or_false, forall_eq_or_imp, forall_eq]
  exact putCol_not_mem 0 _ _ _ _ _ _ (show (1 + 0 : ℕ) ≠ 0 by decide)
theorem dcInit2_apply : dcInit2 I ck H (ix3 0 s 0) = (0 : EReal) := by
  unfold dcInit2
  rw [cut3_apply]
  unfold kept2
  refine cols_zero _ _ [dcPut1 I ck H, dcPut0 I ck H] _ ?_
  simp only [List.mem_cons, List.not_mem_nil, or_false, forall_eq_or_imp, forall_eq]
  exact ⟨putCol_not_mem 1 _ _ _ _ _ _ (show (2 + 0 : ℕ) ≠ 1 by decide), putCol_not_mem 0 _ _ _ _ _ _ (show (2 + 0 : ℕ) ≠ 0 by decide)⟩
theorem dcInit3_apply : dcInit3 I ck H (ix3 0 s 0) = (0 : EReal) := by
  unfold dcInit3
  rw [cut3_apply]
  unfold kept2
  refine cols_zero _ _ [dcPut2 I ck H, dcPut1 I ck H, dcPut0 I ck H] _ ?_
  simp only [List.mem_cons, List.not_mem_nil, or_false, forall_eq_or_imp, forall_eq]
  exact ⟨putCol_not_mem 2 _ _ _ _ _ _ (show (3 + 0 : ℕ) ≠ 2 by decide), putCol_not_mem 1 _ _ _ _ _ _ (show (3 + 0 : ℕ) ≠ 1 by decide),
    putCol_not_mem 0 _ _ _ _ _ _ (show (3 + 0 : ℕ) ≠ 0 by decide)⟩
end

theorem srcInit_dc0 (I : Inp) (ck : FVec Ideal (C 4 2176 128) .f32) (kt : FVec Ideal (M 256 2176) .bf16) (H : Fin 4 → Hd) :
    (srcInit I ck kt H).dc 0 = dcInit0 := by sl_kernel_rfl
theorem srcInit_dc1 (I : Inp) (ck : FVec Ideal (C 4 2176 128) .f32) (kt : FVec Ideal (M 256 2176) .bf16) (H : Fin 4 → Hd) :
    (srcInit I ck kt H).dc 1 = dcInit1 I ck H := by sl_kernel_rfl
theorem srcInit_dc2 (I : Inp) (ck : FVec Ideal (C 4 2176 128) .f32) (kt : FVec Ideal (M 256 2176) .bf16) (H : Fin 4 → Hd) :
    (srcInit I ck kt H).dc 2 = dcInit2 I ck H := by sl_kernel_rfl
theorem srcInit_dc3 (I : Inp) (ck : FVec Ideal (C 4 2176 128) .f32) (kt : FVec Ideal (M 256 2176) .bf16) (H : Fin 4 → Hd) :
    (srcInit I ck kt H).dc 3 = dcInit3 I ck H := by sl_kernel_rfl
theorem srcInit_dc (I : Inp) (ck : FVec Ideal (C 4 2176 128) .f32) (kt : FVec Ideal (M 256 2176) .bf16) (H : Fin 4 → Hd) (i : Fin 4) (s : Fin 256) :
    (srcInit I ck kt H).dc i (ix3 0 s 0) = (0 : EReal) := by
  revert i
  rw [Fin.forall_fin_succ, Fin.forall_fin_succ, Fin.forall_fin_succ, Fin.forall_fin_succ]
  exact ⟨(congrFun (srcInit_dc0 I ck kt H) _).trans (dcInit0_apply s), (congrFun (srcInit_dc1 I ck kt H) _).trans (dcInit1_apply I ck H s),
    (congrFun (srcInit_dc2 I ck kt H) _).trans (dcInit2_apply I ck H s), (congrFun (srcInit_dc3 I ck kt H) _).trans (dcInit3_apply I ck H s), fun i => i.elim0⟩

theorem srcInit_dk0 (I : Inp) (ck : FVec Ideal (C 4 2176 128) .f32) (kt : FVec Ideal (M 256 2176) .bf16) (H : Fin 4 → Hd) :
    (srcInit I ck kt H).dk 0 = dkInit0 := by sl_kernel_rfl

theorem srcInit_dk1 (I : Inp) (ck : FVec Ideal (C 4 2176 128) .f32) (kt : FVec Ideal (M 256 2176) .bf16) (H : Fin 4 → Hd) :
    (srcInit I ck kt H).dk 1 = dkInit1 I ck H := by sl_kernel_rfl

theorem srcInit_dk (I : Inp) (ck : FVec Ideal (C 4 2176 128) .f32) (kt : FVec Ideal (M 256 2176) .bf16) (H : Fin 4 → Hd) (p : Fin 2) (s : Fin 256)
    (j : Fin 128) : (srcInit I ck kt H).dk p (ix2 s j) = (0 : EReal) := by
  revert p
  rw [Fin.forall_fin_succ, Fin.forall_fin_succ]
  exact ⟨(congrFun (srcInit_dk0 I ck kt H) _).trans (dkInit0_apply s j), (congrFun (srcInit_dk1 I ck kt H) _).trans (dkInit1_apply I ck H s j),
    fun i => i.elim0⟩

theorem srcInit_dv0 (I : Inp) (ck : FVec Ideal (C 4 2176 128) .f32) (kt : FVec Ideal (M 256 2176) .bf16) (H : Fin 4 → Hd) :
    (srcInit I ck kt H).dv 0 = dvInit0 := by sl_kernel_rfl

theorem srcInit_dv1 (I : Inp) (ck : FVec Ideal (C 4 2176 128) .f32) (kt : FVec Ideal (M 256 2176) .bf16) (H : Fin 4 → Hd) :
    (srcInit I ck kt H).dv 1 = dvInit1 I ck H := by sl_kernel_rfl

theorem srcInit_dv (I : Inp) (ck : FVec Ideal (C 4 2176 128) .f32) (kt : FVec Ideal (M 256 2176) .bf16) (H : Fin 4 → Hd) (p : Fin 2) (s : Fin 256)
    (j : Fin 128) : (srcInit I ck kt H).dv p (ix2 s j) = (0 : EReal) := by
  revert p
  rw [Fin.forall_fin_succ, Fin.forall_fin_succ]
  exact ⟨(congrFun (srcInit_dv0 I ck kt H) _).trans (dvInit0_apply s j), (congrFun (srcInit_dv1 I ck kt H) _).trans (dvInit1_apply I ck H s j),
    fun i => i.elim0⟩

theorem src_init_ok (I : Inp) (hdk : I.dk = fun _ => (0 : EReal)) (hdv : I.dv = fun _ => (0 : EReal)) (hdc : I.dc = fun _ => (0 : EReal))
    (H : Fin 4 → Hd) : SrcOK (srcInit I I.ck I.kt H) I (by decide) where
  dk p s j := (srcInit_dk I I.ck I.kt H p s j).trans (congrFun hdk _).symm
  dv p s j := (srcInit_dv I I.ck I.kt H p s j).trans (congrFun hdv _).symm
  dc i s := (srcInit_dc I I.ck I.kt H i s).trans (congrFun hdc _).symm
  ck i s l := by
    show ckCut I.ck i (ix3 0 s l) = _
    unfold ckCut
    rw [cut3_apply]
    exact congrArg (fun r => I.ck (ix3 i _ r)) (Fin.ext (Nat.zero_add _))
  kt p j s := cut_apply I.kt (128 * p.val) 0 128 256 (by omega) (by decide) j s

theorem done_first (c : Dev nD) (t : Fin cfg0.N) (h : t.val % 17 = 0) : Done m c t (first m c t) (outsAt0 m c t.val t.isLt) := by
  have s : StepFirst m c t (outsAt0 m c t.val t.isLt) := by
    by_cases h' : t.val % 34 = 0
    · exact (stepA m c t h').1
    · exact (stepK m c t h h').1
  have hS : SrcOK (srcInit (first m c t) (ckInit m c t) (ktInit m c t) (hd m c t)) (first m c t) (by decide) := by
    have := src_init_ok (first m c t) (inp_dk m c t _ _ _ _ _) (inp_dv m c t _ _ _ _ _) (inp_dc m c t _ _ _ _ _) (hd m c t)
    rwa [show (first m c t).ck = ckInit m c t from inp_ck m c t _ _ _ _ _, show (first m c t).kt = ktInit m c t from inp_kt m c t _ _ _ _ _] at this
  have z0 : (first m c t).dk = fun _ => (0 : EReal) := inp_dk m c t _ _ _ _ _
  have z1 : (first m c t).dv = fun _ => (0 : EReal) := inp_dv m c t _ _ _ _ _
  have z2 : (first m c t).dc = fun _ => (0 : EReal) := inp_dc m c t _ _ _ _ _
  refine done_one m _ _ _ _ _ c t _ (by omega) (inp_at m c t _ _ _ _ _) hS (fun y _ => ?_) (fun y _ => ?_) (fun y _ => ?_) s.1
      (s.2.1.trans (inp_ck m c t _ _ _ _ _).symm) (s.2.2.trans (inp_kt m c t _ _ _ _ _).symm)
  · rw [z0]; exact zeroRows_read _ _ y
  · rw [z1]; exact zeroRows_read _ _ y
  · rw [z2]; exact zeroCols_read _ _ y

end Cert.AttnIdeal.Attn
-- ==== Proof.AttnData.lean ====
module

public import proofs.«01_k».proof.Proof.AttnStep

/-!
# The attention gradient over whole arrays

The same weights and gradients as a point's, for all queries, keys and heads at once.
-/

@[expose] public section

noncomputable section

namespace Cert.AttnTile

open Idealize.ShloMosaic Idealize.ShloMosaic.TcCoe

/-- Scaled queries, keys, values, output cotangents, decays, and the queries' own terms, over padded positions. -/
structure Dat where
  q : Fin 2176 → Fin 512 → EReal
  k : Fin 2176 → Fin 512 → EReal
  v : Fin 2176 → Fin 512 → EReal
  g : Fin 2176 → Fin 512 → EReal
  c : Fin 2176 → Fin 8 → EReal
  r : Fin 8 → Fin 2176 → EReal

/-- Column `d` of head `h`. -/
def col (h : Fin 8) (d : Fin 64) : Fin 512 := ⟨64 * h.val + d.val, by omega⟩
/-- Column `J` of group `p`. -/
def gcol (p : Fin 2) (J : Fin 256) : Fin 512 := ⟨256 * p.val + J.val, by omega⟩
/-- Head `e` of group `p`. -/
def ghead (p : Fin 2) (e : Fin 4) : Fin 8 := ⟨4 * p.val + e.val, by omega⟩
/-- Query `t` of block `i`. -/
def qpos (i : Fin 17) (t : Fin 128) : Fin 2176 := ⟨128 * i.val + t.val, by omega⟩
/-- The head of a column. -/
def headOf512 (J : Fin 512) : Fin 8 := ⟨J.val / 64, by omega⟩

namespace Dat
variable (D : Dat) (h : Fin 8)
/-- The log-weight of key `s` for query `t`. -/
def lg (s t : Fin 2176) : EReal := (∑ d : Fin 64, D.k s (col h d) * D.q t (col h d)) - D.c s h
/-- The weight. -/
def wt (s t : Fin 2176) : EReal := Ideal.exp ((if s.val ≤ t.val then D.lg h s t else ⊥) + D.r h t)
/-- The weight's gradient. -/
def dp (s t : Fin 2176) : EReal := ∑ d : Fin 64, D.v s (col h d) * D.g t (col h d)
/-- The sum of weight times its gradient. -/
def ks (t : Fin 2176) : EReal := ∑ s : Fin 2176, D.wt h s t * D.dp h s t
/-- The score's gradient. -/
def ds (s t : Fin 2176) : EReal := D.wt h s t * (D.dp h s t - D.ks h t)
end Dat

/-- A point of group `p` and query block `i` reads these arrays. -/
structure Reads (D : Dat) (I : Inp) (H : Fin 4 → Hd) (p : Fin 2) (i : Fin 17) : Prop where
  ok : HdOK H
  q : ∀ t J, I.q (ix2 t J) = D.q (qpos i t) (gcol p J)
  g : ∀ t J, I.g (ix2 t J) = D.g (qpos i t) (gcol p J)
  k : ∀ s J, I.k (ix2 s J) = D.k s (gcol p J)
  v : ∀ s J, I.v (ix2 s J) = D.v s (gcol p J)
  ck : ∀ e s t, I.ck (ix3 e s t) = D.c s (ghead p e)
  row : ∀ e t, (H e).row (ix2 0 t) = D.r (ghead p e) (qpos i t)

theorem pair_sum {φ : FTy} (A : FVec Ideal (M 2176 256) φ) (X : FVec Ideal (M 128 256) .bf16) (H : Hd) (e : Fin 4) (h1 : H.lo = 128 * (e.val / 2))
    (h3 : H.off = 128 * (e.val % 2)) (s : Fin 2176) (t : Fin 128) :
    (∑ d : Fin 128, A (ix2 s ⟨H.lo + d.val, by have := H.hlo; omega⟩) * columns (pairOf X H.lo H.hlo) (ix2 d ⟨H.off + t.val, by have := H.hoff; omega⟩))
      = ∑ d : Fin 64, A (ix2 s ⟨64 * e.val + d.val, by omega⟩) * X (ix2 t ⟨64 * e.val + d.val, by omega⟩) := by
  have key : ∀ d : Fin 128, A (ix2 s ⟨H.lo + d.val, by have := H.hlo; omega⟩) * columns (pairOf X H.lo H.hlo) (ix2 d ⟨H.off + t.val, by have := H.hoff; omega⟩)
      = if (d.val < 64 ↔ e.val % 2 = 0) then A (ix2 s ⟨128 * (e.val / 2) + d.val, by omega⟩) * X (ix2 t ⟨128 * (e.val / 2) + d.val, by omega⟩) else 0 := fun d => by
    rw [columns_apply]
    by_cases hc : (d.val < 64 ↔ e.val % 2 = 0)
    · rw [if_pos hc, if_pos (by show d.val < 64 ↔ H.off + t.val < 128; rw [h3]; constructor <;> intro h' <;> [have := hc.1 h'; have := hc.2 (by omega)] <;> omega), pairOf_apply]
      have e1 : (⟨(H.off + t.val) % 128, by omega⟩ : Fin 128) = t := Fin.ext (by show (H.off + t.val) % 128 = t.val; rw [h3]; omega)
      have e2 : (⟨H.lo + d.val, by have := H.hlo; omega⟩ : Fin 256) = ⟨128 * (e.val / 2) + d.val, by omega⟩ := Fin.ext (by show H.lo + d.val = _; rw [h1])
      show A (ix2 s ⟨H.lo + d.val, _⟩) * X (ix2 ⟨(H.off + t.val) % 128, _⟩ ⟨H.lo + d.val, _⟩) = _
      rw [e1, e2]
    · rw [if_neg hc, if_neg (by show ¬ (d.val < 64 ↔ H.off + t.val < 128); rw [h3]; intro h'; exact hc (by constructor <;> intro h'' <;> [have := h'.1 h''; have := h'.2 (by omega)] <;> omega)),
        mul_zero (M₀ := EReal)]
  rw [Finset.sum_congr rfl fun d _ => key d]
  rw [show (∑ d : Fin 128, if (d.val < 64 ↔ e.val % 2 = 0) then A (ix2 s ⟨128 * (e.val / 2) + d.val, by omega⟩) * X (ix2 t ⟨128 * (e.val / 2) + d.val, by omega⟩) else 0)
      = ∑ d : Fin (64 + 64), if (d.val < 64 ↔ e.val % 2 = 0) then A (ix2 s ⟨128 * (e.val / 2) + d.val, by omega⟩) * X (ix2 t ⟨128 * (e.val / 2) + d.val, by omega⟩) else 0
      from rfl, Fin.sum_univ_add]
  by_cases he : e.val % 2 = 0
  · rw [Finset.sum_eq_zero (s := Finset.univ) (f := fun i : Fin 64 => if ((Fin.natAdd 64 i).val < 64 ↔ e.val % 2 = 0) then _ else (0 : EReal))
      (fun d _ => if_neg (by simp [he])), add_zero (M := EReal)]
    refine Finset.sum_congr rfl fun d _ => ?_
    rw [if_pos (by simp [he])]
    have e2 : (⟨128 * (e.val / 2) + (Fin.castAdd 64 d).val, by simp; omega⟩ : Fin 256) = ⟨64 * e.val + d.val, by omega⟩ :=
      Fin.ext (by show 128 * (e.val / 2) + d.val = 64 * e.val + d.val; omega)
    rw [e2]
  · rw [Finset.sum_eq_zero (s := Finset.univ) (f := fun i : Fin 64 => if ((Fin.castAdd 64 i).val < 64 ↔ e.val % 2 = 0) then _ else (0 : EReal))
      (fun d _ => if_neg (by simp [he])), zero_add (M := EReal)]
    refine Finset.sum_congr rfl fun d _ => ?_
    rw [if_pos (by simp [he])]
    have e2 : (⟨128 * (e.val / 2) + (Fin.natAdd 64 d).val, by simp; omega⟩ : Fin 256) = ⟨64 * e.val + d.val, by omega⟩ :=
      Fin.ext (by show 128 * (e.val / 2) + (64 + d.val) = 64 * e.val + d.val; omega)
    rw [e2]

theorem gcol_col (p : Fin 2) (e : Fin 4) (d : Fin 64) : gcol p ⟨64 * e.val + d.val, by omega⟩ = col (ghead p e) d :=
  Fin.ext (by show 256 * p.val + (64 * e.val + d.val) = 64 * (4 * p.val + e.val) + d.val; omega)

section
variable {D : Dat} {I : Inp} {H : Fin 4 → Hd} {p : Fin 2} {i : Fin 17} (R : Reads D I H p i) (e : Fin 4)
include R

theorem Lg_reads (s : Fin 2176) (t : Fin 128) : Lg I (H e) s t = D.lg (ghead p e) s (qpos i t) := by
  unfold Lg Dat.lg
  rw [pair_sum I.k I.q (H e) e (R.ok e).1 (R.ok e).2.2]
  refine congrArg₂ (· - ·) (Finset.sum_congr rfl fun d _ => ?_) ?_
  · rw [R.k, R.q, gcol_col]
  · rw [← R.ck e s t]
    exact congrArg (fun r => I.ck (ix3 r s t)) (Fin.ext (R.ok e).2.1)

theorem Wt_reads (s : Fin 2176) (t : Fin 128) : Wt I (H e) (128 * i.val) s t = D.wt (ghead p e) s (qpos i t) := by
  unfold Wt Dat.wt
  rw [Lg_reads R, R.row]
  rfl

theorem Dp_reads (s : Fin 2176) (t : Fin 128) : Dp I (H e) s t = D.dp (ghead p e) s (qpos i t) := by
  unfold Dp Dat.dp
  refine (pair_sum I.v (show FVec Ideal (M 128 256) .bf16 from I.g) (H e) e (R.ok e).1 (R.ok e).2.2 s t).trans ?_
  refine Finset.sum_congr rfl fun d _ => ?_
  rw [R.v, ← gcol_col]
  exact congrArg _ (R.g t _)

theorem Ds_reads (s : Fin 2176) (t : Fin 128) : Ds I (H e) (128 * i.val) s t = D.ds (ghead p e) s (qpos i t) := by
  unfold Ds Dat.ds Ks Dat.ks
  simp only [Wt_reads R, Dp_reads R]
end

/-- What the points of group `p` up to query block `i` add to a key's row. -/
def rowSum (F : Fin 8 → Fin 2176 → Fin 2176 → EReal) (X : Fin 2176 → Fin 512 → EReal) (p : Fin 2) (i : ℕ) (s : Fin 2176) (J : Fin 256) : EReal :=
  ∑ b ∈ Finset.univ.filter (fun b : Fin 17 => b.val < i), ∑ t : Fin 128, F (ghead p (hdOf J)) s (qpos b t) * X (qpos b t) (gcol p J)

/-- What they add to a key's decay. -/
def colSum (F : Fin 8 → Fin 2176 → Fin 2176 → EReal) (p : Fin 2) (i : ℕ) (e : Fin 4) (s : Fin 2176) : EReal :=
  ∑ b ∈ Finset.univ.filter (fun b : Fin 17 => b.val < i), ∑ t : Fin 128, F (ghead p e) s (qpos b t)

theorem filter_succ (i : Fin 17) : Finset.univ.filter (fun b : Fin 17 => b.val < i.val + 1) = insert i (Finset.univ.filter (fun b : Fin 17 => b.val < i.val)) := by
  ext b
  simp only [Finset.mem_filter, Finset.mem_univ, true_and, Finset.mem_insert, Fin.ext_iff]
  omega

theorem sum_filter_succ (G : Fin 17 → EReal) (i : Fin 17) :
    ∑ b ∈ Finset.univ.filter (fun b : Fin 17 => b.val < i.val + 1), G b = ∑ b ∈ Finset.univ.filter (fun b : Fin 17 => b.val < i.val), G b + G i := by
  rw [filter_succ, Finset.sum_insert (by simp)]
  exact add_comm (G := EReal) _ _

theorem sum_filter_zero (G : Fin 17 → EReal) : ∑ b ∈ Finset.univ.filter (fun b : Fin 17 => b.val < 0), G b = 0 := by
  simp

theorem sum_filter_all (G : Fin 17 → EReal) : ∑ b ∈ Finset.univ.filter (fun b : Fin 17 => b.val < 17), G b = ∑ b, G b := by
  rw [Finset.filter_true_of_mem fun b _ => b.isLt]

end Cert.AttnTile
-- ==== Proof.AttnSum.lean ====
module

public import proofs.«01_k».proof.Proof.AttnWalk
public import proofs.«01_k».proof.Proof.AttnData

/-!
# What the attention gradient's points read and leave, over whole arrays
-/

@[expose] public section

set_option maxRecDepth 100000

noncomputable section

namespace Cert.AttnIdeal.Attn

open Idealize.ShloMosaic Idealize.ShloMosaic.TcCoe
open Cert.AttnIdeal Cert.AttnIdeal.Gen Cert.AttnTile

variable (m : (ℓ : Loc nD τ sig) → Buf (Elt Ideal) ℓ)

theorem idx : ∀ t : Fin cfg0.N, win0_0.index t = ![t.val % 17, t.val / 17] ∧ win0_1.index t = ![0, 2 + t.val / 17]
    ∧ win0_2.index t = ![0, 4 + t.val / 17] ∧ win0_3.index t = ![0, 0] ∧ win0_4.index t = ![0, t.val % 17]
    ∧ win0_5.index t = ![t.val / 17, 0, 0 + t.val % 17] ∧ win0_6.index t = ![t.val % 17, t.val / 17]
    ∧ win0_7.index t = ![t.val % 17, t.val / 17] ∧ win0_8.index t = ![0, t.val / 17] ∧ win0_9.index t = ![0, t.val / 17]
    ∧ win0_10.index t = ![0, 0] := (by decide +kernel : ∀ t : Fin grid0.N, _)

/-- The arrays the call is given. -/
def datOf (c : Dev nD) : Dat where
  q t J := (V m c main_v40 : FVec Ideal S2176x1536 .bf16) (ix2 t ⟨J.val, by omega⟩)
  k t J := (V m c main_v40 : FVec Ideal S2176x1536 .bf16) (ix2 t ⟨512 + J.val, by omega⟩)
  v t J := (V m c main_v40 : FVec Ideal S2176x1536 .bf16) (ix2 t ⟨1024 + J.val, by omega⟩)
  g t J := (V m c main_v45 : FVec Ideal S2176x512 .f32) (ix2 t J)
  c t h := (V m c main_v42 : FVec Ideal S2176x128 .f32) (ix2 t ⟨h.val, by omega⟩)
  r h t := HSub.hSub (α := EReal) (β := EReal) ((V m c main_v43 : FVec Ideal S8x2176 .f32) (ix2 h t))
    ((V m c main_v32 : FVec Ideal S2x4x2176 .f32) (ix3 ⟨h.val / 4, by omega⟩ ⟨h.val % 4, by omega⟩ t))

theorem lt34 (t : Fin cfg0.N) : t.val < 34 := lt_of_lt_of_eq t.isLt N_eq
/-- The group and the query block of a point. -/
def grp (t : Fin cfg0.N) : Fin 2 := ⟨t.val / 17, by have := lt34 t; omega⟩
@[inherit_doc grp]
def qblk (t : Fin cfg0.N) : Fin 17 := ⟨t.val % 17, by omega⟩

section
variable (c : Dev nD) (t : Fin cfg0.N)

theorem blk_q (s : Fin 128) (J : Fin 256) : (iblk m c 0 t : FVec Ideal S128x256 .bf16) (ix2 s J) = (datOf m c).q (qpos (qblk t) s) (gcol (grp t) J) := by
  unfold datOf qpos qblk gcol grp
  blk_ext [iblk, idx t]
theorem blk_k (s : Fin 2176) (J : Fin 256) : (iblk m c 1 t : FVec Ideal S2176x256 .bf16) (ix2 s J) = (datOf m c).k s (gcol (grp t) J) := by
  unfold datOf gcol grp
  blk_ext [iblk, idx t]
theorem blk_v (s : Fin 2176) (J : Fin 256) : (iblk m c 2 t : FVec Ideal S2176x256 .bf16) (ix2 s J) = (datOf m c).v s (gcol (grp t) J) := by
  unfold datOf gcol grp
  blk_ext [iblk, idx t]
theorem blk_g (s : Fin 128) (J : Fin 256) : (iblk m c 6 t : FVec Ideal S128x256 .f32) (ix2 s J) = (datOf m c).g (qpos (qblk t) s) (gcol (grp t) J) := by
  unfold datOf qpos qblk gcol grp
  blk_ext [iblk, idx t]
theorem blk_c (s : Fin 2176) (l : Fin 128) : (iblk m c 3 t : FVec Ideal S2176x128 .f32) (ix2 s l) = (V m c main_v42 : FVec Ideal S2176x128 .f32) (ix2 s l) := by
  blk_ext [iblk, idx t]
theorem blk_ct (h : Fin 8) (l : Fin 128) : (iblk m c 4 t : FVec Ideal S8x128 .f32) (ix2 h l)
    = (V m c main_v43 : FVec Ideal S8x2176 .f32) (ix2 h (qpos (qblk t) l)) := by
  unfold qpos qblk
  blk_ext [iblk, idx t]
theorem blk_l (e : Fin 4) (l : Fin 128) : (iblk m c 5 t : FVec Ideal S1x4x128 .f32) (ix3 0 e l)
    = (V m c main_v32 : FVec Ideal S2x4x2176 .f32) (ix3 (grp t) e (qpos (qblk t) l)) := by
  unfold qpos qblk grp
  blk_ext [iblk, idx t]
end

theorem off2 : ∀ (t : Fin grid0.N) (e : Fin 4) (a : Fin 2), k0_off2 (grid0.coords t) (BitVec.ofNat 32 e.val) a = ![4 * (t.val / 17) + e.val, 0] a := by
  decide +kernel

theorem row_apply (c : Dev nD) (t : Fin cfg0.N) (e : Fin 4) (l : Fin 128) :
    row m c t e (ix2 0 l) = (datOf m c).r (ghead (grp t) e) (qpos (qblk t) l) := by
  have e1 : (View.ld (View.read (Elt Ideal) (ms0_4 t).view ((hs0_4 t).unread (iblk m c 4 t)) : Vec Ideal S8x128 .f32)
      (Rect.unit (s := S8x128) (k0_off2 (grid0.coords t) (BitVec.ofNat 32 e.val)) S1x128.size (row_inb _ e)) : FVec Ideal S1x128 .f32) (ix2 0 l)
      = (V m c main_v43 : FVec Ideal S8x2176 .f32) (ix2 (ghead (grp t) e) (qpos (qblk t) l)) := by
    rw [(hs0_4 t).read_unread, ← blk_ct]
    refine congrArg (iblk m c 4 t : FVec Ideal S8x128 .f32) (funext fun a => Fin.ext ?_)
    refine (Rect.idx_unit_val _ _ _ _ _).trans ?_
    rw [off2]
    match a with
    | ⟨0, _⟩ => exact Nat.add_zero _
    | ⟨1, _⟩ => exact Nat.zero_add _
  have e2 : (shapeCast S1x128 (View.ld (View.read (Elt Ideal) (ms0_5 t).view ((hs0_5 t).unread (iblk m c 5 t)) : Vec Ideal S1x4x128 .f32)
      (Rect.unit (s := S1x4x128) ![0, e.val, 0] S1x1x128.size (in3 0 e.val 0 1 1 128 (by decide) e.isLt (by decide)))) unit_row : FVec Ideal S1x128 .f32) (ix2 0 l)
      = (V m c main_v32 : FVec Ideal S2x4x2176 .f32) (ix3 (grp t) e (qpos (qblk t) l)) := by
    rw [(hs0_5 t).read_unread, ← blk_l]
    refine (congrArg (View.ld (iblk m c 5 t : Vec Ideal S1x4x128 .f32) _) (ValueIdx.reshapeEquiv_ix2_1ab unit_row 0 l)).trans ?_
    refine congrArg (iblk m c 5 t : FVec Ideal S1x4x128 .f32) (funext fun a => Fin.ext ?_)
    refine (Rect.idx_unit_val _ _ _ _ _).trans ?_
    match a with
    | ⟨0, _⟩ => rfl
    | ⟨1, _⟩ => exact Nat.add_zero _
    | ⟨2, _⟩ => exact Nat.zero_add _
  have e3 : (datOf m c).r (ghead (grp t) e) (qpos (qblk t) l) = HSub.hSub (α := EReal) (β := EReal)
      ((V m c main_v43 : FVec Ideal S8x2176 .f32) (ix2 (ghead (grp t) e) (qpos (qblk t) l)))
      ((V m c main_v32 : FVec Ideal S2x4x2176 .f32) (ix3 (grp t) e (qpos (qblk t) l))) := by
    unfold datOf
    refine congrArg₂ (fun a b => HSub.hSub (α := EReal) (β := EReal) _ ((V m c main_v32 : FVec Ideal S2x4x2176 .f32) (ix3 a b _))) (Fin.ext ?_) (Fin.ext ?_)
    · show (4 * (grp t).val + e.val) / 4 = (grp t).val
      omega
    · show (4 * (grp t).val + e.val) % 4 = e.val
      omega
  rw [e3, ← e1, ← e2]
  unfold row
  exact congrArg₂ (fun a b : EReal => a - b) (congrFun (shapeCast_id _ unit_row') (ix2 0 l)) rfl

/-! ### The first point of a group -/

theorem lanes_apply (x : FVec Ideal (M 2176 128) .f32) (p e : ℕ) (hp : p < 2) (he : e < 4) (s : Fin 2176) (l : Fin 128) :
    lanes x (BitVec.ofNat 32 p) (BitVec.ofNat 32 e) (ix3 0 s l) = x (ix2 s ⟨4 * p + e, by omega⟩) := by
  have ew : Scalar.addi (Scalar.muli 4#32 (BitVec.ofNat 32 p)) (BitVec.ofNat 32 e) = BitVec.ofNat 32 (4 * p + e) := by
    show 4#32 * BitVec.ofNat 32 p + BitVec.ofNat 32 e = _
    rw [show (4#32 : BitVec 32) = BitVec.ofNat 32 4 from rfl, ← BitVec.ofNat_mul, ← BitVec.ofNat_add]
  have key : ∀ j : Fin 128, Scalar.select (IntOp.cmpi CmpIPredicate.eq (BitVec.ofNat 32 j.val) (BitVec.ofNat 32 (4 * p + e))) (x (ix2 s j)) (0 : EReal)
      = if j = (⟨4 * p + e, by omega⟩ : Fin 128) then x (ix2 s j) else 0 := fun j => by
    have e1 : IntOp.cmpi CmpIPredicate.eq (BitVec.ofNat 32 j.val) (BitVec.ofNat 32 (4 * p + e)) = BitVec.ofBool (decide (j.val = 4 * p + e)) := by
      refine congrArg BitVec.ofBool ?_
      rw [Bool.eq_iff_iff, beq_iff_eq, decide_eq_true_iff]
      constructor
      · intro h
        have h' := congrArg BitVec.toNat h
        rw [BitVec.toNat_ofNat, BitVec.toNat_ofNat] at h'
        omega
      · intro h
        rw [h]
    rw [e1, Scalar.select]
    by_cases h : j.val = 4 * p + e
    · simp [h, Fin.ext_iff]
    · simp [h, Fin.ext_iff]
  unfold lanes
  rw [ew]
  pointwise
  refine (Finset.sum_congr rfl fun j _ => key j).trans ?_
  rw [Finset.sum_ite_eq' Finset.univ _ fun j => x (ix2 s j), if_pos (Finset.mem_univ _)]

theorem turned_apply (x : FVec Ideal (M 2176 256) .bf16) (J : Fin 256) (s : Fin 2176) : turned x (ix2 J s) = x (ix2 s J) := by
  unfold turned
  rw [shapeCast_id, shapeCast_id]
  pointwise

theorem ktInit_apply (c : Dev nD) (t : Fin cfg0.N) (J : Fin 256) (s : Fin 2176) : ktInit m c t (ix2 J s) = (datOf m c).k s (gcol (grp t) J) := by
  unfold ktInit
  rw [read_whole2 (e := .bf16) 256 2176, turned_apply, (hs0_1 t).read_unread]
  refine (congrFun (ld_whole (e := .bf16) 2176 256 _ _) _).trans (blk_k m c t s J)

theorem lanesAt_ok (c : Dev nD) (t : Fin cfg0.N) (e : ℕ) (he : e + 1 ≤ 4) (x : (lanesAt m c t e he).1.shape.Idx) :
    (lanesAt m c t e he).2 x = (fun y : (C 4 2176 128).Idx => (datOf m c).c (y 1) (ghead (grp t) (y 0))) ((lanesAt m c t e he).1.emb x) := by
  have hx : (x : (C 1 2176 128).Idx) = ix3 0 (x 1) (x 2) := by
    refine (eq_ix3 (x : (C 1 2176 128).Idx)).trans ?_
    refine congrArg (fun a => ix3 a (x 1) (x 2)) (Fin.ext ?_)
    have : (x 0).val < 1 := (x 0).isLt
    show (x 0).val = 0
    omega
  have ec : (grid0.coords t 0).val = (grp t).val := coords_0 t
  refine (congrArg (lanesAt m c t e he).2 hx).trans ?_
  show lanes _ (BitVec.ofNat 32 (grid0.coords t 0).val) (BitVec.ofNat 32 e) (ix3 0 (x 1) (x 2)) = _
  rw [ec, (hs0_3 t).read_unread]
  refine (lanes_apply _ _ _ (grp t).isLt (by omega) (x 1) (x 2)).trans ?_
  refine (congrFun (ld_whole (e := .f32) 2176 128 _ _) _).trans ((blk_c m c t _ _).trans ?_)
  have h0 : ((lanesAt m c t e he).1.emb x 0).val = e + (x 0).val := Rect.idx_unit_val (s := C 4 2176 128) ![e, 0, 0] ![1, 2176, 128] (in3 e 0 0 1 2176 128 he (by decide) (by decide)) x 0
  have h1 : ((lanesAt m c t e he).1.emb x 1).val = 0 + (x 1).val := Rect.idx_unit_val (s := C 4 2176 128) ![e, 0, 0] ![1, 2176, 128] (in3 e 0 0 1 2176 128 he (by decide) (by decide)) x 1
  have hz : (x 0).val < 1 := (x 0).isLt
  refine congrArg₂ (fun a b => (V m c main_v42 : FVec Ideal S2176x128 .f32) (ix2 a b)) (Fin.ext ?_) (Fin.ext ?_)
  · exact (h1.trans (Nat.zero_add _)).symm
  · show 4 * (grp t).val + e = 4 * (grp t).val + ((lanesAt m c t e he).1.emb x 0).val
    omega

theorem lanesAt_mem (c : Dev nD) (t : Fin cfg0.N) (e : ℕ) (he : e + 1 ≤ 4) (y : (C 4 2176 128).Idx) (hy : (y 0).val = e) :
    y ∈ (lanesAt m c t e he).1.set := by
  refine (Rect.mem_set_unit (s := C 4 2176 128) (off := ![e, 0, 0]) (size := ![1, 2176, 128]) (inb := in3 e 0 0 1 2176 128 he (by decide) (by decide))).2
    fun a => ?_
  match a with
  | ⟨0, _⟩ => exact ⟨le_of_eq hy.symm, show (y 0).val < e + 1 by omega⟩
  | ⟨1, _⟩ => exact ⟨Nat.zero_le _, lt_of_lt_of_eq (y 1).isLt (Nat.zero_add _).symm⟩
  | ⟨2, _⟩ => exact ⟨Nat.zero_le _, lt_of_lt_of_eq (y 2).isLt (Nat.zero_add _).symm⟩

theorem ckInit_eq (c : Dev nD) (t : Fin cfg0.N) : ckInit m c t = fun y : (C 4 2176 128).Idx => (datOf m c).c (y 1) (ghead (grp t) (y 0)) := by
  unfold ckInit
  refine read_kept (s := C 4 2176 128) (e := .f32) _ _ _ _ ?_ ?_
  · simp only [List.mem_cons, List.not_mem_nil, or_false, forall_eq_or_imp, forall_eq]
    exact ⟨lanesAt_ok m c t 3 _, lanesAt_ok m c t 2 _, lanesAt_ok m c t 1 _, lanesAt_ok m c t 0 _⟩
  · intro y hy
    simp only [List.mem_cons, List.not_mem_nil, or_false, forall_eq_or_imp, forall_eq] at hy
    have h4 : (y 0).val < 4 := (y 0).isLt
    rcases (show (y 0).val = 0 ∨ (y 0).val = 1 ∨ (y 0).val = 2 ∨ (y 0).val = 3 by omega) with h | h | h | h
    · exact absurd (lanesAt_mem m c t 0 _ y h) hy.2.2.2
    · exact absurd (lanesAt_mem m c t 1 _ y h) hy.2.2.1
    · exact absurd (lanesAt_mem m c t 2 _ y h) hy.2.1
    · exact absurd (lanesAt_mem m c t 3 _ y h) hy.1

/-! ### All points -/

theorem inp_reads (c : Dev nD) (t : Fin cfg0.N) (dk dv : Vec Ideal S2176x256 .f32) (dc : Vec Ideal S4x2176x1 .f32) (ck : Vec Ideal S4x2176x128 .f32)
    (kt : Vec Ideal S256x2176 .bf16) (hck : ck = fun y : (C 4 2176 128).Idx => (datOf m c).c (y 1) (ghead (grp t) (y 0))) :
    Reads (datOf m c) (inp m c t dk dv dc ck kt) (hd m c t) (grp t) (qblk t) where
  ok := hd_ok m c t
  q s J := (congrFun ((hs0_0 t).read_unread _) _).trans (blk_q m c t s J)
  g s J := (congrFun ((hs0_6 t).read_unread _) _).trans (blk_g m c t s J)
  k s J := (congrFun ((hs0_1 t).read_unread _) _).trans (blk_k m c t s J)
  v s J := (congrFun ((hs0_2 t).read_unread _) _).trans (blk_v m c t s J)
  ck e s l := (congrFun (inp_ck m c t dk dv dc ck kt) _).trans (congrFun hck _)
  row
    | 0, l => row_apply m c t 0 l
    | 1, l => row_apply m c t 1 l
    | 2, l => row_apply m c t 2 l
    | 3, l => row_apply m c t 3 l

theorem queryNew_reads {D : Dat} {I : Inp} {H : Fin 4 → Hd} {p : Fin 2} {i : Fin 17} (R : Reads D I H p i) (kt : FVec Ideal (M 256 2176) .bf16)
    (hk : ∀ (J : Fin 256) (s : Fin 2176), kt (ix2 J s) = D.k s (gcol p J)) (s : Fin 128) (J : Fin 256) :
    queryNew kt (fun e => Ds I (H e) (128 * i.val)) s J
      = (∑ s' : Fin 2176, D.k s' (gcol p J) * D.ds (ghead p (hdOf J)) s' (qpos i s)) * Ideal.ofBits .f32 0x3E000000#32 := by
  unfold queryNew
  refine congrArg (fun z : EReal => z * Ideal.ofBits .f32 0x3E000000#32) (Finset.sum_congr rfl fun s' _ => ?_)
  exact congrArg₂ (fun a b : EReal => a * b) (hk J s') (Ds_reads R (hdOf J) s' s)

/-- What the scratches hold after a point. -/
structure Held (c : Dev nD) (t : Fin cfg0.N) (O : Outs) : Prop where
  dk : O.2.2.2.2.1 = fun y : (M 2176 256).Idx => rowSum (datOf m c).ds (datOf m c).q (grp t) (t.val % 17 + 1) (y 0) (y 1)
  dv : O.2.2.2.2.2.1 = fun y : (M 2176 256).Idx => rowSum (datOf m c).wt (datOf m c).g (grp t) (t.val % 17 + 1) (y 0) (y 1)
  dc : O.2.2.2.2.2.2.1 = fun y : (C 4 2176 1).Idx => colSum (datOf m c).ds (grp t) (t.val % 17 + 1) (y 0) (y 1)
  ck : O.2.2.2.2.2.2.2.1 = fun y : (C 4 2176 128).Idx => (datOf m c).c (y 1) (ghead (grp t) (y 0))
  kt : O.2.2.2.2.2.2.2.2 = fun y : (M 256 2176).Idx => (datOf m c).k (y 1) (gcol (grp t) (y 0))
  dq : ∀ (s : Fin 128) (J : Fin 256), O.1 (ix2 s J)
    = (∑ s' : Fin 2176, (datOf m c).k s' (gcol (grp t) J) * (datOf m c).ds (ghead (grp t) (hdOf J)) s' (qpos (qblk t) s)) * Ideal.ofBits .f32 0x3E000000#32

theorem held_of_done (c : Dev nD) (t : Fin cfg0.N) (O : Outs) (dk dv : Vec Ideal S2176x256 .f32) (dc : Vec Ideal S4x2176x1 .f32)
    (ck : Vec Ideal S4x2176x128 .f32) (kt : Vec Ideal S256x2176 .bf16) (hd : Done m c t (inp m c t dk dv dc ck kt) O)
    (hdk : dk = fun y : (M 2176 256).Idx => rowSum (datOf m c).ds (datOf m c).q (grp t) (t.val % 17) (y 0) (y 1))
    (hdv : dv = fun y : (M 2176 256).Idx => rowSum (datOf m c).wt (datOf m c).g (grp t) (t.val % 17) (y 0) (y 1))
    (hdc : dc = fun y : (C 4 2176 1).Idx => colSum (datOf m c).ds (grp t) (t.val % 17) (y 0) (y 1))
    (hck : ck = fun y : (C 4 2176 128).Idx => (datOf m c).c (y 1) (ghead (grp t) (y 0)))
    (hkt : kt = fun y : (M 256 2176).Idx => (datOf m c).k (y 1) (gcol (grp t) (y 0))) : Held m c t O where
  dk := by
    have R := inp_reads m c t dk dv dc ck kt hck
    rw [hd.dk, inp_dk, hdk]
    funext y
    refine Eq.trans ?_ (sum_filter_succ (fun b => ∑ l : Fin 128, (datOf m c).ds (ghead (grp t) (hdOf (y 1))) (y 0) (qpos b l)
      * (datOf m c).q (qpos b l) (gcol (grp t) (y 1))) (qblk t)).symm
    refine congrArg₂ (· + ·) rfl (Finset.sum_congr rfl fun l _ => congrArg₂ (· * ·) (Ds_reads R _ _ _) (R.q _ _))
  dv := by
    have R := inp_reads m c t dk dv dc ck kt hck
    rw [hd.dv, inp_dv, hdv]
    funext y
    refine Eq.trans ?_ (sum_filter_succ (fun b => ∑ l : Fin 128, (datOf m c).wt (ghead (grp t) (hdOf (y 1))) (y 0) (qpos b l)
      * (datOf m c).g (qpos b l) (gcol (grp t) (y 1))) (qblk t)).symm
    refine congrArg₂ (· + ·) rfl (Finset.sum_congr rfl fun l _ => congrArg₂ (· * ·) (Wt_reads R _ _ _) (R.g _ _))
  dc := by
    have R := inp_reads m c t dk dv dc ck kt hck
    rw [hd.dc, inp_dc, hdc]
    funext y
    refine Eq.trans ?_ (sum_filter_succ (fun b => ∑ l : Fin 128, (datOf m c).ds (ghead (grp t) (y 0)) (y 1) (qpos b l)) (qblk t)).symm
    refine congrArg₂ (· + ·) rfl (Finset.sum_congr rfl fun l _ => Ds_reads R _ _ _)
  ck := hd.ck.trans ((inp_ck m c t dk dv dc ck kt).trans hck)
  kt := hd.kt.trans ((inp_kt m c t dk dv dc ck kt).trans hkt)
  dq s J := (hd.dq s J).trans (queryNew_reads (inp_reads m c t dk dv dc ck kt hck) (inp m c t dk dv dc ck kt).kt
    (fun J s => (congrFun (inp_kt m c t dk dv dc ck kt) _).trans (congrFun hkt _)) s J)

theorem held_all : ∀ (n : ℕ) (c : Dev nD) (t : Fin cfg0.N), t.val = n → Held m c t (outsAt0 m c t.val t.isLt) := by
  intro n
  induction n with
  | zero =>
    intro c t ht
    have h : t.val % 17 = 0 := by omega
    refine held_of_done m c t _ _ _ _ _ _ (done_first m c t h) ?_ ?_ ?_ (ckInit_eq m c t) (funext fun y => (congrArg _ (eq_ix2 y)).trans (ktInit_apply m c t _ _))
      <;> rw [h] <;> exact funext fun y => (sum_filter_zero _).symm
  | succ n ih =>
    intro c t ht
    by_cases h : t.val % 17 = 0
    · refine held_of_done m c t _ _ _ _ _ _ (done_first m c t h) ?_ ?_ ?_ (ckInit_eq m c t) (funext fun y => (congrArg _ (eq_ix2 y)).trans (ktInit_apply m c t _ _))
        <;> rw [h] <;> exact funext fun y => (sum_filter_zero _).symm
    · have P := ih c ⟨t.val - 1, pred_lt t⟩ (show t.val - 1 = n by omega)
      have hg : grp (⟨t.val - 1, pred_lt t⟩ : Fin cfg0.N) = grp t := Fin.ext (by show (t.val - 1) / 17 = t.val / 17; omega)
      have hq : (⟨t.val - 1, pred_lt t⟩ : Fin cfg0.N).val % 17 + 1 = t.val % 17 := by show (t.val - 1) % 17 + 1 = t.val % 17; omega
      refine held_of_done m c t _ _ _ _ _ _ (done_mid m c t h) ?_ ?_ ?_ ?_ ?_
      · rw [← hq, ← hg]; exact P.dk
      · rw [← hq, ← hg]; exact P.dv
      · rw [← hq, ← hg]; exact P.dc
      · rw [← hg]; exact P.ck
      · rw [← hg]; exact P.kt

end Cert.AttnIdeal.Attn
-- ==== Proof.AttnOut.lean ====
module

public import proofs.«01_k».proof.Proof.AttnSum

/-!
# The arrays the attention gradient leaves
-/

@[expose] public section

set_option maxRecDepth 100000

noncomputable section

namespace Cert.AttnTile

open Idealize.ShloMosaic Idealize.ShloMosaic.TcCoe

theorem sum_qpos (F : Fin 2176 → EReal) : ∑ b : Fin 17, ∑ l : Fin 128, F (qpos b l) = ∑ t, F t := by
  rw [← Finset.sum_product' Finset.univ Finset.univ fun b l => F (qpos b l)]
  refine Fintype.sum_equiv (finProdFinEquiv (m := 17) (n := 128)) _ _ fun x => congrArg F (Fin.ext ?_)
  show 128 * x.1.val + x.2.val = x.2.val + 128 * x.1.val
  omega

theorem rowSum_all (F : Fin 8 → Fin 2176 → Fin 2176 → EReal) (X : Fin 2176 → Fin 512 → EReal) (p : Fin 2) (s : Fin 2176) (J : Fin 256) :
    rowSum F X p 17 s J = ∑ t, F (ghead p (hdOf J)) s t * X t (gcol p J) := by
  unfold rowSum
  rw [sum_filter_all]
  exact sum_qpos fun t => F (ghead p (hdOf J)) s t * X t (gcol p J)

theorem colSum_all (F : Fin 8 → Fin 2176 → Fin 2176 → EReal) (p : Fin 2) (e : Fin 4) (s : Fin 2176) :
    colSum F p 17 e s = ∑ t, F (ghead p e) s t := by
  unfold colSum
  rw [sum_filter_all]
  exact sum_qpos fun t => F (ghead p e) s t

/-- A head's decay gradient. -/
def decayOf (D : Dat) (s : Fin 2176) (n : ℕ) : EReal := if h : n < 8 then 0 - ∑ t, D.ds ⟨n, h⟩ s t else 0
/-- The decay gradients of the first `n` groups, in their lanes. -/
def lanesOf (D : Dat) (n : ℕ) (s : Fin 2176) (l : Fin 128) : EReal := if l.val < 4 * n then decayOf D s l.val else 0

theorem four_lanes (f : ℕ → EReal) (p l : ℕ) (o : EReal) :
    (if l = p + 3 then f (p + 3) else if l = p + 2 then f (p + 2) else if l = p + 1 then f (p + 1) else if l = p + 0 then f (p + 0) else o)
      = if p ≤ l ∧ l < p + 4 then f l else o := by
  by_cases k : p ≤ l ∧ l < p + 4
  · rw [if_pos k]
    rcases (show l = p + 0 ∨ l = p + 1 ∨ l = p + 2 ∨ l = p + 3 by omega) with e | e | e | e <;> subst e <;> simp
  · rw [if_neg k, if_neg (by omega), if_neg (by omega), if_neg (by omega), if_neg (by omega)]

end Cert.AttnTile

namespace Cert.AttnIdeal.Attn

open Idealize.ShloMosaic Idealize.ShloMosaic.TcCoe
open Cert.AttnIdeal Cert.AttnIdeal.Gen Cert.AttnTile

theorem rowsOut_eq (x : Vec Ideal S2176x256 .f32) : rowsOut x = x := by
  unfold rowsOut
  refine (shapeCast_id _ _).trans ?_
  exact cut_whole (φ := .f32) 2176 256 x (by decide) (by decide)

theorem lane_apply (p hh : ℕ) (hp : p < 2) (he : hh < 4) (x : FVec Ideal (C 1 2176 1) .f32) (old : FVec Ideal (M 2176 128) .f32) (s : Fin 2176) (l : Fin 128) :
    lane (BitVec.ofNat 32 p) (BitVec.ofNat 32 hh) x old (ix2 s l) = if l.val = 4 * p + hh then HSub.hSub (α := EReal) (β := EReal) 0 (x (ix3 0 s 0)) else old (ix2 s l) := by
  have ew : Scalar.addi (Scalar.muli 4#32 (BitVec.ofNat 32 p)) (BitVec.ofNat 32 hh) = BitVec.ofNat 32 (4 * p + hh) := by
    show 4#32 * BitVec.ofNat 32 p + BitVec.ofNat 32 hh = _
    rw [show (4#32 : BitVec 32) = BitVec.ofNat 32 4 from rfl, ← BitVec.ofNat_mul, ← BitVec.ofNat_add]
  have e1 : IntOp.cmpi CmpIPredicate.eq (BitVec.ofNat 32 l.val) (BitVec.ofNat 32 (4 * p + hh)) = BitVec.ofBool (decide (l.val = 4 * p + hh)) := by
    refine congrArg BitVec.ofBool ?_
    rw [Bool.eq_iff_iff, beq_iff_eq, decide_eq_true_iff]
    constructor
    · intro h
      have h' := congrArg BitVec.toNat h
      rw [BitVec.toNat_ofNat, BitVec.toNat_ofNat] at h'
      omega
    · intro h
      rw [h]
  unfold lane
  rw [ew]
  pointwise
  rw [e1, Scalar.select]
  by_cases h : l.val = 4 * p + hh
  · simp [h]
  · simp [h]

theorem headOf_apply (X : Vec Ideal S4x2176x1 .f32) (hh : ℕ) (h : hh + 1 ≤ 4) (s : Fin 2176) :
    headOf X hh h (ix3 0 s 0) = X (ix3 (⟨hh, by omega⟩ : Fin 4) s 0) := by
  unfold headOf
  refine (cut3_apply (show FVec Ideal (C 4 2176 1) .f32 from X) hh 0 0 1 2176 1 h (by decide) (by decide) 0 s 0).trans ?_
  refine congrArg X ?_
  exact congrArg₂ (fun (a : Fin 4) (b : Fin 2176) => (ix3 a b 0 : (C 4 2176 1).Idx)) (Fin.ext (Nat.add_zero hh)) (Fin.ext (Nat.zero_add s.val))

variable (m : (ℓ : Loc nD τ sig) → Buf (Elt Ideal) ℓ)

theorem held_apply (c : Dev nD) (t : Fin cfg0.N) : held m c t = (outsAt0 m c (t.val - 1) (pred_lt t)).2.2.2.1 := by
  unfold held
  rw [(hs0_10 t).read_unread]
  exact ld_whole (e := .f32) 2176 128 _ _

theorem scr_last (c : Dev nD) (t : Fin cfg0.N) (h : t.val % 17 = 16) :
    Last m c t (outsAt0 m c t.val t.isLt).2.2.2.2.1 (outsAt0 m c t.val t.isLt).2.2.2.2.2.1 (outsAt0 m c t.val t.isLt).2.2.2.2.2.2.1
      (outsAt0 m c t.val t.isLt) := by
  have S := stepJ m c t h
  have L := lastJ m c t h
  rw [← S.2.1, ← S.2.2.1, ← S.2.2.2.1] at L
  exact L

theorem out_dk (c : Dev nD) (t : Fin cfg0.N) (h : t.val % 17 = 16) (s : Fin 2176) (J : Fin 256) :
    (outsAt0 m c t.val t.isLt).2.1 (ix2 s J) = ∑ t', (datOf m c).ds (ghead (grp t) (hdOf J)) s t' * (datOf m c).q t' (gcol (grp t) J) := by
  have H := held_all m t.val c t rfl
  rw [(scr_last m c t h).1, rowsOut_eq, H.dk, h]
  exact (congrFun (read_whole2 2176 256 _ _ _ _) _).trans (rowSum_all _ _ _ _ _)

theorem out_dv (c : Dev nD) (t : Fin cfg0.N) (h : t.val % 17 = 16) (s : Fin 2176) (J : Fin 256) :
    (outsAt0 m c t.val t.isLt).2.2.1 (ix2 s J) = ∑ t', (datOf m c).wt (ghead (grp t) (hdOf J)) s t' * (datOf m c).g t' (gcol (grp t) J) := by
  have H := held_all m t.val c t rfl
  rw [(scr_last m c t h).2.1, rowsOut_eq, H.dv, h]
  exact (congrFun (read_whole2 2176 256 _ _ _ _) _).trans (rowSum_all _ _ _ _ _)

theorem out_dc_keep (c : Dev nD) (t : Fin cfg0.N) (h : t.val % 17 ≠ 16) (h' : t.val % 34 ≠ 0) :
    (outsAt0 m c t.val t.isLt).2.2.2.1 = (outsAt0 m c (t.val - 1) (pred_lt t)).2.2.2.1 := by
  rcases (show t.val % 17 = 0 ∨ t.val % 17 = 1 ∨ (2 ≤ t.val % 17 ∧ t.val % 17 ≤ 3) ∨ (4 ≤ t.val % 17 ∧ t.val % 17 ≤ 5)
    ∨ (6 ≤ t.val % 17 ∧ t.val % 17 ≤ 7) ∨ (8 ≤ t.val % 17 ∧ t.val % 17 ≤ 9) ∨ (10 ≤ t.val % 17 ∧ t.val % 17 ≤ 11)
    ∨ (12 ≤ t.val % 17 ∧ t.val % 17 ≤ 13) ∨ (14 ≤ t.val % 17 ∧ t.val % 17 ≤ 15) by omega) with e | e | e | e | e | e | e | e | e
  · exact (stepK m c t e h').2
  · exact (stepB m c t e).2.2.2
  · exact (stepC m c t e).2
  · exact (stepD m c t e).2
  · exact (stepE m c t e).2
  · exact (stepF m c t e).2
  · exact (stepG m c t e).2
  · exact (stepH m c t e).2
  · exact (stepI m c t e).2

theorem out_dc_last (c : Dev nD) (t : Fin cfg0.N) (h : t.val % 17 = 16) (s : Fin 2176) (l : Fin 128) :
    (outsAt0 m c t.val t.isLt).2.2.2.1 (ix2 s l) = if 4 * (t.val / 17) ≤ l.val ∧ l.val < 4 * (t.val / 17) + 4 then decayOf (datOf m c) s l.val
      else (outsAt0 m c (t.val - 1) (pred_lt t)).2.2.2.1 (ix2 s l) := by
  have H := held_all m t.val c t rfl
  have hp : t.val / 17 < 2 := by have := lt34 t; omega
  rw [(scr_last m c t h).2.2, H.dc, h, coords_0 t, held_apply]
  refine (congrFun ((read_whole2 2176 128 _ _ _ _).trans (shapeCast_id _ _)) _).trans ?_
  have hd : ∀ (hh : ℕ) (k : hh + 1 ≤ 4), HSub.hSub (α := EReal) (β := EReal) 0
      (headOf (fun y : (C 4 2176 1).Idx => colSum (datOf m c).ds (grp t) (16 + 1) (y 0) (y 1)) hh k (ix3 0 s 0))
      = decayOf (datOf m c) s (4 * (t.val / 17) + hh) := fun hh k => by
    unfold decayOf
    rw [dif_pos (by omega)]
    exact congrArg (fun z : EReal => 0 - z) ((headOf_apply _ hh k s).trans (colSum_all _ _ _ _))
  refine (lane_apply (t.val / 17) 3 hp (by decide) _ _ s l).trans ?_
  rw [lane_apply (t.val / 17) 2 hp (by decide), lane_apply (t.val / 17) 1 hp (by decide), lane_apply (t.val / 17) 0 hp (by decide), hd, hd, hd, hd]
  exact four_lanes (decayOf (datOf m c) s) (4 * (t.val / 17)) l.val _

theorem out_dc : ∀ (n : ℕ) (c : Dev nD) (t : Fin cfg0.N), t.val = n → ∀ (s : Fin 2176) (l : Fin 128),
    (outsAt0 m c t.val t.isLt).2.2.2.1 (ix2 s l) = lanesOf (datOf m c) ((n + 1) / 17) s l := by
  intro n
  induction n with
  | zero =>
    intro c t ht s l
    rw [(stepA m c t (by omega)).2]
    refine (congrFun ((read_whole2 2176 128 _ _ _ _).trans (shapeCast_id _ _)) _).trans ?_
    unfold lanesOf
    rw [if_neg (by omega)]
    exact Ideal.ofBits_zero .f32
  | succ n ih =>
    intro c t ht s l
    have hl := lt34 t
    have P := ih c ⟨t.val - 1, pred_lt t⟩ (show t.val - 1 = n by omega) s l
    by_cases h : t.val % 17 = 16
    · rw [out_dc_last m c t h, show (n + 1 + 1) / 17 = t.val / 17 + 1 by omega]
      have P' : (outsAt0 m c (t.val - 1) (pred_lt t)).2.2.2.1 (ix2 s l) = lanesOf (datOf m c) (t.val / 17) s l := by
        rw [show t.val / 17 = (n + 1) / 17 by omega]
        exact P
      rw [P']
      unfold lanesOf
      by_cases k : 4 * (t.val / 17) ≤ l.val ∧ l.val < 4 * (t.val / 17) + 4
      · rw [if_pos k, if_pos (by omega)]
      · rw [if_neg k]
        exact if_congr (by omega) rfl rfl
    · by_cases h' : t.val % 34 = 0
      · omega
      · rw [out_dc_keep m c t h h', show (n + 1 + 1) / 17 = (n + 1) / 17 by omega]
        exact P

/-! ### The arrays -/

/-- The query gradients. -/
def arrQ (D : Dat) : FVec Ideal S2176x512 .bf16 := fun y =>
  (∑ s : Fin 2176, D.k s (y 1) * D.ds (headOf512 (y 1)) s (y 0)) * Ideal.ofBits .f32 0x3E000000#32
/-- The key gradients. -/
def arrK (D : Dat) : FVec Ideal S2176x512 .bf16 := fun y => ∑ t : Fin 2176, D.ds (headOf512 (y 1)) (y 0) t * D.q t (y 1)
/-- The value gradients. -/
def arrV (D : Dat) : FVec Ideal S2176x512 .bf16 := fun y => ∑ t : Fin 2176, D.wt (headOf512 (y 1)) (y 0) t * D.g t (y 1)
/-- The decay gradients. -/
def arrC (D : Dat) : FVec Ideal S2176x128 .f32 := fun y => lanesOf D 2 (y 0) (y 1)

theorem head_gcol (p : Fin 2) (J : Fin 256) : ghead p (hdOf J) = headOf512 (gcol p J) :=
  Fin.ext (by show 4 * p.val + J.val / 64 = (256 * p.val + J.val) / 64; omega)

theorem at_q (c : Dev nD) (t : Fin cfg0.N) (s : Fin 128) (J : Fin 256) :
    (outsAt0 m c t.val t.isLt).1 (ix2 s J) = arrQ (datOf m c) (ix2 (qpos (qblk t) s) (gcol (grp t) J)) := by
  refine ((held_all m t.val c t rfl).dq s J).trans ?_
  rw [head_gcol]
  rfl
theorem at_k (c : Dev nD) (t : Fin cfg0.N) (h : t.val % 17 = 16) (s : Fin 2176) (J : Fin 256) :
    (outsAt0 m c t.val t.isLt).2.1 (ix2 s J) = arrK (datOf m c) (ix2 s (gcol (grp t) J)) := by
  refine (out_dk m c t h s J).trans ?_
  rw [head_gcol]
  rfl
theorem at_v (c : Dev nD) (t : Fin cfg0.N) (h : t.val % 17 = 16) (s : Fin 2176) (J : Fin 256) :
    (outsAt0 m c t.val t.isLt).2.2.1 (ix2 s J) = arrV (datOf m c) (ix2 s (gcol (grp t) J)) := by
  refine (out_dv m c t h s J).trans ?_
  rw [head_gcol]
  rfl

theorem flush_last : ∀ t : Fin cfg0.N, ((cfg0.win 8).flush t = true → t.val % 17 = 16) ∧ ((cfg0.win 9).flush t = true → t.val % 17 = 16) := by
  decide +kernel

theorem final_7 (c : Dev nD) : (dats m 0 c).arrAt 7 (cfgs 0).N = arrQ (datOf m c) := by
  refine (dats m 0 c).arrAt_eq_of_covers 7 _ (by decide +kernel) fun t hf y => ?_
  blk_simp; rw [after0_7]
  refine (congrArg _ (eq_ix2 y)).trans ((at_q m c t (y 0) (y 1)).trans (congrArg (arrQ (datOf m c)) (Eq.symm ?_)))
  unfold qpos qblk gcol grp
  blk_ext [idx t]

theorem final_8 (c : Dev nD) : (dats m 0 c).arrAt 8 (cfgs 0).N = arrK (datOf m c) := by
  refine (dats m 0 c).arrAt_eq_of_covers 8 _ (by decide +kernel) fun t hf y => ?_
  blk_simp; rw [after0_8]
  refine (congrArg _ (eq_ix2 y)).trans ((at_k m c t ((flush_last t).1 hf) (y 0) (y 1)).trans (congrArg (arrK (datOf m c)) (Eq.symm ?_)))
  unfold gcol grp
  blk_ext [idx t]

theorem final_9 (c : Dev nD) : (dats m 0 c).arrAt 9 (cfgs 0).N = arrV (datOf m c) := by
  refine (dats m 0 c).arrAt_eq_of_covers 9 _ (by decide +kernel) fun t hf y => ?_
  blk_simp; rw [after0_9]
  refine (congrArg _ (eq_ix2 y)).trans ((at_v m c t ((flush_last t).2 hf) (y 0) (y 1)).trans (congrArg (arrV (datOf m c)) (Eq.symm ?_)))
  unfold gcol grp
  blk_ext [idx t]

/-- The last point. -/
def tLast : Fin cfg0.N := ⟨33, by rw [N_eq]; decide⟩

theorem final_10 (c : Dev nD) : (dats m 0 c).arrAt 10 (cfgs 0).N = arrC (datOf m c) := by
  refine (dats m 0 c).arrAt_eq_of_after_last 10 tLast (by decide +kernel) _ fun j => ?_
  blk_simp
  rw [after0_10]
  exact (congrArg _ (eq_ix2 j)).trans (out_dc m 33 c tLast rfl (j 0) (j 1))

end Cert.AttnIdeal.Attn
-- ==== Proof.AttnHost.lean ====
module

public import proofs.«01_k».proof.Proof.AttnOut
public import proofs.«01_k».proof.Proof.Gen.AttnRefIdeal.Read

/-!
# What the host hands the attention gradient
-/

@[expose] public section

set_option maxRecDepth 100000

noncomputable section

namespace Cert.AttnIdeal.Attn

open Idealize.ShloMosaic Idealize.ShloMosaic.TcCoe
open Cert.AttnIdeal Cert.AttnIdeal.Gen Cert.AttnTile

variable (m : (ℓ : Loc nD τ sig) → Buf (Elt Ideal) ℓ)

abbrev argQ (c : Dev nD) : FVec Ideal S1x2064x512 .f32 := m ((c : Thread nD τ).loc main_arg0)
abbrev argK (c : Dev nD) : FVec Ideal S1x2064x512 .f32 := m ((c : Thread nD τ).loc main_arg1)
abbrev argV (c : Dev nD) : FVec Ideal S1x2064x512 .f32 := m ((c : Thread nD τ).loc main_arg2)
abbrev argF (c : Dev nD) : FVec Ideal S1x2064x8 .f32 := m ((c : Thread nD τ).loc main_arg3)
abbrev argG (c : Dev nD) : FVec Ideal S1x2064x512 .f32 := m ((c : Thread nD τ).loc main_arg4)
/-- The running sums of the decays. -/
def cumOf (f : FVec Ideal S1x2064x8 .f32) : FVec Ideal S1x2064x8 .f32 := Cert.AttnRefIdeal.Read.val_main_v0 (F := Ideal) f

/-- The value a pad fills with. -/
def fill : FVec Ideal S_ .f32 := sitofp .f32 (constantI S_ 32 0#32)

/-- The scaled queries, the keys and the values side by side. -/
def hostQkv (q k v : FVec Ideal S1x2064x512 .f32) : FVec Ideal S2176x1536 .bf16 :=
  truncf .bf16 (pad S2176x1536 ![0, 0] ![112, 0] ![0, 0] (concatenate S2064x1536 1
    [⟨S2064x512, mulf (shapeCast S2064x512 q shapeCasts_S1x2064x512_S2064x512) (broadcastInDim S2064x512 ![] bcast_S_S2064x512 (constant (F := Ideal) S_ .f32 0x3E000000#32))⟩,
      ⟨S2064x512, shapeCast S2064x512 k shapeCasts_S1x2064x512_S2064x512⟩, ⟨S2064x512, shapeCast S2064x512 v shapeCasts_S1x2064x512_S2064x512⟩]
    concatenates_S2064x512_S2064x512_S2064x512_S2064x1536_d1) fill pads_S2064x1536_S2176x1536_01120_000 h_S_) bitsLt_bf16_f32

theorem v40_eq (c : Dev nD) : V m c main_v40 = hostQkv (argQ m c) (argK m c) (argV m c) := by sl_kernel_rfl

/-- The running sums, padded. -/
def hostC (x : FVec Ideal S1x2064x8 .f32) : FVec Ideal S2176x8 .f32 :=
  pad S2176x8 ![0, 0] ![112, 0] ![0, 0] (shapeCast S2064x8 x shapeCasts_S1x2064x8_S2064x8) fill pads_S2064x8_S2176x8_01120_000 h_S_
def hostC128 (x : FVec Ideal S1x2064x8 .f32) : FVec Ideal S2176x128 .f32 :=
  pad S2176x128 ![0, 0] ![0, 120] ![0, 0] (hostC x) fill pads_S2176x8_S2176x128_000_01200 h_S_
def hostCt (x : FVec Ideal S1x2064x8 .f32) : FVec Ideal S8x2176 .f32 := transpose S8x2176 [1, 0] (hostC x) transposes_S2176x8_S8x2176_1_0
/-- The cotangent, padded. -/
def hostG (g : FVec Ideal S1x2064x512 .f32) : FVec Ideal S2176x512 .f32 :=
  pad S2176x512 ![0, 0] ![112, 0] ![0, 0] (shapeCast S2064x512 g shapeCasts_S1x2064x512_S2064x512) fill pads_S2064x512_S2176x512_01120_000 h_S_

theorem v42_eq (c : Dev nD) : V m c main_v42 = hostC128 (cumOf (argF m c)) := by sl_kernel_rfl
theorem v43_eq (c : Dev nD) : V m c main_v43 = hostCt (cumOf (argF m c)) := by sl_kernel_rfl
theorem v45_eq (c : Dev nD) : V m c main_v45 = hostG (argG m c) := by sl_kernel_rfl

theorem sitofp_zero : (FloatOps.sitofp (F := Ideal) .f32 (0#32 : BitVec 32) : EReal) = 0 := by
  show ((((0#32 : BitVec 32).toInt : ℝ) : EReal)) = 0
  simp

theorem hostQkv_q (q k v : FVec Ideal S1x2064x512 .f32) (r : Fin 2176) (J : Fin 512) :
    hostQkv q k v (ix2 r ⟨J.val, by omega⟩) = if h : r.val < 2064 then HMul.hMul (α := EReal) (β := EReal) (q (ix3 0 ⟨r.val, h⟩ J)) (Ideal.ofBits .f32 0x3E000000#32) else (0 : EReal) := by
  pointwise [hostQkv, fill]
  rw [sitofp_zero]
  by_cases h : r.val < 2064
  · rw [dif_pos ⟨h, by omega⟩, dif_pos h]
  · rw [dif_neg fun e => h e.1, dif_neg h]
theorem hostQkv_k (q k v : FVec Ideal S1x2064x512 .f32) (r : Fin 2176) (J : Fin 512) :
    hostQkv q k v (ix2 r ⟨512 + J.val, by omega⟩) = if h : r.val < 2064 then k (ix3 0 ⟨r.val, h⟩ J) else (0 : EReal) := by
  pointwise [hostQkv, fill]
  rw [sitofp_zero]
  by_cases h : r.val < 2064
  · rw [dif_pos ⟨h, by omega⟩, dif_pos h]
  · rw [dif_neg fun e => h e.1, dif_neg h]
theorem hostQkv_v (q k v : FVec Ideal S1x2064x512 .f32) (r : Fin 2176) (J : Fin 512) :
    hostQkv q k v (ix2 r ⟨1024 + J.val, by omega⟩) = if h : r.val < 2064 then v (ix3 0 ⟨r.val, h⟩ J) else (0 : EReal) := by
  pointwise [hostQkv, fill]
  rw [sitofp_zero]
  by_cases h : r.val < 2064
  · rw [dif_pos ⟨h, by omega⟩, dif_pos h, dif_neg (by omega), dif_neg (by omega)]
    exact congrArg (fun a => v (ix3 0 ⟨r.val, h⟩ a)) (Fin.ext (by show 1024 + J.val - 512 - 512 = J.val; omega))
  · rw [dif_neg fun e => h e.1, dif_neg h]
theorem hostC128_apply (x : FVec Ideal S1x2064x8 .f32) (r : Fin 2176) (h : Fin 8) :
    hostC128 x (ix2 r ⟨h.val, by omega⟩) = if k : r.val < 2064 then x (ix3 0 ⟨r.val, k⟩ h) else (0 : EReal) := by
  pointwise [hostC128, hostC, fill]
  rw [sitofp_zero]
theorem hostCt_apply (x : FVec Ideal S1x2064x8 .f32) (r : Fin 2176) (h : Fin 8) :
    hostCt x (ix2 h r) = if k : r.val < 2064 then x (ix3 0 ⟨r.val, k⟩ h) else (0 : EReal) := by
  pointwise [hostCt, hostC, fill]
  rw [sitofp_zero]
theorem hostG_apply (g : FVec Ideal S1x2064x512 .f32) (r : Fin 2176) (J : Fin 512) :
    hostG g (ix2 r J) = if k : r.val < 2064 then g (ix3 0 ⟨r.val, k⟩ J) else (0 : EReal) := by
  pointwise [hostG, fill]
  rw [sitofp_zero]

end Cert.AttnIdeal.Attn
-- ==== Proof.AttnLse.lean ====
module

public import proofs.«01_k».proof.Proof.AttnHost

/-!
# The saved row log-sums, as the host hands them to the attention gradient
-/

@[expose] public section

set_option maxRecDepth 100000

noncomputable section

namespace Cert.AttnIdeal.Attn

open Idealize.ShloMosaic Idealize.ShloMosaic.TcCoe
open Cert.AttnIdeal Cert.AttnIdeal.Gen Cert.AttnTile

variable (m : (ℓ : Loc nD τ sig) → Buf (Elt Ideal) ℓ)

/-- The masked log-weights. -/
def hostS (q k : FVec Ideal S1x2064x512 .f32) (x : FVec Ideal S1x2064x8 .f32) : FVec Ideal S1x8x2064x2064 .f32 :=
  select (broadcastInDim S1x8x2064x2064 ![0, 1, 2, 3] bcast_S1x1x2064x2064_S1x8x2064x2064_0_1_2_3
      (broadcastInDim S1x1x2064x2064 ![2, 3] bcast_S2064x2064_S1x1x2064x2064_2_3
        (cmpi .sge (broadcastInDim S2064x2064 ![0, 1] bcast_S2064x1_S2064x2064_0_1 (broadcastInDim S2064x1 ![0] bcast_S2064_S2064x1_0 (iotaInDim S2064 32 0)))
          (broadcastInDim S2064x2064 ![0, 1] bcast_S1x2064_S2064x2064_0_1 (broadcastInDim S1x2064 ![1] bcast_S2064_S1x2064_1 (iotaInDim S2064 32 0))))))
    (subf (Host.dotGeneral dot_S1x2064x8x64_S1x2064x8x64_S1x8x2064x2064_3_3_1_1_02_02 none
        (mulf (shapeCast S1x2064x8x64 q shapeCasts_S1x2064x512_S1x2064x8x64) (broadcastInDim S1x2064x8x64 ![] bcast_S_S1x2064x8x64 (constant (F := Ideal) S_ .f32 0x3E000000#32)))
        (shapeCast S1x2064x8x64 k shapeCasts_S1x2064x512_S1x2064x8x64))
      (broadcastInDim S1x8x2064x2064 ![0, 1, 2, 3] bcast_S1x8x1x2064_S1x8x2064x2064_0_1_2_3
        (broadcastInDim S1x8x1x2064 ![1, 3] bcast_S8x2064_S1x8x1x2064_1_3
          (transpose S8x2064 [1, 0] (shapeCast S2064x8 x shapeCasts_S1x2064x8_S2064x8) transposes_S2064x8_S8x2064_1_0))))
    (broadcastInDim S1x8x2064x2064 ![] bcast_S_S1x8x2064x2064 (constant (F := Ideal) S_ .f32 0xFF800000#32))

/-- Each row's greatest. -/
def hostMax (s : FVec Ideal S1x8x2064x2064 .f32) : FVec Ideal S1x8x2064 .f32 :=
  Host.reduce FloatOps.maximumf s (constant (F := Ideal) S_ .f32 0xFF800000#32) reducesTo_S1x8x2064x2064_S1x8x2064_d3 h_S_

/-- Each row's sum of exponentials. -/
def hostSum (s : FVec Ideal S1x8x2064x2064 .f32) (M : FVec Ideal S1x8x2064 .f32) : FVec Ideal S1x8x2064 .f32 :=
  Host.reduceAdd (Host.exp (subf s (broadcastInDim S1x8x2064x2064 ![0, 1, 2, 3] bcast_S1x8x2064x1_S1x8x2064x2064_0_1_2_3
    (broadcastInDim S1x8x2064x1 ![0, 1, 2] bcast_S1x8x2064_S1x8x2064x1_0_1_2 M))))
    (constant (F := Ideal) S_ .f32 0x00000000#32) reducesTo_S1x8x2064x2064_S1x8x2064_d3 h_S_

/-- The log-sums over the shape the kernel reads. -/
def hostL (M Z : FVec Ideal S1x8x2064 .f32) (x : FVec Ideal S1x2064x8 .f32) : FVec Ideal S2x4x2176 .f32 :=
  shapeCast S2x4x2176 (pad S8x2176 ![0, 0] ![0, 112] ![0, 0]
    (addf (shapeCast S8x2064 (addf (shapeCast S1x8x2064 (broadcastInDim S1x8x2064x1 ![0, 1, 2] bcast_S1x8x2064_S1x8x2064x1_0_1_2 M) shapeCasts_S1x8x2064x1_S1x8x2064)
        (Host.log Z)) shapeCasts_S1x8x2064_S8x2064)
      (transpose S8x2064 [1, 0] (shapeCast S2064x8 x shapeCasts_S1x2064x8_S2064x8) transposes_S2064x8_S8x2064_1_0)) fill pads_S8x2064_S8x2176_000_01120 h_S_)
    shapeCasts_S8x2176_S2x4x2176

/-- The host's operations up to the masked log-weights, and the ones after. -/
def opsA : List (HloOp τ sig (Elt Ideal)) := List.flatten [hostOps0, hostOps0_1, hostOps0_2]
@[inherit_doc opsA]
def opsB : List (HloOp τ sig (Elt Ideal)) := List.flatten [hostOps0_3, hostOps0_4, hostOps0_5, hostOps0_6, hostOps0_7, hostOps0_8, hostOps0_9, hostOps0_10, hostOps0_11, hostOps0_12]

theorem after_two (A B : List (HloOp τ sig (Elt Ideal))) (s : Valuation τ sig (Elt Ideal)) :
    StableHlo.after (A ++ B) s = StableHlo.after B (StableHlo.after A s) := by
  induction A generalizing s with
  | nil => rfl
  | cons a A ih => exact ih _

theorem ops_split : List.flatten [hostOps0, hostOps0_1, hostOps0_2, hostOps0_3, hostOps0_4, hostOps0_5, hostOps0_6, hostOps0_7, hostOps0_8, hostOps0_9,
    hostOps0_10, hostOps0_11, hostOps0_12] = opsA ++ opsB := by
  unfold opsA opsB
  rw [← List.flatten_append]
  rfl

/-- The operations after the masked log-weights: up to the rows' maxima, up to the sums of exponentials, and the rest. -/
def opsM : List (HloOp τ sig (Elt Ideal)) := (hostOps0_3 (F := Ideal)).take 3
@[inherit_doc opsM]
def opsZ1 : List (HloOp τ sig (Elt Ideal)) := ((hostOps0_3 (F := Ideal)).drop 3).take 5
@[inherit_doc opsM]
def opsZ2 : List (HloOp τ sig (Elt Ideal)) := (((hostOps0_3 (F := Ideal)).drop 3).drop 5).take 1
@[inherit_doc opsM]
def opsL1 : List (HloOp τ sig (Elt Ideal)) := (((hostOps0_3 (F := Ideal)).drop 3).drop 5).drop 1
@[inherit_doc opsM]
def opsL2 : List (HloOp τ sig (Elt Ideal)) := hostOps0_4 ++ (hostOps0_5 (F := Ideal)).take 1
@[inherit_doc opsM]
def opsR : List (HloOp τ sig (Elt Ideal)) := (hostOps0_5 (F := Ideal)).drop 1 ++ List.flatten [hostOps0_6, hostOps0_7, hostOps0_8, hostOps0_9, hostOps0_10, hostOps0_11, hostOps0_12]

theorem opsB_split : opsB = opsM ++ (opsZ1 ++ (opsZ2 ++ (opsL1 ++ (opsL2 ++ opsR)))) := by
  unfold opsB opsM opsZ1 opsZ2 opsL1 opsL2 opsR
  rw [List.append_assoc hostOps0_4, ← List.append_assoc (List.take 1 hostOps0_5), List.take_append_drop, ← List.append_assoc (List.take 1 _), List.take_append_drop,
    ← List.append_assoc (List.take 5 _), List.take_append_drop,
    ← List.append_assoc, List.take_append_drop, List.flatten_cons, List.flatten_cons, List.flatten_cons]

section Stages
variable (s : Valuation τ sig (Elt Ideal))
theorem max_out (K : (⟨S_, .f32⟩ : BufTy).Contents (Elt Ideal))
    (f : (⟨S1x8x2064x2064, .f32⟩ : BufTy).Contents (Elt Ideal) → (⟨S_, .f32⟩ : BufTy).Contents (Elt Ideal) → (⟨S1x8x2064, .f32⟩ : BufTy).Contents (Elt Ideal))
    (g : (⟨S1x8x2064, .f32⟩ : BufTy).Contents (Elt Ideal) → (⟨S1x8x2064x1, .f32⟩ : BufTy).Contents (Elt Ideal)) :
    StableHlo.after [StableHlo.nullary main_cst_1 K, StableHlo.binary main_v18 main_cst_1 main_v19 f, StableHlo.unary main_v19 main_v20 g] s (Proc.devRef .tc main_v20)
      = g (f (s (Proc.devRef .tc main_v18)) K) := by
  sl_kernel_rfl
theorem stageM_max (S : FVec Ideal S1x8x2064x2064 .f32) (hS : s (Proc.devRef .tc main_v18) = S) : StableHlo.after opsM s (Proc.devRef .tc main_v20)
    = broadcastInDim S1x8x2064x1 ![0, 1, 2] bcast_S1x8x2064_S1x8x2064x1_0_1_2 (hostMax S) := by
  subst hS
  exact (max_out s _ _ _ : StableHlo.after opsM s (Proc.devRef .tc main_v20) = _)
theorem stageM_s (S : FVec Ideal S1x8x2064x2064 .f32) (hS : s (Proc.devRef .tc main_v18) = S) : StableHlo.after opsM s (Proc.devRef .tc main_v18) = S := by
  subst hS; sl_kernel_rfl
theorem stageM_c (C : FVec Ideal S2064x8 .f32) (hC : s (Proc.devRef .tc main_v1) = C) : StableHlo.after opsM s (Proc.devRef .tc main_v1) = C := by
  subst hC; sl_kernel_rfl
theorem stageZ_exp (S : FVec Ideal S1x8x2064x2064 .f32) (M : FVec Ideal S1x8x2064x1 .f32) (hS : s (Proc.devRef .tc main_v18) = S) (hM : s (Proc.devRef .tc main_v20) = M) :
    StableHlo.after opsZ1 s (Proc.devRef .tc main_v24) = Host.exp (subf S
      (broadcastInDim S1x8x2064x2064 ![0, 1, 2, 3] bcast_S1x8x2064x1_S1x8x2064x2064_0_1_2_3 M)) := by
  subst hS hM; sl_kernel_rfl
theorem stageZ_zero : StableHlo.after opsZ1 s (Proc.devRef .tc main_cst_2) = constant (F := Ideal) S_ .f32 0x00000000#32 := by sl_kernel_rfl
theorem stageZ_max (M : FVec Ideal S1x8x2064x1 .f32) (hM : s (Proc.devRef .tc main_v20) = M) :
    StableHlo.after opsZ1 s (Proc.devRef .tc main_v21) = shapeCast S1x8x2064 M shapeCasts_S1x8x2064x1_S1x8x2064 := by
  subst hM; sl_kernel_rfl
theorem stageZ_c (C : FVec Ideal S2064x8 .f32) (hC : s (Proc.devRef .tc main_v1) = C) : StableHlo.after opsZ1 s (Proc.devRef .tc main_v1) = C := by
  subst hC; sl_kernel_rfl
theorem sum_out (f : (⟨S1x8x2064x2064, .f32⟩ : BufTy).Contents (Elt Ideal) → (⟨S_, .f32⟩ : BufTy).Contents (Elt Ideal) → (⟨S1x8x2064, .f32⟩ : BufTy).Contents (Elt Ideal)) :
    StableHlo.after [StableHlo.binary main_v24 main_cst_2 main_v25 f] s (Proc.devRef .tc main_v25) = f (s (Proc.devRef .tc main_v24)) (s (Proc.devRef .tc main_cst_2)) := by
  sl_kernel_rfl
theorem stageZ_sum (E : FVec Ideal S1x8x2064x2064 .f32) (z : FVec Ideal S_ .f32) (hE : s (Proc.devRef .tc main_v24) = E) (hz : s (Proc.devRef .tc main_cst_2) = z) :
    StableHlo.after opsZ2 s (Proc.devRef .tc main_v25) = Host.reduceAdd E z reducesTo_S1x8x2064x2064_S1x8x2064_d3 h_S_ := by
  subst hE hz
  exact (sum_out s _ : StableHlo.after opsZ2 s (Proc.devRef .tc main_v25) = _)
theorem one_max (f : (⟨S1x8x2064x2064, .f32⟩ : BufTy).Contents (Elt Ideal) → (⟨S_, .f32⟩ : BufTy).Contents (Elt Ideal) → (⟨S1x8x2064, .f32⟩ : BufTy).Contents (Elt Ideal))
    (M : FVec Ideal S1x8x2064 .f32) (hM : s (Proc.devRef .tc main_v21) = M) :
    StableHlo.after [StableHlo.binary main_v24 main_cst_2 main_v25 f] s (Proc.devRef .tc main_v21) = M := by subst hM; sl_kernel_rfl
theorem one_c (f : (⟨S1x8x2064x2064, .f32⟩ : BufTy).Contents (Elt Ideal) → (⟨S_, .f32⟩ : BufTy).Contents (Elt Ideal) → (⟨S1x8x2064, .f32⟩ : BufTy).Contents (Elt Ideal))
    (C : FVec Ideal S2064x8 .f32) (hC : s (Proc.devRef .tc main_v1) = C) :
    StableHlo.after [StableHlo.binary main_v24 main_cst_2 main_v25 f] s (Proc.devRef .tc main_v1) = C := by subst hC; sl_kernel_rfl
theorem stageY_max (M : FVec Ideal S1x8x2064 .f32) (hM : s (Proc.devRef .tc main_v21) = M) : StableHlo.after opsZ2 s (Proc.devRef .tc main_v21) = M := by
  exact (one_max s _ M hM : StableHlo.after opsZ2 s (Proc.devRef .tc main_v21) = _)
theorem stageY_c (C : FVec Ideal S2064x8 .f32) (hC : s (Proc.devRef .tc main_v1) = C) : StableHlo.after opsZ2 s (Proc.devRef .tc main_v1) = C := by
  exact (one_c s _ C hC : StableHlo.after opsZ2 s (Proc.devRef .tc main_v1) = _)
theorem stageL1 (M Z : FVec Ideal S1x8x2064 .f32) (C : FVec Ideal S2064x8 .f32) (hM : s (Proc.devRef .tc main_v21) = M) (hZ : s (Proc.devRef .tc main_v25) = Z)
    (hC : s (Proc.devRef .tc main_v1) = C) : StableHlo.after opsL1 s (Proc.devRef .tc main_v30)
    = addf (shapeCast S8x2064 (addf M (Host.log Z)) shapeCasts_S1x8x2064_S8x2064) (transpose S8x2064 [1, 0] C transposes_S2064x8_S8x2064_1_0) := by
  subst hM hZ hC; sl_kernel_rfl
theorem stageL1_c : StableHlo.after opsL1 s (Proc.devRef .tc main_c) = constantI S_ 32 0#32 := by sl_kernel_rfl
theorem stageL2 (P : FVec Ideal S8x2064 .f32) (z : IVec S_ 32) (hP : s (Proc.devRef .tc main_v30) = P) (hz : s (Proc.devRef .tc main_c) = z) :
    StableHlo.after opsL2 s (Proc.devRef .tc main_v32) = shapeCast S2x4x2176 (pad S8x2176 ![0, 0] ![0, 112] ![0, 0] P (sitofp (F := Ideal) .f32 z)
      pads_S8x2064_S8x2176_000_01120 h_S_) shapeCasts_S8x2176_S2x4x2176 := by
  subst hP hz; sl_kernel_rfl
theorem stageR (P : FVec Ideal S2x4x2176 .f32) (hP : s (Proc.devRef .tc main_v32) = P) : StableHlo.after opsR s (Proc.devRef .tc main_v32) = P := by
  subst hP; sl_kernel_rfl
end Stages

theorem tail_lse (s : Valuation τ sig (Elt Ideal)) (S : FVec Ideal S1x8x2064x2064 .f32) (x : FVec Ideal S1x2064x8 .f32) (hS : s (Proc.devRef .tc main_v18) = S)
    (h : s (Proc.devRef .tc main_v1) = shapeCast S2064x8 x shapeCasts_S1x2064x8_S2064x8) :
    StableHlo.after opsB s (Proc.devRef .tc main_v32) = hostL (hostMax S) (hostSum S (hostMax S)) x := by
  unfold hostL hostSum fill
  rw [opsB_split, after_two, after_two, after_two, after_two, after_two]
  exact stageR _ _ (stageL2 _ _ _ (stageL1 _ _ _ _ (stageY_max _ _ (stageZ_max _ _ (stageM_max s S hS)))
    (stageZ_sum _ _ _ (stageZ_exp _ _ _ (stageM_s s S hS) (stageM_max s S hS)) (stageZ_zero _))
    (stageY_c _ _ (stageZ_c _ _ (stageM_c s _ h)))) (stageL1_c _))

theorem head_s (c : Dev nD) : StableHlo.after opsA (fun b => m (c, b)) (Proc.devRef .tc main_v18) = hostS (argQ m c) (argK m c) (cumOf (argF m c)) := by
  sl_kernel_rfl
theorem head_c (c : Dev nD) : StableHlo.after opsA (fun b => m (c, b)) (Proc.devRef .tc main_v1)
    = shapeCast S2064x8 (cumOf (argF m c)) shapeCasts_S1x2064x8_S2064x8 := by
  sl_kernel_rfl

theorem v32_eq (c : Dev nD) : V m c main_v32 = hostL (hostMax (hostS (argQ m c) (argK m c) (cumOf (argF m c))))
    (hostSum (hostS (argQ m c) (argK m c) (cumOf (argF m c))) (hostMax (hostS (argQ m c) (argK m c) (cumOf (argF m c))))) (cumOf (argF m c)) := by
  unfold V
  rw [ops_split, after_two]
  exact tail_lse _ _ _ (head_s m c) (head_c m c)

theorem hostL_apply (M Z : FVec Ideal S1x8x2064 .f32) (x : FVec Ideal S1x2064x8 .f32) (h : Fin 8) (t : Fin 2176) :
    hostL M Z x (ix3 ⟨h.val / 4, by omega⟩ ⟨h.val % 4, by omega⟩ t) = if k : t.val < 2064 then
      HAdd.hAdd (α := EReal) (β := EReal) (HAdd.hAdd (α := EReal) (β := EReal) (M (ix3 0 h ⟨t.val, k⟩)) (Ideal.log (Z (ix3 0 h ⟨t.val, k⟩)))) (x (ix3 0 ⟨t.val, k⟩ h)) else (0 : EReal) := by
  pointwise [hostL, fill]
  rw [sitofp_zero]

theorem sge_select (a b : Fin 2064) (x y : EReal) :
    Scalar.select (IntOp.cmpi .sge (BitVec.ofNat 32 a.val) (BitVec.ofNat 32 b.val)) x y = if b.val ≤ a.val then x else y := by
  have hs : ∀ n : Fin 2064, (BitVec.ofNat 32 n.val).toInt = (n.val : ℤ) := fun n => by
    rw [BitVec.toInt_eq_toNat_of_lt (by rw [BitVec.toNat_ofNat]; omega), BitVec.toNat_ofNat, Nat.mod_eq_of_lt (by omega)]
  have e : IntOp.cmpi .sge (BitVec.ofNat 32 a.val) (BitVec.ofNat 32 b.val) = BitVec.ofBool (decide (b.val ≤ a.val)) := by
    show BitVec.ofBool ((BitVec.ofNat 32 b.val).sle (BitVec.ofNat 32 a.val)) = _
    rw [BitVec.sle, hs, hs]
    refine congrArg BitVec.ofBool ?_
    rw [decide_eq_decide]
    omega
  rw [e, Scalar.select]
  by_cases h : b.val ≤ a.val
  · simp [h]
  · simp [h]

theorem ofBits_neg_inf : Ideal.ofBits .f32 0xFF800000#32 = (⊥ : EReal) := by
  simp [Ideal.ofBits, Ideal.ieee]

theorem hostS_apply (q k : FVec Ideal S1x2064x512 .f32) (x : FVec Ideal S1x2064x8 .f32) (h : Fin 8) (t s : Fin 2064) :
    hostS q k x (ix4 0 h t s) = if s.val ≤ t.val then
      HSub.hSub (α := EReal) (β := EReal) (∑ d : Fin 64, HMul.hMul (α := EReal) (β := EReal) (HMul.hMul (α := EReal) (β := EReal) (q (ix3 0 t (col h d))) (Ideal.ofBits .f32 0x3E000000#32)) (k (ix3 0 s (col h d))))
        (x (ix3 0 s h)) else (⊥ : EReal) := by
  pointwise [hostS]
  rw [sge_select, ofBits_neg_inf]
  refine if_congr Iff.rfl (congrArg₂ (fun a b : EReal => a - b) (Finset.sum_congr rfl fun d _ => ?_) rfl) rfl
  have e : (⟨h.val * 64 + d.val, by omega⟩ : Fin 512) = col h d := Fin.ext (by show h.val * 64 + d.val = 64 * h.val + d.val; omega)
  rw [e]

theorem hostMax_apply (s : FVec Ideal S1x8x2064x2064 .f32) (h : Fin 8) (t : Fin 2064) :
    hostMax s (ix3 0 h t) = Finset.fold max (⊥ : EReal) (fun x => s (ix4 0 h t x)) Finset.univ := by
  pointwise [hostMax]
  rw [ofBits_neg_inf]

theorem hostSum_apply (s : FVec Ideal S1x8x2064x2064 .f32) (M : FVec Ideal S1x8x2064 .f32) (h : Fin 8) (t : Fin 2064) :
    hostSum s M (ix3 0 h t) = (0 : EReal) + ∑ u : Fin 2064, Ideal.exp (HSub.hSub (α := EReal) (β := EReal) (s (ix4 0 h t u)) (M (ix3 0 h t))) := by
  pointwise [hostSum]

end Cert.AttnIdeal.Attn
-- ==== Proof.AttnReal.lean ====
module

public import proofs.«01_k».proof.Proof.AttnSum

/-!
# The attention gradient over the reals

At finite inputs every quantity is a real number; here are the weights and gradients as reals.
-/

@[expose] public section

noncomputable section

namespace Cert.AttnTile

open Idealize.ShloMosaic Idealize.ShloMosaic.TcCoe

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A lwt softmax -/

section Soft
variable {n : ℕ} (y : Fin n → ℝ) (P : Fin n → Prop) [DecidablePred P]

/-- The lwt log-weights. -/
def lwt (u : Fin n) : EReal := if P u then (y u : EReal) else ⊥
/-- The unnormalised lwt weights. -/
def mexp (u : Fin n) : ℝ := if P u then Real.exp (y u) else 0
/-- Their sum. -/
def msum : ℝ := ∑ u, mexp y P u

theorem msum_pos (t : Fin n) (ht : P t) : 0 < msum y P := by
  refine Finset.sum_pos' (fun u _ => ?_) ⟨t, Finset.mem_univ _, ?_⟩
  · unfold mexp; split <;> positivity
  · rw [mexp, if_pos ht]; positivity

theorem max_real (t : Fin n) (ht : P t) : ∃ m : ℝ, Finset.fold max (⊥ : EReal) (lwt y P) Finset.univ = (m : EReal) := by
  have h1 : Finset.fold max (⊥ : EReal) (lwt y P) Finset.univ ≠ ⊤ := by
    refine ne_of_lt ((Finset.fold_max_lt _).2 ⟨bot_lt_top, fun u _ => ?_⟩)
    unfold lwt; split
    · exact EReal.coe_lt_top _
    · exact bot_lt_top
  have h2 : Finset.fold max (⊥ : EReal) (lwt y P) Finset.univ ≠ ⊥ := by
    refine ne_of_gt ((Finset.lt_fold_max _).2 (Or.inr ⟨t, Finset.mem_univ _, ?_⟩))
    rw [lwt, if_pos ht]; exact EReal.bot_lt_coe _
  exact ⟨_, (EReal.coe_toReal h1 h2).symm⟩

theorem exp_masked (m : ℝ) (u : Fin n) : Ideal.exp (lwt y P u - (m : EReal)) = ((mexp y P u * Real.exp (-m) : ℝ) : EReal) := by
  unfold lwt mexp
  split
  · rw [← EReal.coe_sub]; show ((Real.exp (y u - m) : ℝ) : EReal) = _; rw [← Real.exp_add, sub_eq_add_neg]
  · rw [EReal.bot_sub, zero_mul]; rfl

theorem sum_masked (m : ℝ) : (0 : EReal) + ∑ u, Ideal.exp (lwt y P u - (m : EReal)) = ((msum y P * Real.exp (-m) : ℝ) : EReal) := by
  rw [zero_add, msum, Finset.sum_mul, coe_sum]
  exact Finset.sum_congr rfl fun u _ => exp_masked y P m u

theorem log_masked (t : Fin n) (ht : P t) (m : ℝ) : (m : EReal) + Ideal.log (0 + ∑ u, Ideal.exp (lwt y P u - (m : EReal)))
    = ((Real.log (msum y P) : ℝ) : EReal) := by
  have hp := msum_pos y P t ht
  rw [sum_masked]
  have h0 : 0 < msum y P * Real.exp (-m) := mul_pos hp (Real.exp_pos _)
  show (m : EReal) + (if msum y P * Real.exp (-m) ≤ 0 then ⊥ else ((Real.log (msum y P * Real.exp (-m)) : ℝ) : EReal)) = _
  rw [if_neg (not_le.2 h0), ← EReal.coe_add, Real.log_mul hp.ne' (Real.exp_pos _).ne', Real.log_exp]
  congr 1; ring

/-- The lwt weights. -/
def mwt (u : Fin n) : ℝ := mexp y P u / msum y P

theorem sum_mwt (t : Fin n) (ht : P t) : ∑ u, mwt y P u = 1 := by
  unfold mwt
  rw [← Finset.sum_div]
  exact div_self (msum_pos y P t ht).ne'

/-- Shifting every log-weight changes no weight. -/
theorem mwt_shift (c : ℝ) (u : Fin n) : mwt (fun u => y u + c) P u = mwt y P u := by
  have h : ∀ u, mexp (fun u => y u + c) P u = mexp y P u * Real.exp c := fun u => by
    unfold mexp; split
    · rw [Real.exp_add]
    · rw [zero_mul]
  unfold mwt msum
  simp only [h]
  rw [← Finset.sum_mul, mul_div_mul_right _ _ (Real.exp_pos c).ne']

end Soft

/-- The gradient through a softmax written as quotients. -/
theorem soft_grad {n : ℕ} (e d : Fin n → ℝ) (Z : ℝ) (hZ : Z ≠ 0) (s : Fin n) :
    (d s * (1 / Z) + -(∑ u, d u * (1 / (Z * Z)) * e u)) * e s = e s / Z * (d s - ∑ u, e u / Z * d u) := by
  have h : ∑ u, d u * (1 / (Z * Z)) * e u = (1 / Z) * ∑ u, e u / Z * d u := by
    rw [Finset.mul_sum]
    refine Finset.sum_congr rfl fun u _ => ?_
    field_simp
  rw [h]; ring

/-! ## The real quantities -/

/-- Finite queries, keys, values, cotangents and summed log-decays. -/
structure RDat where
  q : Fin 2064 → Fin 512 → ℝ
  k : Fin 2064 → Fin 512 → ℝ
  v : Fin 2064 → Fin 512 → ℝ
  g : Fin 2064 → Fin 512 → ℝ
  c : Fin 2064 → Fin 8 → ℝ

namespace RDat
variable (R : RDat) (h : Fin 8) (t : Fin 2064)
/-- The log-weight, without the query's own decay. -/
def x (s : Fin 2064) : ℝ := (∑ d : Fin 64, R.q t (col h d) * R.k s (col h d)) * (1 / 8) - R.c s h
/-- The weight. -/
def p (s : Fin 2064) : ℝ := mwt (R.x h t) (fun s => s.val ≤ t.val) s
/-- The weight's gradient. -/
def dp (s : Fin 2064) : ℝ := ∑ d : Fin 64, R.g t (col h d) * R.v s (col h d)
/-- The score's gradient. -/
def ds (s : Fin 2064) : ℝ := R.p h t s * (R.dp h t s - ∑ u, R.p h t u * R.dp h t u)

theorem sum_p : ∑ u, R.p h t u = 1 := sum_mwt _ _ t le_rfl

theorem sum_ds : ∑ s, R.ds h t s = 0 := by
  unfold ds
  simp only [mul_sub, Finset.sum_sub_distrib]
  rw [← Finset.sum_mul, sum_p, one_mul, sub_self]

theorem p_masked (s : Fin 2064) (hs : ¬ s.val ≤ t.val) : R.p h t s = 0 := by
  unfold p mwt mexp
  rw [if_neg hs, zero_div]

theorem p_pos (s : Fin 2064) (hs : s.val ≤ t.val) : R.p h t s = Real.exp (R.x h t s - Real.log (msum (R.x h t) (fun s => s.val ≤ t.val))) := by
  have hp := msum_pos (R.x h t) (fun s => s.val ≤ t.val) t le_rfl
  unfold p mwt mexp
  rw [if_pos hs, Real.exp_sub, Real.exp_log hp]

theorem ds_masked (s : Fin 2064) (hs : ¬ s.val ≤ t.val) : R.ds h t s = 0 := by
  unfold ds
  rw [p_masked R h t s hs, zero_mul]

end RDat

/-! ## The padded arrays hold the real data -/

/-- A real over the first 2064 positions, zero after. -/
def ext (f : Fin 2064 → ℝ) (t : Fin 2176) : ℝ := if h : t.val < 2064 then f ⟨t.val, h⟩ else 0

theorem ext_lt (f : Fin 2064 → ℝ) (t : Fin 2064) : ext f ⟨t.val, by omega⟩ = f t := by rw [ext, dif_pos t.isLt]
theorem ext_ge (f : Fin 2064 → ℝ) (t : Fin 2176) (h : ¬ t.val < 2064) : ext f t = 0 := by rw [ext, dif_neg h]

theorem sum_ext (F : Fin 2176 → ℝ) (f : Fin 2064 → ℝ) (h : ∀ t, F t = ext f t) : ∑ t, F t = ∑ t, f t := by
  rw [show ∑ t, F t = ∑ t : Fin (2064 + 112), F t from rfl, Fin.sum_univ_add]
  have h2 : ∑ b : Fin 112, F (Fin.natAdd 2064 b) = 0 :=
    Finset.sum_eq_zero fun b _ => by rw [h, ext_ge _ _ (by show ¬ 2064 + b.val < 2064; omega)]
  rw [h2, add_zero]
  exact Finset.sum_congr rfl fun t _ => by rw [h]; exact ext_lt f t

/-- The padded arrays of a kernel call hold `R`. -/
structure Holds (D : Dat) (R : RDat) : Prop where
  q : ∀ t J, D.q t J = ((ext (fun t => R.q t J * (1 / 8)) t : ℝ) : EReal)
  k : ∀ t J, D.k t J = ((ext (fun t => R.k t J) t : ℝ) : EReal)
  v : ∀ t J, D.v t J = ((ext (fun t => R.v t J) t : ℝ) : EReal)
  g : ∀ t J, D.g t J = ((ext (fun t => R.g t J) t : ℝ) : EReal)
  c : ∀ t n, D.c t n = ((ext (fun t => R.c t n) t : ℝ) : EReal)
  r : ∀ n t, D.r n t = ((ext (fun t => -Real.log (msum (R.x n t) (fun s => s.val ≤ t.val))) t : ℝ) : EReal)

section Bridge
variable {D : Dat} {R : RDat} (H : Holds D R) (h : Fin 8)
include H

theorem lg_real (s t : Fin 2176) : D.lg h s t
    = (((∑ d : Fin 64, ext (fun s => R.k s (col h d)) s * ext (fun t => R.q t (col h d) * (1 / 8)) t) - ext (fun s => R.c s h) s : ℝ) : EReal) := by
  unfold Dat.lg
  rw [EReal.coe_sub, coe_sum, H.c]
  congr 1
  refine Finset.sum_congr rfl fun d _ => ?_
  rw [H.k, H.q, EReal.coe_mul]

theorem lg_lt (s t : Fin 2064) : D.lg h ⟨s.val, by omega⟩ ⟨t.val, by omega⟩ = ((R.x h t s : ℝ) : EReal) := by
  rw [lg_real H]
  simp only [ext_lt]
  unfold RDat.x
  rw [Finset.sum_mul]
  congr 2
  exact Finset.sum_congr rfl fun d _ => by ring

/-- The weight, when both positions are real ones. -/
theorem wt_lt (s t : Fin 2064) : D.wt h ⟨s.val, by omega⟩ ⟨t.val, by omega⟩ = ((R.p h t s : ℝ) : EReal) := by
  unfold Dat.wt
  rw [H.r, ext_lt]
  by_cases hs : s.val ≤ t.val
  · rw [if_pos hs, lg_lt H, ← EReal.coe_add, RDat.p_pos R h t s hs]
    rfl
  · rw [if_neg hs, EReal.bot_add, RDat.p_masked R h t s hs]
    rfl

theorem wt_key_ge (s t : Fin 2176) (hs : ¬ s.val < 2064) (ht : t.val < 2064) : D.wt h s t = 0 := by
  unfold Dat.wt
  rw [if_neg (by omega), EReal.bot_add]
  rfl

theorem wt_real (s t : Fin 2176) : ∃ w : ℝ, D.wt h s t = (w : EReal) := by
  unfold Dat.wt
  rw [H.r]
  split
  · rw [lg_real H, ← EReal.coe_add]; exact ⟨_, rfl⟩
  · rw [EReal.bot_add]; exact ⟨0, rfl⟩

theorem dp_real (s t : Fin 2176) : D.dp h s t = ((∑ d : Fin 64, ext (fun s => R.v s (col h d)) s * ext (fun t => R.g t (col h d)) t : ℝ) : EReal) := by
  unfold Dat.dp
  rw [coe_sum]
  refine Finset.sum_congr rfl fun d _ => ?_
  rw [H.v, H.g, EReal.coe_mul]

theorem dp_lt (s t : Fin 2064) : D.dp h ⟨s.val, by omega⟩ ⟨t.val, by omega⟩ = ((R.dp h t s : ℝ) : EReal) := by
  rw [dp_real H]
  simp only [ext_lt]
  unfold RDat.dp
  congr 1
  exact Finset.sum_congr rfl fun d _ => by ring

theorem dp_query_ge (s t : Fin 2176) (ht : ¬ t.val < 2064) : D.dp h s t = 0 := by
  rw [dp_real H]
  rw [Finset.sum_eq_zero fun d _ => by rw [ext_ge _ t ht, mul_zero]]
  rfl

/-- Products of a weight with its gradient vanish off the real positions. -/
theorem wd_lt (s : Fin 2176) (t : Fin 2064) : D.wt h s ⟨t.val, by omega⟩ * D.dp h s ⟨t.val, by omega⟩
    = ((ext (fun s => R.p h t s * R.dp h t s) s : ℝ) : EReal) := by
  by_cases hs : s.val < 2064
  · have e : s = ⟨(⟨s.val, hs⟩ : Fin 2064).val, by omega⟩ := rfl
    rw [e, wt_lt H h ⟨s.val, hs⟩ t, dp_lt H h ⟨s.val, hs⟩ t, ext_lt, EReal.coe_mul]
  · rw [wt_key_ge H h s _ hs t.isLt, ext_ge _ s hs, zero_mul]
    rfl

theorem ks_lt (t : Fin 2064) : D.ks h ⟨t.val, by omega⟩ = ((∑ u, R.p h t u * R.dp h t u : ℝ) : EReal) := by
  unfold Dat.ks
  rw [Finset.sum_congr rfl fun s _ => wd_lt H h s t, ← coe_sum]
  exact congrArg Real.toEReal (sum_ext _ _ fun t => rfl)

theorem ks_ge (t : Fin 2176) (ht : ¬ t.val < 2064) : D.ks h t = 0 := by
  unfold Dat.ks
  exact Finset.sum_eq_zero fun s _ => by rw [dp_query_ge H h s t ht, mul_zero]

theorem ds_lt (s t : Fin 2064) : D.ds h ⟨s.val, by omega⟩ ⟨t.val, by omega⟩ = ((R.ds h t s : ℝ) : EReal) := by
  unfold Dat.ds RDat.ds
  rw [wt_lt H, dp_lt H, ks_lt H, ← EReal.coe_sub, ← EReal.coe_mul]

theorem ds_key_ge (s t : Fin 2176) (hs : ¬ s.val < 2064) (ht : t.val < 2064) : D.ds h s t = 0 := by
  unfold Dat.ds
  rw [wt_key_ge H h s t hs ht, zero_mul]

theorem ds_query_ge (s t : Fin 2176) (ht : ¬ t.val < 2064) : D.ds h s t = 0 := by
  unfold Dat.ds
  rw [dp_query_ge H h s t ht, ks_ge H h t ht]
  obtain ⟨w, hw⟩ := wt_real H h s t
  rw [hw, sub_zero, mul_zero]

/-- The score's gradient at any two positions. -/
theorem ds_ext (s t : Fin 2176) : D.ds h s t = ((ext (fun t => ext (fun s => R.ds h t s) s) t : ℝ) : EReal) := by
  by_cases ht : t.val < 2064
  · by_cases hs : s.val < 2064
    · rw [show D.ds h s t = _ from ds_lt H h ⟨s.val, hs⟩ ⟨t.val, ht⟩]
      simp only [ext, dif_pos ht, dif_pos hs]
    · rw [ds_key_ge H h s t hs ht, ext, dif_pos ht, ext_ge _ s hs]; rfl
  · rw [ds_query_ge H h s t ht, ext_ge _ t ht]; rfl

/-- A weight times a query's cotangent at any two positions. -/
theorem wg_ext (s t : Fin 2176) (J : Fin 512) : D.wt h s t * D.g t J = ((ext (fun t => ext (fun s => R.p h t s * R.g t J) s) t : ℝ) : EReal) := by
  rw [H.g]
  by_cases ht : t.val < 2064
  · by_cases hs : s.val < 2064
    · rw [show D.wt h s t = _ from wt_lt H h ⟨s.val, hs⟩ ⟨t.val, ht⟩, ← EReal.coe_mul]
      exact congrArg _ (by simp only [ext, dif_pos ht, dif_pos hs])
    · rw [wt_key_ge H h s t hs ht, zero_mul, ext, dif_pos ht, ext_ge _ s hs]; rfl
  · rw [ext_ge _ t ht, ext_ge _ t ht]
    obtain ⟨w, hw⟩ := wt_real H h s t
    rw [hw]; exact mul_zero _

/-! ### The four gradients -/

theorem sum_reals (F : Fin 2176 → EReal) (f : Fin 2064 → ℝ) (e : ∀ t, F t = ((ext f t : ℝ) : EReal)) : ∑ t, F t = ((∑ t, f t : ℝ) : EReal) := by
  rw [Finset.sum_congr rfl fun t _ => e t, ← coe_sum]
  exact congrArg _ (sum_ext _ _ fun t => rfl)

theorem gq_real (t : Fin 2176) (J : Fin 512) : (∑ s : Fin 2176, D.k s J * D.ds h s t) * (((1 / 8 : ℝ)) : EReal)
    = ((ext (fun t => ∑ s, R.ds h t s * (1 / 8) * R.k s J) t : ℝ) : EReal) := by
  by_cases ht : t.val < 2064
  · rw [sum_reals H _ (fun s => R.k s J * R.ds h ⟨t.val, ht⟩ s) fun s => ?_, ← EReal.coe_mul]
    · refine congrArg _ ?_
      rw [ext, dif_pos ht, Finset.sum_mul]
      exact Finset.sum_congr rfl fun s _ => by ring
    · rw [H.k, ds_ext H, ← EReal.coe_mul]
      refine congrArg _ ?_
      rw [show ext (fun t => ext (fun s => R.ds h t s) s) t = ext (fun s => R.ds h ⟨t.val, ht⟩ s) s by rw [ext, dif_pos ht]]
      by_cases hs : s.val < 2064
      · simp only [ext, dif_pos hs]
      · simp only [ext, dif_neg hs, zero_mul]
  · rw [Finset.sum_eq_zero fun s _ => by rw [ds_query_ge H h s t ht, mul_zero], ext_ge _ t ht, zero_mul]
    rfl

theorem gk_real (s : Fin 2176) (J : Fin 512) : ∑ t : Fin 2176, D.ds h s t * D.q t J
    = ((ext (fun s => ∑ t, R.ds h t s * (1 / 8) * R.q t J) s : ℝ) : EReal) := by
  rw [sum_reals H _ (fun t => ext (fun s => R.ds h t s * (1 / 8) * R.q t J) s) fun t => ?_]
  · refine congrArg _ ?_
    by_cases hs : s.val < 2064
    · simp only [ext, dif_pos hs]
    · simp only [ext, dif_neg hs, Finset.sum_const_zero]
  · rw [H.q, ds_ext H, ← EReal.coe_mul]
    refine congrArg _ ?_
    by_cases ht : t.val < 2064
    · by_cases hs : s.val < 2064
      · simp only [ext, dif_pos ht, dif_pos hs]; ring
      · simp only [ext, dif_pos ht, dif_neg hs, zero_mul]
    · simp only [ext, dif_neg ht, zero_mul]

theorem gv_real (s : Fin 2176) (J : Fin 512) : ∑ t : Fin 2176, D.wt h s t * D.g t J
    = ((ext (fun s => ∑ t, R.g t J * R.p h t s) s : ℝ) : EReal) := by
  rw [sum_reals H _ (fun t => ext (fun s => R.p h t s * R.g t J) s) fun t => wg_ext H h s t J]
  refine congrArg _ ?_
  by_cases hs : s.val < 2064
  · simp only [ext, dif_pos hs]
    exact Finset.sum_congr rfl fun t _ => mul_comm _ _
  · simp only [ext, dif_neg hs, Finset.sum_const_zero]

theorem gc_real (s : Fin 2176) : 0 - ∑ t : Fin 2176, D.ds h s t
    = ((ext (fun s => ∑ t, -R.ds h t s) s : ℝ) : EReal) := by
  rw [sum_reals H _ (fun t => ext (fun s => R.ds h t s) s) fun t => ds_ext H h s t, zero_sub, ← EReal.coe_neg]
  refine congrArg _ ?_
  by_cases hs : s.val < 2064
  · simp only [ext, dif_pos hs, Finset.sum_neg_distrib]
  · simp only [ext, dif_neg hs, Finset.sum_const_zero, neg_zero]

end Bridge

end Cert.AttnTile
-- ==== Proof.AttnRaw.lean ====
module

public import proofs.«01_k».proof.Proof.AttnReal
public import proofs.«01_k».proof.Proof.Gen.AttnRefIdeal.Read
public import Idealize.ShloMosaic.Lib.Pointwise

/-!
# The reference's attention gradient, read at an index
-/

@[expose] public section

set_option maxRecDepth 100000

noncomputable section

namespace Cert.AttnRefIdeal.Attn

open Idealize.ShloMosaic Idealize.ShloMosaic.TcCoe
open Cert.AttnRefIdeal Cert.AttnRefIdeal.Gen Cert.AttnRefIdeal.Read Cert.AttnTile

theorem neg_inf : Ideal.ofBits .f32 0xFF800000#32 = (⊥ : EReal) := by
  simp [Ideal.ofBits, Ideal.ieee]

theorem ge_select (a b : Fin 2064) (x y : EReal) :
    Scalar.select (IntOp.cmpi .sge (BitVec.ofNat 32 a.val) (BitVec.ofNat 32 b.val)) x y = if b.val ≤ a.val then x else y := by
  have hs : ∀ n : Fin 2064, (BitVec.ofNat 32 n.val).toInt = (n.val : ℤ) := fun n => by
    rw [BitVec.toInt_eq_toNat_of_lt (by rw [BitVec.toNat_ofNat]; omega), BitVec.toNat_ofNat, Nat.mod_eq_of_lt (by omega)]
  have e : IntOp.cmpi .sge (BitVec.ofNat 32 a.val) (BitVec.ofNat 32 b.val) = BitVec.ofBool (decide (b.val ≤ a.val)) := by
    show BitVec.ofBool ((BitVec.ofNat 32 b.val).sle (BitVec.ofNat 32 a.val)) = _
    rw [BitVec.sle, hs, hs]
    refine congrArg BitVec.ofBool ?_
    rw [decide_eq_decide]
    omega
  rw [e, Scalar.select]
  by_cases h : b.val ≤ a.val
  · simp [h]
  · simp [h]

theorem sitofp_zero : (FloatOps.sitofp (F := Ideal) .f32 (0#32 : BitVec 32) : EReal) = 0 := by
  show (((0#32 : BitVec 32).toInt : ℝ) : EReal) = 0
  simp

theorem nested {P Q : Prop} [Decidable P] [Decidable Q] (A : P → Q → EReal) :
    (if h : P then if k : Q ∧ P then A k.2 k.1 else 0 else (0 : EReal)) = if h : P then if k : Q then A h k else 0 else 0 := by
  by_cases h : P
  · by_cases k : Q
    · rw [dif_pos h, dif_pos h, dif_pos ⟨k, h⟩, dif_pos k]
    · rw [dif_pos h, dif_pos h, dif_neg fun e => k e.1, dif_neg k]
  · rw [dif_neg h, dif_neg h]

theorem col_swap (h : Fin 8) (d : Fin 64) (p : h.val * 64 + d.val < 512) : (⟨h.val * 64 + d.val, p⟩ : Fin 512) = col h d :=
  Fin.ext (by show h.val * 64 + d.val = 64 * h.val + d.val; omega)

variable (x0 x1 x2 : FVec Ideal S1x2064x512 .f32) (x3 : FVec Ideal S1x2064x8 .f32) (x4 : FVec Ideal S1x2064x512 .f32) (h : Fin 8)

theorem v21_raw (t s : Fin 2064) : val_main_v21_0 (F := Ideal) x0 x1 x3 (ix4 0 h t s) = if s.val ≤ t.val then
    HAdd.hAdd (α := EReal) (β := EReal) (HMul.hMul (α := EReal) (β := EReal) (∑ d : Fin 64, HMul.hMul (α := EReal) (β := EReal) (x0 (ix3 0 t (col h d))) (x1 (ix3 0 s (col h d))))
      (Ideal.ofBits .f32 0x3E000000#32)) (HSub.hSub (α := EReal) (β := EReal) (val_main_v0 (F := Ideal) x3 (ix3 0 t h)) (val_main_v0 (F := Ideal) x3 (ix3 0 s h))) else (⊥ : EReal) := by
  pointwise [val_main_v21_0, val_main_v21_1, val_main_call1_v2, val_main_call1_v0, val_main_cst_0, val_main_v20, val_main_v19, val_main_v18, val_main_v17, val_main_v16,
    val_main_v15, val_main_v14, val_main_v13, val_main_v12, val_main_v11, val_main_v10, val_main_v9, val_main_v8, val_main_v7, val_main_cst, val_main_v6, val_main_v5, val_main_v4, val_main_v2, val_main_v1]
  rw [ge_select]
  refine if_congr Iff.rfl (congrArg₂ (fun a b : EReal => a * _ + b) (Finset.sum_congr rfl fun d _ => ?_) rfl) neg_inf
  rw [col_swap]

theorem rowMax (S : FVec Ideal S1x8x2064x2064 .f32) (t : Fin 2064) :
    Host.reduce FloatOps.maximumf S (constant (F := Ideal) S_ .f32 0xFF800000#32) reducesTo_S1x8x2064x2064_S1x8x2064_d3 h_S_ (ix3 0 h t)
      = Finset.fold max (⊥ : EReal) (fun s => S (ix4 0 h t s)) Finset.univ := by
  pointwise []
  rw [neg_inf]

theorem v22_raw (t : Fin 2064) : val_main_v22 (F := Ideal) x0 x1 x3 (ix3 0 h t)
    = Finset.fold max (⊥ : EReal) (fun s => val_main_v21_0 (F := Ideal) x0 x1 x3 (ix4 0 h t s)) Finset.univ := by
  unfold val_main_v22 val_main_cst_1
  generalize val_main_v21_0 (F := Ideal) x0 x1 x3 = S
  exact rowMax h S t

theorem v29_max (t : Fin 2064) : val_main_v29 (F := Ideal) x0 x1 x3 (ix3 0 h t) = val_main_v22 (F := Ideal) x0 x1 x3 (ix3 0 h t) := by
  rw [val_main_v29_apply, val_main_v28_apply, val_main_cst_3_apply]
  generalize val_main_v22 (F := Ideal) x0 x1 x3 (ix3 0 h t) = M
  show max (Ideal.ofBits .f32 0xFF800000#32) M = M
  rw [neg_inf]
  exact bot_sup_eq (a := (M : EReal))

theorem v29_raw (t : Fin 2064) : val_main_v29 (F := Ideal) x0 x1 x3 (ix3 0 h t)
    = Finset.fold max (⊥ : EReal) (fun s => val_main_v21_0 (F := Ideal) x0 x1 x3 (ix4 0 h t s)) Finset.univ :=
  (v29_max x0 x1 x3 h t).trans (v22_raw x0 x1 x3 h t)

theorem v42_raw (t s : Fin 2064) : val_main_v42 (F := Ideal) x0 x1 x3 (ix4 0 h t s)
    = Ideal.exp (HSub.hSub (α := EReal) (β := EReal) (val_main_v21_0 (F := Ideal) x0 x1 x3 (ix4 0 h t s)) (val_main_v29 (F := Ideal) x0 x1 x3 (ix3 0 h t))) := by
  unfold val_main_v42 val_main_v41 val_main_v40 val_main_v39
  generalize val_main_v21_0 (F := Ideal) x0 x1 x3 = S
  generalize val_main_v29 (F := Ideal) x0 x1 x3 = M
  pointwise []

theorem v43_raw (t : Fin 2064) : val_main_v43 (F := Ideal) x0 x1 x3 (ix3 0 h t)
    = (0 : EReal) + ∑ s : Fin 2064, (val_main_v42 (F := Ideal) x0 x1 x3 (ix4 0 h t s) : EReal) := by
  unfold val_main_v43
  generalize val_main_v42 (F := Ideal) x0 x1 x3 = S
  pointwise [val_main_cst_9]

theorem v46_raw (t s : Fin 2064) : val_main_v46 (F := Ideal) x0 x1 x3 (ix4 0 h t s)
    = Ideal.div (val_main_v42 (F := Ideal) x0 x1 x3 (ix4 0 h t s)) (val_main_v43 (F := Ideal) x0 x1 x3 (ix3 0 h t)) := by
  unfold val_main_v46 val_main_v45 val_main_v44
  generalize val_main_v42 (F := Ideal) x0 x1 x3 = S
  generalize val_main_v43 (F := Ideal) x0 x1 x3 = Z
  pointwise []

theorem v55_raw (t s : Fin 2064) : val_main_v55 (F := Ideal) x2 x4 (ix4 0 h t s)
    = ∑ d : Fin 64, HMul.hMul (α := EReal) (β := EReal) (x4 (ix3 0 t (col h d))) (x2 (ix3 0 s (col h d))) := by
  pointwise [val_main_v55, val_main_v54, val_main_v53, val_main_v3]
  refine Finset.sum_congr rfl fun d _ => ?_
  rw [col_swap]

theorem v63_raw (t : Fin 2064) : val_main_v63 (F := Ideal) x0 x1 x2 x3 x4 (ix4 0 h t 0)
    = -((0 : EReal) + ∑ s : Fin 2064, HMul.hMul (α := EReal) (β := EReal) (HMul.hMul (α := EReal) (β := EReal) (val_main_v55 (F := Ideal) x2 x4 (ix4 0 h t s))
        (Ideal.div (1 : EReal) (HMul.hMul (α := EReal) (β := EReal) (val_main_v43 (F := Ideal) x0 x1 x3 (ix3 0 h t)) (val_main_v43 (F := Ideal) x0 x1 x3 (ix3 0 h t)))))
        (val_main_v42 (F := Ideal) x0 x1 x3 (ix4 0 h t s))) := by
  unfold val_main_v63 val_main_v62 val_main_v61 val_main_v60 val_main_v59 val_main_v58 val_main_v49 val_main_v47 val_main_v44
  generalize val_main_v42 (F := Ideal) x0 x1 x3 = S
  generalize val_main_v43 (F := Ideal) x0 x1 x3 = Z
  generalize val_main_v55 (F := Ideal) x2 x4 = G
  pointwise [val_main_v48, val_main_cst_10, val_main_cst_11]

theorem v71_raw (t s : Fin 2064) : val_main_v71 (F := Ideal) x0 x1 x2 x3 x4 (ix4 0 h t s) = if s.val ≤ t.val then
    HMul.hMul (α := EReal) (β := EReal) (HAdd.hAdd (α := EReal) (β := EReal) (Ideal.div (val_main_v55 (F := Ideal) x2 x4 (ix4 0 h t s)) (val_main_v43 (F := Ideal) x0 x1 x3 (ix3 0 h t)))
      (val_main_v66 (F := Ideal) x0 x1 x2 x3 x4 (ix2 h t))) (val_main_v42 (F := Ideal) x0 x1 x3 (ix4 0 h t s)) else (0 : EReal) := by
  unfold val_main_v71 val_main_v70 val_main_v69 val_main_v68 val_main_v67 val_main_v65 val_main_v64 val_main_v44
  generalize val_main_v42 (F := Ideal) x0 x1 x3 = S
  generalize val_main_v43 (F := Ideal) x0 x1 x3 = Z
  generalize val_main_v55 (F := Ideal) x2 x4 = G
  generalize val_main_v66 (F := Ideal) x0 x1 x2 x3 x4 = W
  pointwise [val_main_v21_1, val_main_v19, val_main_v18, val_main_v17, val_main_v16, val_main_v15, val_main_v14, val_main_v5, val_main_call2_v0, val_main_call2_cst]
  rw [ge_select]

theorem v73_raw (t : Fin 2064) : val_main_v73 (F := Ideal) x0 x1 x2 x3 x4 (ix4 0 h t 0)
    = (0 : EReal) + ∑ s : Fin 2064, (val_main_v71 (F := Ideal) x0 x1 x2 x3 x4 (ix4 0 h t s) : EReal) := by
  unfold val_main_v73 val_main_v72
  generalize val_main_v71 (F := Ideal) x0 x1 x2 x3 x4 = S
  pointwise [val_main_cst_13]

theorem v76_raw (s : Fin 2064) : val_main_v76 (F := Ideal) x0 x1 x2 x3 x4 (ix4 0 h 0 s)
    = (0 : EReal) + ∑ t : Fin 2064, -(val_main_v71 (F := Ideal) x0 x1 x2 x3 x4 (ix4 0 h t s) : EReal) := by
  unfold val_main_v76 val_main_v75 val_main_v74
  generalize val_main_v71 (F := Ideal) x0 x1 x2 x3 x4 = S
  pointwise [val_main_cst_14]

theorem v94_raw (t : Fin 2176) (J : Fin 512) : val_main_v94 (F := Ideal) x0 x1 x2 x3 x4 (ix2 t J) = if k : t.val < 2064 then
    (∑ s : Fin 2064, HMul.hMul (α := EReal) (β := EReal) (HMul.hMul (α := EReal) (β := EReal) (val_main_v71 (F := Ideal) x0 x1 x2 x3 x4 (ix4 0 (headOf512 J) ⟨t.val, k⟩ s)) (Ideal.ofBits .f32 0x3E000000#32))
      (x1 (ix3 0 s J))) else (0 : EReal) := by
  unfold val_main_v94 val_main_v93 val_main_v92 val_main_v91 val_main_v87 val_main_v86 val_main_v83
  generalize val_main_v71 (F := Ideal) x0 x1 x2 x3 x4 = S
  pointwise [val_main_call3_v0, val_main_c, val_main_v82, val_main_cst_17, val_main_v2]
  rw [sitofp_zero]
  rfl

theorem v97_raw (s : Fin 2176) (J : Fin 512) : val_main_v97 (F := Ideal) x0 x1 x2 x3 x4 (ix2 s J) = if k : s.val < 2064 then
    (∑ t : Fin 2064, HMul.hMul (α := EReal) (β := EReal) (HMul.hMul (α := EReal) (β := EReal) (val_main_v71 (F := Ideal) x0 x1 x2 x3 x4 (ix4 0 (headOf512 J) t ⟨s.val, k⟩)) (Ideal.ofBits .f32 0x3E000000#32))
      (x0 (ix3 0 t J))) else (0 : EReal) := by
  unfold val_main_v97 val_main_v96 val_main_v95 val_main_v90 val_main_v85 val_main_v84 val_main_v83
  generalize val_main_v71 (F := Ideal) x0 x1 x2 x3 x4 = S
  pointwise [val_main_call4_v0, val_main_c_18, val_main_v82, val_main_cst_17, val_main_v1]
  rw [sitofp_zero]
  rfl

theorem v100_raw (s : Fin 2176) (J : Fin 512) : val_main_v100 (F := Ideal) x0 x1 x3 x4 (ix2 s J) = if k : s.val < 2064 then
    (∑ t : Fin 2064, HMul.hMul (α := EReal) (β := EReal) (x4 (ix3 0 t J)) (val_main_v46 (F := Ideal) x0 x1 x3 (ix4 0 (headOf512 J) t ⟨s.val, k⟩))) else (0 : EReal) := by
  unfold val_main_v100 val_main_v99 val_main_v98 val_main_v89 val_main_v57 val_main_v56
  generalize val_main_v46 (F := Ideal) x0 x1 x3 = S
  pointwise [val_main_call5_v0, val_main_c_19, val_main_v54, val_main_v53]
  rw [sitofp_zero]
  rfl

set_option maxHeartbeats 2000000 in
theorem v103_raw (s : Fin 2176) (l : Fin 128) : val_main_v103 (F := Ideal) x0 x1 x2 x3 x4 (ix2 s l) = if kl : l.val < 8 then if k : s.val < 2064 then
    HAdd.hAdd (α := EReal) (β := EReal) (val_main_v77 (F := Ideal) x0 x1 x2 x3 x4 (ix2 ⟨l.val, kl⟩ ⟨s.val, k⟩)) (val_main_v79 (F := Ideal) x0 x1 x2 x3 x4 (ix2 ⟨l.val, kl⟩ ⟨s.val, k⟩))
    else (0 : EReal) else (0 : EReal) := by
  unfold val_main_v103 val_main_v102 val_main_v101 val_main_v88 val_main_v81 val_main_v80 val_main_v78
  generalize val_main_v77 (F := Ideal) x0 x1 x2 x3 x4 = S
  generalize val_main_v79 (F := Ideal) x0 x1 x2 x3 x4 = Z
  pointwise [val_main_call6_v0, val_main_call7_v0, val_main_c_20, val_main_c_21]
  rw [sitofp_zero]
  exact nested (fun hl hs => HAdd.hAdd (α := EReal) (β := EReal) (S (ix2 ⟨l.val, hl⟩ ⟨s.val, hs⟩)) (Z (ix2 ⟨l.val, hl⟩ ⟨s.val, hs⟩)))

end Cert.AttnRefIdeal.Attn
-- ==== Proof.AttnRef.lean ====
module

public import proofs.«01_k».proof.Proof.AttnRaw

/-!
# The reference's attention gradient at finite inputs
-/

@[expose] public section

set_option maxRecDepth 100000

noncomputable section

namespace Cert.AttnRefIdeal.Attn

open Idealize.ShloMosaic Idealize.ShloMosaic.TcCoe
open Cert.AttnRefIdeal Cert.AttnRefIdeal.Gen Cert.AttnRefIdeal.Read Cert.AttnTile

theorem eighth : Ideal.ofBits .f32 0x3E000000#32 = ((1 / 8 : ℝ) : EReal) := by
  simp [Ideal.ofBits, Ideal.ieee]
  rw [← EReal.coe_mul]
  norm_num

/-- A sum over two axes of size one in places 0 and 3 reads its operand. -/
theorem keep03 (X : FVec Ideal S1x8x2064x1 .f32) (h : Fin 8) (t : Fin 2064) :
    Host.reduceAdd X (constant (F := Ideal) S_ .f32 0x00000000#32) reducesTo_S1x8x2064x1_S8x2064_d0_3 h_S_ (ix2 h t) = X (ix4 0 h t 0) := by
  simp only [Host.reduceAdd, Ideal.hostReduceAdd_def]
  unfold Ideal.hostReduceAdd
  have e1 : ∀ i : S1x8x2064x1.Idx, (reducesTo_S1x8x2064x1_S8x2064_d0_3.drop i 0).val = (i 1).val := fun i =>
    Shape.ReducesTo.drop_apply_val_of_eq reducesTo_S1x8x2064x1_S8x2064_d0_3 i 0 1
  have e2 : ∀ i : S1x8x2064x1.Idx, (reducesTo_S1x8x2064x1_S8x2064_d0_3.drop i 1).val = (i 2).val := fun i =>
    Shape.ReducesTo.drop_apply_val_of_eq reducesTo_S1x8x2064x1_S8x2064_d0_3 i 1 2
  rw [Finset.sum_eq_single_of_mem (ix4 0 h t 0)]
  · exact (congrArg (fun a : EReal => a + _) (Ideal.ofBits_zero .f32)).trans (zero_add _)
  · refine Finset.mem_filter.2 ⟨Finset.mem_univ _, funext fun b => Fin.ext ?_⟩
    match b with
    | ⟨0, _⟩ => exact e1 _
    | ⟨1, _⟩ => exact e2 _
  · intro i hi hne
    refine absurd (funext fun a => Fin.ext ?_) hne
    have hj := (Finset.mem_filter.1 hi).2
    match a with
    | ⟨0, _⟩ => exact Nat.lt_one_iff.1 (i 0).isLt
    | ⟨1, _⟩ => exact (e1 i).symm.trans (congrArg (fun j : S8x2064.Idx => (j 0).val) hj)
    | ⟨2, _⟩ => exact (e2 i).symm.trans (congrArg (fun j : S8x2064.Idx => (j 1).val) hj)
    | ⟨3, _⟩ => exact Nat.lt_one_iff.1 (i 3).isLt

/-- A sum over two axes of size one in places 0 and 2 reads its operand. -/
theorem keep02 (X : FVec Ideal S1x8x1x2064 .f32) (h : Fin 8) (t : Fin 2064) :
    Host.reduceAdd X (constant (F := Ideal) S_ .f32 0x00000000#32) reducesTo_S1x8x1x2064_S8x2064_d0_2 h_S_ (ix2 h t) = X (ix4 0 h 0 t) := by
  simp only [Host.reduceAdd, Ideal.hostReduceAdd_def]
  unfold Ideal.hostReduceAdd
  have e1 : ∀ i : S1x8x1x2064.Idx, (reducesTo_S1x8x1x2064_S8x2064_d0_2.drop i 0).val = (i 1).val := fun i =>
    Shape.ReducesTo.drop_apply_val_of_eq reducesTo_S1x8x1x2064_S8x2064_d0_2 i 0 1
  have e2 : ∀ i : S1x8x1x2064.Idx, (reducesTo_S1x8x1x2064_S8x2064_d0_2.drop i 1).val = (i 3).val := fun i =>
    Shape.ReducesTo.drop_apply_val_of_eq reducesTo_S1x8x1x2064_S8x2064_d0_2 i 1 3
  rw [Finset.sum_eq_single_of_mem (ix4 0 h 0 t)]
  · exact (congrArg (fun a : EReal => a + _) (Ideal.ofBits_zero .f32)).trans (zero_add _)
  · refine Finset.mem_filter.2 ⟨Finset.mem_univ _, funext fun b => Fin.ext ?_⟩
    match b with
    | ⟨0, _⟩ => exact e1 _
    | ⟨1, _⟩ => exact e2 _
  · intro i hi hne
    refine absurd (funext fun a => Fin.ext ?_) hne
    have hj := (Finset.mem_filter.1 hi).2
    match a with
    | ⟨0, _⟩ => exact Nat.lt_one_iff.1 (i 0).isLt
    | ⟨1, _⟩ => exact (e1 i).symm.trans (congrArg (fun j : S8x2064.Idx => (j 0).val) hj)
    | ⟨2, _⟩ => exact Nat.lt_one_iff.1 (i 2).isLt
    | ⟨3, _⟩ => exact (e2 i).symm.trans (congrArg (fun j : S8x2064.Idx => (j 1).val) hj)

variable (x0 x1 x2 : FVec Ideal S1x2064x512 .f32) (x3 : FVec Ideal S1x2064x8 .f32) (x4 : FVec Ideal S1x2064x512 .f32)

/-- The arguments hold `R`. -/
structure IsReal (R : RDat) : Prop where
  q : ∀ t J, x0 (ix3 0 t J) = ((R.q t J : ℝ) : EReal)
  k : ∀ t J, x1 (ix3 0 t J) = ((R.k t J : ℝ) : EReal)
  v : ∀ t J, x2 (ix3 0 t J) = ((R.v t J : ℝ) : EReal)
  g : ∀ t J, x4 (ix3 0 t J) = ((R.g t J : ℝ) : EReal)
  c : ∀ t n, val_main_v0 (F := Ideal) x3 (ix3 0 t n) = ((R.c t n : ℝ) : EReal)

variable {x0 x1 x2 x3 x4} {R : RDat} (H : IsReal x0 x1 x2 x3 x4 R) (h : Fin 8)
include H

theorem v21_real (t s : Fin 2064) : val_main_v21_0 (F := Ideal) x0 x1 x3 (ix4 0 h t s) = lwt (fun s => R.x h t s + R.c t h) (fun s => s.val ≤ t.val) s := by
  rw [v21_raw]
  unfold lwt
  refine if_congr Iff.rfl ?_ rfl
  rw [H.c, H.c, eighth, Finset.sum_congr rfl fun d _ => by rw [H.q, H.k, ← EReal.coe_mul], ← coe_sum, ← EReal.coe_mul, ← EReal.coe_sub, ← EReal.coe_add]
  refine congrArg Real.toEReal ?_
  unfold RDat.x
  ring

/-- The unnormalised weights and their sum are real. -/
theorem soft (t : Fin 2064) : ∃ (e : Fin 2064 → ℝ) (Z : ℝ), Z ≠ 0 ∧ (∀ s, val_main_v42 (F := Ideal) x0 x1 x3 (ix4 0 h t s) = ((e s : ℝ) : EReal))
    ∧ val_main_v43 (F := Ideal) x0 x1 x3 (ix3 0 h t) = ((Z : ℝ) : EReal) ∧ ∀ s, e s / Z = R.p h t s := by
  obtain ⟨m, hm⟩ := max_real (fun s => R.x h t s + R.c t h) (fun s : Fin 2064 => s.val ≤ t.val) t le_rfl
  have hp := msum_pos (fun s => R.x h t s + R.c t h) (fun s : Fin 2064 => s.val ≤ t.val) t le_rfl
  have h29 : val_main_v29 (F := Ideal) x0 x1 x3 (ix3 0 h t) = ((m : ℝ) : EReal) := by
    rw [v29_raw, ← hm]
    exact congrArg (fun f => Finset.fold max (⊥ : EReal) f Finset.univ) (funext fun s => v21_real H h t s)
  have h42 : ∀ s, val_main_v42 (F := Ideal) x0 x1 x3 (ix4 0 h t s)
      = ((mexp (fun s => R.x h t s + R.c t h) (fun s : Fin 2064 => s.val ≤ t.val) s * Real.exp (-m) : ℝ) : EReal) := fun s => by
    rw [v42_raw, h29, v21_real H]
    exact exp_masked _ _ m s
  refine ⟨_, msum (fun s => R.x h t s + R.c t h) (fun s : Fin 2064 => s.val ≤ t.val) * Real.exp (-m), mul_ne_zero hp.ne' (Real.exp_pos _).ne', h42, ?_, fun s => ?_⟩
  · rw [v43_raw, Finset.sum_congr rfl fun s _ => h42 s, ← coe_sum, zero_add, msum, Finset.sum_mul]
  · rw [mul_div_mul_right _ _ (Real.exp_pos _).ne']
    exact mwt_shift _ _ _ s

theorem v46_real (t s : Fin 2064) : val_main_v46 (F := Ideal) x0 x1 x3 (ix4 0 h t s) = ((R.p h t s : ℝ) : EReal) := by
  obtain ⟨e, Z, hZ, h42, h43, hp⟩ := soft H h t
  rw [v46_raw, h42, h43, Ideal.div_coe hZ, ← EReal.coe_mul, ← hp, mul_one_div]

theorem v55_real (t s : Fin 2064) : val_main_v55 (F := Ideal) x2 x4 (ix4 0 h t s) = ((R.dp h t s : ℝ) : EReal) := by
  rw [v55_raw, Finset.sum_congr rfl fun d _ => by rw [H.g, H.v, ← EReal.coe_mul], ← coe_sum]
  rfl

theorem v66_keep (t : Fin 2064) : val_main_v66 (F := Ideal) x0 x1 x2 x3 x4 (ix2 h t) = val_main_v63 (F := Ideal) x0 x1 x2 x3 x4 (ix4 0 h t 0) := by
  clear H
  unfold val_main_v66 val_main_cst_12
  generalize val_main_v63 (F := Ideal) x0 x1 x2 x3 x4 = X
  exact keep03 X h t

theorem v71_real (t s : Fin 2064) : val_main_v71 (F := Ideal) x0 x1 x2 x3 x4 (ix4 0 h t s) = ((R.ds h t s : ℝ) : EReal) := by
  obtain ⟨e, Z, hZ, h42, h43, hp⟩ := soft H h t
  rw [v71_raw]
  by_cases hs : s.val ≤ t.val
  · rw [if_pos hs, v66_keep H, v63_raw, h43, v55_real H, h42, Ideal.div_coe hZ,
      Finset.sum_congr rfl fun u _ => by rw [v55_real H, h42, ← EReal.coe_mul Z, Ideal.div_coe (mul_ne_zero hZ hZ), one_mul, ← EReal.coe_mul, ← EReal.coe_mul],
      ← coe_sum, zero_add, ← EReal.coe_neg, ← EReal.coe_mul, ← EReal.coe_add, ← EReal.coe_mul, soft_grad e (R.dp h t) Z hZ s]
    unfold RDat.ds
    simp only [hp]
  · rw [if_neg hs, RDat.ds_masked R h t s hs]
    rfl

theorem v77_real (s : Fin 2064) : val_main_v77 (F := Ideal) x0 x1 x2 x3 x4 (ix2 h s) = ((∑ t, -R.ds h t s : ℝ) : EReal) := by
  have e : val_main_v77 (F := Ideal) x0 x1 x2 x3 x4 (ix2 h s) = val_main_v76 (F := Ideal) x0 x1 x2 x3 x4 (ix4 0 h 0 s) := by
    clear H
    unfold val_main_v77 val_main_cst_15
    generalize val_main_v76 (F := Ideal) x0 x1 x2 x3 x4 = X
    exact keep02 X h s
  rw [e, v76_raw, Finset.sum_congr rfl fun t _ => by rw [v71_real H, ← EReal.coe_neg], ← coe_sum, zero_add]

theorem v79_real (t : Fin 2064) : val_main_v79 (F := Ideal) x0 x1 x2 x3 x4 (ix2 h t) = (0 : EReal) := by
  have e : val_main_v79 (F := Ideal) x0 x1 x2 x3 x4 (ix2 h t) = val_main_v73 (F := Ideal) x0 x1 x2 x3 x4 (ix4 0 h t 0) := by
    clear H
    unfold val_main_v79 val_main_cst_16
    generalize val_main_v73 (F := Ideal) x0 x1 x2 x3 x4 = X
    exact keep03 X h t
  rw [e, v73_raw, Finset.sum_congr rfl fun s _ => v71_real H h t s, ← coe_sum, RDat.sum_ds]
  exact zero_add _

theorem v94_real (t : Fin 2176) (J : Fin 512) : val_main_v94 (F := Ideal) x0 x1 x2 x3 x4 (ix2 t J)
    = ((ext (fun t => ∑ s, R.ds (headOf512 J) t s * (1 / 8) * R.k s J) t : ℝ) : EReal) := by
  rw [v94_raw]
  by_cases ht : t.val < 2064
  · rw [dif_pos ht, ext, dif_pos ht, eighth,
      Finset.sum_congr rfl fun s _ => by rw [v71_real H, H.k, ← EReal.coe_mul, ← EReal.coe_mul], ← coe_sum]
  · rw [dif_neg ht, ext_ge _ t ht]
    rfl

theorem v97_real (s : Fin 2176) (J : Fin 512) : val_main_v97 (F := Ideal) x0 x1 x2 x3 x4 (ix2 s J)
    = ((ext (fun s => ∑ t, R.ds (headOf512 J) t s * (1 / 8) * R.q t J) s : ℝ) : EReal) := by
  rw [v97_raw]
  by_cases hs : s.val < 2064
  · rw [dif_pos hs, ext, dif_pos hs, eighth,
      Finset.sum_congr rfl fun t _ => by rw [v71_real H, H.q, ← EReal.coe_mul, ← EReal.coe_mul], ← coe_sum]
  · rw [dif_neg hs, ext_ge _ s hs]
    rfl

theorem v100_real (s : Fin 2176) (J : Fin 512) : val_main_v100 (F := Ideal) x0 x1 x3 x4 (ix2 s J)
    = ((ext (fun s => ∑ t, R.g t J * R.p (headOf512 J) t s) s : ℝ) : EReal) := by
  rw [v100_raw]
  by_cases hs : s.val < 2064
  · rw [dif_pos hs, ext, dif_pos hs,
      Finset.sum_congr rfl fun t _ => by rw [v46_real H, H.g, ← EReal.coe_mul], ← coe_sum]
  · rw [dif_neg hs, ext_ge _ s hs]
    rfl

theorem v103_real (s : Fin 2176) (l : Fin 128) : val_main_v103 (F := Ideal) x0 x1 x2 x3 x4 (ix2 s l)
    = if kl : l.val < 8 then ((ext (fun s => ∑ t, -R.ds ⟨l.val, kl⟩ t s) s : ℝ) : EReal) else (0 : EReal) := by
  rw [v103_raw]
  by_cases kl : l.val < 8
  · rw [dif_pos kl, dif_pos kl]
    by_cases hs : s.val < 2064
    · rw [dif_pos hs, ext, dif_pos hs, v77_real H, v79_real H, add_zero]
    · rw [dif_neg hs, ext_ge _ s hs]
      rfl
  · rw [dif_neg kl, dif_neg kl]

end Cert.AttnRefIdeal.Attn
-- ==== Proof.AttnFin.lean ====
module

public import proofs.«01_k».proof.Proof.AttnLse
public import proofs.«01_k».proof.Proof.AttnRef

/-!
# The attention gradient's arguments at finite inputs
-/

@[expose] public section

set_option maxRecDepth 100000

noncomputable section

namespace Cert.AttnIdeal.Attn

open Idealize.ShloMosaic Idealize.ShloMosaic.TcCoe
open Cert.AttnIdeal Cert.AttnIdeal.Gen Cert.AttnTile

/-- Adding reals in turn gives a real. -/
theorem fold_real {α : Type} (f : α → EReal) (hf : ∀ a, ∃ r : ℝ, f a = (r : EReal)) (l : List α) :
    ∀ x : ℝ, ∃ r : ℝ, l.foldl (fun s a => s + f a) (x : EReal) = (r : EReal) := by
  induction l with
  | nil => exact fun x => ⟨x, rfl⟩
  | cons a l ih =>
    intro x
    obtain ⟨r, hr⟩ := hf a
    rw [List.foldl_cons, hr, ← EReal.coe_add]
    exact ih _

/-- A window sum of reals is real. -/
theorem window_real {s t u : Shape} (window strides lo hi : Fin s.rank → Nat) (x : s.Idx → EReal) (init : u.Idx → EReal)
    (h : s.ReduceWindows window strides lo hi t) (hu : 0 < u.numel) (hx : ∀ i, ∃ r : ℝ, x i = (r : EReal))
    (h0 : ∃ r : ℝ, init (Shape.Idx.first hu) = (r : EReal)) (j : t.Idx) :
    ∃ r : ℝ, Host.reduceWindow (fun a b : EReal => a + b) window strides lo hi x init h hu j = (r : EReal) := by
  unfold Host.reduceWindow
  obtain ⟨r, hr⟩ := h0
  simp only [hr]
  refine fold_real _ (fun n => ?_) _ r
  split
  · exact hx _
  · exact ⟨r, rfl⟩

theorem cum_real (x : FVec Ideal S1x2064x8 .f32) (hx : ∀ i, ∃ r : ℝ, x i = (r : EReal)) (i : S1x2064x8.Idx) :
    ∃ r : ℝ, cumOf x i = (r : EReal) := by
  unfold cumOf Cert.AttnRefIdeal.Read.val_main_v0
  simp only [Host.reduceWindowAdd, Ideal.hostReduceWindowAdd_def]
  unfold Ideal.hostReduceWindowAdd
  exact window_real _ _ _ _ x _ _ _ hx ⟨0, Ideal.ofBits_zero .f32⟩ i

theorem coe_of {x : EReal} (h : ∃ r : ℝ, x = (r : EReal)) : x = ((x.toReal : ℝ) : EReal) := by
  obtain ⟨r, rfl⟩ := h
  rw [EReal.toReal_coe]

theorem pad_coe (f : Fin 2064 → ℝ) (g : Fin 2064 → EReal) (hg : ∀ t, g t = ((f t : ℝ) : EReal)) (t : Fin 2176) :
    (if h : t.val < 2064 then g ⟨t.val, h⟩ else (0 : EReal)) = ((ext f t : ℝ) : EReal) := by
  by_cases h : t.val < 2064
  · rw [dif_pos h, ext, dif_pos h, hg]
  · rw [dif_neg h, ext, dif_neg h]; rfl

variable (m : (ℓ : Loc nD τ sig) → Buf (Elt Ideal) ℓ) (c : Dev nD)

/-- Every argument holds reals. -/
structure Finite : Prop where
  q : ∀ i, ∃ r : ℝ, argQ m c i = (r : EReal)
  k : ∀ i, ∃ r : ℝ, argK m c i = (r : EReal)
  v : ∀ i, ∃ r : ℝ, argV m c i = (r : EReal)
  f : ∀ i, ∃ r : ℝ, argF m c i = (r : EReal)
  g : ∀ i, ∃ r : ℝ, argG m c i = (r : EReal)

/-- The arguments as reals. -/
def dataOf : RDat where
  q t J := EReal.toReal (argQ m c (ix3 0 t J))
  k t J := EReal.toReal (argK m c (ix3 0 t J))
  v t J := EReal.toReal (argV m c (ix3 0 t J))
  g t J := EReal.toReal (argG m c (ix3 0 t J))
  c t n := EReal.toReal (cumOf (argF m c) (ix3 0 t n))

variable {m c} (F : Finite m c)
include F

theorem isReal : Cert.AttnRefIdeal.Attn.IsReal (argQ m c) (argK m c) (argV m c) (argF m c) (argG m c) (dataOf m c) where
  q _ _ := coe_of (F.q _)
  k _ _ := coe_of (F.k _)
  v _ _ := coe_of (F.v _)
  g _ _ := coe_of (F.g _)
  c _ _ := coe_of (cum_real _ F.f _)

/-- The saved scores of a query. -/
theorem score_real (h : Fin 8) (t s : Fin 2064) : hostS (argQ m c) (argK m c) (cumOf (argF m c)) (ix4 0 h t s)
    = lwt ((dataOf m c).x h t) (fun s => s.val ≤ t.val) s := by
  rw [hostS_apply]
  unfold lwt
  refine if_congr Iff.rfl ?_ rfl
  rw [(isReal F).c s h |> (id : _ → cumOf (argF m c) (ix3 0 s h) = _), Cert.AttnRefIdeal.Attn.eighth,
    Finset.sum_congr rfl fun d _ => by rw [(isReal F).q, (isReal F).k, ← EReal.coe_mul, ← EReal.coe_mul], ← coe_sum, ← EReal.coe_sub]
  refine congrArg Real.toEReal ?_
  unfold RDat.x
  rw [Finset.sum_mul]
  exact congrArg (fun a => a - _) (Finset.sum_congr rfl fun d _ => by ring)

/-- The saved log-sum of a query. -/
theorem logsum_real (h : Fin 8) (t : Fin 2064) (S : FVec Ideal S1x8x2064x2064 .f32)
    (hS : ∀ s, S (ix4 0 h t s) = lwt ((dataOf m c).x h t) (fun s => s.val ≤ t.val) s) :
    HAdd.hAdd (α := EReal) (β := EReal) (hostMax S (ix3 0 h t)) (Ideal.log (hostSum S (hostMax S) (ix3 0 h t)))
      = ((Real.log (msum ((dataOf m c).x h t) (fun s => s.val ≤ t.val)) : ℝ) : EReal) := by
  obtain ⟨M, hM⟩ := max_real ((dataOf m c).x h t) (fun s : Fin 2064 => s.val ≤ t.val) t le_rfl
  have e : hostMax S (ix3 0 h t) = ((M : ℝ) : EReal) := by
    rw [hostMax_apply, ← hM]
    exact congrArg (fun f => Finset.fold max (⊥ : EReal) f Finset.univ) (funext hS)
  rw [hostSum_apply, e, Finset.sum_congr rfl fun u _ => by rw [hS u]]
  exact log_masked ((dataOf m c).x h t) (fun s : Fin 2064 => s.val ≤ t.val) t le_rfl M

/-- The padded arrays of the call hold the arguments. -/
theorem holds : Holds (datOf m c) (dataOf m c) where
  q t J := by
    unfold datOf
    rw [v40_eq]
    exact (hostQkv_q _ _ _ t J).trans (pad_coe _ (fun t => HMul.hMul (α := EReal) (β := EReal) (argQ m c (ix3 0 t J)) (Ideal.ofBits .f32 0x3E000000#32))
      (fun t => by rw [(isReal F).q, Cert.AttnRefIdeal.Attn.eighth, ← EReal.coe_mul]) t)
  k t J := by
    unfold datOf
    rw [v40_eq]
    exact (hostQkv_k _ _ _ t J).trans (pad_coe _ (fun t => argK m c (ix3 0 t J)) (fun t => (isReal F).k t J) t)
  v t J := by
    unfold datOf
    rw [v40_eq]
    exact (hostQkv_v _ _ _ t J).trans (pad_coe _ (fun t => argV m c (ix3 0 t J)) (fun t => (isReal F).v t J) t)
  g t J := by
    unfold datOf
    rw [v45_eq]
    exact (hostG_apply _ t J).trans (pad_coe _ (fun t => argG m c (ix3 0 t J)) (fun t => (isReal F).g t J) t)
  c t n := by
    unfold datOf
    rw [v42_eq]
    exact (hostC128_apply _ t n).trans (pad_coe _ (fun t => cumOf (argF m c) (ix3 0 t n)) (fun t => (isReal F).c t n) t)
  r n t := by
    unfold datOf
    rw [v43_eq, v32_eq]
    refine (congrArg₂ (fun a b : EReal => a - b) (hostCt_apply _ t n) (hostL_apply _ _ _ n t)).trans ?_
    by_cases ht : t.val < 2064
    · rw [dif_pos ht, dif_pos ht, ext, dif_pos ht, logsum_real F n ⟨t.val, ht⟩ _ fun s => score_real F n ⟨t.val, ht⟩ s,
        (isReal F).c ⟨t.val, ht⟩ n |> (id : _ → cumOf (argF m c) (ix3 0 ⟨t.val, ht⟩ n) = _), ← EReal.coe_add, ← EReal.coe_sub]
      exact congrArg Real.toEReal (by ring)
    · rw [dif_neg ht, dif_neg ht, ext, dif_neg ht, sub_zero]; rfl

end Cert.AttnIdeal.Attn
-- ==== Proof.AttnValue.lean ====
module

public import proofs.«01_k».proof.Proof.AttnFin

/-!
# The attention gradient's results are the reference's
-/

@[expose] public section

set_option maxRecDepth 100000

noncomputable section

namespace Cert.AttnIdeal.Attn

open Idealize.ShloMosaic Idealize.ShloMosaic.TcCoe Idealize.SL.Sem
open Cert.AttnIdeal Cert.AttnIdeal.Gen Cert.AttnTile

variable (m : (ℓ : Loc nD τ sig) → Buf (Elt Ideal) ℓ) (c : Dev nD)

/-- What the four result arrays hold at the end, and the arguments as they were. -/
theorem run_blocks (ρ : Dev nD → PrngReg) :
    θ_run (defs (F := Ideal)) (onTc (τ := τ) (main (F := Ideal))) ⟨m, fun _ => 0, ρ⟩ fun r => ∀ c : Dev nD,
      r.2.mem ((c.tc : Thread nD τ).loc main_v46_0) = (dats m 0 c).arrAt 7 (cfgs 0).N
      ∧ r.2.mem ((c.tc : Thread nD τ).loc main_v46_1) = (dats m 0 c).arrAt 8 (cfgs 0).N
      ∧ r.2.mem ((c.tc : Thread nD τ).loc main_v46_2) = (dats m 0 c).arrAt 9 (cfgs 0).N
      ∧ r.2.mem ((c.tc : Thread nD τ).loc main_v46_3) = (dats m 0 c).arrAt 10 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 7, (h c).1 8, (h c).1 9, (h c).1 10,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

variable {m c} (F : Finite m c)
include F

theorem result_q : (dats m 0 c).arrAt 7 (cfgs 0).N
    = Cert.AttnRefIdeal.Read.val_main_v94 (F := Ideal) (argQ m c) (argK m c) (argV m c) (argF m c) (argG m c) := by
  rw [final_7]
  funext y
  have e := Cert.AttnRefIdeal.Attn.v94_real (isReal F) (y 0) (y 1)
  rw [← eq_ix2 (y : (⟨2, ![2176, 512]⟩ : Shape).Idx)] at e
  rw [e]
  unfold arrQ
  rw [Cert.AttnRefIdeal.Attn.eighth]
  exact gq_real (holds F) _ (y 0) (y 1)

theorem result_k : (dats m 0 c).arrAt 8 (cfgs 0).N
    = Cert.AttnRefIdeal.Read.val_main_v97 (F := Ideal) (argQ m c) (argK m c) (argV m c) (argF m c) (argG m c) := by
  rw [final_8]
  funext y
  have e := Cert.AttnRefIdeal.Attn.v97_real (isReal F) (y 0) (y 1)
  rw [← eq_ix2 (y : (⟨2, ![2176, 512]⟩ : Shape).Idx)] at e
  rw [e]
  exact gk_real (holds F) _ (y 0) (y 1)

theorem result_v : (dats m 0 c).arrAt 9 (cfgs 0).N
    = Cert.AttnRefIdeal.Read.val_main_v100 (F := Ideal) (argQ m c) (argK m c) (argF m c) (argG m c) := by
  rw [final_9]
  funext y
  have e := Cert.AttnRefIdeal.Attn.v100_real (isReal F) (y 0) (y 1)
  rw [← eq_ix2 (y : (⟨2, ![2176, 512]⟩ : Shape).Idx)] at e
  rw [e]
  exact gv_real (holds F) _ (y 0) (y 1)

theorem result_c : (dats m 0 c).arrAt 10 (cfgs 0).N
    = Cert.AttnRefIdeal.Read.val_main_v103 (F := Ideal) (argQ m c) (argK m c) (argV m c) (argF m c) (argG m c) := by
  rw [final_10]
  funext y
  have e := Cert.AttnRefIdeal.Attn.v103_real (isReal F) (y 0) (y 1)
  rw [← eq_ix2 (y : (⟨2, ![2176, 128]⟩ : Shape).Idx)] at e
  rw [e]
  unfold arrC lanesOf
  by_cases kl : (y 1).val < 8
  · rw [dif_pos kl]
    refine (if_pos kl).trans ?_
    unfold decayOf
    exact (dif_pos kl).trans (gc_real (holds F) ⟨(y 1).val, kl⟩ (y 0))
  · rw [dif_neg kl]
    exact if_neg kl

end Cert.AttnIdeal.Attn
-- ==== Proof.AttnPre.lean ====
module

public import proofs.«01_k».proof.Defs
public import proofs.«01_k».proof.Proof.AttnValue
public import proofs.«01_k».proof.Proof.Gen.AttnIdeal
public import proofs.«01_k».proof.Proof.Gen.AttnRefIdeal

/-!
# What the precondition of the attention gradient says

Every argument lies strictly between the infinities, so it is a real number.
-/

@[expose] public section

noncomputable section

namespace Cert.AttnIdeal.Attn

open Idealize.ShloMosaic Idealize.ShloMosaic.TcCoe
open Cert.AttnIdeal

/-- The side conditions of the precondition's own operations. -/
theorem preFacts : Cert.Pre_finite_attn.Facts := ⟨by decide, by decide⟩

theorem ofBits_inf : Ideal.ofBits .f32 0x7F800000#32 = (⊤ : EReal) := by
  simp [Ideal.ofBits, Ideal.ieee]

theorem real_of_bit (x : EReal) (e : BitVec.ofBool (decide (max x (-x) < Ideal.ofBits .f32 0x7F800000#32)) = 1#1) : ∃ r : ℝ, x = (r : EReal) := by
  have h : max x (-x) < ⊤ := by
    by_contra hn
    rw [ofBits_inf, decide_eq_false hn] at e
    exact absurd e (by decide)
  obtain ⟨h1, h2⟩ := max_lt_iff.1 h
  have h3 : x ≠ ⊥ := by rintro rfl; exact absurd h2 (by simp)
  exact ⟨_, (EReal.coe_toReal h1.ne h3).symm⟩

theorem finite_of_pre (m : (ℓ : Loc nD τ sig) → Buf (Elt Ideal) ℓ)
    (h : Cert.Pre_AttnIdeal_finite_attn (hPre_finite_attn := preFacts) m) (c : Dev nD) : Finite m c :=
  have e := h c
  { q := fun i => real_of_bit _ (congrFun e.1 i)
    k := fun i => real_of_bit _ (congrFun e.2.1 i)
    v := fun i => real_of_bit _ (congrFun e.2.2.1 i)
    f := fun i => real_of_bit _ (congrFun e.2.2.2.1 i)
    g := fun i => real_of_bit _ (congrFun e.2.2.2.2 i) }

end Cert.AttnIdeal.Attn
-- ==== Proof.lean ====
/- The claims of `Cert.Claim`, put together from the generated runs and the value modules under `Proof/`. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.MlpValue
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.LossValue
public import proofs.«01_k».proof.Proof.Gen.Mixer.Frame
public import proofs.«01_k».proof.Proof.Gen.MixerIdeal.Frame
public import proofs.«01_k».proof.Proof.Gen.MixerIdeal.Value
public import proofs.«01_k».proof.Proof.Gen.MixerRefIdeal.Run
public import proofs.«01_k».proof.Proof.Gen.MixerRefIdeal.Read
public import proofs.«01_k».proof.Proof.MixerValue
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.UpValue
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.InValue
public import proofs.«01_k».proof.Proof.Gen.Gate.Launch
public import proofs.«01_k».proof.Proof.Gen.GateIdeal.Frame
public import proofs.«01_k».proof.Proof.Gen.GateIdeal.Skeleton
public import proofs.«01_k».proof.Proof.Gen.GateRefIdeal.Run
public import proofs.«01_k».proof.Proof.Gen.GateRefIdeal.Read
public import proofs.«01_k».proof.Proof.GateValue
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.AttnPre
public import Idealize.ShloMosaic.Adequacy
public import Idealize.ShloMosaic.Init
public import Idealize.ShloMosaic.Lib.Quiescent
public import Idealize.ShloMosaic.Lib.Claim

@[expose] public section

noncomputable section

open Idealize.ShloMosaic Idealize.SL.Sem

namespace Cert.ReferenceIdeal

/-- The reference's run, its results as the stages the value modules read. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = Read.val_main_v19 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v20) = Read.val_main_v20 (F := Ideal) (m ((c.tc : Thread nD τ).loc main_arg0)) (m ((c.tc : Thread nD τ).loc main_arg1)) (m ((c.tc : Thread nD τ).loc main_arg3))
      ∧ r.2.mem ((c.tc : Thread nD τ).loc main_v23) = Read.val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (Read.val_main_v19_eq ..),
    (h c).2.1.trans (Read.val_main_v20_eq ..),
    (h c).2.2.1.trans (Read.val_main_v23_eq ..),
    (h c).2.2.2.1,
    (h c).2.2.2.2.1,
    (h c).2.2.2.2.2.1,
    (h c).2.2.2.2.2.2⟩) (Value.run m ρ)

end Cert.ReferenceIdeal

namespace Cert.LossRefIdeal

/-- The reference's run, its results as the stages the value modules read. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55) = Read.val_main_v55 (F := Ideal) (m ((c.tc : Thread nD τ).loc main_arg0)) (m ((c.tc : Thread nD τ).loc main_arg1)) (m ((c.tc : Thread nD τ).loc main_arg2))
      ∧ r.2.mem ((c.tc : Thread nD τ).loc main_v56) = Read.val_main_v56 (F := Ideal) (m ((c.tc : Thread nD τ).loc main_arg0)) (m ((c.tc : Thread nD τ).loc main_arg1)) (m ((c.tc : Thread nD τ).loc main_arg2))
      ∧ r.2.mem ((c.tc : Thread nD τ).loc main_v58) = Read.val_main_v58 (F := Ideal) (m ((c.tc : Thread nD τ).loc main_arg0)) (m ((c.tc : Thread nD τ).loc main_arg1)) (m ((c.tc : Thread nD τ).loc main_arg2))
      ∧ r.2.mem ((c.tc : Thread nD τ).loc main_v59) = Read.val_main_v59 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v55_eq m c),
    (h c).2.1.trans (Read.val_main_v56_eq m c),
    (h c).2.2.1.trans (Read.val_main_v58_eq ..),
    (h c).2.2.2.1.trans (Read.val_main_v59_eq ..),
    (h c).2.2.2.2.1,
    (h c).2.2.2.2.2.1,
    (h c).2.2.2.2.2.2⟩) (Value.run m ρ)

end Cert.LossRefIdeal

namespace Cert.MixerRefIdeal

/-- The reference's run, its results as the stages the value modules read. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = Read.val_main_v80 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v82) = Read.val_main_v82 (F := Ideal) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v85) = Read.val_main_v85 (F := Ideal) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (Read.val_main_v80_eq m c),
    (h c).2.1.trans (Read.val_main_v82_eq m c),
    (h c).2.2.1.trans (Read.val_main_v85_eq ..),
    (h c).2.2.2.1,
    (h c).2.2.2.2.1,
    (h c).2.2.2.2.2.1,
    (h c).2.2.2.2.2.2.1,
    (h c).2.2.2.2.2.2.2.1,
    (h c).2.2.2.2.2.2.2.2⟩) (Value.run m ρ)

end Cert.MixerRefIdeal

namespace Cert.UpRefIdeal

/-- The reference's run, its results as the stages the value modules read. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v42) = Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v44) = Read.val_main_v44 (F := Ideal) (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v41_eq m c),
    (h c).2.1.trans (Read.val_main_v42_eq m c),
    (h c).2.2.1.trans (Read.val_main_v44_eq ..),
    (h c).2.2.2.1,
    (h c).2.2.2.2.1,
    (h c).2.2.2.2.2.1,
    (h c).2.2.2.2.2.2.1,
    (h c).2.2.2.2.2.2.2⟩) (Value.run m ρ)

end Cert.UpRefIdeal

namespace Cert.InRefIdeal

/-- The reference's run, its results as the stages the value modules read. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v42) = Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v44) = Read.val_main_v44 (F := Ideal) (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v41_eq m c),
    (h c).2.1.trans (Read.val_main_v42_eq m c),
    (h c).2.2.1.trans (Read.val_main_v44_eq ..),
    (h c).2.2.2.1,
    (h c).2.2.2.2.1,
    (h c).2.2.2.2.2.1,
    (h c).2.2.2.2.2.2.1,
    (h c).2.2.2.2.2.2.2⟩) (Value.run m ρ)

end Cert.InRefIdeal

namespace Cert.GateRefIdeal

/-- The reference's run, its results as the stages the value modules read. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = Read.val_main_v12 (F := Ideal) (m ((c.tc : Thread nD τ).loc main_arg0)) (m ((c.tc : Thread nD τ).loc main_arg1)) (m ((c.tc : Thread nD τ).loc main_arg2))
      ∧ r.2.mem ((c.tc : Thread nD τ).loc main_v15) = Read.val_main_v15 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Read.val_main_v12_eq m c),
    (h c).2.1.trans (Read.val_main_v15_eq m c),
    (h c).2.2.1,
    (h c).2.2.2.1,
    (h c).2.2.2.2⟩) (Value.run m ρ)

end Cert.GateRefIdeal

namespace Cert.AttnRefIdeal

/-- The reference's run, its results as the stages the value modules read. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94) = Read.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v97) = Read.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v100) = Read.val_main_v100 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v103) = Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v94_eq m c),
    (h c).2.1.trans (Read.val_main_v97_eq m c),
    (h c).2.2.1.trans (Read.val_main_v100_eq m c),
    (h c).2.2.2.1.trans (Read.val_main_v103_eq m c),
    (h c).2.2.2.2.1,
    (h c).2.2.2.2.2.1,
    (h c).2.2.2.2.2.2.1,
    (h c).2.2.2.2.2.2.2.1,
    (h c).2.2.2.2.2.2.2.2⟩) (Value.run m ρ)

end Cert.AttnRefIdeal

namespace Cert.Proof

theorem frame_mlp_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem algebraic_mlp : Cert.algebraic_KernelIdeal_ReferenceIdeal := by
  pair_intro
  · run_from Cert.KernelIdeal.Value.run_blocks m g
  · run_from Cert.ReferenceIdeal.run_stages m' g'
    · exact (Cert.KernelIdeal.Mlp.final_4 m c).symm
    · exact (Cert.KernelIdeal.Mlp.final_5 m c).symm
    · exact (Cert.KernelIdeal.Mlp.final_6 m c).symm

theorem frame_loss_reference : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run m ρ)

theorem algebraic_loss : Cert.algebraic_LossIdeal_LossRefIdeal := by
  pair_intro
  · run_from Cert.LossIdeal.Value.run_blocks m g
  · run_from Cert.LossRefIdeal.run_stages m' g'
    · exact (Cert.LossIdeal.Loss.final_3 m c).symm
    · exact (Cert.LossIdeal.Loss.final_4 m c).symm
    · exact (Cert.LossIdeal.Loss.final_5 m c).symm
    · exact (Cert.LossIdeal.Loss.final_6 m c).symm

theorem frame_mixer_reference : Cert.quiescent_MixerRefIdeal := fun m ρ _ =>
  (θ_run Cert.MixerRefIdeal.defs _ _).mono (fun r h => ⟨fun c => (h c).2.2.2, sem_eq_zero_of_no_sems (by decide) r.2⟩)
    (Cert.MixerRefIdeal.Value.run m ρ)

theorem algebraic_mixer : Cert.algebraic_MixerIdeal_MixerRefIdeal := by
  pair_intro
  · run_from Cert.MixerIdeal.Value.run_blocks m g
  · run_from Cert.MixerRefIdeal.run_stages m' g'
    · exact (Cert.MixerIdeal.Mixer.final_6 m c).symm
    · exact (Cert.MixerIdeal.Mixer.final_7 m c).symm
    · exact (Cert.MixerIdeal.Mixer.final_8 m c).symm

theorem frame_up_reference : Cert.quiescent_UpRefIdeal := fun m ρ _ =>
  (θ_run Cert.UpRefIdeal.defs _ _).mono (fun r h => ⟨fun c => (h c).2.2.2, sem_eq_zero_of_no_sems (by decide) r.2⟩)
    (Cert.UpRefIdeal.Value.run m ρ)

theorem algebraic_up : Cert.algebraic_UpIdeal_UpRefIdeal := by
  pair_intro
  · run_from Cert.UpIdeal.Value.run_blocks m g
  · run_from Cert.UpRefIdeal.run_stages m' g'
    · exact (Cert.UpIdeal.Up.final_8 m c).symm
    · exact (Cert.UpIdeal.Up.final_9 m c).symm
    · exact (Cert.UpIdeal.Up.final_10 m c).symm

theorem frame_in_reference : Cert.quiescent_InRefIdeal := fun m ρ _ =>
  (θ_run Cert.InRefIdeal.defs _ _).mono (fun r h => ⟨fun c => (h c).2.2.2, sem_eq_zero_of_no_sems (by decide) r.2⟩)
    (Cert.InRefIdeal.Value.run m ρ)

theorem algebraic_in : Cert.algebraic_InIdeal_InRefIdeal := by
  pair_intro
  · run_from Cert.InIdeal.Value.run_blocks m g
  · run_from Cert.InRefIdeal.run_stages m' g'
    · exact (Cert.InIdeal.In.final_10 m c).symm
    · exact (Cert.InIdeal.In.final_11 m c).symm
    · exact (Cert.InIdeal.In.final_12 m c).symm

theorem frame_gate_reference : Cert.quiescent_GateRefIdeal := fun m ρ _ =>
  (θ_run Cert.GateRefIdeal.defs _ _).mono (fun r h => ⟨fun c => (h c).2.2, sem_eq_zero_of_no_sems (by decide) r.2⟩)
    (Cert.GateRefIdeal.Value.run m ρ)

theorem algebraic_gate : Cert.algebraic_GateIdeal_GateRefIdeal := by
  pair_intro
  · run_from Cert.GateIdeal.Hand.run_blocks m g
  · run_from Cert.GateRefIdeal.run_stages m' g'
    · exact (Cert.GateIdeal.Hand.final_3 m c).symm
    · exact (Cert.GateIdeal.Hand.final_4 m c).symm

theorem frame_attn_reference : Cert.quiescent_AttnRefIdeal := fun m ρ _ =>
  (θ_run Cert.AttnRefIdeal.defs _ _).mono (fun r h => ⟨fun c => (h c).2.2.2.2, sem_eq_zero_of_no_sems (by decide) r.2⟩)
    (Cert.AttnRefIdeal.Value.run m ρ)

theorem preserves_attn : Cert.preserves_Attn_AttnIdeal :=
  IdealRules.named_const.statement Cert.AttnIdeal.κ "mask" .f32 0xF149F2CA#32 ⊥ rfl

theorem algebraic_attn : Cert.algebraic_AttnIdeal_AttnRefIdeal_pre_finite_attn (hAttnIdeal := Cert.AttnIdeal.Gen.facts)
    (hAttnRefIdeal := Cert.AttnRefIdeal.Gen.facts) (hPre_finite_attn := Cert.AttnIdeal.Attn.preFacts) := by
  pair_intro
  · run_from Cert.AttnIdeal.Attn.run_blocks m g
  · run_from Cert.AttnRefIdeal.run_stages m' g'
    · exact (Cert.AttnIdeal.Attn.result_q (Cert.AttnIdeal.Attn.finite_of_pre m hpre c)).symm
    · exact (Cert.AttnIdeal.Attn.result_k (Cert.AttnIdeal.Attn.finite_of_pre m hpre c)).symm
    · exact (Cert.AttnIdeal.Attn.result_v (Cert.AttnIdeal.Attn.finite_of_pre m hpre c)).symm
    · exact (Cert.AttnIdeal.Attn.result_c (Cert.AttnIdeal.Attn.finite_of_pre m hpre c)).symm

theorem claim : Cert.Claim := ⟨Cert.Kernel.Gen.facts, Cert.KernelIdeal.Gen.facts, Cert.ReferenceIdeal.Gen.facts,
  Cert.Loss.Gen.facts, Cert.LossIdeal.Gen.facts, Cert.LossRefIdeal.Gen.facts,
  Cert.Mixer.Gen.facts, Cert.MixerIdeal.Gen.facts, Cert.MixerRefIdeal.Gen.facts,
  Cert.Up.Gen.facts, Cert.UpIdeal.Gen.facts, Cert.UpRefIdeal.Gen.facts,
  Cert.In.Gen.facts, Cert.InIdeal.Gen.facts, Cert.InRefIdeal.Gen.facts,
  Cert.Gate.Gen.facts, Cert.GateIdeal.Gen.facts, Cert.GateRefIdeal.Gen.facts,
  Cert.Attn.Gen.facts, Cert.AttnIdeal.Gen.facts, Cert.AttnRefIdeal.Gen.facts,
  Cert.AttnIdeal.Attn.preFacts,
  fun m ρ _ => Cert.Kernel.Gen.frame m ρ, fun m ρ _ => Cert.KernelIdeal.Gen.frame m ρ, frame_mlp_reference,
  fun m ρ _ => Cert.Loss.Gen.frame m ρ, fun m ρ _ => Cert.LossIdeal.Gen.frame m ρ, frame_loss_reference,
  fun m ρ _ => Cert.Mixer.Gen.frame m ρ, fun m ρ _ => Cert.MixerIdeal.Gen.frame m ρ, frame_mixer_reference,
  fun m ρ _ => Cert.Up.Gen.frame m ρ, fun m ρ _ => Cert.UpIdeal.Gen.frame m ρ, frame_up_reference,
  fun m ρ _ => Cert.In.Gen.frame m ρ, fun m ρ _ => Cert.InIdeal.Gen.frame m ρ, frame_in_reference,
  Cert.Gate.frame_hand, fun m ρ _ => Cert.GateIdeal.Hand.frame m ρ, frame_gate_reference,
  fun m ρ _ => Cert.Attn.Gen.frame m ρ, fun m ρ _ => Cert.AttnIdeal.Gen.frame m ρ, fun m ρ _ => Cert.AttnIdeal.Gen.frame m ρ,
  frame_attn_reference, fun m ρ _ => frame_attn_reference m ρ trivial,
  trivial, algebraic_mlp, trivial, algebraic_loss, trivial, algebraic_mixer, trivial, algebraic_up, trivial, algebraic_in, trivial, algebraic_gate, preserves_attn, algebraic_attn⟩

end Cert.Proof

end
